-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ProjUV (m : (ℓ : Loc Cert.ProjUV.nD Cert.ProjUV.τ Cert.ProjUV.sig) → Buf (Elt Bits) ℓ) : Prop :=
  True

def Pre_ProjUVIdeal (m : (ℓ : Loc Cert.ProjUVIdeal.nD Cert.ProjUVIdeal.τ Cert.ProjUVIdeal.sig) → Buf (Elt Ideal) ℓ) : Prop :=
  True

def Pre_ProjUVRefIdeal (m : (ℓ : Loc Cert.ProjUVRefIdeal.nD Cert.ProjUVRefIdeal.τ Cert.ProjUVRefIdeal.sig) → Buf (Elt Ideal) ℓ) : Prop :=
  True

def Pre_ProjZR (m : (ℓ : Loc Cert.ProjZR.nD Cert.ProjZR.τ Cert.ProjZR.sig) → Buf (Elt Bits) ℓ) : Prop :=
  True

def Pre_ProjZRIdeal (m : (ℓ : Loc Cert.ProjZRIdeal.nD Cert.ProjZRIdeal.τ Cert.ProjZRIdeal.sig) → Buf (Elt Ideal) ℓ) : Prop :=
  True

def Pre_ProjZRRefIdeal (m : (ℓ : Loc Cert.ProjZRRefIdeal.nD Cert.ProjZRRefIdeal.τ Cert.ProjZRRefIdeal.sig) → Buf (Elt Ideal) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def Pre_EmbedP (m : (ℓ : Loc Cert.EmbedP.nD Cert.EmbedP.τ Cert.EmbedP.sig) → Buf (Elt Bits) ℓ) : Prop :=
  True

def Pre_EmbedPIdeal (m : (ℓ : Loc Cert.EmbedPIdeal.nD Cert.EmbedPIdeal.τ Cert.EmbedPIdeal.sig) → Buf (Elt Ideal) ℓ) : Prop :=
  True

def Pre_EmbedPRefIdeal (m : (ℓ : Loc Cert.EmbedPRefIdeal.nD Cert.EmbedPRefIdeal.τ Cert.EmbedPRefIdeal.sig) → Buf (Elt Ideal) ℓ) : Prop :=
  True

def Pre_EmbedS (m : (ℓ : Loc Cert.EmbedS.nD Cert.EmbedS.τ Cert.EmbedS.sig) → Buf (Elt Bits) ℓ) : Prop :=
  True

def Pre_EmbedSIdeal (m : (ℓ : Loc Cert.EmbedSIdeal.nD Cert.EmbedSIdeal.τ Cert.EmbedSIdeal.sig) → Buf (Elt Ideal) ℓ) : Prop :=
  True

def Pre_EmbedSRefIdeal (m : (ℓ : Loc Cert.EmbedSRefIdeal.nD Cert.EmbedSRefIdeal.τ Cert.EmbedSRefIdeal.sig) → Buf (Elt Ideal) ℓ) : Prop :=
  True

def Pre_MoeDown [hPre_experts_named : Cert.Pre_experts_named.Facts] (m : (ℓ : Loc Cert.MoeDown.nD Cert.MoeDown.τ Cert.MoeDown.sig) → Buf (Elt Bits) ℓ) : Prop :=
  ∀ c : Dev Cert.MoeDown.nD,
    (Cert.Pre_experts_named.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_experts_named : Cert.Pre_experts_named.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_experts_named.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_MoeDownRefIdeal (m : (ℓ : Loc Cert.MoeDownRefIdeal.nD Cert.MoeDownRefIdeal.τ Cert.MoeDownRefIdeal.sig) → Buf (Elt Ideal) ℓ) : Prop :=
  True

def Pre_MoeDownRefIdeal_experts_named [hPre_experts_named : Cert.Pre_experts_named.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_experts_named.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3))) = (fun _ => 1#1)

def Pre_EmbedAll (m : (ℓ : Loc Cert.EmbedAll.nD Cert.EmbedAll.τ Cert.EmbedAll.sig) → Buf (Elt Bits) ℓ) : Prop :=
  True

def Pre_EmbedAllIdeal (m : (ℓ : Loc Cert.EmbedAllIdeal.nD Cert.EmbedAllIdeal.τ Cert.EmbedAllIdeal.sig) → Buf (Elt Ideal) ℓ) : Prop :=
  True

def Pre_EmbedAllRefIdeal (m : (ℓ : Loc Cert.EmbedAllRefIdeal.nD Cert.EmbedAllRefIdeal.τ Cert.EmbedAllRefIdeal.sig) → Buf (Elt Ideal) ℓ) : Prop :=
  True

def Pre_ResidLn (m : (ℓ : Loc Cert.ResidLn.nD Cert.ResidLn.τ Cert.ResidLn.sig) → Buf (Elt Bits) ℓ) : Prop :=
  True

def Pre_ResidLnIdeal (m : (ℓ : Loc Cert.ResidLnIdeal.nD Cert.ResidLnIdeal.τ Cert.ResidLnIdeal.sig) → Buf (Elt Ideal) ℓ) : Prop :=
  True

def Pre_ResidLnRefIdeal (m : (ℓ : Loc Cert.ResidLnRefIdeal.nD Cert.ResidLnRefIdeal.τ Cert.ResidLnRefIdeal.sig) → Buf (Elt Ideal) ℓ) : Prop :=
  True

def Pre_ResidMix (m : (ℓ : Loc Cert.ResidMix.nD Cert.ResidMix.τ Cert.ResidMix.sig) → Buf (Elt Bits) ℓ) : Prop :=
  True

def Pre_ResidMixIdeal (m : (ℓ : Loc Cert.ResidMixIdeal.nD Cert.ResidMixIdeal.τ Cert.ResidMixIdeal.sig) → Buf (Elt Ideal) ℓ) : Prop :=
  True

def Pre_ResidMixRefIdeal (m : (ℓ : Loc Cert.ResidMixRefIdeal.nD Cert.ResidMixRefIdeal.τ Cert.ResidMixRefIdeal.sig) → Buf (Elt Ideal) ℓ) : Prop :=
  True

def Pre_LnRouter (m : (ℓ : Loc Cert.LnRouter.nD Cert.LnRouter.τ Cert.LnRouter.sig) → Buf (Elt Bits) ℓ) : Prop :=
  True

def Pre_LnRouterIdeal (m : (ℓ : Loc Cert.LnRouterIdeal.nD Cert.LnRouterIdeal.τ Cert.LnRouterIdeal.sig) → Buf (Elt Ideal) ℓ) : Prop :=
  True

def Pre_LnRouterRefIdeal (m : (ℓ : Loc Cert.LnRouterRefIdeal.nD Cert.LnRouterRefIdeal.τ Cert.LnRouterRefIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_ProjUV [hProjUV : Cert.ProjUV.Facts] : Prop :=
  ∀ (m : (ℓ : Loc Cert.ProjUV.nD Cert.ProjUV.τ Cert.ProjUV.sig) → Buf (Elt Bits) ℓ) (g : Dev Cert.ProjUV.nD → PrngReg), Pre_ProjUV m →
    θ_run (Cert.ProjUV.defs (F := Bits)) (onTc (τ := Cert.ProjUV.τ) (Cert.ProjUV.main (F := Bits))) ⟨m, fun _ => 0, g⟩ (fun r => (∀ c : Dev Cert.ProjUV.nD,
      r.2.mem ((c.tc : Thread Cert.ProjUV.nD Cert.ProjUV.τ).loc Cert.ProjUV.main_arg0) = m ((c.tc : Thread Cert.ProjUV.nD Cert.ProjUV.τ).loc Cert.ProjUV.main_arg0)
      ∧ r.2.mem ((c.tc : Thread Cert.ProjUV.nD Cert.ProjUV.τ).loc Cert.ProjUV.main_arg1) = m ((c.tc : Thread Cert.ProjUV.nD Cert.ProjUV.τ).loc Cert.ProjUV.main_arg1))
      ∧ r.2.sem = fun _ => 0)

def quiescent_ProjUVIdeal [hProjUVIdeal : Cert.ProjUVIdeal.Facts] : Prop :=
  ∀ (m : (ℓ : Loc Cert.ProjUVIdeal.nD Cert.ProjUVIdeal.τ Cert.ProjUVIdeal.sig) → Buf (Elt Ideal) ℓ) (g : Dev Cert.ProjUVIdeal.nD → PrngReg), Pre_ProjUVIdeal m →
    θ_run (Cert.ProjUVIdeal.defs (F := Ideal)) (onTc (τ := Cert.ProjUVIdeal.τ) (Cert.ProjUVIdeal.main (F := Ideal))) ⟨m, fun _ => 0, g⟩ (fun r => (∀ c : Dev Cert.ProjUVIdeal.nD,
      r.2.mem ((c.tc : Thread Cert.ProjUVIdeal.nD Cert.ProjUVIdeal.τ).loc Cert.ProjUVIdeal.main_arg0) = m ((c.tc : Thread Cert.ProjUVIdeal.nD Cert.ProjUVIdeal.τ).loc Cert.ProjUVIdeal.main_arg0)
      ∧ r.2.mem ((c.tc : Thread Cert.ProjUVIdeal.nD Cert.ProjUVIdeal.τ).loc Cert.ProjUVIdeal.main_arg1) = m ((c.tc : Thread Cert.ProjUVIdeal.nD Cert.ProjUVIdeal.τ).loc Cert.ProjUVIdeal.main_arg1))
      ∧ r.2.sem = fun _ => 0)

def quiescent_ProjUVRefIdeal [hProjUVRefIdeal : Cert.ProjUVRefIdeal.Facts] : Prop :=
  ∀ (m : (ℓ : Loc Cert.ProjUVRefIdeal.nD Cert.ProjUVRefIdeal.τ Cert.ProjUVRefIdeal.sig) → Buf (Elt Ideal) ℓ) (g : Dev Cert.ProjUVRefIdeal.nD → PrngReg), Pre_ProjUVRefIdeal m →
    θ_run (Cert.ProjUVRefIdeal.defs (F := Ideal)) (onTc (τ := Cert.ProjUVRefIdeal.τ) (Cert.ProjUVRefIdeal.main (F := Ideal))) ⟨m, fun _ => 0, g⟩ (fun r => (∀ c : Dev Cert.ProjUVRefIdeal.nD,
      r.2.mem ((c.tc : Thread Cert.ProjUVRefIdeal.nD Cert.ProjUVRefIdeal.τ).loc Cert.ProjUVRefIdeal.main_arg0) = m ((c.tc : Thread Cert.ProjUVRefIdeal.nD Cert.ProjUVRefIdeal.τ).loc Cert.ProjUVRefIdeal.main_arg0)
      ∧ r.2.mem ((c.tc : Thread Cert.ProjUVRefIdeal.nD Cert.ProjUVRefIdeal.τ).loc Cert.ProjUVRefIdeal.main_arg1) = m ((c.tc : Thread Cert.ProjUVRefIdeal.nD Cert.ProjUVRefIdeal.τ).loc Cert.ProjUVRefIdeal.main_arg1))
      ∧ r.2.sem = fun _ => 0)

def quiescent_ProjZR [hProjZR : Cert.ProjZR.Facts] : Prop :=
  ∀ (m : (ℓ : Loc Cert.ProjZR.nD Cert.ProjZR.τ Cert.ProjZR.sig) → Buf (Elt Bits) ℓ) (g : Dev Cert.ProjZR.nD → PrngReg), Pre_ProjZR m →
    θ_run (Cert.ProjZR.defs (F := Bits)) (onTc (τ := Cert.ProjZR.τ) (Cert.ProjZR.main (F := Bits))) ⟨m, fun _ => 0, g⟩ (fun r => (∀ c : Dev Cert.ProjZR.nD,
      r.2.mem ((c.tc : Thread Cert.ProjZR.nD Cert.ProjZR.τ).loc Cert.ProjZR.main_arg0) = m ((c.tc : Thread Cert.ProjZR.nD Cert.ProjZR.τ).loc Cert.ProjZR.main_arg0)
      ∧ r.2.mem ((c.tc : Thread Cert.ProjZR.nD Cert.ProjZR.τ).loc Cert.ProjZR.main_arg1) = m ((c.tc : Thread Cert.ProjZR.nD Cert.ProjZR.τ).loc Cert.ProjZR.main_arg1))
      ∧ r.2.sem = fun _ => 0)

def quiescent_ProjZRIdeal [hProjZRIdeal : Cert.ProjZRIdeal.Facts] : Prop :=
  ∀ (m : (ℓ : Loc Cert.ProjZRIdeal.nD Cert.ProjZRIdeal.τ Cert.ProjZRIdeal.sig) → Buf (Elt Ideal) ℓ) (g : Dev Cert.ProjZRIdeal.nD → PrngReg), Pre_ProjZRIdeal m →
    θ_run (Cert.ProjZRIdeal.defs (F := Ideal)) (onTc (τ := Cert.ProjZRIdeal.τ) (Cert.ProjZRIdeal.main (F := Ideal))) ⟨m, fun _ => 0, g⟩ (fun r => (∀ c : Dev Cert.ProjZRIdeal.nD,
      r.2.mem ((c.tc : Thread Cert.ProjZRIdeal.nD Cert.ProjZRIdeal.τ).loc Cert.ProjZRIdeal.main_arg0) = m ((c.tc : Thread Cert.ProjZRIdeal.nD Cert.ProjZRIdeal.τ).loc Cert.ProjZRIdeal.main_arg0)
      ∧ r.2.mem ((c.tc : Thread Cert.ProjZRIdeal.nD Cert.ProjZRIdeal.τ).loc Cert.ProjZRIdeal.main_arg1) = m ((c.tc : Thread Cert.ProjZRIdeal.nD Cert.ProjZRIdeal.τ).loc Cert.ProjZRIdeal.main_arg1))
      ∧ r.2.sem = fun _ => 0)

def quiescent_ProjZRRefIdeal [hProjZRRefIdeal : Cert.ProjZRRefIdeal.Facts] : Prop :=
  ∀ (m : (ℓ : Loc Cert.ProjZRRefIdeal.nD Cert.ProjZRRefIdeal.τ Cert.ProjZRRefIdeal.sig) → Buf (Elt Ideal) ℓ) (g : Dev Cert.ProjZRRefIdeal.nD → PrngReg), Pre_ProjZRRefIdeal m →
    θ_run (Cert.ProjZRRefIdeal.defs (F := Ideal)) (onTc (τ := Cert.ProjZRRefIdeal.τ) (Cert.ProjZRRefIdeal.main (F := Ideal))) ⟨m, fun _ => 0, g⟩ (fun r => (∀ c : Dev Cert.ProjZRRefIdeal.nD,
      r.2.mem ((c.tc : Thread Cert.ProjZRRefIdeal.nD Cert.ProjZRRefIdeal.τ).loc Cert.ProjZRRefIdeal.main_arg0) = m ((c.tc : Thread Cert.ProjZRRefIdeal.nD Cert.ProjZRRefIdeal.τ).loc Cert.ProjZRRefIdeal.main_arg0)
      ∧ r.2.mem ((c.tc : Thread Cert.ProjZRRefIdeal.nD Cert.ProjZRRefIdeal.τ).loc Cert.ProjZRRefIdeal.main_arg1) = m ((c.tc : Thread Cert.ProjZRRefIdeal.nD Cert.ProjZRRefIdeal.τ).loc Cert.ProjZRRefIdeal.main_arg1))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1)
      ∧ r.2.mem ((c.tc : Thread Cert.Pair.nD Cert.Pair.τ).loc Cert.Pair.main_arg2) = m ((c.tc : Thread Cert.Pair.nD Cert.Pair.τ).loc Cert.Pair.main_arg2)
      ∧ r.2.mem ((c.tc : Thread Cert.Pair.nD Cert.Pair.τ).loc Cert.Pair.main_arg3) = m ((c.tc : Thread Cert.Pair.nD Cert.Pair.τ).loc Cert.Pair.main_arg3))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
      ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
      ∧ r.2.mem ((c.tc : Thread Cert.PairIdeal.nD Cert.PairIdeal.τ).loc Cert.PairIdeal.main_arg3) = m ((c.tc : Thread Cert.PairIdeal.nD Cert.PairIdeal.τ).loc Cert.PairIdeal.main_arg3))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1)
      ∧ r.2.mem ((c.tc : Thread Cert.PairRefIdeal.nD Cert.PairRefIdeal.τ).loc Cert.PairRefIdeal.main_arg2) = m ((c.tc : Thread Cert.PairRefIdeal.nD Cert.PairRefIdeal.τ).loc Cert.PairRefIdeal.main_arg2)
      ∧ r.2.mem ((c.tc : Thread Cert.PairRefIdeal.nD Cert.PairRefIdeal.τ).loc Cert.PairRefIdeal.main_arg3) = m ((c.tc : Thread Cert.PairRefIdeal.nD Cert.PairRefIdeal.τ).loc Cert.PairRefIdeal.main_arg3))
      ∧ r.2.sem = fun _ => 0)

def quiescent_EmbedP [hEmbedP : Cert.EmbedP.Facts] : Prop :=
  ∀ (m : (ℓ : Loc Cert.EmbedP.nD Cert.EmbedP.τ Cert.EmbedP.sig) → Buf (Elt Bits) ℓ) (g : Dev Cert.EmbedP.nD → PrngReg), Pre_EmbedP m →
    θ_run (Cert.EmbedP.defs (F := Bits)) (onTc (τ := Cert.EmbedP.τ) (Cert.EmbedP.main (F := Bits))) ⟨m, fun _ => 0, g⟩ (fun r => (∀ c : Dev Cert.EmbedP.nD,
      r.2.mem ((c.tc : Thread Cert.EmbedP.nD Cert.EmbedP.τ).loc Cert.EmbedP.main_arg0) = m ((c.tc : Thread Cert.EmbedP.nD Cert.EmbedP.τ).loc Cert.EmbedP.main_arg0)
      ∧ r.2.mem ((c.tc : Thread Cert.EmbedP.nD Cert.EmbedP.τ).loc Cert.EmbedP.main_arg1) = m ((c.tc : Thread Cert.EmbedP.nD Cert.EmbedP.τ).loc Cert.EmbedP.main_arg1)
      ∧ r.2.mem ((c.tc : Thread Cert.EmbedP.nD Cert.EmbedP.τ).loc Cert.EmbedP.main_arg2) = m ((c.tc : Thread Cert.EmbedP.nD Cert.EmbedP.τ).loc Cert.EmbedP.main_arg2)
      ∧ r.2.mem ((c.tc : Thread Cert.EmbedP.nD Cert.EmbedP.τ).loc Cert.EmbedP.main_arg3) = m ((c.tc : Thread Cert.EmbedP.nD Cert.EmbedP.τ).loc Cert.EmbedP.main_arg3)
      ∧ r.2.mem ((c.tc : Thread Cert.EmbedP.nD Cert.EmbedP.τ).loc Cert.EmbedP.main_arg4) = m ((c.tc : Thread Cert.EmbedP.nD Cert.EmbedP.τ).loc Cert.EmbedP.main_arg4))
      ∧ r.2.sem = fun _ => 0)

def quiescent_EmbedPIdeal [hEmbedPIdeal : Cert.EmbedPIdeal.Facts] : Prop :=
  ∀ (m : (ℓ : Loc Cert.EmbedPIdeal.nD Cert.EmbedPIdeal.τ Cert.EmbedPIdeal.sig) → Buf (Elt Ideal) ℓ) (g : Dev Cert.EmbedPIdeal.nD → PrngReg), Pre_EmbedPIdeal m →
    θ_run (Cert.EmbedPIdeal.defs (F := Ideal)) (onTc (τ := Cert.EmbedPIdeal.τ) (Cert.EmbedPIdeal.main (F := Ideal))) ⟨m, fun _ => 0, g⟩ (fun r => (∀ c : Dev Cert.EmbedPIdeal.nD,
      r.2.mem ((c.tc : Thread Cert.EmbedPIdeal.nD Cert.EmbedPIdeal.τ).loc Cert.EmbedPIdeal.main_arg0) = m ((c.tc : Thread Cert.EmbedPIdeal.nD Cert.EmbedPIdeal.τ).loc Cert.EmbedPIdeal.main_arg0)
      ∧ r.2.mem ((c.tc : Thread Cert.EmbedPIdeal.nD Cert.EmbedPIdeal.τ).loc Cert.EmbedPIdeal.main_arg1) = m ((c.tc : Thread Cert.EmbedPIdeal.nD Cert.EmbedPIdeal.τ).loc Cert.EmbedPIdeal.main_arg1)
      ∧ r.2.mem ((c.tc : Thread Cert.EmbedPIdeal.nD Cert.EmbedPIdeal.τ).loc Cert.EmbedPIdeal.main_arg2) = m ((c.tc : Thread Cert.EmbedPIdeal.nD Cert.EmbedPIdeal.τ).loc Cert.EmbedPIdeal.main_arg2)
      ∧ r.2.mem ((c.tc : Thread Cert.EmbedPIdeal.nD Cert.EmbedPIdeal.τ).loc Cert.EmbedPIdeal.main_arg3) = m ((c.tc : Thread Cert.EmbedPIdeal.nD Cert.EmbedPIdeal.τ).loc Cert.EmbedPIdeal.main_arg3)
      ∧ r.2.mem ((c.tc : Thread Cert.EmbedPIdeal.nD Cert.EmbedPIdeal.τ).loc Cert.EmbedPIdeal.main_arg4) = m ((c.tc : Thread Cert.EmbedPIdeal.nD Cert.EmbedPIdeal.τ).loc Cert.EmbedPIdeal.main_arg4))
      ∧ r.2.sem = fun _ => 0)

def quiescent_EmbedPRefIdeal [hEmbedPRefIdeal : Cert.EmbedPRefIdeal.Facts] : Prop :=
  ∀ (m : (ℓ : Loc Cert.EmbedPRefIdeal.nD Cert.EmbedPRefIdeal.τ Cert.EmbedPRefIdeal.sig) → Buf (Elt Ideal) ℓ) (g : Dev Cert.EmbedPRefIdeal.nD → PrngReg), Pre_EmbedPRefIdeal m →
    θ_run (Cert.EmbedPRefIdeal.defs (F := Ideal)) (onTc (τ := Cert.EmbedPRefIdeal.τ) (Cert.EmbedPRefIdeal.main (F := Ideal))) ⟨m, fun _ => 0, g⟩ (fun r => (∀ c : Dev Cert.EmbedPRefIdeal.nD,
      r.2.mem ((c.tc : Thread Cert.EmbedPRefIdeal.nD Cert.EmbedPRefIdeal.τ).loc Cert.EmbedPRefIdeal.main_arg0) = m ((c.tc : Thread Cert.EmbedPRefIdeal.nD Cert.EmbedPRefIdeal.τ).loc Cert.EmbedPRefIdeal.main_arg0)
      ∧ r.2.mem ((c.tc : Thread Cert.EmbedPRefIdeal.nD Cert.EmbedPRefIdeal.τ).loc Cert.EmbedPRefIdeal.main_arg1) = m ((c.tc : Thread Cert.EmbedPRefIdeal.nD Cert.EmbedPRefIdeal.τ).loc Cert.EmbedPRefIdeal.main_arg1)
      ∧ r.2.mem ((c.tc : Thread Cert.EmbedPRefIdeal.nD Cert.EmbedPRefIdeal.τ).loc Cert.EmbedPRefIdeal.main_arg2) = m ((c.tc : Thread Cert.EmbedPRefIdeal.nD Cert.EmbedPRefIdeal.τ).loc Cert.EmbedPRefIdeal.main_arg2)
      ∧ r.2.mem ((c.tc : Thread Cert.EmbedPRefIdeal.nD Cert.EmbedPRefIdeal.τ).loc Cert.EmbedPRefIdeal.main_arg3) = m ((c.tc : Thread Cert.EmbedPRefIdeal.nD Cert.EmbedPRefIdeal.τ).loc Cert.EmbedPRefIdeal.main_arg3)
      ∧ r.2.mem ((c.tc : Thread Cert.EmbedPRefIdeal.nD Cert.EmbedPRefIdeal.τ).loc Cert.EmbedPRefIdeal.main_arg4) = m ((c.tc : Thread Cert.EmbedPRefIdeal.nD Cert.EmbedPRefIdeal.τ).loc Cert.EmbedPRefIdeal.main_arg4))
      ∧ r.2.sem = fun _ => 0)

def quiescent_EmbedS [hEmbedS : Cert.EmbedS.Facts] : Prop :=
  ∀ (m : (ℓ : Loc Cert.EmbedS.nD Cert.EmbedS.τ Cert.EmbedS.sig) → Buf (Elt Bits) ℓ) (g : Dev Cert.EmbedS.nD → PrngReg), Pre_EmbedS m →
    θ_run (Cert.EmbedS.defs (F := Bits)) (onTc (τ := Cert.EmbedS.τ) (Cert.EmbedS.main (F := Bits))) ⟨m, fun _ => 0, g⟩ (fun r => (∀ c : Dev Cert.EmbedS.nD,
      r.2.mem ((c.tc : Thread Cert.EmbedS.nD Cert.EmbedS.τ).loc Cert.EmbedS.main_arg0) = m ((c.tc : Thread Cert.EmbedS.nD Cert.EmbedS.τ).loc Cert.EmbedS.main_arg0)
      ∧ r.2.mem ((c.tc : Thread Cert.EmbedS.nD Cert.EmbedS.τ).loc Cert.EmbedS.main_arg1) = m ((c.tc : Thread Cert.EmbedS.nD Cert.EmbedS.τ).loc Cert.EmbedS.main_arg1)
      ∧ r.2.mem ((c.tc : Thread Cert.EmbedS.nD Cert.EmbedS.τ).loc Cert.EmbedS.main_arg2) = m ((c.tc : Thread Cert.EmbedS.nD Cert.EmbedS.τ).loc Cert.EmbedS.main_arg2)
      ∧ r.2.mem ((c.tc : Thread Cert.EmbedS.nD Cert.EmbedS.τ).loc Cert.EmbedS.main_arg3) = m ((c.tc : Thread Cert.EmbedS.nD Cert.EmbedS.τ).loc Cert.EmbedS.main_arg3)
      ∧ r.2.mem ((c.tc : Thread Cert.EmbedS.nD Cert.EmbedS.τ).loc Cert.EmbedS.main_arg4) = m ((c.tc : Thread Cert.EmbedS.nD Cert.EmbedS.τ).loc Cert.EmbedS.main_arg4))
      ∧ r.2.sem = fun _ => 0)

def quiescent_EmbedSIdeal [hEmbedSIdeal : Cert.EmbedSIdeal.Facts] : Prop :=
  ∀ (m : (ℓ : Loc Cert.EmbedSIdeal.nD Cert.EmbedSIdeal.τ Cert.EmbedSIdeal.sig) → Buf (Elt Ideal) ℓ) (g : Dev Cert.EmbedSIdeal.nD → PrngReg), Pre_EmbedSIdeal m →
    θ_run (Cert.EmbedSIdeal.defs (F := Ideal)) (onTc (τ := Cert.EmbedSIdeal.τ) (Cert.EmbedSIdeal.main (F := Ideal))) ⟨m, fun _ => 0, g⟩ (fun r => (∀ c : Dev Cert.EmbedSIdeal.nD,
      r.2.mem ((c.tc : Thread Cert.EmbedSIdeal.nD Cert.EmbedSIdeal.τ).loc Cert.EmbedSIdeal.main_arg0) = m ((c.tc : Thread Cert.EmbedSIdeal.nD Cert.EmbedSIdeal.τ).loc Cert.EmbedSIdeal.main_arg0)
      ∧ r.2.mem ((c.tc : Thread Cert.EmbedSIdeal.nD Cert.EmbedSIdeal.τ).loc Cert.EmbedSIdeal.main_arg1) = m ((c.tc : Thread Cert.EmbedSIdeal.nD Cert.EmbedSIdeal.τ).loc Cert.EmbedSIdeal.main_arg1)
      ∧ r.2.mem ((c.tc : Thread Cert.EmbedSIdeal.nD Cert.EmbedSIdeal.τ).loc Cert.EmbedSIdeal.main_arg2) = m ((c.tc : Thread Cert.EmbedSIdeal.nD Cert.EmbedSIdeal.τ).loc Cert.EmbedSIdeal.main_arg2)
      ∧ r.2.mem ((c.tc : Thread Cert.EmbedSIdeal.nD Cert.EmbedSIdeal.τ).loc Cert.EmbedSIdeal.main_arg3) = m ((c.tc : Thread Cert.EmbedSIdeal.nD Cert.EmbedSIdeal.τ).loc Cert.EmbedSIdeal.main_arg3)
      ∧ r.2.mem ((c.tc : Thread Cert.EmbedSIdeal.nD Cert.EmbedSIdeal.τ).loc Cert.EmbedSIdeal.main_arg4) = m ((c.tc : Thread Cert.EmbedSIdeal.nD Cert.EmbedSIdeal.τ).loc Cert.EmbedSIdeal.main_arg4))
      ∧ r.2.sem = fun _ => 0)

def quiescent_EmbedSRefIdeal [hEmbedSRefIdeal : Cert.EmbedSRefIdeal.Facts] : Prop :=
  ∀ (m : (ℓ : Loc Cert.EmbedSRefIdeal.nD Cert.EmbedSRefIdeal.τ Cert.EmbedSRefIdeal.sig) → Buf (Elt Ideal) ℓ) (g : Dev Cert.EmbedSRefIdeal.nD → PrngReg), Pre_EmbedSRefIdeal m →
    θ_run (Cert.EmbedSRefIdeal.defs (F := Ideal)) (onTc (τ := Cert.EmbedSRefIdeal.τ) (Cert.EmbedSRefIdeal.main (F := Ideal))) ⟨m, fun _ => 0, g⟩ (fun r => (∀ c : Dev Cert.EmbedSRefIdeal.nD,
      r.2.mem ((c.tc : Thread Cert.EmbedSRefIdeal.nD Cert.EmbedSRefIdeal.τ).loc Cert.EmbedSRefIdeal.main_arg0) = m ((c.tc : Thread Cert.EmbedSRefIdeal.nD Cert.EmbedSRefIdeal.τ).loc Cert.EmbedSRefIdeal.main_arg0)
      ∧ r.2.mem ((c.tc : Thread Cert.EmbedSRefIdeal.nD Cert.EmbedSRefIdeal.τ).loc Cert.EmbedSRefIdeal.main_arg1) = m ((c.tc : Thread Cert.EmbedSRefIdeal.nD Cert.EmbedSRefIdeal.τ).loc Cert.EmbedSRefIdeal.main_arg1)
      ∧ r.2.mem ((c.tc : Thread Cert.EmbedSRefIdeal.nD Cert.EmbedSRefIdeal.τ).loc Cert.EmbedSRefIdeal.main_arg2) = m ((c.tc : Thread Cert.EmbedSRefIdeal.nD Cert.EmbedSRefIdeal.τ).loc Cert.EmbedSRefIdeal.main_arg2)
      ∧ r.2.mem ((c.tc : Thread Cert.EmbedSRefIdeal.nD Cert.EmbedSRefIdeal.τ).loc Cert.EmbedSRefIdeal.main_arg3) = m ((c.tc : Thread Cert.EmbedSRefIdeal.nD Cert.EmbedSRefIdeal.τ).loc Cert.EmbedSRefIdeal.main_arg3)
      ∧ r.2.mem ((c.tc : Thread Cert.EmbedSRefIdeal.nD Cert.EmbedSRefIdeal.τ).loc Cert.EmbedSRefIdeal.main_arg4) = m ((c.tc : Thread Cert.EmbedSRefIdeal.nD Cert.EmbedSRefIdeal.τ).loc Cert.EmbedSRefIdeal.main_arg4))
      ∧ r.2.sem = fun _ => 0)

def quiescent_MoeDown [hMoeDown : Cert.MoeDown.Facts] [hPre_experts_named : Cert.Pre_experts_named.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_experts_named : Cert.Pre_experts_named.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_MoeDownRefIdeal_pre_experts_named [hMoeDownRefIdeal : Cert.MoeDownRefIdeal.Facts] [hPre_experts_named : Cert.Pre_experts_named.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal_experts_named m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_EmbedAll [hEmbedAll : Cert.EmbedAll.Facts] : Prop :=
  ∀ (m : (ℓ : Loc Cert.EmbedAll.nD Cert.EmbedAll.τ Cert.EmbedAll.sig) → Buf (Elt Bits) ℓ) (g : Dev Cert.EmbedAll.nD → PrngReg), Pre_EmbedAll m →
    θ_run (Cert.EmbedAll.defs (F := Bits)) (onTc (τ := Cert.EmbedAll.τ) (Cert.EmbedAll.main (F := Bits))) ⟨m, fun _ => 0, g⟩ (fun r => (∀ c : Dev Cert.EmbedAll.nD,
      r.2.mem ((c.tc : Thread Cert.EmbedAll.nD Cert.EmbedAll.τ).loc Cert.EmbedAll.main_arg0) = m ((c.tc : Thread Cert.EmbedAll.nD Cert.EmbedAll.τ).loc Cert.EmbedAll.main_arg0)
      ∧ r.2.mem ((c.tc : Thread Cert.EmbedAll.nD Cert.EmbedAll.τ).loc Cert.EmbedAll.main_arg1) = m ((c.tc : Thread Cert.EmbedAll.nD Cert.EmbedAll.τ).loc Cert.EmbedAll.main_arg1)
      ∧ r.2.mem ((c.tc : Thread Cert.EmbedAll.nD Cert.EmbedAll.τ).loc Cert.EmbedAll.main_arg2) = m ((c.tc : Thread Cert.EmbedAll.nD Cert.EmbedAll.τ).loc Cert.EmbedAll.main_arg2)
      ∧ r.2.mem ((c.tc : Thread Cert.EmbedAll.nD Cert.EmbedAll.τ).loc Cert.EmbedAll.main_arg3) = m ((c.tc : Thread Cert.EmbedAll.nD Cert.EmbedAll.τ).loc Cert.EmbedAll.main_arg3)
      ∧ r.2.mem ((c.tc : Thread Cert.EmbedAll.nD Cert.EmbedAll.τ).loc Cert.EmbedAll.main_arg4) = m ((c.tc : Thread Cert.EmbedAll.nD Cert.EmbedAll.τ).loc Cert.EmbedAll.main_arg4))
      ∧ r.2.sem = fun _ => 0)

def quiescent_EmbedAllIdeal [hEmbedAllIdeal : Cert.EmbedAllIdeal.Facts] : Prop :=
  ∀ (m : (ℓ : Loc Cert.EmbedAllIdeal.nD Cert.EmbedAllIdeal.τ Cert.EmbedAllIdeal.sig) → Buf (Elt Ideal) ℓ) (g : Dev Cert.EmbedAllIdeal.nD → PrngReg), Pre_EmbedAllIdeal m →
    θ_run (Cert.EmbedAllIdeal.defs (F := Ideal)) (onTc (τ := Cert.EmbedAllIdeal.τ) (Cert.EmbedAllIdeal.main (F := Ideal))) ⟨m, fun _ => 0, g⟩ (fun r => (∀ c : Dev Cert.EmbedAllIdeal.nD,
      r.2.mem ((c.tc : Thread Cert.EmbedAllIdeal.nD Cert.EmbedAllIdeal.τ).loc Cert.EmbedAllIdeal.main_arg0) = m ((c.tc : Thread Cert.EmbedAllIdeal.nD Cert.EmbedAllIdeal.τ).loc Cert.EmbedAllIdeal.main_arg0)
      ∧ r.2.mem ((c.tc : Thread Cert.EmbedAllIdeal.nD Cert.EmbedAllIdeal.τ).loc Cert.EmbedAllIdeal.main_arg1) = m ((c.tc : Thread Cert.EmbedAllIdeal.nD Cert.EmbedAllIdeal.τ).loc Cert.EmbedAllIdeal.main_arg1)
      ∧ r.2.mem ((c.tc : Thread Cert.EmbedAllIdeal.nD Cert.EmbedAllIdeal.τ).loc Cert.EmbedAllIdeal.main_arg2) = m ((c.tc : Thread Cert.EmbedAllIdeal.nD Cert.EmbedAllIdeal.τ).loc Cert.EmbedAllIdeal.main_arg2)
      ∧ r.2.mem ((c.tc : Thread Cert.EmbedAllIdeal.nD Cert.EmbedAllIdeal.τ).loc Cert.EmbedAllIdeal.main_arg3) = m ((c.tc : Thread Cert.EmbedAllIdeal.nD Cert.EmbedAllIdeal.τ).loc Cert.EmbedAllIdeal.main_arg3)
      ∧ r.2.mem ((c.tc : Thread Cert.EmbedAllIdeal.nD Cert.EmbedAllIdeal.τ).loc Cert.EmbedAllIdeal.main_arg4) = m ((c.tc : Thread Cert.EmbedAllIdeal.nD Cert.EmbedAllIdeal.τ).loc Cert.EmbedAllIdeal.main_arg4))
      ∧ r.2.sem = fun _ => 0)

def quiescent_EmbedAllRefIdeal [hEmbedAllRefIdeal : Cert.EmbedAllRefIdeal.Facts] : Prop :=
  ∀ (m : (ℓ : Loc Cert.EmbedAllRefIdeal.nD Cert.EmbedAllRefIdeal.τ Cert.EmbedAllRefIdeal.sig) → Buf (Elt Ideal) ℓ) (g : Dev Cert.EmbedAllRefIdeal.nD → PrngReg), Pre_EmbedAllRefIdeal m →
    θ_run (Cert.EmbedAllRefIdeal.defs (F := Ideal)) (onTc (τ := Cert.EmbedAllRefIdeal.τ) (Cert.EmbedAllRefIdeal.main (F := Ideal))) ⟨m, fun _ => 0, g⟩ (fun r => (∀ c : Dev Cert.EmbedAllRefIdeal.nD,
      r.2.mem ((c.tc : Thread Cert.EmbedAllRefIdeal.nD Cert.EmbedAllRefIdeal.τ).loc Cert.EmbedAllRefIdeal.main_arg0) = m ((c.tc : Thread Cert.EmbedAllRefIdeal.nD Cert.EmbedAllRefIdeal.τ).loc Cert.EmbedAllRefIdeal.main_arg0)
      ∧ r.2.mem ((c.tc : Thread Cert.EmbedAllRefIdeal.nD Cert.EmbedAllRefIdeal.τ).loc Cert.EmbedAllRefIdeal.main_arg1) = m ((c.tc : Thread Cert.EmbedAllRefIdeal.nD Cert.EmbedAllRefIdeal.τ).loc Cert.EmbedAllRefIdeal.main_arg1)
      ∧ r.2.mem ((c.tc : Thread Cert.EmbedAllRefIdeal.nD Cert.EmbedAllRefIdeal.τ).loc Cert.EmbedAllRefIdeal.main_arg2) = m ((c.tc : Thread Cert.EmbedAllRefIdeal.nD Cert.EmbedAllRefIdeal.τ).loc Cert.EmbedAllRefIdeal.main_arg2)
      ∧ r.2.mem ((c.tc : Thread Cert.EmbedAllRefIdeal.nD Cert.EmbedAllRefIdeal.τ).loc Cert.EmbedAllRefIdeal.main_arg3) = m ((c.tc : Thread Cert.EmbedAllRefIdeal.nD Cert.EmbedAllRefIdeal.τ).loc Cert.EmbedAllRefIdeal.main_arg3)
      ∧ r.2.mem ((c.tc : Thread Cert.EmbedAllRefIdeal.nD Cert.EmbedAllRefIdeal.τ).loc Cert.EmbedAllRefIdeal.main_arg4) = m ((c.tc : Thread Cert.EmbedAllRefIdeal.nD Cert.EmbedAllRefIdeal.τ).loc Cert.EmbedAllRefIdeal.main_arg4))
      ∧ r.2.sem = fun _ => 0)

def quiescent_ResidLn [hResidLn : Cert.ResidLn.Facts] : Prop :=
  ∀ (m : (ℓ : Loc Cert.ResidLn.nD Cert.ResidLn.τ Cert.ResidLn.sig) → Buf (Elt Bits) ℓ) (g : Dev Cert.ResidLn.nD → PrngReg), Pre_ResidLn m →
    θ_run (Cert.ResidLn.defs (F := Bits)) (onTc (τ := Cert.ResidLn.τ) (Cert.ResidLn.main (F := Bits))) ⟨m, fun _ => 0, g⟩ (fun r => (∀ c : Dev Cert.ResidLn.nD,
      r.2.mem ((c.tc : Thread Cert.ResidLn.nD Cert.ResidLn.τ).loc Cert.ResidLn.main_arg0) = m ((c.tc : Thread Cert.ResidLn.nD Cert.ResidLn.τ).loc Cert.ResidLn.main_arg0)
      ∧ r.2.mem ((c.tc : Thread Cert.ResidLn.nD Cert.ResidLn.τ).loc Cert.ResidLn.main_arg1) = m ((c.tc : Thread Cert.ResidLn.nD Cert.ResidLn.τ).loc Cert.ResidLn.main_arg1)
      ∧ r.2.mem ((c.tc : Thread Cert.ResidLn.nD Cert.ResidLn.τ).loc Cert.ResidLn.main_arg2) = m ((c.tc : Thread Cert.ResidLn.nD Cert.ResidLn.τ).loc Cert.ResidLn.main_arg2)
      ∧ r.2.mem ((c.tc : Thread Cert.ResidLn.nD Cert.ResidLn.τ).loc Cert.ResidLn.main_arg3) = m ((c.tc : Thread Cert.ResidLn.nD Cert.ResidLn.τ).loc Cert.ResidLn.main_arg3))
      ∧ r.2.sem = fun _ => 0)

def quiescent_ResidLnIdeal [hResidLnIdeal : Cert.ResidLnIdeal.Facts] : Prop :=
  ∀ (m : (ℓ : Loc Cert.ResidLnIdeal.nD Cert.ResidLnIdeal.τ Cert.ResidLnIdeal.sig) → Buf (Elt Ideal) ℓ) (g : Dev Cert.ResidLnIdeal.nD → PrngReg), Pre_ResidLnIdeal m →
    θ_run (Cert.ResidLnIdeal.defs (F := Ideal)) (onTc (τ := Cert.ResidLnIdeal.τ) (Cert.ResidLnIdeal.main (F := Ideal))) ⟨m, fun _ => 0, g⟩ (fun r => (∀ c : Dev Cert.ResidLnIdeal.nD,
      r.2.mem ((c.tc : Thread Cert.ResidLnIdeal.nD Cert.ResidLnIdeal.τ).loc Cert.ResidLnIdeal.main_arg0) = m ((c.tc : Thread Cert.ResidLnIdeal.nD Cert.ResidLnIdeal.τ).loc Cert.ResidLnIdeal.main_arg0)
      ∧ r.2.mem ((c.tc : Thread Cert.ResidLnIdeal.nD Cert.ResidLnIdeal.τ).loc Cert.ResidLnIdeal.main_arg1) = m ((c.tc : Thread Cert.ResidLnIdeal.nD Cert.ResidLnIdeal.τ).loc Cert.ResidLnIdeal.main_arg1)
      ∧ r.2.mem ((c.tc : Thread Cert.ResidLnIdeal.nD Cert.ResidLnIdeal.τ).loc Cert.ResidLnIdeal.main_arg2) = m ((c.tc : Thread Cert.ResidLnIdeal.nD Cert.ResidLnIdeal.τ).loc Cert.ResidLnIdeal.main_arg2)
      ∧ r.2.mem ((c.tc : Thread Cert.ResidLnIdeal.nD Cert.ResidLnIdeal.τ).loc Cert.ResidLnIdeal.main_arg3) = m ((c.tc : Thread Cert.ResidLnIdeal.nD Cert.ResidLnIdeal.τ).loc Cert.ResidLnIdeal.main_arg3))
      ∧ r.2.sem = fun _ => 0)

def quiescent_ResidLnRefIdeal [hResidLnRefIdeal : Cert.ResidLnRefIdeal.Facts] : Prop :=
  ∀ (m : (ℓ : Loc Cert.ResidLnRefIdeal.nD Cert.ResidLnRefIdeal.τ Cert.ResidLnRefIdeal.sig) → Buf (Elt Ideal) ℓ) (g : Dev Cert.ResidLnRefIdeal.nD → PrngReg), Pre_ResidLnRefIdeal m →
    θ_run (Cert.ResidLnRefIdeal.defs (F := Ideal)) (onTc (τ := Cert.ResidLnRefIdeal.τ) (Cert.ResidLnRefIdeal.main (F := Ideal))) ⟨m, fun _ => 0, g⟩ (fun r => (∀ c : Dev Cert.ResidLnRefIdeal.nD,
      r.2.mem ((c.tc : Thread Cert.ResidLnRefIdeal.nD Cert.ResidLnRefIdeal.τ).loc Cert.ResidLnRefIdeal.main_arg0) = m ((c.tc : Thread Cert.ResidLnRefIdeal.nD Cert.ResidLnRefIdeal.τ).loc Cert.ResidLnRefIdeal.main_arg0)
      ∧ r.2.mem ((c.tc : Thread Cert.ResidLnRefIdeal.nD Cert.ResidLnRefIdeal.τ).loc Cert.ResidLnRefIdeal.main_arg1) = m ((c.tc : Thread Cert.ResidLnRefIdeal.nD Cert.ResidLnRefIdeal.τ).loc Cert.ResidLnRefIdeal.main_arg1)
      ∧ r.2.mem ((c.tc : Thread Cert.ResidLnRefIdeal.nD Cert.ResidLnRefIdeal.τ).loc Cert.ResidLnRefIdeal.main_arg2) = m ((c.tc : Thread Cert.ResidLnRefIdeal.nD Cert.ResidLnRefIdeal.τ).loc Cert.ResidLnRefIdeal.main_arg2)
      ∧ r.2.mem ((c.tc : Thread Cert.ResidLnRefIdeal.nD Cert.ResidLnRefIdeal.τ).loc Cert.ResidLnRefIdeal.main_arg3) = m ((c.tc : Thread Cert.ResidLnRefIdeal.nD Cert.ResidLnRefIdeal.τ).loc Cert.ResidLnRefIdeal.main_arg3))
      ∧ r.2.sem = fun _ => 0)

def quiescent_ResidMix [hResidMix : Cert.ResidMix.Facts] : Prop :=
  ∀ (m : (ℓ : Loc Cert.ResidMix.nD Cert.ResidMix.τ Cert.ResidMix.sig) → Buf (Elt Bits) ℓ) (g : Dev Cert.ResidMix.nD → PrngReg), Pre_ResidMix m →
    θ_run (Cert.ResidMix.defs (F := Bits)) (onTc (τ := Cert.ResidMix.τ) (Cert.ResidMix.main (F := Bits))) ⟨m, fun _ => 0, g⟩ (fun r => (∀ c : Dev Cert.ResidMix.nD,
      r.2.mem ((c.tc : Thread Cert.ResidMix.nD Cert.ResidMix.τ).loc Cert.ResidMix.main_arg0) = m ((c.tc : Thread Cert.ResidMix.nD Cert.ResidMix.τ).loc Cert.ResidMix.main_arg0)
      ∧ r.2.mem ((c.tc : Thread Cert.ResidMix.nD Cert.ResidMix.τ).loc Cert.ResidMix.main_arg1) = m ((c.tc : Thread Cert.ResidMix.nD Cert.ResidMix.τ).loc Cert.ResidMix.main_arg1)
      ∧ r.2.mem ((c.tc : Thread Cert.ResidMix.nD Cert.ResidMix.τ).loc Cert.ResidMix.main_arg2) = m ((c.tc : Thread Cert.ResidMix.nD Cert.ResidMix.τ).loc Cert.ResidMix.main_arg2)
      ∧ r.2.mem ((c.tc : Thread Cert.ResidMix.nD Cert.ResidMix.τ).loc Cert.ResidMix.main_arg3) = m ((c.tc : Thread Cert.ResidMix.nD Cert.ResidMix.τ).loc Cert.ResidMix.main_arg3)
      ∧ r.2.mem ((c.tc : Thread Cert.ResidMix.nD Cert.ResidMix.τ).loc Cert.ResidMix.main_arg4) = m ((c.tc : Thread Cert.ResidMix.nD Cert.ResidMix.τ).loc Cert.ResidMix.main_arg4))
      ∧ r.2.sem = fun _ => 0)

def quiescent_ResidMixIdeal [hResidMixIdeal : Cert.ResidMixIdeal.Facts] : Prop :=
  ∀ (m : (ℓ : Loc Cert.ResidMixIdeal.nD Cert.ResidMixIdeal.τ Cert.ResidMixIdeal.sig) → Buf (Elt Ideal) ℓ) (g : Dev Cert.ResidMixIdeal.nD → PrngReg), Pre_ResidMixIdeal m →
    θ_run (Cert.ResidMixIdeal.defs (F := Ideal)) (onTc (τ := Cert.ResidMixIdeal.τ) (Cert.ResidMixIdeal.main (F := Ideal))) ⟨m, fun _ => 0, g⟩ (fun r => (∀ c : Dev Cert.ResidMixIdeal.nD,
      r.2.mem ((c.tc : Thread Cert.ResidMixIdeal.nD Cert.ResidMixIdeal.τ).loc Cert.ResidMixIdeal.main_arg0) = m ((c.tc : Thread Cert.ResidMixIdeal.nD Cert.ResidMixIdeal.τ).loc Cert.ResidMixIdeal.main_arg0)
      ∧ r.2.mem ((c.tc : Thread Cert.ResidMixIdeal.nD Cert.ResidMixIdeal.τ).loc Cert.ResidMixIdeal.main_arg1) = m ((c.tc : Thread Cert.ResidMixIdeal.nD Cert.ResidMixIdeal.τ).loc Cert.ResidMixIdeal.main_arg1)
      ∧ r.2.mem ((c.tc : Thread Cert.ResidMixIdeal.nD Cert.ResidMixIdeal.τ).loc Cert.ResidMixIdeal.main_arg2) = m ((c.tc : Thread Cert.ResidMixIdeal.nD Cert.ResidMixIdeal.τ).loc Cert.ResidMixIdeal.main_arg2)
      ∧ r.2.mem ((c.tc : Thread Cert.ResidMixIdeal.nD Cert.ResidMixIdeal.τ).loc Cert.ResidMixIdeal.main_arg3) = m ((c.tc : Thread Cert.ResidMixIdeal.nD Cert.ResidMixIdeal.τ).loc Cert.ResidMixIdeal.main_arg3)
      ∧ r.2.mem ((c.tc : Thread Cert.ResidMixIdeal.nD Cert.ResidMixIdeal.τ).loc Cert.ResidMixIdeal.main_arg4) = m ((c.tc : Thread Cert.ResidMixIdeal.nD Cert.ResidMixIdeal.τ).loc Cert.ResidMixIdeal.main_arg4))
      ∧ r.2.sem = fun _ => 0)

def quiescent_ResidMixRefIdeal [hResidMixRefIdeal : Cert.ResidMixRefIdeal.Facts] : Prop :=
  ∀ (m : (ℓ : Loc Cert.ResidMixRefIdeal.nD Cert.ResidMixRefIdeal.τ Cert.ResidMixRefIdeal.sig) → Buf (Elt Ideal) ℓ) (g : Dev Cert.ResidMixRefIdeal.nD → PrngReg), Pre_ResidMixRefIdeal m →
    θ_run (Cert.ResidMixRefIdeal.defs (F := Ideal)) (onTc (τ := Cert.ResidMixRefIdeal.τ) (Cert.ResidMixRefIdeal.main (F := Ideal))) ⟨m, fun _ => 0, g⟩ (fun r => (∀ c : Dev Cert.ResidMixRefIdeal.nD,
      r.2.mem ((c.tc : Thread Cert.ResidMixRefIdeal.nD Cert.ResidMixRefIdeal.τ).loc Cert.ResidMixRefIdeal.main_arg0) = m ((c.tc : Thread Cert.ResidMixRefIdeal.nD Cert.ResidMixRefIdeal.τ).loc Cert.ResidMixRefIdeal.main_arg0)
      ∧ r.2.mem ((c.tc : Thread Cert.ResidMixRefIdeal.nD Cert.ResidMixRefIdeal.τ).loc Cert.ResidMixRefIdeal.main_arg1) = m ((c.tc : Thread Cert.ResidMixRefIdeal.nD Cert.ResidMixRefIdeal.τ).loc Cert.ResidMixRefIdeal.main_arg1)
      ∧ r.2.mem ((c.tc : Thread Cert.ResidMixRefIdeal.nD Cert.ResidMixRefIdeal.τ).loc Cert.ResidMixRefIdeal.main_arg2) = m ((c.tc : Thread Cert.ResidMixRefIdeal.nD Cert.ResidMixRefIdeal.τ).loc Cert.ResidMixRefIdeal.main_arg2)
      ∧ r.2.mem ((c.tc : Thread Cert.ResidMixRefIdeal.nD Cert.ResidMixRefIdeal.τ).loc Cert.ResidMixRefIdeal.main_arg3) = m ((c.tc : Thread Cert.ResidMixRefIdeal.nD Cert.ResidMixRefIdeal.τ).loc Cert.ResidMixRefIdeal.main_arg3)
      ∧ r.2.mem ((c.tc : Thread Cert.ResidMixRefIdeal.nD Cert.ResidMixRefIdeal.τ).loc Cert.ResidMixRefIdeal.main_arg4) = m ((c.tc : Thread Cert.ResidMixRefIdeal.nD Cert.ResidMixRefIdeal.τ).loc Cert.ResidMixRefIdeal.main_arg4))
      ∧ r.2.sem = fun _ => 0)

def quiescent_LnRouter [hLnRouter : Cert.LnRouter.Facts] : Prop :=
  ∀ (m : (ℓ : Loc Cert.LnRouter.nD Cert.LnRouter.τ Cert.LnRouter.sig) → Buf (Elt Bits) ℓ) (g : Dev Cert.LnRouter.nD → PrngReg), Pre_LnRouter m →
    θ_run (Cert.LnRouter.defs (F := Bits)) (onTc (τ := Cert.LnRouter.τ) (Cert.LnRouter.main (F := Bits))) ⟨m, fun _ => 0, g⟩ (fun r => (∀ c : Dev Cert.LnRouter.nD,
      r.2.mem ((c.tc : Thread Cert.LnRouter.nD Cert.LnRouter.τ).loc Cert.LnRouter.main_arg0) = m ((c.tc : Thread Cert.LnRouter.nD Cert.LnRouter.τ).loc Cert.LnRouter.main_arg0)
      ∧ r.2.mem ((c.tc : Thread Cert.LnRouter.nD Cert.LnRouter.τ).loc Cert.LnRouter.main_arg1) = m ((c.tc : Thread Cert.LnRouter.nD Cert.LnRouter.τ).loc Cert.LnRouter.main_arg1)
      ∧ r.2.mem ((c.tc : Thread Cert.LnRouter.nD Cert.LnRouter.τ).loc Cert.LnRouter.main_arg2) = m ((c.tc : Thread Cert.LnRouter.nD Cert.LnRouter.τ).loc Cert.LnRouter.main_arg2)
      ∧ r.2.mem ((c.tc : Thread Cert.LnRouter.nD Cert.LnRouter.τ).loc Cert.LnRouter.main_arg3) = m ((c.tc : Thread Cert.LnRouter.nD Cert.LnRouter.τ).loc Cert.LnRouter.main_arg3)
      ∧ r.2.mem ((c.tc : Thread Cert.LnRouter.nD Cert.LnRouter.τ).loc Cert.LnRouter.main_arg4) = m ((c.tc : Thread Cert.LnRouter.nD Cert.LnRouter.τ).loc Cert.LnRouter.main_arg4))
      ∧ r.2.sem = fun _ => 0)

def quiescent_LnRouterIdeal [hLnRouterIdeal : Cert.LnRouterIdeal.Facts] : Prop :=
  ∀ (m : (ℓ : Loc Cert.LnRouterIdeal.nD Cert.LnRouterIdeal.τ Cert.LnRouterIdeal.sig) → Buf (Elt Ideal) ℓ) (g : Dev Cert.LnRouterIdeal.nD → PrngReg), Pre_LnRouterIdeal m →
    θ_run (Cert.LnRouterIdeal.defs (F := Ideal)) (onTc (τ := Cert.LnRouterIdeal.τ) (Cert.LnRouterIdeal.main (F := Ideal))) ⟨m, fun _ => 0, g⟩ (fun r => (∀ c : Dev Cert.LnRouterIdeal.nD,
      r.2.mem ((c.tc : Thread Cert.LnRouterIdeal.nD Cert.LnRouterIdeal.τ).loc Cert.LnRouterIdeal.main_arg0) = m ((c.tc : Thread Cert.LnRouterIdeal.nD Cert.LnRouterIdeal.τ).loc Cert.LnRouterIdeal.main_arg0)
      ∧ r.2.mem ((c.tc : Thread Cert.LnRouterIdeal.nD Cert.LnRouterIdeal.τ).loc Cert.LnRouterIdeal.main_arg1) = m ((c.tc : Thread Cert.LnRouterIdeal.nD Cert.LnRouterIdeal.τ).loc Cert.LnRouterIdeal.main_arg1)
      ∧ r.2.mem ((c.tc : Thread Cert.LnRouterIdeal.nD Cert.LnRouterIdeal.τ).loc Cert.LnRouterIdeal.main_arg2) = m ((c.tc : Thread Cert.LnRouterIdeal.nD Cert.LnRouterIdeal.τ).loc Cert.LnRouterIdeal.main_arg2)
      ∧ r.2.mem ((c.tc : Thread Cert.LnRouterIdeal.nD Cert.LnRouterIdeal.τ).loc Cert.LnRouterIdeal.main_arg3) = m ((c.tc : Thread Cert.LnRouterIdeal.nD Cert.LnRouterIdeal.τ).loc Cert.LnRouterIdeal.main_arg3)
      ∧ r.2.mem ((c.tc : Thread Cert.LnRouterIdeal.nD Cert.LnRouterIdeal.τ).loc Cert.LnRouterIdeal.main_arg4) = m ((c.tc : Thread Cert.LnRouterIdeal.nD Cert.LnRouterIdeal.τ).loc Cert.LnRouterIdeal.main_arg4))
      ∧ r.2.sem = fun _ => 0)

def quiescent_LnRouterRefIdeal [hLnRouterRefIdeal : Cert.LnRouterRefIdeal.Facts] : Prop :=
  ∀ (m : (ℓ : Loc Cert.LnRouterRefIdeal.nD Cert.LnRouterRefIdeal.τ Cert.LnRouterRefIdeal.sig) → Buf (Elt Ideal) ℓ) (g : Dev Cert.LnRouterRefIdeal.nD → PrngReg), Pre_LnRouterRefIdeal m →
    θ_run (Cert.LnRouterRefIdeal.defs (F := Ideal)) (onTc (τ := Cert.LnRouterRefIdeal.τ) (Cert.LnRouterRefIdeal.main (F := Ideal))) ⟨m, fun _ => 0, g⟩ (fun r => (∀ c : Dev Cert.LnRouterRefIdeal.nD,
      r.2.mem ((c.tc : Thread Cert.LnRouterRefIdeal.nD Cert.LnRouterRefIdeal.τ).loc Cert.LnRouterRefIdeal.main_arg0) = m ((c.tc : Thread Cert.LnRouterRefIdeal.nD Cert.LnRouterRefIdeal.τ).loc Cert.LnRouterRefIdeal.main_arg0)
      ∧ r.2.mem ((c.tc : Thread Cert.LnRouterRefIdeal.nD Cert.LnRouterRefIdeal.τ).loc Cert.LnRouterRefIdeal.main_arg1) = m ((c.tc : Thread Cert.LnRouterRefIdeal.nD Cert.LnRouterRefIdeal.τ).loc Cert.LnRouterRefIdeal.main_arg1)
      ∧ r.2.mem ((c.tc : Thread Cert.LnRouterRefIdeal.nD Cert.LnRouterRefIdeal.τ).loc Cert.LnRouterRefIdeal.main_arg2) = m ((c.tc : Thread Cert.LnRouterRefIdeal.nD Cert.LnRouterRefIdeal.τ).loc Cert.LnRouterRefIdeal.main_arg2)
      ∧ r.2.mem ((c.tc : Thread Cert.LnRouterRefIdeal.nD Cert.LnRouterRefIdeal.τ).loc Cert.LnRouterRefIdeal.main_arg3) = m ((c.tc : Thread Cert.LnRouterRefIdeal.nD Cert.LnRouterRefIdeal.τ).loc Cert.LnRouterRefIdeal.main_arg3)
      ∧ r.2.mem ((c.tc : Thread Cert.LnRouterRefIdeal.nD Cert.LnRouterRefIdeal.τ).loc Cert.LnRouterRefIdeal.main_arg4) = m ((c.tc : Thread Cert.LnRouterRefIdeal.nD Cert.LnRouterRefIdeal.τ).loc Cert.LnRouterRefIdeal.main_arg4))
      ∧ r.2.sem = fun _ => 0)

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v6)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v6) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v62) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_ProjUV_ProjUVIdeal : Prop :=
  True

def algebraic_ProjUVIdeal_ProjUVRefIdeal [hProjUVIdeal : Cert.ProjUVIdeal.Facts] [hProjUVRefIdeal : Cert.ProjUVRefIdeal.Facts] : Prop :=
  ∀ (m : (ℓ : Loc Cert.ProjUVIdeal.nD Cert.ProjUVIdeal.τ Cert.ProjUVIdeal.sig) → Buf (Elt Ideal) ℓ) (g : Dev Cert.ProjUVIdeal.nD → PrngReg)
    (m' : (ℓ : Loc Cert.ProjUVRefIdeal.nD Cert.ProjUVRefIdeal.τ Cert.ProjUVRefIdeal.sig) → Buf (Elt Ideal) ℓ) (g' : Dev Cert.ProjUVRefIdeal.nD → PrngReg), Pre_ProjUVIdeal m →
    (∀ c : Dev Cert.ProjUVIdeal.nD,
      m' ((c.tc : Thread Cert.ProjUVRefIdeal.nD Cert.ProjUVRefIdeal.τ).loc Cert.ProjUVRefIdeal.main_arg0) = m ((c.tc : Thread Cert.ProjUVIdeal.nD Cert.ProjUVIdeal.τ).loc Cert.ProjUVIdeal.main_arg0)
      ∧ m' ((c.tc : Thread Cert.ProjUVRefIdeal.nD Cert.ProjUVRefIdeal.τ).loc Cert.ProjUVRefIdeal.main_arg1) = m ((c.tc : Thread Cert.ProjUVIdeal.nD Cert.ProjUVIdeal.τ).loc Cert.ProjUVIdeal.main_arg1)) →
    ∃ (v0 : (c : Dev Cert.ProjUVIdeal.nD) → Buf (Elt Ideal) ((c.tc : Thread Cert.ProjUVIdeal.nD Cert.ProjUVIdeal.τ).loc Cert.ProjUVIdeal.main_v0)),
      θ_run (Cert.ProjUVIdeal.defs (F := Ideal)) (onTc (τ := Cert.ProjUVIdeal.τ) (Cert.ProjUVIdeal.main (F := Ideal))) ⟨m, fun _ => 0, g⟩ (fun r => ∀ c : Dev Cert.ProjUVIdeal.nD,
          r.2.mem ((c.tc : Thread Cert.ProjUVIdeal.nD Cert.ProjUVIdeal.τ).loc Cert.ProjUVIdeal.main_v0) = v0 c
          ∧ r.2.mem ((c.tc : Thread Cert.ProjUVIdeal.nD Cert.ProjUVIdeal.τ).loc Cert.ProjUVIdeal.main_arg0) = m ((c.tc : Thread Cert.ProjUVIdeal.nD Cert.ProjUVIdeal.τ).loc Cert.ProjUVIdeal.main_arg0)
          ∧ r.2.mem ((c.tc : Thread Cert.ProjUVIdeal.nD Cert.ProjUVIdeal.τ).loc Cert.ProjUVIdeal.main_arg1) = m ((c.tc : Thread Cert.ProjUVIdeal.nD Cert.ProjUVIdeal.τ).loc Cert.ProjUVIdeal.main_arg1))
      ∧ θ_run (Cert.ProjUVRefIdeal.defs (F := Ideal)) (onTc (τ := Cert.ProjUVRefIdeal.τ) (Cert.ProjUVRefIdeal.main (F := Ideal))) ⟨m', fun _ => 0, g'⟩ (fun r => ∀ c : Dev Cert.ProjUVRefIdeal.nD,
          r.2.mem ((c.tc : Thread Cert.ProjUVRefIdeal.nD Cert.ProjUVRefIdeal.τ).loc Cert.ProjUVRefIdeal.main_v3) = v0 c
          ∧ r.2.mem ((c.tc : Thread Cert.ProjUVRefIdeal.nD Cert.ProjUVRefIdeal.τ).loc Cert.ProjUVRefIdeal.main_arg0) = m' ((c.tc : Thread Cert.ProjUVRefIdeal.nD Cert.ProjUVRefIdeal.τ).loc Cert.ProjUVRefIdeal.main_arg0)
          ∧ r.2.mem ((c.tc : Thread Cert.ProjUVRefIdeal.nD Cert.ProjUVRefIdeal.τ).loc Cert.ProjUVRefIdeal.main_arg1) = m' ((c.tc : Thread Cert.ProjUVRefIdeal.nD Cert.ProjUVRefIdeal.τ).loc Cert.ProjUVRefIdeal.main_arg1))

def preserves_ProjZR_ProjZRIdeal : Prop :=
  True

def algebraic_ProjZRIdeal_ProjZRRefIdeal [hProjZRIdeal : Cert.ProjZRIdeal.Facts] [hProjZRRefIdeal : Cert.ProjZRRefIdeal.Facts] : Prop :=
  ∀ (m : (ℓ : Loc Cert.ProjZRIdeal.nD Cert.ProjZRIdeal.τ Cert.ProjZRIdeal.sig) → Buf (Elt Ideal) ℓ) (g : Dev Cert.ProjZRIdeal.nD → PrngReg)
    (m' : (ℓ : Loc Cert.ProjZRRefIdeal.nD Cert.ProjZRRefIdeal.τ Cert.ProjZRRefIdeal.sig) → Buf (Elt Ideal) ℓ) (g' : Dev Cert.ProjZRRefIdeal.nD → PrngReg), Pre_ProjZRIdeal m →
    (∀ c : Dev Cert.ProjZRIdeal.nD,
      m' ((c.tc : Thread Cert.ProjZRRefIdeal.nD Cert.ProjZRRefIdeal.τ).loc Cert.ProjZRRefIdeal.main_arg0) = m ((c.tc : Thread Cert.ProjZRIdeal.nD Cert.ProjZRIdeal.τ).loc Cert.ProjZRIdeal.main_arg0)
      ∧ m' ((c.tc : Thread Cert.ProjZRRefIdeal.nD Cert.ProjZRRefIdeal.τ).loc Cert.ProjZRRefIdeal.main_arg1) = m ((c.tc : Thread Cert.ProjZRIdeal.nD Cert.ProjZRIdeal.τ).loc Cert.ProjZRIdeal.main_arg1)) →
    ∃ (v0 : (c : Dev Cert.ProjZRIdeal.nD) → Buf (Elt Ideal) ((c.tc : Thread Cert.ProjZRIdeal.nD Cert.ProjZRIdeal.τ).loc Cert.ProjZRIdeal.main_v0)),
      θ_run (Cert.ProjZRIdeal.defs (F := Ideal)) (onTc (τ := Cert.ProjZRIdeal.τ) (Cert.ProjZRIdeal.main (F := Ideal))) ⟨m, fun _ => 0, g⟩ (fun r => ∀ c : Dev Cert.ProjZRIdeal.nD,
          r.2.mem ((c.tc : Thread Cert.ProjZRIdeal.nD Cert.ProjZRIdeal.τ).loc Cert.ProjZRIdeal.main_v0) = v0 c
          ∧ r.2.mem ((c.tc : Thread Cert.ProjZRIdeal.nD Cert.ProjZRIdeal.τ).loc Cert.ProjZRIdeal.main_arg0) = m ((c.tc : Thread Cert.ProjZRIdeal.nD Cert.ProjZRIdeal.τ).loc Cert.ProjZRIdeal.main_arg0)
          ∧ r.2.mem ((c.tc : Thread Cert.ProjZRIdeal.nD Cert.ProjZRIdeal.τ).loc Cert.ProjZRIdeal.main_arg1) = m ((c.tc : Thread Cert.ProjZRIdeal.nD Cert.ProjZRIdeal.τ).loc Cert.ProjZRIdeal.main_arg1))
      ∧ θ_run (Cert.ProjZRRefIdeal.defs (F := Ideal)) (onTc (τ := Cert.ProjZRRefIdeal.τ) (Cert.ProjZRRefIdeal.main (F := Ideal))) ⟨m', fun _ => 0, g'⟩ (fun r => ∀ c : Dev Cert.ProjZRRefIdeal.nD,
          r.2.mem ((c.tc : Thread Cert.ProjZRRefIdeal.nD Cert.ProjZRRefIdeal.τ).loc Cert.ProjZRRefIdeal.main_v3) = v0 c
          ∧ r.2.mem ((c.tc : Thread Cert.ProjZRRefIdeal.nD Cert.ProjZRRefIdeal.τ).loc Cert.ProjZRRefIdeal.main_arg0) = m' ((c.tc : Thread Cert.ProjZRRefIdeal.nD Cert.ProjZRRefIdeal.τ).loc Cert.ProjZRRefIdeal.main_arg0)
          ∧ r.2.mem ((c.tc : Thread Cert.ProjZRRefIdeal.nD Cert.ProjZRRefIdeal.τ).loc Cert.ProjZRRefIdeal.main_arg1) = m' ((c.tc : Thread Cert.ProjZRRefIdeal.nD Cert.ProjZRRefIdeal.τ).loc Cert.ProjZRRefIdeal.main_arg1))

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m' ((c.tc : Thread Cert.PairRefIdeal.nD Cert.PairRefIdeal.τ).loc Cert.PairRefIdeal.main_arg0) = m ((c.tc : Thread Cert.PairIdeal.nD Cert.PairIdeal.τ).loc Cert.PairIdeal.main_arg0)
      ∧ m' ((c.tc : Thread Cert.PairRefIdeal.nD Cert.PairRefIdeal.τ).loc Cert.PairRefIdeal.main_arg1) = m ((c.tc : Thread Cert.PairIdeal.nD Cert.PairIdeal.τ).loc Cert.PairIdeal.main_arg1)
      ∧ m' ((c.tc : Thread Cert.PairRefIdeal.nD Cert.PairRefIdeal.τ).loc Cert.PairRefIdeal.main_arg2) = m ((c.tc : Thread Cert.PairIdeal.nD Cert.PairIdeal.τ).loc Cert.PairIdeal.main_arg2)
      ∧ m' ((c.tc : Thread Cert.PairRefIdeal.nD Cert.PairRefIdeal.τ).loc Cert.PairRefIdeal.main_arg3) = m ((c.tc : Thread Cert.PairIdeal.nD Cert.PairIdeal.τ).loc Cert.PairIdeal.main_arg3)) →
    ∃ (v0 : (c : Dev Cert.PairIdeal.nD) → Buf (Elt Ideal) ((c.tc : Thread Cert.PairIdeal.nD Cert.PairIdeal.τ).loc Cert.PairIdeal.main_v0)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v0) = v0 c
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
          ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
          ∧ r.2.mem ((c.tc : Thread Cert.PairIdeal.nD Cert.PairIdeal.τ).loc Cert.PairIdeal.main_arg3) = m ((c.tc : Thread Cert.PairIdeal.nD Cert.PairIdeal.τ).loc Cert.PairIdeal.main_arg3))
      ∧ θ_run (Cert.PairRefIdeal.defs (F := Ideal)) (onTc (τ := Cert.PairRefIdeal.τ) (Cert.PairRefIdeal.main (F := Ideal))) ⟨m', fun _ => 0, g'⟩ (fun r => ∀ c : Dev Cert.PairRefIdeal.nD,
          r.2.mem ((c.tc : Thread Cert.PairRefIdeal.nD Cert.PairRefIdeal.τ).loc Cert.PairRefIdeal.main_v7) = v0 c
          ∧ r.2.mem ((c.tc : Thread Cert.PairRefIdeal.nD Cert.PairRefIdeal.τ).loc Cert.PairRefIdeal.main_arg0) = m' ((c.tc : Thread Cert.PairRefIdeal.nD Cert.PairRefIdeal.τ).loc Cert.PairRefIdeal.main_arg0)
          ∧ r.2.mem ((c.tc : Thread Cert.PairRefIdeal.nD Cert.PairRefIdeal.τ).loc Cert.PairRefIdeal.main_arg1) = m' ((c.tc : Thread Cert.PairRefIdeal.nD Cert.PairRefIdeal.τ).loc Cert.PairRefIdeal.main_arg1)
          ∧ r.2.mem ((c.tc : Thread Cert.PairRefIdeal.nD Cert.PairRefIdeal.τ).loc Cert.PairRefIdeal.main_arg2) = m' ((c.tc : Thread Cert.PairRefIdeal.nD Cert.PairRefIdeal.τ).loc Cert.PairRefIdeal.main_arg2)
          ∧ r.2.mem ((c.tc : Thread Cert.PairRefIdeal.nD Cert.PairRefIdeal.τ).loc Cert.PairRefIdeal.main_arg3) = m' ((c.tc : Thread Cert.PairRefIdeal.nD Cert.PairRefIdeal.τ).loc Cert.PairRefIdeal.main_arg3))

def preserves_EmbedP_EmbedPIdeal : Prop :=
  True

def algebraic_EmbedPIdeal_EmbedPRefIdeal [hEmbedPIdeal : Cert.EmbedPIdeal.Facts] [hEmbedPRefIdeal : Cert.EmbedPRefIdeal.Facts] : Prop :=
  ∀ (m : (ℓ : Loc Cert.EmbedPIdeal.nD Cert.EmbedPIdeal.τ Cert.EmbedPIdeal.sig) → Buf (Elt Ideal) ℓ) (g : Dev Cert.EmbedPIdeal.nD → PrngReg)
    (m' : (ℓ : Loc Cert.EmbedPRefIdeal.nD Cert.EmbedPRefIdeal.τ Cert.EmbedPRefIdeal.sig) → Buf (Elt Ideal) ℓ) (g' : Dev Cert.EmbedPRefIdeal.nD → PrngReg), Pre_EmbedPIdeal m →
    (∀ c : Dev Cert.EmbedPIdeal.nD,
      m' ((c.tc : Thread Cert.EmbedPRefIdeal.nD Cert.EmbedPRefIdeal.τ).loc Cert.EmbedPRefIdeal.main_arg0) = m ((c.tc : Thread Cert.EmbedPIdeal.nD Cert.EmbedPIdeal.τ).loc Cert.EmbedPIdeal.main_arg0)
      ∧ m' ((c.tc : Thread Cert.EmbedPRefIdeal.nD Cert.EmbedPRefIdeal.τ).loc Cert.EmbedPRefIdeal.main_arg1) = m ((c.tc : Thread Cert.EmbedPIdeal.nD Cert.EmbedPIdeal.τ).loc Cert.EmbedPIdeal.main_arg1)
      ∧ m' ((c.tc : Thread Cert.EmbedPRefIdeal.nD Cert.EmbedPRefIdeal.τ).loc Cert.EmbedPRefIdeal.main_arg2) = m ((c.tc : Thread Cert.EmbedPIdeal.nD Cert.EmbedPIdeal.τ).loc Cert.EmbedPIdeal.main_arg2)
      ∧ m' ((c.tc : Thread Cert.EmbedPRefIdeal.nD Cert.EmbedPRefIdeal.τ).loc Cert.EmbedPRefIdeal.main_arg3) = m ((c.tc : Thread Cert.EmbedPIdeal.nD Cert.EmbedPIdeal.τ).loc Cert.EmbedPIdeal.main_arg3)
      ∧ m' ((c.tc : Thread Cert.EmbedPRefIdeal.nD Cert.EmbedPRefIdeal.τ).loc Cert.EmbedPRefIdeal.main_arg4) = m ((c.tc : Thread Cert.EmbedPIdeal.nD Cert.EmbedPIdeal.τ).loc Cert.EmbedPIdeal.main_arg4)) →
    ∃ (v0 : (c : Dev Cert.EmbedPIdeal.nD) → Buf (Elt Ideal) ((c.tc : Thread Cert.EmbedPIdeal.nD Cert.EmbedPIdeal.τ).loc Cert.EmbedPIdeal.main_v0)),
      θ_run (Cert.EmbedPIdeal.defs (F := Ideal)) (onTc (τ := Cert.EmbedPIdeal.τ) (Cert.EmbedPIdeal.main (F := Ideal))) ⟨m, fun _ => 0, g⟩ (fun r => ∀ c : Dev Cert.EmbedPIdeal.nD,
          r.2.mem ((c.tc : Thread Cert.EmbedPIdeal.nD Cert.EmbedPIdeal.τ).loc Cert.EmbedPIdeal.main_v0) = v0 c
          ∧ r.2.mem ((c.tc : Thread Cert.EmbedPIdeal.nD Cert.EmbedPIdeal.τ).loc Cert.EmbedPIdeal.main_arg0) = m ((c.tc : Thread Cert.EmbedPIdeal.nD Cert.EmbedPIdeal.τ).loc Cert.EmbedPIdeal.main_arg0)
          ∧ r.2.mem ((c.tc : Thread Cert.EmbedPIdeal.nD Cert.EmbedPIdeal.τ).loc Cert.EmbedPIdeal.main_arg1) = m ((c.tc : Thread Cert.EmbedPIdeal.nD Cert.EmbedPIdeal.τ).loc Cert.EmbedPIdeal.main_arg1)
          ∧ r.2.mem ((c.tc : Thread Cert.EmbedPIdeal.nD Cert.EmbedPIdeal.τ).loc Cert.EmbedPIdeal.main_arg2) = m ((c.tc : Thread Cert.EmbedPIdeal.nD Cert.EmbedPIdeal.τ).loc Cert.EmbedPIdeal.main_arg2)
          ∧ r.2.mem ((c.tc : Thread Cert.EmbedPIdeal.nD Cert.EmbedPIdeal.τ).loc Cert.EmbedPIdeal.main_arg3) = m ((c.tc : Thread Cert.EmbedPIdeal.nD Cert.EmbedPIdeal.τ).loc Cert.EmbedPIdeal.main_arg3)
          ∧ r.2.mem ((c.tc : Thread Cert.EmbedPIdeal.nD Cert.EmbedPIdeal.τ).loc Cert.EmbedPIdeal.main_arg4) = m ((c.tc : Thread Cert.EmbedPIdeal.nD Cert.EmbedPIdeal.τ).loc Cert.EmbedPIdeal.main_arg4))
      ∧ θ_run (Cert.EmbedPRefIdeal.defs (F := Ideal)) (onTc (τ := Cert.EmbedPRefIdeal.τ) (Cert.EmbedPRefIdeal.main (F := Ideal))) ⟨m', fun _ => 0, g'⟩ (fun r => ∀ c : Dev Cert.EmbedPRefIdeal.nD,
          r.2.mem ((c.tc : Thread Cert.EmbedPRefIdeal.nD Cert.EmbedPRefIdeal.τ).loc Cert.EmbedPRefIdeal.main_v14) = v0 c
          ∧ r.2.mem ((c.tc : Thread Cert.EmbedPRefIdeal.nD Cert.EmbedPRefIdeal.τ).loc Cert.EmbedPRefIdeal.main_arg0) = m' ((c.tc : Thread Cert.EmbedPRefIdeal.nD Cert.EmbedPRefIdeal.τ).loc Cert.EmbedPRefIdeal.main_arg0)
          ∧ r.2.mem ((c.tc : Thread Cert.EmbedPRefIdeal.nD Cert.EmbedPRefIdeal.τ).loc Cert.EmbedPRefIdeal.main_arg1) = m' ((c.tc : Thread Cert.EmbedPRefIdeal.nD Cert.EmbedPRefIdeal.τ).loc Cert.EmbedPRefIdeal.main_arg1)
          ∧ r.2.mem ((c.tc : Thread Cert.EmbedPRefIdeal.nD Cert.EmbedPRefIdeal.τ).loc Cert.EmbedPRefIdeal.main_arg2) = m' ((c.tc : Thread Cert.EmbedPRefIdeal.nD Cert.EmbedPRefIdeal.τ).loc Cert.EmbedPRefIdeal.main_arg2)
          ∧ r.2.mem ((c.tc : Thread Cert.EmbedPRefIdeal.nD Cert.EmbedPRefIdeal.τ).loc Cert.EmbedPRefIdeal.main_arg3) = m' ((c.tc : Thread Cert.EmbedPRefIdeal.nD Cert.EmbedPRefIdeal.τ).loc Cert.EmbedPRefIdeal.main_arg3)
          ∧ r.2.mem ((c.tc : Thread Cert.EmbedPRefIdeal.nD Cert.EmbedPRefIdeal.τ).loc Cert.EmbedPRefIdeal.main_arg4) = m' ((c.tc : Thread Cert.EmbedPRefIdeal.nD Cert.EmbedPRefIdeal.τ).loc Cert.EmbedPRefIdeal.main_arg4))

def preserves_EmbedS_EmbedSIdeal : Prop :=
  True

def algebraic_EmbedSIdeal_EmbedSRefIdeal [hEmbedSIdeal : Cert.EmbedSIdeal.Facts] [hEmbedSRefIdeal : Cert.EmbedSRefIdeal.Facts] : Prop :=
  ∀ (m : (ℓ : Loc Cert.EmbedSIdeal.nD Cert.EmbedSIdeal.τ Cert.EmbedSIdeal.sig) → Buf (Elt Ideal) ℓ) (g : Dev Cert.EmbedSIdeal.nD → PrngReg)
    (m' : (ℓ : Loc Cert.EmbedSRefIdeal.nD Cert.EmbedSRefIdeal.τ Cert.EmbedSRefIdeal.sig) → Buf (Elt Ideal) ℓ) (g' : Dev Cert.EmbedSRefIdeal.nD → PrngReg), Pre_EmbedSIdeal m →
    (∀ c : Dev Cert.EmbedSIdeal.nD,
      m' ((c.tc : Thread Cert.EmbedSRefIdeal.nD Cert.EmbedSRefIdeal.τ).loc Cert.EmbedSRefIdeal.main_arg0) = m ((c.tc : Thread Cert.EmbedSIdeal.nD Cert.EmbedSIdeal.τ).loc Cert.EmbedSIdeal.main_arg0)
      ∧ m' ((c.tc : Thread Cert.EmbedSRefIdeal.nD Cert.EmbedSRefIdeal.τ).loc Cert.EmbedSRefIdeal.main_arg1) = m ((c.tc : Thread Cert.EmbedSIdeal.nD Cert.EmbedSIdeal.τ).loc Cert.EmbedSIdeal.main_arg1)
      ∧ m' ((c.tc : Thread Cert.EmbedSRefIdeal.nD Cert.EmbedSRefIdeal.τ).loc Cert.EmbedSRefIdeal.main_arg2) = m ((c.tc : Thread Cert.EmbedSIdeal.nD Cert.EmbedSIdeal.τ).loc Cert.EmbedSIdeal.main_arg2)
      ∧ m' ((c.tc : Thread Cert.EmbedSRefIdeal.nD Cert.EmbedSRefIdeal.τ).loc Cert.EmbedSRefIdeal.main_arg3) = m ((c.tc : Thread Cert.EmbedSIdeal.nD Cert.EmbedSIdeal.τ).loc Cert.EmbedSIdeal.main_arg3)
      ∧ m' ((c.tc : Thread Cert.EmbedSRefIdeal.nD Cert.EmbedSRefIdeal.τ).loc Cert.EmbedSRefIdeal.main_arg4) = m ((c.tc : Thread Cert.EmbedSIdeal.nD Cert.EmbedSIdeal.τ).loc Cert.EmbedSIdeal.main_arg4)) →
    ∃ (v0 : (c : Dev Cert.EmbedSIdeal.nD) → Buf (Elt Ideal) ((c.tc : Thread Cert.EmbedSIdeal.nD Cert.EmbedSIdeal.τ).loc Cert.EmbedSIdeal.main_v0)),
      θ_run (Cert.EmbedSIdeal.defs (F := Ideal)) (onTc (τ := Cert.EmbedSIdeal.τ) (Cert.EmbedSIdeal.main (F := Ideal))) ⟨m, fun _ => 0, g⟩ (fun r => ∀ c : Dev Cert.EmbedSIdeal.nD,
          r.2.mem ((c.tc : Thread Cert.EmbedSIdeal.nD Cert.EmbedSIdeal.τ).loc Cert.EmbedSIdeal.main_v0) = v0 c
          ∧ r.2.mem ((c.tc : Thread Cert.EmbedSIdeal.nD Cert.EmbedSIdeal.τ).loc Cert.EmbedSIdeal.main_arg0) = m ((c.tc : Thread Cert.EmbedSIdeal.nD Cert.EmbedSIdeal.τ).loc Cert.EmbedSIdeal.main_arg0)
          ∧ r.2.mem ((c.tc : Thread Cert.EmbedSIdeal.nD Cert.EmbedSIdeal.τ).loc Cert.EmbedSIdeal.main_arg1) = m ((c.tc : Thread Cert.EmbedSIdeal.nD Cert.EmbedSIdeal.τ).loc Cert.EmbedSIdeal.main_arg1)
          ∧ r.2.mem ((c.tc : Thread Cert.EmbedSIdeal.nD Cert.EmbedSIdeal.τ).loc Cert.EmbedSIdeal.main_arg2) = m ((c.tc : Thread Cert.EmbedSIdeal.nD Cert.EmbedSIdeal.τ).loc Cert.EmbedSIdeal.main_arg2)
          ∧ r.2.mem ((c.tc : Thread Cert.EmbedSIdeal.nD Cert.EmbedSIdeal.τ).loc Cert.EmbedSIdeal.main_arg3) = m ((c.tc : Thread Cert.EmbedSIdeal.nD Cert.EmbedSIdeal.τ).loc Cert.EmbedSIdeal.main_arg3)
          ∧ r.2.mem ((c.tc : Thread Cert.EmbedSIdeal.nD Cert.EmbedSIdeal.τ).loc Cert.EmbedSIdeal.main_arg4) = m ((c.tc : Thread Cert.EmbedSIdeal.nD Cert.EmbedSIdeal.τ).loc Cert.EmbedSIdeal.main_arg4))
      ∧ θ_run (Cert.EmbedSRefIdeal.defs (F := Ideal)) (onTc (τ := Cert.EmbedSRefIdeal.τ) (Cert.EmbedSRefIdeal.main (F := Ideal))) ⟨m', fun _ => 0, g'⟩ (fun r => ∀ c : Dev Cert.EmbedSRefIdeal.nD,
          r.2.mem ((c.tc : Thread Cert.EmbedSRefIdeal.nD Cert.EmbedSRefIdeal.τ).loc Cert.EmbedSRefIdeal.main_v14) = v0 c
          ∧ r.2.mem ((c.tc : Thread Cert.EmbedSRefIdeal.nD Cert.EmbedSRefIdeal.τ).loc Cert.EmbedSRefIdeal.main_arg0) = m' ((c.tc : Thread Cert.EmbedSRefIdeal.nD Cert.EmbedSRefIdeal.τ).loc Cert.EmbedSRefIdeal.main_arg0)
          ∧ r.2.mem ((c.tc : Thread Cert.EmbedSRefIdeal.nD Cert.EmbedSRefIdeal.τ).loc Cert.EmbedSRefIdeal.main_arg1) = m' ((c.tc : Thread Cert.EmbedSRefIdeal.nD Cert.EmbedSRefIdeal.τ).loc Cert.EmbedSRefIdeal.main_arg1)
          ∧ r.2.mem ((c.tc : Thread Cert.EmbedSRefIdeal.nD Cert.EmbedSRefIdeal.τ).loc Cert.EmbedSRefIdeal.main_arg2) = m' ((c.tc : Thread Cert.EmbedSRefIdeal.nD Cert.EmbedSRefIdeal.τ).loc Cert.EmbedSRefIdeal.main_arg2)
          ∧ r.2.mem ((c.tc : Thread Cert.EmbedSRefIdeal.nD Cert.EmbedSRefIdeal.τ).loc Cert.EmbedSRefIdeal.main_arg3) = m' ((c.tc : Thread Cert.EmbedSRefIdeal.nD Cert.EmbedSRefIdeal.τ).loc Cert.EmbedSRefIdeal.main_arg3)
          ∧ r.2.mem ((c.tc : Thread Cert.EmbedSRefIdeal.nD Cert.EmbedSRefIdeal.τ).loc Cert.EmbedSRefIdeal.main_arg4) = m' ((c.tc : Thread Cert.EmbedSRefIdeal.nD Cert.EmbedSRefIdeal.τ).loc Cert.EmbedSRefIdeal.main_arg4))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_experts_named : Cert.Pre_experts_named.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v0)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v0) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v22) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3))

def preserves_EmbedAll_EmbedAllIdeal : Prop :=
  True

def algebraic_EmbedAllIdeal_EmbedAllRefIdeal [hEmbedAllIdeal : Cert.EmbedAllIdeal.Facts] [hEmbedAllRefIdeal : Cert.EmbedAllRefIdeal.Facts] : Prop :=
  ∀ (m : (ℓ : Loc Cert.EmbedAllIdeal.nD Cert.EmbedAllIdeal.τ Cert.EmbedAllIdeal.sig) → Buf (Elt Ideal) ℓ) (g : Dev Cert.EmbedAllIdeal.nD → PrngReg)
    (m' : (ℓ : Loc Cert.EmbedAllRefIdeal.nD Cert.EmbedAllRefIdeal.τ Cert.EmbedAllRefIdeal.sig) → Buf (Elt Ideal) ℓ) (g' : Dev Cert.EmbedAllRefIdeal.nD → PrngReg), Pre_EmbedAllIdeal m →
    (∀ c : Dev Cert.EmbedAllIdeal.nD,
      m' ((c.tc : Thread Cert.EmbedAllRefIdeal.nD Cert.EmbedAllRefIdeal.τ).loc Cert.EmbedAllRefIdeal.main_arg0) = m ((c.tc : Thread Cert.EmbedAllIdeal.nD Cert.EmbedAllIdeal.τ).loc Cert.EmbedAllIdeal.main_arg0)
      ∧ m' ((c.tc : Thread Cert.EmbedAllRefIdeal.nD Cert.EmbedAllRefIdeal.τ).loc Cert.EmbedAllRefIdeal.main_arg1) = m ((c.tc : Thread Cert.EmbedAllIdeal.nD Cert.EmbedAllIdeal.τ).loc Cert.EmbedAllIdeal.main_arg1)
      ∧ m' ((c.tc : Thread Cert.EmbedAllRefIdeal.nD Cert.EmbedAllRefIdeal.τ).loc Cert.EmbedAllRefIdeal.main_arg2) = m ((c.tc : Thread Cert.EmbedAllIdeal.nD Cert.EmbedAllIdeal.τ).loc Cert.EmbedAllIdeal.main_arg2)
      ∧ m' ((c.tc : Thread Cert.EmbedAllRefIdeal.nD Cert.EmbedAllRefIdeal.τ).loc Cert.EmbedAllRefIdeal.main_arg3) = m ((c.tc : Thread Cert.EmbedAllIdeal.nD Cert.EmbedAllIdeal.τ).loc Cert.EmbedAllIdeal.main_arg3)
      ∧ m' ((c.tc : Thread Cert.EmbedAllRefIdeal.nD Cert.EmbedAllRefIdeal.τ).loc Cert.EmbedAllRefIdeal.main_arg4) = m ((c.tc : Thread Cert.EmbedAllIdeal.nD Cert.EmbedAllIdeal.τ).loc Cert.EmbedAllIdeal.main_arg4)) →
    ∃ (v0 : (c : Dev Cert.EmbedAllIdeal.nD) → Buf (Elt Ideal) ((c.tc : Thread Cert.EmbedAllIdeal.nD Cert.EmbedAllIdeal.τ).loc Cert.EmbedAllIdeal.main_v0_0)) (v1 : (c : Dev Cert.EmbedAllIdeal.nD) → Buf (Elt Ideal) ((c.tc : Thread Cert.EmbedAllIdeal.nD Cert.EmbedAllIdeal.τ).loc Cert.EmbedAllIdeal.main_v0_1)),
      θ_run (Cert.EmbedAllIdeal.defs (F := Ideal)) (onTc (τ := Cert.EmbedAllIdeal.τ) (Cert.EmbedAllIdeal.main (F := Ideal))) ⟨m, fun _ => 0, g⟩ (fun r => ∀ c : Dev Cert.EmbedAllIdeal.nD,
          r.2.mem ((c.tc : Thread Cert.EmbedAllIdeal.nD Cert.EmbedAllIdeal.τ).loc Cert.EmbedAllIdeal.main_v0_0) = v0 c
          ∧ r.2.mem ((c.tc : Thread Cert.EmbedAllIdeal.nD Cert.EmbedAllIdeal.τ).loc Cert.EmbedAllIdeal.main_v0_1) = v1 c
          ∧ r.2.mem ((c.tc : Thread Cert.EmbedAllIdeal.nD Cert.EmbedAllIdeal.τ).loc Cert.EmbedAllIdeal.main_arg0) = m ((c.tc : Thread Cert.EmbedAllIdeal.nD Cert.EmbedAllIdeal.τ).loc Cert.EmbedAllIdeal.main_arg0)
          ∧ r.2.mem ((c.tc : Thread Cert.EmbedAllIdeal.nD Cert.EmbedAllIdeal.τ).loc Cert.EmbedAllIdeal.main_arg1) = m ((c.tc : Thread Cert.EmbedAllIdeal.nD Cert.EmbedAllIdeal.τ).loc Cert.EmbedAllIdeal.main_arg1)
          ∧ r.2.mem ((c.tc : Thread Cert.EmbedAllIdeal.nD Cert.EmbedAllIdeal.τ).loc Cert.EmbedAllIdeal.main_arg2) = m ((c.tc : Thread Cert.EmbedAllIdeal.nD Cert.EmbedAllIdeal.τ).loc Cert.EmbedAllIdeal.main_arg2)
          ∧ r.2.mem ((c.tc : Thread Cert.EmbedAllIdeal.nD Cert.EmbedAllIdeal.τ).loc Cert.EmbedAllIdeal.main_arg3) = m ((c.tc : Thread Cert.EmbedAllIdeal.nD Cert.EmbedAllIdeal.τ).loc Cert.EmbedAllIdeal.main_arg3)
          ∧ r.2.mem ((c.tc : Thread Cert.EmbedAllIdeal.nD Cert.EmbedAllIdeal.τ).loc Cert.EmbedAllIdeal.main_arg4) = m ((c.tc : Thread Cert.EmbedAllIdeal.nD Cert.EmbedAllIdeal.τ).loc Cert.EmbedAllIdeal.main_arg4))
      ∧ θ_run (Cert.EmbedAllRefIdeal.defs (F := Ideal)) (onTc (τ := Cert.EmbedAllRefIdeal.τ) (Cert.EmbedAllRefIdeal.main (F := Ideal))) ⟨m', fun _ => 0, g'⟩ (fun r => ∀ c : Dev Cert.EmbedAllRefIdeal.nD,
          r.2.mem ((c.tc : Thread Cert.EmbedAllRefIdeal.nD Cert.EmbedAllRefIdeal.τ).loc Cert.EmbedAllRefIdeal.main_v13) = v0 c
          ∧ r.2.mem ((c.tc : Thread Cert.EmbedAllRefIdeal.nD Cert.EmbedAllRefIdeal.τ).loc Cert.EmbedAllRefIdeal.main_v14) = v1 c
          ∧ r.2.mem ((c.tc : Thread Cert.EmbedAllRefIdeal.nD Cert.EmbedAllRefIdeal.τ).loc Cert.EmbedAllRefIdeal.main_arg0) = m' ((c.tc : Thread Cert.EmbedAllRefIdeal.nD Cert.EmbedAllRefIdeal.τ).loc Cert.EmbedAllRefIdeal.main_arg0)
          ∧ r.2.mem ((c.tc : Thread Cert.EmbedAllRefIdeal.nD Cert.EmbedAllRefIdeal.τ).loc Cert.EmbedAllRefIdeal.main_arg1) = m' ((c.tc : Thread Cert.EmbedAllRefIdeal.nD Cert.EmbedAllRefIdeal.τ).loc Cert.EmbedAllRefIdeal.main_arg1)
          ∧ r.2.mem ((c.tc : Thread Cert.EmbedAllRefIdeal.nD Cert.EmbedAllRefIdeal.τ).loc Cert.EmbedAllRefIdeal.main_arg2) = m' ((c.tc : Thread Cert.EmbedAllRefIdeal.nD Cert.EmbedAllRefIdeal.τ).loc Cert.EmbedAllRefIdeal.main_arg2)
          ∧ r.2.mem ((c.tc : Thread Cert.EmbedAllRefIdeal.nD Cert.EmbedAllRefIdeal.τ).loc Cert.EmbedAllRefIdeal.main_arg3) = m' ((c.tc : Thread Cert.EmbedAllRefIdeal.nD Cert.EmbedAllRefIdeal.τ).loc Cert.EmbedAllRefIdeal.main_arg3)
          ∧ r.2.mem ((c.tc : Thread Cert.EmbedAllRefIdeal.nD Cert.EmbedAllRefIdeal.τ).loc Cert.EmbedAllRefIdeal.main_arg4) = m' ((c.tc : Thread Cert.EmbedAllRefIdeal.nD Cert.EmbedAllRefIdeal.τ).loc Cert.EmbedAllRefIdeal.main_arg4))

def preserves_ResidLn_ResidLnIdeal : Prop :=
  True

def algebraic_ResidLnIdeal_ResidLnRefIdeal [hResidLnIdeal : Cert.ResidLnIdeal.Facts] [hResidLnRefIdeal : Cert.ResidLnRefIdeal.Facts] : Prop :=
  ∀ (m : (ℓ : Loc Cert.ResidLnIdeal.nD Cert.ResidLnIdeal.τ Cert.ResidLnIdeal.sig) → Buf (Elt Ideal) ℓ) (g : Dev Cert.ResidLnIdeal.nD → PrngReg)
    (m' : (ℓ : Loc Cert.ResidLnRefIdeal.nD Cert.ResidLnRefIdeal.τ Cert.ResidLnRefIdeal.sig) → Buf (Elt Ideal) ℓ) (g' : Dev Cert.ResidLnRefIdeal.nD → PrngReg), Pre_ResidLnIdeal m →
    (∀ c : Dev Cert.ResidLnIdeal.nD,
      m' ((c.tc : Thread Cert.ResidLnRefIdeal.nD Cert.ResidLnRefIdeal.τ).loc Cert.ResidLnRefIdeal.main_arg0) = m ((c.tc : Thread Cert.ResidLnIdeal.nD Cert.ResidLnIdeal.τ).loc Cert.ResidLnIdeal.main_arg0)
      ∧ m' ((c.tc : Thread Cert.ResidLnRefIdeal.nD Cert.ResidLnRefIdeal.τ).loc Cert.ResidLnRefIdeal.main_arg1) = m ((c.tc : Thread Cert.ResidLnIdeal.nD Cert.ResidLnIdeal.τ).loc Cert.ResidLnIdeal.main_arg1)
      ∧ m' ((c.tc : Thread Cert.ResidLnRefIdeal.nD Cert.ResidLnRefIdeal.τ).loc Cert.ResidLnRefIdeal.main_arg2) = m ((c.tc : Thread Cert.ResidLnIdeal.nD Cert.ResidLnIdeal.τ).loc Cert.ResidLnIdeal.main_arg2)
      ∧ m' ((c.tc : Thread Cert.ResidLnRefIdeal.nD Cert.ResidLnRefIdeal.τ).loc Cert.ResidLnRefIdeal.main_arg3) = m ((c.tc : Thread Cert.ResidLnIdeal.nD Cert.ResidLnIdeal.τ).loc Cert.ResidLnIdeal.main_arg3)) →
    ∃ (v0 : (c : Dev Cert.ResidLnIdeal.nD) → Buf (Elt Ideal) ((c.tc : Thread Cert.ResidLnIdeal.nD Cert.ResidLnIdeal.τ).loc Cert.ResidLnIdeal.main_v2_0)) (v1 : (c : Dev Cert.ResidLnIdeal.nD) → Buf (Elt Ideal) ((c.tc : Thread Cert.ResidLnIdeal.nD Cert.ResidLnIdeal.τ).loc Cert.ResidLnIdeal.main_v2_1)),
      θ_run (Cert.ResidLnIdeal.defs (F := Ideal)) (onTc (τ := Cert.ResidLnIdeal.τ) (Cert.ResidLnIdeal.main (F := Ideal))) ⟨m, fun _ => 0, g⟩ (fun r => ∀ c : Dev Cert.ResidLnIdeal.nD,
          r.2.mem ((c.tc : Thread Cert.ResidLnIdeal.nD Cert.ResidLnIdeal.τ).loc Cert.ResidLnIdeal.main_v2_0) = v0 c
          ∧ r.2.mem ((c.tc : Thread Cert.ResidLnIdeal.nD Cert.ResidLnIdeal.τ).loc Cert.ResidLnIdeal.main_v2_1) = v1 c
          ∧ r.2.mem ((c.tc : Thread Cert.ResidLnIdeal.nD Cert.ResidLnIdeal.τ).loc Cert.ResidLnIdeal.main_arg0) = m ((c.tc : Thread Cert.ResidLnIdeal.nD Cert.ResidLnIdeal.τ).loc Cert.ResidLnIdeal.main_arg0)
          ∧ r.2.mem ((c.tc : Thread Cert.ResidLnIdeal.nD Cert.ResidLnIdeal.τ).loc Cert.ResidLnIdeal.main_arg1) = m ((c.tc : Thread Cert.ResidLnIdeal.nD Cert.ResidLnIdeal.τ).loc Cert.ResidLnIdeal.main_arg1)
          ∧ r.2.mem ((c.tc : Thread Cert.ResidLnIdeal.nD Cert.ResidLnIdeal.τ).loc Cert.ResidLnIdeal.main_arg2) = m ((c.tc : Thread Cert.ResidLnIdeal.nD Cert.ResidLnIdeal.τ).loc Cert.ResidLnIdeal.main_arg2)
          ∧ r.2.mem ((c.tc : Thread Cert.ResidLnIdeal.nD Cert.ResidLnIdeal.τ).loc Cert.ResidLnIdeal.main_arg3) = m ((c.tc : Thread Cert.ResidLnIdeal.nD Cert.ResidLnIdeal.τ).loc Cert.ResidLnIdeal.main_arg3))
      ∧ θ_run (Cert.ResidLnRefIdeal.defs (F := Ideal)) (onTc (τ := Cert.ResidLnRefIdeal.τ) (Cert.ResidLnRefIdeal.main (F := Ideal))) ⟨m', fun _ => 0, g'⟩ (fun r => ∀ c : Dev Cert.ResidLnRefIdeal.nD,
          r.2.mem ((c.tc : Thread Cert.ResidLnRefIdeal.nD Cert.ResidLnRefIdeal.τ).loc Cert.ResidLnRefIdeal.main_v27) = v0 c
          ∧ r.2.mem ((c.tc : Thread Cert.ResidLnRefIdeal.nD Cert.ResidLnRefIdeal.τ).loc Cert.ResidLnRefIdeal.main_v28) = v1 c
          ∧ r.2.mem ((c.tc : Thread Cert.ResidLnRefIdeal.nD Cert.ResidLnRefIdeal.τ).loc Cert.ResidLnRefIdeal.main_arg0) = m' ((c.tc : Thread Cert.ResidLnRefIdeal.nD Cert.ResidLnRefIdeal.τ).loc Cert.ResidLnRefIdeal.main_arg0)
          ∧ r.2.mem ((c.tc : Thread Cert.ResidLnRefIdeal.nD Cert.ResidLnRefIdeal.τ).loc Cert.ResidLnRefIdeal.main_arg1) = m' ((c.tc : Thread Cert.ResidLnRefIdeal.nD Cert.ResidLnRefIdeal.τ).loc Cert.ResidLnRefIdeal.main_arg1)
          ∧ r.2.mem ((c.tc : Thread Cert.ResidLnRefIdeal.nD Cert.ResidLnRefIdeal.τ).loc Cert.ResidLnRefIdeal.main_arg2) = m' ((c.tc : Thread Cert.ResidLnRefIdeal.nD Cert.ResidLnRefIdeal.τ).loc Cert.ResidLnRefIdeal.main_arg2)
          ∧ r.2.mem ((c.tc : Thread Cert.ResidLnRefIdeal.nD Cert.ResidLnRefIdeal.τ).loc Cert.ResidLnRefIdeal.main_arg3) = m' ((c.tc : Thread Cert.ResidLnRefIdeal.nD Cert.ResidLnRefIdeal.τ).loc Cert.ResidLnRefIdeal.main_arg3))

def preserves_ResidMix_ResidMixIdeal : Prop :=
  True

def algebraic_ResidMixIdeal_ResidMixRefIdeal [hResidMixIdeal : Cert.ResidMixIdeal.Facts] [hResidMixRefIdeal : Cert.ResidMixRefIdeal.Facts] : Prop :=
  ∀ (m : (ℓ : Loc Cert.ResidMixIdeal.nD Cert.ResidMixIdeal.τ Cert.ResidMixIdeal.sig) → Buf (Elt Ideal) ℓ) (g : Dev Cert.ResidMixIdeal.nD → PrngReg)
    (m' : (ℓ : Loc Cert.ResidMixRefIdeal.nD Cert.ResidMixRefIdeal.τ Cert.ResidMixRefIdeal.sig) → Buf (Elt Ideal) ℓ) (g' : Dev Cert.ResidMixRefIdeal.nD → PrngReg), Pre_ResidMixIdeal m →
    (∀ c : Dev Cert.ResidMixIdeal.nD,
      m' ((c.tc : Thread Cert.ResidMixRefIdeal.nD Cert.ResidMixRefIdeal.τ).loc Cert.ResidMixRefIdeal.main_arg0) = m ((c.tc : Thread Cert.ResidMixIdeal.nD Cert.ResidMixIdeal.τ).loc Cert.ResidMixIdeal.main_arg0)
      ∧ m' ((c.tc : Thread Cert.ResidMixRefIdeal.nD Cert.ResidMixRefIdeal.τ).loc Cert.ResidMixRefIdeal.main_arg1) = m ((c.tc : Thread Cert.ResidMixIdeal.nD Cert.ResidMixIdeal.τ).loc Cert.ResidMixIdeal.main_arg1)
      ∧ m' ((c.tc : Thread Cert.ResidMixRefIdeal.nD Cert.ResidMixRefIdeal.τ).loc Cert.ResidMixRefIdeal.main_arg2) = m ((c.tc : Thread Cert.ResidMixIdeal.nD Cert.ResidMixIdeal.τ).loc Cert.ResidMixIdeal.main_arg2)
      ∧ m' ((c.tc : Thread Cert.ResidMixRefIdeal.nD Cert.ResidMixRefIdeal.τ).loc Cert.ResidMixRefIdeal.main_arg3) = m ((c.tc : Thread Cert.ResidMixIdeal.nD Cert.ResidMixIdeal.τ).loc Cert.ResidMixIdeal.main_arg3)
      ∧ m' ((c.tc : Thread Cert.ResidMixRefIdeal.nD Cert.ResidMixRefIdeal.τ).loc Cert.ResidMixRefIdeal.main_arg4) = m ((c.tc : Thread Cert.ResidMixIdeal.nD Cert.ResidMixIdeal.τ).loc Cert.ResidMixIdeal.main_arg4)) →
    ∃ (v0 : (c : Dev Cert.ResidMixIdeal.nD) → Buf (Elt Ideal) ((c.tc : Thread Cert.ResidMixIdeal.nD Cert.ResidMixIdeal.τ).loc Cert.ResidMixIdeal.main_v2_0)) (v1 : (c : Dev Cert.ResidMixIdeal.nD) → Buf (Elt Ideal) ((c.tc : Thread Cert.ResidMixIdeal.nD Cert.ResidMixIdeal.τ).loc Cert.ResidMixIdeal.main_v2_1)),
      θ_run (Cert.ResidMixIdeal.defs (F := Ideal)) (onTc (τ := Cert.ResidMixIdeal.τ) (Cert.ResidMixIdeal.main (F := Ideal))) ⟨m, fun _ => 0, g⟩ (fun r => ∀ c : Dev Cert.ResidMixIdeal.nD,
          r.2.mem ((c.tc : Thread Cert.ResidMixIdeal.nD Cert.ResidMixIdeal.τ).loc Cert.ResidMixIdeal.main_v2_0) = v0 c
          ∧ r.2.mem ((c.tc : Thread Cert.ResidMixIdeal.nD Cert.ResidMixIdeal.τ).loc Cert.ResidMixIdeal.main_v2_1) = v1 c
          ∧ r.2.mem ((c.tc : Thread Cert.ResidMixIdeal.nD Cert.ResidMixIdeal.τ).loc Cert.ResidMixIdeal.main_arg0) = m ((c.tc : Thread Cert.ResidMixIdeal.nD Cert.ResidMixIdeal.τ).loc Cert.ResidMixIdeal.main_arg0)
          ∧ r.2.mem ((c.tc : Thread Cert.ResidMixIdeal.nD Cert.ResidMixIdeal.τ).loc Cert.ResidMixIdeal.main_arg1) = m ((c.tc : Thread Cert.ResidMixIdeal.nD Cert.ResidMixIdeal.τ).loc Cert.ResidMixIdeal.main_arg1)
          ∧ r.2.mem ((c.tc : Thread Cert.ResidMixIdeal.nD Cert.ResidMixIdeal.τ).loc Cert.ResidMixIdeal.main_arg2) = m ((c.tc : Thread Cert.ResidMixIdeal.nD Cert.ResidMixIdeal.τ).loc Cert.ResidMixIdeal.main_arg2)
          ∧ r.2.mem ((c.tc : Thread Cert.ResidMixIdeal.nD Cert.ResidMixIdeal.τ).loc Cert.ResidMixIdeal.main_arg3) = m ((c.tc : Thread Cert.ResidMixIdeal.nD Cert.ResidMixIdeal.τ).loc Cert.ResidMixIdeal.main_arg3)
          ∧ r.2.mem ((c.tc : Thread Cert.ResidMixIdeal.nD Cert.ResidMixIdeal.τ).loc Cert.ResidMixIdeal.main_arg4) = m ((c.tc : Thread Cert.ResidMixIdeal.nD Cert.ResidMixIdeal.τ).loc Cert.ResidMixIdeal.main_arg4))
      ∧ θ_run (Cert.ResidMixRefIdeal.defs (F := Ideal)) (onTc (τ := Cert.ResidMixRefIdeal.τ) (Cert.ResidMixRefIdeal.main (F := Ideal))) ⟨m', fun _ => 0, g'⟩ (fun r => ∀ c : Dev Cert.ResidMixRefIdeal.nD,
          r.2.mem ((c.tc : Thread Cert.ResidMixRefIdeal.nD Cert.ResidMixRefIdeal.τ).loc Cert.ResidMixRefIdeal.main_v28) = v0 c
          ∧ r.2.mem ((c.tc : Thread Cert.ResidMixRefIdeal.nD Cert.ResidMixRefIdeal.τ).loc Cert.ResidMixRefIdeal.main_v29) = v1 c
          ∧ r.2.mem ((c.tc : Thread Cert.ResidMixRefIdeal.nD Cert.ResidMixRefIdeal.τ).loc Cert.ResidMixRefIdeal.main_arg0) = m' ((c.tc : Thread Cert.ResidMixRefIdeal.nD Cert.ResidMixRefIdeal.τ).loc Cert.ResidMixRefIdeal.main_arg0)
          ∧ r.2.mem ((c.tc : Thread Cert.ResidMixRefIdeal.nD Cert.ResidMixRefIdeal.τ).loc Cert.ResidMixRefIdeal.main_arg1) = m' ((c.tc : Thread Cert.ResidMixRefIdeal.nD Cert.ResidMixRefIdeal.τ).loc Cert.ResidMixRefIdeal.main_arg1)
          ∧ r.2.mem ((c.tc : Thread Cert.ResidMixRefIdeal.nD Cert.ResidMixRefIdeal.τ).loc Cert.ResidMixRefIdeal.main_arg2) = m' ((c.tc : Thread Cert.ResidMixRefIdeal.nD Cert.ResidMixRefIdeal.τ).loc Cert.ResidMixRefIdeal.main_arg2)
          ∧ r.2.mem ((c.tc : Thread Cert.ResidMixRefIdeal.nD Cert.ResidMixRefIdeal.τ).loc Cert.ResidMixRefIdeal.main_arg3) = m' ((c.tc : Thread Cert.ResidMixRefIdeal.nD Cert.ResidMixRefIdeal.τ).loc Cert.ResidMixRefIdeal.main_arg3)
          ∧ r.2.mem ((c.tc : Thread Cert.ResidMixRefIdeal.nD Cert.ResidMixRefIdeal.τ).loc Cert.ResidMixRefIdeal.main_arg4) = m' ((c.tc : Thread Cert.ResidMixRefIdeal.nD Cert.ResidMixRefIdeal.τ).loc Cert.ResidMixRefIdeal.main_arg4))

def preserves_LnRouter_LnRouterIdeal : Prop :=
  True

def algebraic_LnRouterIdeal_LnRouterRefIdeal [hLnRouterIdeal : Cert.LnRouterIdeal.Facts] [hLnRouterRefIdeal : Cert.LnRouterRefIdeal.Facts] : Prop :=
  ∀ (m : (ℓ : Loc Cert.LnRouterIdeal.nD Cert.LnRouterIdeal.τ Cert.LnRouterIdeal.sig) → Buf (Elt Ideal) ℓ) (g : Dev Cert.LnRouterIdeal.nD → PrngReg)
    (m' : (ℓ : Loc Cert.LnRouterRefIdeal.nD Cert.LnRouterRefIdeal.τ Cert.LnRouterRefIdeal.sig) → Buf (Elt Ideal) ℓ) (g' : Dev Cert.LnRouterRefIdeal.nD → PrngReg), Pre_LnRouterIdeal m →
    (∀ c : Dev Cert.LnRouterIdeal.nD,
      m' ((c.tc : Thread Cert.LnRouterRefIdeal.nD Cert.LnRouterRefIdeal.τ).loc Cert.LnRouterRefIdeal.main_arg0) = m ((c.tc : Thread Cert.LnRouterIdeal.nD Cert.LnRouterIdeal.τ).loc Cert.LnRouterIdeal.main_arg0)
      ∧ m' ((c.tc : Thread Cert.LnRouterRefIdeal.nD Cert.LnRouterRefIdeal.τ).loc Cert.LnRouterRefIdeal.main_arg1) = m ((c.tc : Thread Cert.LnRouterIdeal.nD Cert.LnRouterIdeal.τ).loc Cert.LnRouterIdeal.main_arg1)
      ∧ m' ((c.tc : Thread Cert.LnRouterRefIdeal.nD Cert.LnRouterRefIdeal.τ).loc Cert.LnRouterRefIdeal.main_arg2) = m ((c.tc : Thread Cert.LnRouterIdeal.nD Cert.LnRouterIdeal.τ).loc Cert.LnRouterIdeal.main_arg2)
      ∧ m' ((c.tc : Thread Cert.LnRouterRefIdeal.nD Cert.LnRouterRefIdeal.τ).loc Cert.LnRouterRefIdeal.main_arg3) = m ((c.tc : Thread Cert.LnRouterIdeal.nD Cert.LnRouterIdeal.τ).loc Cert.LnRouterIdeal.main_arg3)
      ∧ m' ((c.tc : Thread Cert.LnRouterRefIdeal.nD Cert.LnRouterRefIdeal.τ).loc Cert.LnRouterRefIdeal.main_arg4) = m ((c.tc : Thread Cert.LnRouterIdeal.nD Cert.LnRouterIdeal.τ).loc Cert.LnRouterIdeal.main_arg4)) →
    ∃ (v0 : (c : Dev Cert.LnRouterIdeal.nD) → Buf (Elt Ideal) ((c.tc : Thread Cert.LnRouterIdeal.nD Cert.LnRouterIdeal.τ).loc Cert.LnRouterIdeal.main_v3_0)) (v1 : (c : Dev Cert.LnRouterIdeal.nD) → Buf (Elt Ideal) ((c.tc : Thread Cert.LnRouterIdeal.nD Cert.LnRouterIdeal.τ).loc Cert.LnRouterIdeal.main_v3_1)) (v2 : (c : Dev Cert.LnRouterIdeal.nD) → Buf (Elt Ideal) ((c.tc : Thread Cert.LnRouterIdeal.nD Cert.LnRouterIdeal.τ).loc Cert.LnRouterIdeal.main_v3_2)) (v3 : (c : Dev Cert.LnRouterIdeal.nD) → Buf (Elt Ideal) ((c.tc : Thread Cert.LnRouterIdeal.nD Cert.LnRouterIdeal.τ).loc Cert.LnRouterIdeal.main_v3_3)),
      θ_run (Cert.LnRouterIdeal.defs (F := Ideal)) (onTc (τ := Cert.LnRouterIdeal.τ) (Cert.LnRouterIdeal.main (F := Ideal))) ⟨m, fun _ => 0, g⟩ (fun r => ∀ c : Dev Cert.LnRouterIdeal.nD,
          r.2.mem ((c.tc : Thread Cert.LnRouterIdeal.nD Cert.LnRouterIdeal.τ).loc Cert.LnRouterIdeal.main_v3_0) = v0 c
          ∧ r.2.mem ((c.tc : Thread Cert.LnRouterIdeal.nD Cert.LnRouterIdeal.τ).loc Cert.LnRouterIdeal.main_v3_1) = v1 c
          ∧ r.2.mem ((c.tc : Thread Cert.LnRouterIdeal.nD Cert.LnRouterIdeal.τ).loc Cert.LnRouterIdeal.main_v3_2) = v2 c
          ∧ r.2.mem ((c.tc : Thread Cert.LnRouterIdeal.nD Cert.LnRouterIdeal.τ).loc Cert.LnRouterIdeal.main_v3_3) = v3 c
          ∧ r.2.mem ((c.tc : Thread Cert.LnRouterIdeal.nD Cert.LnRouterIdeal.τ).loc Cert.LnRouterIdeal.main_arg0) = m ((c.tc : Thread Cert.LnRouterIdeal.nD Cert.LnRouterIdeal.τ).loc Cert.LnRouterIdeal.main_arg0)
          ∧ r.2.mem ((c.tc : Thread Cert.LnRouterIdeal.nD Cert.LnRouterIdeal.τ).loc Cert.LnRouterIdeal.main_arg1) = m ((c.tc : Thread Cert.LnRouterIdeal.nD Cert.LnRouterIdeal.τ).loc Cert.LnRouterIdeal.main_arg1)
          ∧ r.2.mem ((c.tc : Thread Cert.LnRouterIdeal.nD Cert.LnRouterIdeal.τ).loc Cert.LnRouterIdeal.main_arg2) = m ((c.tc : Thread Cert.LnRouterIdeal.nD Cert.LnRouterIdeal.τ).loc Cert.LnRouterIdeal.main_arg2)
          ∧ r.2.mem ((c.tc : Thread Cert.LnRouterIdeal.nD Cert.LnRouterIdeal.τ).loc Cert.LnRouterIdeal.main_arg3) = m ((c.tc : Thread Cert.LnRouterIdeal.nD Cert.LnRouterIdeal.τ).loc Cert.LnRouterIdeal.main_arg3)
          ∧ r.2.mem ((c.tc : Thread Cert.LnRouterIdeal.nD Cert.LnRouterIdeal.τ).loc Cert.LnRouterIdeal.main_arg4) = m ((c.tc : Thread Cert.LnRouterIdeal.nD Cert.LnRouterIdeal.τ).loc Cert.LnRouterIdeal.main_arg4))
      ∧ θ_run (Cert.LnRouterRefIdeal.defs (F := Ideal)) (onTc (τ := Cert.LnRouterRefIdeal.τ) (Cert.LnRouterRefIdeal.main (F := Ideal))) ⟨m', fun _ => 0, g'⟩ (fun r => ∀ c : Dev Cert.LnRouterRefIdeal.nD,
          r.2.mem ((c.tc : Thread Cert.LnRouterRefIdeal.nD Cert.LnRouterRefIdeal.τ).loc Cert.LnRouterRefIdeal.main_v27) = v0 c
          ∧ r.2.mem ((c.tc : Thread Cert.LnRouterRefIdeal.nD Cert.LnRouterRefIdeal.τ).loc Cert.LnRouterRefIdeal.main_v28) = v1 c
          ∧ r.2.mem ((c.tc : Thread Cert.LnRouterRefIdeal.nD Cert.LnRouterRefIdeal.τ).loc Cert.LnRouterRefIdeal.main_v53) = v2 c
          ∧ r.2.mem ((c.tc : Thread Cert.LnRouterRefIdeal.nD Cert.LnRouterRefIdeal.τ).loc Cert.LnRouterRefIdeal.main_v62) = v3 c
          ∧ r.2.mem ((c.tc : Thread Cert.LnRouterRefIdeal.nD Cert.LnRouterRefIdeal.τ).loc Cert.LnRouterRefIdeal.main_arg0) = m' ((c.tc : Thread Cert.LnRouterRefIdeal.nD Cert.LnRouterRefIdeal.τ).loc Cert.LnRouterRefIdeal.main_arg0)
          ∧ r.2.mem ((c.tc : Thread Cert.LnRouterRefIdeal.nD Cert.LnRouterRefIdeal.τ).loc Cert.LnRouterRefIdeal.main_arg1) = m' ((c.tc : Thread Cert.LnRouterRefIdeal.nD Cert.LnRouterRefIdeal.τ).loc Cert.LnRouterRefIdeal.main_arg1)
          ∧ r.2.mem ((c.tc : Thread Cert.LnRouterRefIdeal.nD Cert.LnRouterRefIdeal.τ).loc Cert.LnRouterRefIdeal.main_arg2) = m' ((c.tc : Thread Cert.LnRouterRefIdeal.nD Cert.LnRouterRefIdeal.τ).loc Cert.LnRouterRefIdeal.main_arg2)
          ∧ r.2.mem ((c.tc : Thread Cert.LnRouterRefIdeal.nD Cert.LnRouterRefIdeal.τ).loc Cert.LnRouterRefIdeal.main_arg3) = m' ((c.tc : Thread Cert.LnRouterRefIdeal.nD Cert.LnRouterRefIdeal.τ).loc Cert.LnRouterRefIdeal.main_arg3)
          ∧ r.2.mem ((c.tc : Thread Cert.LnRouterRefIdeal.nD Cert.LnRouterRefIdeal.τ).loc Cert.LnRouterRefIdeal.main_arg4) = m' ((c.tc : Thread Cert.LnRouterRefIdeal.nD Cert.LnRouterRefIdeal.τ).loc Cert.LnRouterRefIdeal.main_arg4))

def Claim : Prop :=
  ∃ (hSgu : Cert.Sgu.Facts) (hSguIdeal : Cert.SguIdeal.Facts) (hSguRefIdeal : Cert.SguRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hProjUV : Cert.ProjUV.Facts) (hProjUVIdeal : Cert.ProjUVIdeal.Facts) (hProjUVRefIdeal : Cert.ProjUVRefIdeal.Facts) (hProjZR : Cert.ProjZR.Facts) (hProjZRIdeal : Cert.ProjZRIdeal.Facts) (hProjZRRefIdeal : Cert.ProjZRRefIdeal.Facts) (hPair : Cert.Pair.Facts) (hPairIdeal : Cert.PairIdeal.Facts) (hPairRefIdeal : Cert.PairRefIdeal.Facts) (hEmbedP : Cert.EmbedP.Facts) (hEmbedPIdeal : Cert.EmbedPIdeal.Facts) (hEmbedPRefIdeal : Cert.EmbedPRefIdeal.Facts) (hEmbedS : Cert.EmbedS.Facts) (hEmbedSIdeal : Cert.EmbedSIdeal.Facts) (hEmbedSRefIdeal : Cert.EmbedSRefIdeal.Facts) (hMoeDown : Cert.MoeDown.Facts) (hMoeDownIdeal : Cert.MoeDownIdeal.Facts) (hMoeDownRefIdeal : Cert.MoeDownRefIdeal.Facts) (hEmbedAll : Cert.EmbedAll.Facts) (hEmbedAllIdeal : Cert.EmbedAllIdeal.Facts) (hEmbedAllRefIdeal : Cert.EmbedAllRefIdeal.Facts) (hResidLn : Cert.ResidLn.Facts) (hResidLnIdeal : Cert.ResidLnIdeal.Facts) (hResidLnRefIdeal : Cert.ResidLnRefIdeal.Facts) (hResidMix : Cert.ResidMix.Facts) (hResidMixIdeal : Cert.ResidMixIdeal.Facts) (hResidMixRefIdeal : Cert.ResidMixRefIdeal.Facts) (hLnRouter : Cert.LnRouter.Facts) (hLnRouterIdeal : Cert.LnRouterIdeal.Facts) (hLnRouterRefIdeal : Cert.LnRouterRefIdeal.Facts) (hPre_experts_named : Cert.Pre_experts_named.Facts),
    quiescent_Sgu (hSgu := hSgu)
    ∧ quiescent_SguIdeal (hSguIdeal := hSguIdeal)
    ∧ quiescent_SguRefIdeal (hSguRefIdeal := hSguRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_ProjUV (hProjUV := hProjUV)
    ∧ quiescent_ProjUVIdeal (hProjUVIdeal := hProjUVIdeal)
    ∧ quiescent_ProjUVRefIdeal (hProjUVRefIdeal := hProjUVRefIdeal)
    ∧ quiescent_ProjZR (hProjZR := hProjZR)
    ∧ quiescent_ProjZRIdeal (hProjZRIdeal := hProjZRIdeal)
    ∧ quiescent_ProjZRRefIdeal (hProjZRRefIdeal := hProjZRRefIdeal)
    ∧ quiescent_Pair (hPair := hPair)
    ∧ quiescent_PairIdeal (hPairIdeal := hPairIdeal)
    ∧ quiescent_PairRefIdeal (hPairRefIdeal := hPairRefIdeal)
    ∧ quiescent_EmbedP (hEmbedP := hEmbedP)
    ∧ quiescent_EmbedPIdeal (hEmbedPIdeal := hEmbedPIdeal)
    ∧ quiescent_EmbedPRefIdeal (hEmbedPRefIdeal := hEmbedPRefIdeal)
    ∧ quiescent_EmbedS (hEmbedS := hEmbedS)
    ∧ quiescent_EmbedSIdeal (hEmbedSIdeal := hEmbedSIdeal)
    ∧ quiescent_EmbedSRefIdeal (hEmbedSRefIdeal := hEmbedSRefIdeal)
    ∧ quiescent_MoeDown (hMoeDown := hMoeDown) (hPre_experts_named := hPre_experts_named)
    ∧ quiescent_MoeDownIdeal (hMoeDownIdeal := hMoeDownIdeal) (hPre_experts_named := hPre_experts_named)
    ∧ quiescent_MoeDownRefIdeal (hMoeDownRefIdeal := hMoeDownRefIdeal)
    ∧ quiescent_MoeDownRefIdeal_pre_experts_named (hMoeDownRefIdeal := hMoeDownRefIdeal) (hPre_experts_named := hPre_experts_named)
    ∧ quiescent_EmbedAll (hEmbedAll := hEmbedAll)
    ∧ quiescent_EmbedAllIdeal (hEmbedAllIdeal := hEmbedAllIdeal)
    ∧ quiescent_EmbedAllRefIdeal (hEmbedAllRefIdeal := hEmbedAllRefIdeal)
    ∧ quiescent_ResidLn (hResidLn := hResidLn)
    ∧ quiescent_ResidLnIdeal (hResidLnIdeal := hResidLnIdeal)
    ∧ quiescent_ResidLnRefIdeal (hResidLnRefIdeal := hResidLnRefIdeal)
    ∧ quiescent_ResidMix (hResidMix := hResidMix)
    ∧ quiescent_ResidMixIdeal (hResidMixIdeal := hResidMixIdeal)
    ∧ quiescent_ResidMixRefIdeal (hResidMixRefIdeal := hResidMixRefIdeal)
    ∧ quiescent_LnRouter (hLnRouter := hLnRouter)
    ∧ quiescent_LnRouterIdeal (hLnRouterIdeal := hLnRouterIdeal)
    ∧ quiescent_LnRouterRefIdeal (hLnRouterRefIdeal := hLnRouterRefIdeal)
    ∧ preserves_Sgu_SguIdeal
    ∧ algebraic_SguIdeal_SguRefIdeal (hSguIdeal := hSguIdeal) (hSguRefIdeal := hSguRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_ProjUV_ProjUVIdeal
    ∧ algebraic_ProjUVIdeal_ProjUVRefIdeal (hProjUVIdeal := hProjUVIdeal) (hProjUVRefIdeal := hProjUVRefIdeal)
    ∧ preserves_ProjZR_ProjZRIdeal
    ∧ algebraic_ProjZRIdeal_ProjZRRefIdeal (hProjZRIdeal := hProjZRIdeal) (hProjZRRefIdeal := hProjZRRefIdeal)
    ∧ preserves_Pair_PairIdeal
    ∧ algebraic_PairIdeal_PairRefIdeal (hPairIdeal := hPairIdeal) (hPairRefIdeal := hPairRefIdeal)
    ∧ preserves_EmbedP_EmbedPIdeal
    ∧ algebraic_EmbedPIdeal_EmbedPRefIdeal (hEmbedPIdeal := hEmbedPIdeal) (hEmbedPRefIdeal := hEmbedPRefIdeal)
    ∧ preserves_EmbedS_EmbedSIdeal
    ∧ algebraic_EmbedSIdeal_EmbedSRefIdeal (hEmbedSIdeal := hEmbedSIdeal) (hEmbedSRefIdeal := hEmbedSRefIdeal)
    ∧ preserves_MoeDown_MoeDownIdeal
    ∧ algebraic_MoeDownIdeal_MoeDownRefIdeal (hMoeDownIdeal := hMoeDownIdeal) (hMoeDownRefIdeal := hMoeDownRefIdeal) (hPre_experts_named := hPre_experts_named)
    ∧ preserves_EmbedAll_EmbedAllIdeal
    ∧ algebraic_EmbedAllIdeal_EmbedAllRefIdeal (hEmbedAllIdeal := hEmbedAllIdeal) (hEmbedAllRefIdeal := hEmbedAllRefIdeal)
    ∧ preserves_ResidLn_ResidLnIdeal
    ∧ algebraic_ResidLnIdeal_ResidLnRefIdeal (hResidLnIdeal := hResidLnIdeal) (hResidLnRefIdeal := hResidLnRefIdeal)
    ∧ preserves_ResidMix_ResidMixIdeal
    ∧ algebraic_ResidMixIdeal_ResidMixRefIdeal (hResidMixIdeal := hResidMixIdeal) (hResidMixRefIdeal := hResidMixRefIdeal)
    ∧ preserves_LnRouter_LnRouterIdeal
    ∧ algebraic_LnRouterIdeal_LnRouterRefIdeal (hLnRouterIdeal := hLnRouterIdeal) (hLnRouterRefIdeal := hLnRouterRefIdeal)
-- ==== Pre_experts_named.lean ====
abbrev S69632x2048 : Shape := ⟨2, ![69632, 2048]⟩
abbrev S8x2048x4096 : Shape := ⟨3, ![8, 2048, 4096]⟩
abbrev S136 : Shape := ⟨1, ![136]⟩
abbrev S_ : Shape := ⟨0, ![]⟩

class Facts : Prop where
  bcast_S_S136 : S_.BroadcastsInDim S136 (![] : Fin 0 → Fin S136.rank)

variable [Facts]

def fn {F : FTy → Type} [FloatOps F] (main_arg0 : FVec F S69632x2048 .bf16) (main_arg1 : FVec F S8x2048x4096 .bf16) (main_arg2 : IVec S136 32) (main_arg3 : IVec S136 32) : IVec S136 1 :=
  let main_c : IVec S_ 32 := constantI S_ 32 0#32
  let main_v0 : IVec S136 32 := broadcastInDim S136 ![] bcast_S_S136 main_c
  let main_v1 : IVec S136 1 := cmpi .sge main_arg2 main_v0
  let main_c_0 : IVec S_ 32 := constantI S_ 32 8#32
  let main_v2 : IVec S136 32 := broadcastInDim S136 ![] bcast_S_S136 main_c_0
  let main_v3 : IVec S136 1 := cmpi .slt main_arg2 main_v2
  let main_v4 : IVec S136 1 := andi main_v1 main_v3
  main_v4
-- ==== Sgu.lean ====
abbrev S32768x4096 : Shape := ⟨2, ![32768, 4096]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S128x16x128 : Shape := ⟨3, ![128, 16, 128]⟩
abbrev S128x2048 : Shape := ⟨2, ![128, 2048]⟩
abbrev S1x2048 : Shape := ⟨2, ![1, 2048]⟩
abbrev S32768x2048 : Shape := ⟨2, ![32768, 2048]⟩
abbrev S512x2048 : Shape := ⟨2, ![512, 2048]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩

abbrev nBuf : Space → Nat
  | .hbm => 12
  | .vmem => 10
  | .smem => 0
  | _ => 0

abbrev bufTy : (tb : Table) → Fin (tcTables nBuf tb) → BufTy
  | .hbm, ⟨0, _⟩ => ⟨S32768x4096, .bf16⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S128x16, .f32⟩
  | .hbm, ⟨6, _⟩ => ⟨S128x16x128, .f32⟩
  | .hbm, ⟨7, _⟩ => ⟨S128x2048, .f32⟩
  | .hbm, ⟨8, _⟩ => ⟨S1x2048, .f32⟩
  | .hbm, ⟨9, _⟩ => ⟨S1x2048, .f32⟩
  | .hbm, ⟨10, _⟩ => ⟨S16x128x128, .bf16⟩
  | .hbm, ⟨11, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S16x128x128, .bf16⟩
  | .local _ .vmem, ⟨7, _⟩ => ⟨S128x2048, .f32⟩
  | .local _ .vmem, ⟨8, _⟩ => ⟨S512x2048, .bf16⟩
  | .local _ .vmem, ⟨9, _⟩ => ⟨S512x2048, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguRefIdeal.lean ====
abbrev S32768x4096 : Shape := ⟨2, ![32768, 4096]⟩
abbrev S2048 : Shape := ⟨1, ![2048]⟩
abbrev S16x128x128 : Shape := ⟨3, ![16, 128, 128]⟩
abbrev S16x128 : Shape := ⟨2, ![16, 128]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S256x128x16x128 : Shape := ⟨4, ![256, 128, 16, 128]⟩
abbrev S16x256x128x128 : Shape := ⟨4, ![16, 256, 128, 128]⟩
abbrev S128x16 : Shape := ⟨2, ![128, 16]⟩
abbrev S1x128x16x1 : Shape := ⟨4, ![1, 128, 16, 1]⟩

abbrev nBuf : Space → Nat
  | .hbm => 81
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S2048, .f32⟩
  | .hbm, ⟨2, _⟩ => ⟨S2048, .f32⟩
  | .hbm, ⟨3, _⟩ => ⟨S16x128x128, .f32⟩
  | .hbm, ⟨4, _⟩ => ⟨S16x128, .f32⟩
  | .hbm, ⟨5, _⟩ => ⟨S32768x4096, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S_, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x2048, .f32⟩
  | .hbm, ⟨49, _⟩ => ⟨S32768x2048, .f32⟩
  | .hbm, ⟨50, _⟩ => ⟨S32768x2048, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x2048, .f32⟩
  | .hbm, ⟨58, _⟩ => ⟨S32768x2048, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x1, .f32⟩
  | .hbm, ⟨63, _⟩ => ⟨S32768x2048, .f32⟩
  | .hbm, ⟨64, _⟩ => ⟨S32768x2048, .f32⟩
  | .hbm, ⟨65, _⟩ => ⟨S1x2048, .f32⟩
  | .hbm, ⟨66, _⟩ => ⟨S32768x2048, .f32⟩
  | .hbm, ⟨67, _⟩ => ⟨S32768x2048, .f32⟩
  | .hbm, ⟨68, _⟩ => ⟨S1x2048, .f32⟩
  | .hbm, ⟨69, _⟩ => ⟨S32768x2048, .f32⟩
  | .hbm, ⟨70, _⟩ => ⟨S32768x2048, .f32⟩
  | .hbm, ⟨71, _⟩ => ⟨S256x128x16x128, .f32⟩
  | .hbm, ⟨72, _⟩ => ⟨S16x256x128x128, .f32⟩
  | .hbm, ⟨73, _⟩ => ⟨S256x128x16x128, .f32⟩
  | .hbm, ⟨74, _⟩ => ⟨S128x16, .f32⟩
  | .hbm, ⟨75, _⟩ => ⟨S1x128x16x1, .f32⟩
  | .hbm, ⟨76, _⟩ => ⟨S256x128x16x128, .f32⟩
  | .hbm, ⟨77, _⟩ => ⟨S256x128x16x128, .f32⟩
  | .hbm, ⟨78, _⟩ => ⟨S32768x2048, .f32⟩
  | .hbm, ⟨79, _⟩ => ⟨S32768x2048, .f32⟩
  | .hbm, ⟨80, _⟩ => ⟨S32768x2048, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Up.lean ====
abbrev S32768x4096 : Shape := ⟨2, ![32768, 4096]⟩
abbrev S4096x14336 : Shape := ⟨2, ![4096, 14336]⟩
abbrev S32768x14336 : Shape := ⟨2, ![32768, 14336]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S32768x4096, .bf16⟩
  | .hbm, ⟨1, _⟩ => ⟨S4096x14336, .bf16⟩
  | .hbm, ⟨2, _⟩ => ⟨S4096x14336, .bf16⟩
  | .hbm, ⟨3, _⟩ => ⟨S32768x14336, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S32768x4096 : Shape := ⟨2, ![32768, 4096]⟩
abbrev S4096x14336 : Shape := ⟨2, ![4096, 14336]⟩
abbrev S32768x14336 : Shape := ⟨2, ![32768, 14336]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x14336, .bf16⟩
  | .hbm, ⟨2, _⟩ => ⟨S4096x14336, .bf16⟩
  | .hbm, ⟨3, _⟩ => ⟨S32768x4096, .f32⟩
  | .hbm, ⟨4, _⟩ => ⟨S4096x14336, .f32⟩
  | .hbm, ⟨5, _⟩ => ⟨S4096x14336, .f32⟩
  | .hbm, ⟨6, _⟩ => ⟨S32768x14336, .f32⟩
  | .hbm, ⟨7, _⟩ => ⟨S32768x14336, .f32⟩
  | .hbm, ⟨8, _⟩ => ⟨S32768x14336, .f32⟩
  | .hbm, ⟨9, _⟩ => ⟨S_, .f32⟩
  | .hbm, ⟨10, _⟩ => ⟨S32768x14336, .f32⟩
  | .hbm, ⟨11, _⟩ => ⟨S32768x14336, .f32⟩
  | .hbm, ⟨12, _⟩ => ⟨S_, .f32⟩
  | .hbm, ⟨13, _⟩ => ⟨S32768x14336, .f32⟩
  | .hbm, ⟨14, _⟩ => ⟨S32768x14336, .f32⟩
  | .hbm, ⟨15, _⟩ => ⟨S32768x14336, .f32⟩
  | .hbm, ⟨16, _⟩ => ⟨S32768x14336, .f32⟩
  | .hbm, ⟨17, _⟩ => ⟨S32768x14336, .f32⟩
  | .hbm, ⟨18, _⟩ => ⟨S32768x14336, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Down.lean ====
abbrev S32768x14336 : Shape := ⟨2, ![32768, 14336]⟩
abbrev S14336x4096 : Shape := ⟨2, ![14336, 4096]⟩
abbrev S32768x4096 : Shape := ⟨2, ![32768, 4096]⟩
abbrev S1024x3584 : Shape := ⟨2, ![1024, 3584]⟩
abbrev S3584x1024 : Shape := ⟨2, ![3584, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S32768x14336, .bf16⟩
  | .hbm, ⟨1, _⟩ => ⟨S14336x4096, .bf16⟩
  | .hbm, ⟨2, _⟩ => ⟨S32768x4096, .bf16⟩
  | .local _ .vmem, ⟨0, _⟩ => ⟨S1024x3584, .bf16⟩
  | .local _ .vmem, ⟨1, _⟩ => ⟨S1024x3584, .bf16⟩
  | .local _ .vmem, ⟨2, _⟩ => ⟨S3584x1024, .bf16⟩
  | .local _ .vmem, ⟨3, _⟩ => ⟨S3584x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S32768x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3584x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S32768x14336 : Shape := ⟨2, ![32768, 14336]⟩
abbrev S14336x4096 : Shape := ⟨2, ![14336, 4096]⟩
abbrev S32768x4096 : Shape := ⟨2, ![32768, 4096]⟩

abbrev nBuf : Space → Nat
  | .hbm => 6
  | .vmem => 0
  | .smem => 0
  | _ => 0

abbrev bufTy : (tb : Table) → Fin (tcTables nBuf tb) → BufTy
  | .hbm, ⟨0, _⟩ => ⟨S32768x14336, .bf16⟩
  | .hbm, ⟨1, _⟩ => ⟨S14336x4096, .bf16⟩
  | .hbm, ⟨2, _⟩ => ⟨S32768x14336, .f32⟩
  | .hbm, ⟨3, _⟩ => ⟨S14336x4096, .f32⟩
  | .hbm, ⟨4, _⟩ => ⟨S32768x4096, .f32⟩
  | .hbm, ⟨5, _⟩ => ⟨S32768x4096, .bf16⟩
  | _, _ => ⟨S32768x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjUV.lean ====
abbrev S32768x4096 : Shape := ⟨2, ![32768, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjUVIdeal.lean ====
abbrev S32768x4096 : Shape := ⟨2, ![32768, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjUVRefIdeal.lean ====
abbrev S32768x4096 : Shape := ⟨2, ![32768, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x4096, .f32⟩
  | .hbm, ⟨3, _⟩ => ⟨S4096x4096, .f32⟩
  | .hbm, ⟨4, _⟩ => ⟨S32768x4096, .f32⟩
  | .hbm, ⟨5, _⟩ => ⟨S32768x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjZR.lean ====
abbrev S32768x4096 : Shape := ⟨2, ![32768, 4096]⟩
abbrev S4096x7168 : Shape := ⟨2, ![4096, 7168]⟩
abbrev S32768x7168 : Shape := ⟨2, ![32768, 7168]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S4096x7168, .bf16⟩
  | .hbm, ⟨2, _⟩ => ⟨S32768x7168, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjZRRefIdeal.lean ====
abbrev S32768x4096 : Shape := ⟨2, ![32768, 4096]⟩
abbrev S4096x7168 : Shape := ⟨2, ![4096, 7168]⟩
abbrev S32768x7168 : Shape := ⟨2, ![32768, 7168]⟩

abbrev nBuf : Space → Nat
  | .hbm => 6
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x7168, .bf16⟩
  | .hbm, ⟨2, _⟩ => ⟨S32768x4096, .f32⟩
  | .hbm, ⟨3, _⟩ => ⟨S4096x7168, .f32⟩
  | .hbm, ⟨4, _⟩ => ⟨S32768x7168, .f32⟩
  | .hbm, ⟨5, _⟩ => ⟨S32768x7168, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Pair.lean ====
abbrev S32768x2048 : Shape := ⟨2, ![32768, 2048]⟩
abbrev S2048x4096 : Shape := ⟨2, ![2048, 4096]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .bf16⟩
  | .hbm, ⟨2, _⟩ => ⟨S32768x2048, .bf16⟩
  | .hbm, ⟨3, _⟩ => ⟨S2048x4096, .bf16⟩
  | .hbm, ⟨4, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PairRefIdeal.lean ====
abbrev S32768x2048 : Shape := ⟨2, ![32768, 2048]⟩
abbrev S2048x4096 : Shape := ⟨2, ![2048, 4096]⟩
abbrev S32768x4096 : Shape := ⟨2, ![32768, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x4096, .bf16⟩
  | .hbm, ⟨2, _⟩ => ⟨S32768x2048, .bf16⟩
  | .hbm, ⟨3, _⟩ => ⟨S2048x4096, .bf16⟩
  | .hbm, ⟨4, _⟩ => ⟨S32768x2048, .f32⟩
  | .hbm, ⟨5, _⟩ => ⟨S32768x2048, .f32⟩
  | .hbm, ⟨6, _⟩ => ⟨S32768x4096, .f32⟩
  | .hbm, ⟨7, _⟩ => ⟨S2048x4096, .f32⟩
  | .hbm, ⟨8, _⟩ => ⟨S2048x4096, .f32⟩
  | .hbm, ⟨9, _⟩ => ⟨S4096x4096, .f32⟩
  | .hbm, ⟨10, _⟩ => ⟨S32768x4096, .f32⟩
  | .hbm, ⟨11, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== EmbedP.lean ====
abbrev S32768x4096 : Shape := ⟨2, ![32768, 4096]⟩
abbrev S4096x4096 : Shape := ⟨2, ![4096, 4096]⟩
abbrev S32768x256 : Shape := ⟨2, ![32768, 256]⟩
abbrev S256x4096 : Shape := ⟨2, ![256, 4096]⟩
abbrev S16384x4096 : Shape := ⟨2, ![16384, 4096]⟩
abbrev S1024x4096 : Shape := ⟨2, ![1024, 4096]⟩
abbrev S4096x512 : Shape := ⟨2, ![4096, 512]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x256, .bf16⟩
  | .hbm, ⟨3, _⟩ => ⟨S256x4096, .bf16⟩
  | .hbm, ⟨4, _⟩ => ⟨S32768x4096, .f32⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x256, .bf16⟩
  | .local _ .vmem, ⟨5, _⟩ => ⟨S1024x256, .bf16⟩
  | .local _ .vmem, ⟨6, _⟩ => ⟨S256x512, .bf16⟩
  | .local _ .vmem, ⟨7, _⟩ => ⟨S256x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EmbedPRefIdeal.lean ====
abbrev S32768x4096 : Shape := ⟨2, ![32768, 4096]⟩
abbrev S4096x4096 : Shape := ⟨2, ![4096, 4096]⟩
abbrev S32768x256 : Shape := ⟨2, ![32768, 256]⟩
abbrev S256x4096 : Shape := ⟨2, ![256, 4096]⟩
abbrev S_ : Shape := ⟨0, ![]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x256, .bf16⟩
  | .hbm, ⟨3, _⟩ => ⟨S256x4096, .bf16⟩
  | .hbm, ⟨4, _⟩ => ⟨S32768x4096, .f32⟩
  | .hbm, ⟨5, _⟩ => ⟨S32768x4096, .f32⟩
  | .hbm, ⟨6, _⟩ => ⟨S4096x4096, .f32⟩
  | .hbm, ⟨7, _⟩ => ⟨S32768x4096, .f32⟩
  | .hbm, ⟨8, _⟩ => ⟨S32768x4096, .f32⟩
  | .hbm, ⟨9, _⟩ => ⟨S32768x4096, .f32⟩
  | .hbm, ⟨10, _⟩ => ⟨S_, .f32⟩
  | .hbm, ⟨11, _⟩ => ⟨S32768x4096, .f32⟩
  | .hbm, ⟨12, _⟩ => ⟨S32768x4096, .f32⟩
  | .hbm, ⟨13, _⟩ => ⟨S_, .f32⟩
  | .hbm, ⟨14, _⟩ => ⟨S32768x4096, .f32⟩
  | .hbm, ⟨15, _⟩ => ⟨S32768x4096, .f32⟩
  | .hbm, ⟨16, _⟩ => ⟨S32768x256, .f32⟩
  | .hbm, ⟨17, _⟩ => ⟨S256x4096, .f32⟩
  | .hbm, ⟨18, _⟩ => ⟨S32768x4096, .f32⟩
  | .hbm, ⟨19, _⟩ => ⟨S32768x4096, .f32⟩
  | .hbm, ⟨20, _⟩ => ⟨S32768x4096, .f32⟩
  | .hbm, ⟨21, _⟩ => ⟨S16384x4096, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== EmbedS.lean ====
abbrev S32768x4096 : Shape := ⟨2, ![32768, 4096]⟩
abbrev S4096x4096 : Shape := ⟨2, ![4096, 4096]⟩
abbrev S32768x256 : Shape := ⟨2, ![32768, 256]⟩
abbrev S256x4096 : Shape := ⟨2, ![256, 4096]⟩
abbrev S16384x4096 : Shape := ⟨2, ![16384, 4096]⟩
abbrev S1024x4096 : Shape := ⟨2, ![1024, 4096]⟩
abbrev S4096x512 : Shape := ⟨2, ![4096, 512]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x256, .bf16⟩
  | .hbm, ⟨3, _⟩ => ⟨S256x4096, .bf16⟩
  | .hbm, ⟨4, _⟩ => ⟨S32768x4096, .f32⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x256, .bf16⟩
  | .local _ .vmem, ⟨5, _⟩ => ⟨S1024x256, .bf16⟩
  | .local _ .vmem, ⟨6, _⟩ => ⟨S256x512, .bf16⟩
  | .local _ .vmem, ⟨7, _⟩ => ⟨S256x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EmbedSRefIdeal.lean ====
abbrev S32768x4096 : Shape := ⟨2, ![32768, 4096]⟩
abbrev S4096x4096 : Shape := ⟨2, ![4096, 4096]⟩
abbrev S32768x256 : Shape := ⟨2, ![32768, 256]⟩
abbrev S256x4096 : Shape := ⟨2, ![256, 4096]⟩
abbrev S_ : Shape := ⟨0, ![]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x256, .bf16⟩
  | .hbm, ⟨3, _⟩ => ⟨S256x4096, .bf16⟩
  | .hbm, ⟨4, _⟩ => ⟨S32768x4096, .f32⟩
  | .hbm, ⟨5, _⟩ => ⟨S32768x4096, .f32⟩
  | .hbm, ⟨6, _⟩ => ⟨S4096x4096, .f32⟩
  | .hbm, ⟨7, _⟩ => ⟨S32768x4096, .f32⟩
  | .hbm, ⟨8, _⟩ => ⟨S32768x4096, .f32⟩
  | .hbm, ⟨9, _⟩ => ⟨S32768x4096, .f32⟩
  | .hbm, ⟨10, _⟩ => ⟨S_, .f32⟩
  | .hbm, ⟨11, _⟩ => ⟨S32768x4096, .f32⟩
  | .hbm, ⟨12, _⟩ => ⟨S32768x4096, .f32⟩
  | .hbm, ⟨13, _⟩ => ⟨S_, .f32⟩
  | .hbm, ⟨14, _⟩ => ⟨S32768x4096, .f32⟩
  | .hbm, ⟨15, _⟩ => ⟨S32768x4096, .f32⟩
  | .hbm, ⟨16, _⟩ => ⟨S32768x256, .f32⟩
  | .hbm, ⟨17, _⟩ => ⟨S256x4096, .f32⟩
  | .hbm, ⟨18, _⟩ => ⟨S32768x4096, .f32⟩
  | .hbm, ⟨19, _⟩ => ⟨S32768x4096, .f32⟩
  | .hbm, ⟨20, _⟩ => ⟨S32768x4096, .f32⟩
  | .hbm, ⟨21, _⟩ => ⟨S16384x4096, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== MoeDown.lean ====
abbrev S69632x2048 : Shape := ⟨2, ![69632, 2048]⟩
abbrev S8x2048x4096 : Shape := ⟨3, ![8, 2048, 4096]⟩
abbrev S136 : Shape := ⟨1, ![136]⟩
abbrev S69632x4096 : Shape := ⟨2, ![69632, 4096]⟩
abbrev S512x2048 : Shape := ⟨2, ![512, 2048]⟩
abbrev S1x2048x1024 : Shape := ⟨3, ![1, 2048, 1024]⟩
abbrev S1 : Shape := ⟨1, ![1]⟩
abbrev S512x1024 : Shape := ⟨2, ![512, 1024]⟩
abbrev S2048x1024 : Shape := ⟨2, ![2048, 1024]⟩

abbrev nBuf : Space → Nat
  | .hbm => 3
  | .vmem => 6
  | .smem => 2
  | _ => 0

abbrev bufTy : (tb : Table) → Fin (tcTables nBuf tb) → BufTy
  | .hbm, ⟨0, _⟩ => ⟨S69632x2048, .bf16⟩
  | .hbm, ⟨1, _⟩ => ⟨S8x2048x4096, .bf16⟩
  | .hbm, ⟨2, _⟩ => ⟨S69632x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | .local _ .smem, ⟨0, _⟩ => ⟨S136, .i32⟩
  | .local _ .smem, ⟨1, _⟩ => ⟨S136, .i32⟩
  | _, _ => ⟨S69632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 136], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v1 : BitVec 32) : BitVec 1 :=
  let c1_i32 : BitVec 32 := 1#32
  let v2 : BitVec 1 := Scalar.cmpi .eq v1 c1_i32
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MoeDownRefIdeal.lean ====
abbrev S69632x2048 : Shape := ⟨2, ![69632, 2048]⟩
abbrev S8x2048x4096 : Shape := ⟨3, ![8, 2048, 4096]⟩
abbrev S136 : Shape := ⟨1, ![136]⟩
abbrev S8x4096x69632 : Shape := ⟨3, ![8, 4096, 69632]⟩
abbrev S8x69632x4096 : Shape := ⟨3, ![8, 69632, 4096]⟩
abbrev S136x1 : Shape := ⟨2, ![136, 1]⟩
abbrev S136x512 : Shape := ⟨2, ![136, 512]⟩
abbrev S1x69632x1 : Shape := ⟨3, ![1, 69632, 1]⟩
abbrev S_ : Shape := ⟨0, ![]⟩
abbrev S8 : Shape := ⟨1, ![8]⟩
abbrev S8x1x1 : Shape := ⟨3, ![8, 1, 1]⟩
abbrev S8x69632x1 : Shape := ⟨3, ![8, 69632, 1]⟩
abbrev S69632x4096 : Shape := ⟨2, ![69632, 4096]⟩

abbrev nBuf : Space → Nat
  | .hbm => 30
  | .vmem => 0
  | .smem => 0
  | _ => 0

abbrev bufTy : (tb : Table) → Fin (tcTables nBuf tb) → BufTy
  | .hbm, ⟨0, _⟩ => ⟨S69632x2048, .bf16⟩
  | .hbm, ⟨1, _⟩ => ⟨S8x2048x4096, .bf16⟩
  | .hbm, ⟨2, _⟩ => ⟨S136, .i32⟩
  | .hbm, ⟨3, _⟩ => ⟨S136, .i32⟩
  | .hbm, ⟨4, _⟩ => ⟨S69632x2048, .f32⟩
  | .hbm, ⟨5, _⟩ => ⟨S8x2048x4096, .f32⟩
  | .hbm, ⟨6, _⟩ => ⟨S8x4096x69632, .f32⟩
  | .hbm, ⟨7, _⟩ => ⟨S8x69632x4096, .f32⟩
  | .hbm, ⟨8, _⟩ => ⟨S136x1, .i32⟩
  | .hbm, ⟨9, _⟩ => ⟨S136x512, .i32⟩
  | .hbm, ⟨10, _⟩ => ⟨S1x69632x1, .i32⟩
  | .hbm, ⟨11, _⟩ => ⟨S136x1, .i32⟩
  | .hbm, ⟨12, _⟩ => ⟨S136x512, .i32⟩
  | .hbm, ⟨13, _⟩ => ⟨S1x69632x1, .i32⟩
  | .hbm, ⟨14, _⟩ => ⟨S_, .i32⟩
  | .hbm, ⟨15, _⟩ => ⟨S1x69632x1, .i32⟩
  | .hbm, ⟨16, _⟩ => ⟨S1x69632x1, .i1⟩
  | .hbm, ⟨17, _⟩ => ⟨S8, .i32⟩
  | .hbm, ⟨18, _⟩ => ⟨S8x1x1, .i32⟩
  | .hbm, ⟨19, _⟩ => ⟨S8x69632x1, .i32⟩
  | .hbm, ⟨20, _⟩ => ⟨S8x69632x1, .i32⟩
  | .hbm, ⟨21, _⟩ => ⟨S8x69632x1, .i1⟩
  | .hbm, ⟨22, _⟩ => ⟨S8x69632x1, .i1⟩
  | .hbm, ⟨23, _⟩ => ⟨S8x69632x1, .i1⟩
  | .hbm, ⟨24, _⟩ => ⟨S8x69632x4096, .i1⟩
  | .hbm, ⟨25, _⟩ => ⟨S_, .f32⟩
  | .hbm, ⟨26, _⟩ => ⟨S8x69632x4096, .f32⟩
  | .hbm, ⟨27, _⟩ => ⟨S8x69632x4096, .f32⟩
  | .hbm, ⟨28, _⟩ => ⟨S_, .f32⟩
  | .hbm, ⟨29, _⟩ => ⟨S69632x4096, .f32⟩
  | _, _ => ⟨S69632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== EmbedAll.lean ====
abbrev S32768x4096 : Shape := ⟨2, ![32768, 4096]⟩
abbrev S4096x4096 : Shape := ⟨2, ![4096, 4096]⟩
abbrev S32768x256 : Shape := ⟨2, ![32768, 256]⟩
abbrev S256x4096 : Shape := ⟨2, ![256, 4096]⟩
abbrev S1024x4096 : Shape := ⟨2, ![1024, 4096]⟩
abbrev S4096x512 : Shape := ⟨2, ![4096, 512]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x256, .bf16⟩
  | .hbm, ⟨3, _⟩ => ⟨S256x4096, .bf16⟩
  | .hbm, ⟨4, _⟩ => ⟨S32768x4096, .f32⟩
  | .hbm, ⟨5, _⟩ => ⟨S32768x4096, .f32⟩
  | .hbm, ⟨6, _⟩ => ⟨S32768x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x256, .bf16⟩
  | .local _ .vmem, ⟨5, _⟩ => ⟨S1024x256, .bf16⟩
  | .local _ .vmem, ⟨6, _⟩ => ⟨S256x512, .bf16⟩
  | .local _ .vmem, ⟨7, _⟩ => ⟨S256x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== EmbedAllRefIdeal.lean ====
abbrev S32768x4096 : Shape := ⟨2, ![32768, 4096]⟩
abbrev S4096x4096 : Shape := ⟨2, ![4096, 4096]⟩
abbrev S32768x256 : Shape := ⟨2, ![32768, 256]⟩
abbrev S256x4096 : Shape := ⟨2, ![256, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x256, .bf16⟩
  | .hbm, ⟨3, _⟩ => ⟨S256x4096, .bf16⟩
  | .hbm, ⟨4, _⟩ => ⟨S32768x4096, .f32⟩
  | .hbm, ⟨5, _⟩ => ⟨S32768x4096, .f32⟩
  | .hbm, ⟨6, _⟩ => ⟨S4096x4096, .f32⟩
  | .hbm, ⟨7, _⟩ => ⟨S32768x4096, .f32⟩
  | .hbm, ⟨8, _⟩ => ⟨S32768x4096, .f32⟩
  | .hbm, ⟨9, _⟩ => ⟨S32768x4096, .f32⟩
  | .hbm, ⟨10, _⟩ => ⟨S_, .f32⟩
  | .hbm, ⟨11, _⟩ => ⟨S32768x4096, .f32⟩
  | .hbm, ⟨12, _⟩ => ⟨S32768x4096, .f32⟩
  | .hbm, ⟨13, _⟩ => ⟨S_, .f32⟩
  | .hbm, ⟨14, _⟩ => ⟨S32768x4096, .f32⟩
  | .hbm, ⟨15, _⟩ => ⟨S32768x4096, .f32⟩
  | .hbm, ⟨16, _⟩ => ⟨S32768x256, .f32⟩
  | .hbm, ⟨17, _⟩ => ⟨S256x4096, .f32⟩
  | .hbm, ⟨18, _⟩ => ⟨S32768x4096, .f32⟩
  | .hbm, ⟨19, _⟩ => ⟨S32768x4096, .f32⟩
  | .hbm, ⟨20, _⟩ => ⟨S32768x4096, .f32⟩
  | .hbm, ⟨21, _⟩ => ⟨S32768x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== ResidLn.lean ====
abbrev S32768x4096 : Shape := ⟨2, ![32768, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S32768x4096, .f32⟩
  | .hbm, ⟨1, _⟩ => ⟨S32768x4096, .bf16⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S32768x4096, .f32⟩
  | .hbm, ⟨7, _⟩ => ⟨S32768x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidLnRefIdeal.lean ====
abbrev S32768x4096 : Shape := ⟨2, ![32768, 4096]⟩
abbrev S4096 : Shape := ⟨1, ![4096]⟩
abbrev S_ : Shape := ⟨0, ![]⟩
abbrev S32768 : Shape := ⟨1, ![32768]⟩
abbrev S32768x1 : Shape := ⟨2, ![32768, 1]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S32768x4096, .bf16⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S32768x4096, .f32⟩
  | .hbm, ⟨6, _⟩ => ⟨S32768x4096, .f32⟩
  | .hbm, ⟨7, _⟩ => ⟨S32768x4096, .f32⟩
  | .hbm, ⟨8, _⟩ => ⟨S32768x4096, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x4096, .f32⟩
  | .hbm, ⟨16, _⟩ => ⟨S32768x4096, .f32⟩
  | .hbm, ⟨17, _⟩ => ⟨S32768x4096, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x4096, .f32⟩
  | .hbm, ⟨25, _⟩ => ⟨S32768x4096, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1, .f32⟩
  | .hbm, ⟨30, _⟩ => ⟨S32768x4096, .f32⟩
  | .hbm, ⟨31, _⟩ => ⟨S32768x4096, .f32⟩
  | .hbm, ⟨32, _⟩ => ⟨S1x4096, .f32⟩
  | .hbm, ⟨33, _⟩ => ⟨S32768x4096, .f32⟩
  | .hbm, ⟨34, _⟩ => ⟨S32768x4096, .f32⟩
  | .hbm, ⟨35, _⟩ => ⟨S1x4096, .f32⟩
  | .hbm, ⟨36, _⟩ => ⟨S32768x4096, .f32⟩
  | .hbm, ⟨37, _⟩ => ⟨S32768x4096, .f32⟩
  | .hbm, ⟨38, _⟩ => ⟨S32768x4096, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== ResidMix.lean ====
abbrev S16384x4096 : Shape := ⟨2, ![16384, 4096]⟩
abbrev S32768x4096 : Shape := ⟨2, ![32768, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S32768x4096, .bf16⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S32768x4096, .f32⟩
  | .hbm, ⟨8, _⟩ => ⟨S32768x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S1x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .bf16⟩
  | .local _ .vmem, ⟨11, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ResidMixRefIdeal.lean ====
abbrev S16384x4096 : Shape := ⟨2, ![16384, 4096]⟩
abbrev S32768x4096 : Shape := ⟨2, ![32768, 4096]⟩
abbrev S4096 : Shape := ⟨1, ![4096]⟩
abbrev S_ : Shape := ⟨0, ![]⟩
abbrev S32768 : Shape := ⟨1, ![32768]⟩
abbrev S32768x1 : Shape := ⟨2, ![32768, 1]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S32768x4096, .bf16⟩
  | .hbm, ⟨3, _⟩ => ⟨S4096, .f32⟩
  | .hbm, ⟨4, _⟩ => ⟨S4096, .f32⟩
  | .hbm, ⟨5, _⟩ => ⟨S32768x4096, .f32⟩
  | .hbm, ⟨6, _⟩ => ⟨S_, .f32⟩
  | .hbm, ⟨7, _⟩ => ⟨S32768x4096, .f32⟩
  | .hbm, ⟨8, _⟩ => ⟨S32768x4096, .f32⟩
  | .hbm, ⟨9, _⟩ => ⟨S32768x4096, .f32⟩
  | .hbm, ⟨10, _⟩ => ⟨S32768x4096, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x4096, .f32⟩
  | .hbm, ⟨18, _⟩ => ⟨S32768x4096, .f32⟩
  | .hbm, ⟨19, _⟩ => ⟨S32768x4096, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x4096, .f32⟩
  | .hbm, ⟨27, _⟩ => ⟨S32768x4096, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x4096, .f32⟩
  | .hbm, ⟨33, _⟩ => ⟨S32768x4096, .f32⟩
  | .hbm, ⟨34, _⟩ => ⟨S1x4096, .f32⟩
  | .hbm, ⟨35, _⟩ => ⟨S32768x4096, .f32⟩
  | .hbm, ⟨36, _⟩ => ⟨S32768x4096, .f32⟩
  | .hbm, ⟨37, _⟩ => ⟨S1x4096, .f32⟩
  | .hbm, ⟨38, _⟩ => ⟨S32768x4096, .f32⟩
  | .hbm, ⟨39, _⟩ => ⟨S32768x4096, .f32⟩
  | .hbm, ⟨40, _⟩ => ⟨S32768x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== LnRouter.lean ====
abbrev S32768x4096 : Shape := ⟨2, ![32768, 4096]⟩
abbrev S4096 : Shape := ⟨1, ![4096]⟩
abbrev S4096x8 : Shape := ⟨2, ![4096, 8]⟩
abbrev S_ : Shape := ⟨0, ![]⟩
abbrev S4096x128 : Shape := ⟨2, ![4096, 128]⟩
abbrev S1x4096 : Shape := ⟨2, ![1, 4096]⟩
abbrev S32768x128 : Shape := ⟨2, ![32768, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 14
  | .vmem => 15
  | .smem => 0
  | _ => 0

abbrev bufTy : (tb : Table) → Fin (tcTables nBuf tb) → BufTy
  | .hbm, ⟨0, _⟩ => ⟨S32768x4096, .f32⟩
  | .hbm, ⟨1, _⟩ => ⟨S32768x4096, .bf16⟩
  | .hbm, ⟨2, _⟩ => ⟨S4096, .f32⟩
  | .hbm, ⟨3, _⟩ => ⟨S4096, .f32⟩
  | .hbm, ⟨4, _⟩ => ⟨S4096x8, .f32⟩
  | .hbm, ⟨5, _⟩ => ⟨S_, .i32⟩
  | .hbm, ⟨6, _⟩ => ⟨S_, .f32⟩
  | .hbm, ⟨7, _⟩ => ⟨S4096x128, .f32⟩
  | .hbm, ⟨8, _⟩ => ⟨S1x4096, .f32⟩
  | .hbm, ⟨9, _⟩ => ⟨S1x4096, .f32⟩
  | .hbm, ⟨10, _⟩ => ⟨S32768x4096, .f32⟩
  | .hbm, ⟨11, _⟩ => ⟨S32768x4096, .bf16⟩
  | .hbm, ⟨12, _⟩ => ⟨S32768x128, .i32⟩
  | .hbm, ⟨13, _⟩ => ⟨S32768x128, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S4096x128, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S256x128, .i32⟩
  | .local _ .vmem, ⟨12, _⟩ => ⟨S256x128, .i32⟩
  | .local _ .vmem, ⟨13, _⟩ => ⟨S256x128, .f32⟩
  | .local _ .vmem, ⟨14, _⟩ => ⟨S256x128, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LnRouterRefIdeal.lean ====
abbrev S32768x4096 : Shape := ⟨2, ![32768, 4096]⟩
abbrev S4096 : Shape := ⟨1, ![4096]⟩
abbrev S4096x8 : Shape := ⟨2, ![4096, 8]⟩
abbrev S_ : Shape := ⟨0, ![]⟩
abbrev S32768 : Shape := ⟨1, ![32768]⟩
abbrev S32768x1 : Shape := ⟨2, ![32768, 1]⟩
abbrev S1x4096 : Shape := ⟨2, ![1, 4096]⟩
abbrev S8 : Shape := ⟨1, ![8]⟩
abbrev S32768x8 : Shape := ⟨2, ![32768, 8]⟩
abbrev S1x8 : Shape := ⟨2, ![1, 8]⟩
abbrev S32768x2 : Shape := ⟨2, ![32768, 2]⟩
abbrev S32768x128 : Shape := ⟨2, ![32768, 128]⟩

abbrev nBuf : Space → Nat
  | .hbm => 96
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S32768x4096, .bf16⟩
  | .hbm, ⟨2, _⟩ => ⟨S4096, .f32⟩
  | .hbm, ⟨3, _⟩ => ⟨S4096, .f32⟩
  | .hbm, ⟨4, _⟩ => ⟨S4096x8, .f32⟩
  | .hbm, ⟨5, _⟩ => ⟨S_, .f32⟩
  | .hbm, ⟨6, _⟩ => ⟨S32768x4096, .f32⟩
  | .hbm, ⟨7, _⟩ => ⟨S32768x4096, .f32⟩
  | .hbm, ⟨8, _⟩ => ⟨S32768x4096, .f32⟩
  | .hbm, ⟨9, _⟩ => ⟨S32768x4096, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x4096, .f32⟩
  | .hbm, ⟨17, _⟩ => ⟨S32768x4096, .f32⟩
  | .hbm, ⟨18, _⟩ => ⟨S32768x4096, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x4096, .f32⟩
  | .hbm, ⟨26, _⟩ => ⟨S32768x4096, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x4096, .f32⟩
  | .hbm, ⟨32, _⟩ => ⟨S32768x4096, .f32⟩
  | .hbm, ⟨33, _⟩ => ⟨S1x4096, .f32⟩
  | .hbm, ⟨34, _⟩ => ⟨S32768x4096, .f32⟩
  | .hbm, ⟨35, _⟩ => ⟨S32768x4096, .f32⟩
  | .hbm, ⟨36, _⟩ => ⟨S1x4096, .f32⟩
  | .hbm, ⟨37, _⟩ => ⟨S32768x4096, .f32⟩
  | .hbm, ⟨38, _⟩ => ⟨S32768x4096, .f32⟩
  | .hbm, ⟨39, _⟩ => ⟨S32768x4096, .bf16⟩
  | .hbm, ⟨40, _⟩ => ⟨S8, .i32⟩
  | .hbm, ⟨41, _⟩ => ⟨S32768x8, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S32768x8, .f32⟩
  | .hbm, ⟨46, _⟩ => ⟨S32768x8, .i1⟩
  | .hbm, ⟨47, _⟩ => ⟨S_, .i32⟩
  | .hbm, ⟨48, _⟩ => ⟨S_, .i32⟩
  | .hbm, ⟨49, _⟩ => ⟨S32768x8, .i32⟩
  | .hbm, ⟨50, _⟩ => ⟨S32768x8, .i32⟩
  | .hbm, ⟨51, _⟩ => ⟨S32768x8, .i32⟩
  | .hbm, ⟨52, _⟩ => ⟨S_, .i32⟩
  | .hbm, ⟨53, _⟩ => ⟨S32768, .i32⟩
  | .hbm, ⟨54, _⟩ => ⟨S32768x1, .i32⟩
  | .hbm, ⟨55, _⟩ => ⟨S1x8, .i32⟩
  | .hbm, ⟨56, _⟩ => ⟨S32768x8, .i32⟩
  | .hbm, ⟨57, _⟩ => ⟨S32768x8, .i32⟩
  | .hbm, ⟨58, _⟩ => ⟨S32768x8, .i1⟩
  | .hbm, ⟨59, _⟩ => ⟨S_, .f32⟩
  | .hbm, ⟨60, _⟩ => ⟨S_, .f32⟩
  | .hbm, ⟨61, _⟩ => ⟨S32768x8, .f32⟩
  | .hbm, ⟨62, _⟩ => ⟨S32768x8, .f32⟩
  | .hbm, ⟨63, _⟩ => ⟨S_, .f32⟩
  | .hbm, ⟨64, _⟩ => ⟨S32768, .f32⟩
  | .hbm, ⟨65, _⟩ => ⟨S32768x1, .f32⟩
  | .hbm, ⟨66, _⟩ => ⟨S32768x8, .f32⟩
  | .hbm, ⟨67, _⟩ => ⟨S32768x8, .i1⟩
  | .hbm, ⟨68, _⟩ => ⟨S_, .i32⟩
  | .hbm, ⟨69, _⟩ => ⟨S_, .i32⟩
  | .hbm, ⟨70, _⟩ => ⟨S32768x8, .i32⟩
  | .hbm, ⟨71, _⟩ => ⟨S32768x8, .i32⟩
  | .hbm, ⟨72, _⟩ => ⟨S32768x8, .i32⟩
  | .hbm, ⟨73, _⟩ => ⟨S_, .i32⟩
  | .hbm, ⟨74, _⟩ => ⟨S32768, .i32⟩
  | .hbm, ⟨75, _⟩ => ⟨S32768x1, .i32⟩
  | .hbm, ⟨76, _⟩ => ⟨S32768x1, .f32⟩
  | .hbm, ⟨77, _⟩ => ⟨S32768x1, .f32⟩
  | .hbm, ⟨78, _⟩ => ⟨S32768x2, .i32⟩
  | .hbm, ⟨79, _⟩ => ⟨S_, .i32⟩
  | .hbm, ⟨80, _⟩ => ⟨S_, .i32⟩
  | .hbm, ⟨81, _⟩ => ⟨S32768x128, .i32⟩
  | .hbm, ⟨82, _⟩ => ⟨S_, .f32⟩
  | .hbm, ⟨83, _⟩ => ⟨S32768x1, .f32⟩
  | .hbm, ⟨84, _⟩ => ⟨S32768x1, .f32⟩
  | .hbm, ⟨85, _⟩ => ⟨S_, .f32⟩
  | .hbm, ⟨86, _⟩ => ⟨S32768x1, .f32⟩
  | .hbm, ⟨87, _⟩ => ⟨S32768x1, .f32⟩
  | .hbm, ⟨88, _⟩ => ⟨S_, .f32⟩
  | .hbm, ⟨89, _⟩ => ⟨S32768x1, .f32⟩
  | .hbm, ⟨90, _⟩ => ⟨S32768x1, .f32⟩
  | .hbm, ⟨91, _⟩ => ⟨S32768x1, .f32⟩
  | .hbm, ⟨92, _⟩ => ⟨S32768x2, .f32⟩
  | .hbm, ⟨93, _⟩ => ⟨S_, .i32⟩
  | .hbm, ⟨94, _⟩ => ⟨S_, .f32⟩
  | .hbm, ⟨95, _⟩ => ⟨S32768x128, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_call1_v0 : Ref sig .tc := ⟨.hbm, 60, rfl⟩
abbrev main_call1_v1 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_call3_v0 : Ref sig .tc := ⟨.hbm, 80, rfl⟩
abbrev main_v53 : Ref sig .tc := ⟨.hbm, 81, rfl⟩
abbrev main_cst_12 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_v56 : Ref sig .tc := ⟨.hbm, 86, rfl⟩
abbrev main_v57 : Ref sig .tc := ⟨.hbm, 87, rfl⟩
abbrev main_cst_14 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_15 : Ref sig .tc := ⟨.hbm, 93, rfl⟩
abbrev main_call4_v0 : Ref sig .tc := ⟨.hbm, 94, rfl⟩
abbrev main_v62 : Ref sig .tc := ⟨.hbm, 95, rfl⟩

abbrev nD : Nat := 1
abbrev τ : Topo := Topo.v7x

variable {F : FTy → Type} [FloatOps F]
-- ==== Proof.Dot.lean ====
/-
  Products of matrices at the ideal values, read at an index.

  A plain product `[M, K] × [K, N]` has, at row `j 0` and column `j 1`, the sum over `k` of the products of the left
  operand at `(j 0, k)` with the right one at `(k, j 1)`: the matrix unit's with its accumulator added, the host's alone.
-/
module

public import Idealize.ShloMosaic.Lib.Pipeline.Value
public import Idealize.ShloMosaic.Lib.ValueIdx
public import Idealize.ShloMosaic.PureOps.Ideal.Laws

@[expose] public section

noncomputable section

namespace Layer

open Idealize.ShloMosaic
open Idealize.ShloMosaic.ValueIdx (ix2)

/-- The `f32` word of the number one denotes one. -/
theorem ofBits_one_f32 : Ideal.ofBits .f32 0x3F800000#32 = 1 := by
  simp only [Ideal.ofBits, Ideal.ieee]; simp; rw [← EReal.coe_mul]; norm_num

/-- The contraction sum of a plain product, indexed by the contracted coordinate itself. -/
theorem sum_plain {M K N : Nat} (l : (⟨2, ![M, K]⟩ : Shape).Idx → EReal) (r : (⟨2, ![K, N]⟩ : Shape).Idx → EReal)
    (j : (⟨2, ![M, N]⟩ : Shape).Idx) :
    (∑ q : (DotDims.plain M K N).contr.Idx, l ((DotDims.plain M K N).lhsIdx j q) * r ((DotDims.plain M K N).rhsIdx j q))
      = ∑ k : Fin K, l (ix2 (j 0) k) * r (ix2 k (j 1)) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  refine congrArg₂ (· * ·) (congrArg l (funext fun a => Fin.ext ?_)) (congrArg r (funext fun a => Fin.ext ?_))
  · match a with
    | ⟨0, _⟩ => rfl
    | ⟨1, _⟩ => exact hk
  · match a with
    | ⟨0, _⟩ => exact hk
    | ⟨1, _⟩ => rfl

/-- The matrix unit's plain product at an index, its accumulator read there. -/
theorem matmul_plain {M K N : Nat} {φ₁ φ₂ : FTy} (l : FVec Ideal ⟨2, ![M, K]⟩ φ₁) (r : FVec Ideal ⟨2, ![K, N]⟩ φ₂)
    (acc : FVec Ideal ⟨2, ![M, N]⟩ .f32) (j : (⟨2, ![M, N]⟩ : Shape).Idx) :
    FloatOps.matmul (DotDims.plain M K N) none l r acc j = acc j + ∑ k : Fin K, l (ix2 (j 0) k) * r (ix2 k (j 1)) := by
  rw [Ideal.matmul_apply]
  exact congrArg (acc j + ·) (sum_plain l r j)

/-- The same onto an accumulator of zeros. -/
theorem matmul_plain_zero {M K N : Nat} {φ₁ φ₂ : FTy} (l : FVec Ideal ⟨2, ![M, K]⟩ φ₁) (r : FVec Ideal ⟨2, ![K, N]⟩ φ₂)
    (j : (⟨2, ![M, N]⟩ : Shape).Idx) :
    FloatOps.matmul (DotDims.plain M K N) none l r (constant ⟨2, ![M, N]⟩ .f32 0x00000000#32) j
      = ∑ k : Fin K, l (ix2 (j 0) k) * r (ix2 k (j 1)) := by
  rw [matmul_plain]
  show Ideal.ofBits .f32 0x00000000#32 + _ = _
  rw [Ideal.ofBits_zero_f32, zero_add]

/-- The host's plain product at an index. -/
theorem dotGeneral_plain {M K N : Nat} {φ₁ φ₂ : FTy} (sched : HostSchedule) (l : FVec Ideal ⟨2, ![M, K]⟩ φ₁)
    (r : FVec Ideal ⟨2, ![K, N]⟩ φ₂) (j : (⟨2, ![M, N]⟩ : Shape).Idx) :
    FloatOps.dotGeneral (DotDims.plain M K N) none sched l r j = ∑ k : Fin K, l (ix2 (j 0) k) * r (ix2 k (j 1)) := by
  rw [Ideal.dotGeneral_apply]
  exact sum_plain l r j

/-! ## Blocks of an array -/

open Idealize.ShloMosaic.Pipeline (Grid Window WinKind)

/-- On an axis where a window's block is the first one, an index of the block is that index of the array. -/
theorem emb_of_index_zero {sig : RefSig} {g : Grid} (w : Window sig g) (t : Fin g.N) (y : (w.xblock (g.coords t)).Idx)
    (a : Fin w.shape.rank) (hk : w.kind = .blocked) (h : w.index t a = 0) :
    ((w.rect t).emb y a : Nat) = y a := by
  rw [Window.rect_emb_val_off, hk, h]
  show 0 * w.size a + (y a : Nat) = y a
  rw [Nat.zero_mul, Nat.zero_add]

end Layer

end
-- ==== Proof.SguBlock.lean ====
/-
  The spatial gating unit's block: what one point of the grid stores.

  A point holds 512 tokens, four chunks of 128. Its body normalises the gated half of the tokens whole and then stores,
  chunk by chunk and head by head, a square of 128 by 128: the activation of the other half times the head's mixing
  matrix applied to the chunk's normalised tokens, its bias added. The sixty-four squares are one function of the row and
  the column, and they tile the block.
-/
module

public import proofs.«01_k».proof.Proof.Dot
public import proofs.«01_k».proof.Proof.Gen.SguIdeal.Value

@[expose] public section

noncomputable section

namespace Layer.Sgu

open Cert.SguIdeal Cert.SguIdeal.Gen Idealize.ShloMosaic Idealize.ShloMosaic.TcCoe Idealize.SL.Sem
open Idealize.ShloMosaic.ValueIdx (ix2 ix3)

/-! ## The mathematics of one value -/

/-- The activation, by its tanh form. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The mean of a row. -/
def mean (a : Fin 2048 → EReal) : EReal := Ideal.div (∑ k, a k) (Ideal.ofBits .f32 0x45000000#32)

/-- A row with its mean subtracted. -/
def centred (a : Fin 2048 → EReal) (q : Fin 2048) : EReal := a q - mean a

/-- A row's normalisation at a column: centred, scaled by the root of its variance, with a gain and a bias. -/
def normed (a g b : Fin 2048 → EReal) (q : Fin 2048) : EReal :=
  centred a q * Ideal.rsqrt (mean (fun k => centred a k * centred a k) + Ideal.ofBits .f32 0x3727C5AC#32) * g q + b q

/-! ## The normalised half -/

/-- The column of row means of a block. -/
def meanCol (a : FVec Ideal S512x2048 .f32) : FVec Ideal S512x1 .f32 :=
  divf (shapeCast S512x1 (multiReduction .add [1] S512 a 0x00000000#32 reduces_S512x2048_S512 (.inl rfl) rfl) shapeCasts_S512_S512x1)
    (broadcast S512x1 (Scalar.ofBits .f32 0x45000000#32))

/-- The block with each row's mean subtracted. -/
def cenOf (a : FVec Ideal S512x2048 .f32) : FVec Ideal S512x2048 .f32 :=
  subf a (broadcastTo S512x2048 (meanCol a) broadcasts_S512x1_S512x2048)

/-- The column of the rows' scales. -/
def scaleCol (a : FVec Ideal S512x2048 .f32) : FVec Ideal S512x1 .f32 :=
  rsqrt (addf (meanCol (mulf (cenOf a) (cenOf a))) (broadcast S512x1 (Scalar.ofBits .f32 0x3727C5AC#32)))

/-- The normalised block. -/
def normOf (a : FVec Ideal S512x2048 .f32) (g b : Vec Ideal S1x2048 .f32) : FVec Ideal S512x2048 .bf16 :=
  truncf .bf16 (addf (mulf (mulf (cenOf a) (broadcastTo S512x2048 (scaleCol a) broadcasts_S512x1_S512x2048))
      (broadcastTo S512x2048 (shapeCast S1x2048 g shapeCasts_S1x2048_S1x2048) broadcasts_S1x2048_S512x2048))
    (broadcastTo S512x2048 (shapeCast S1x2048 b shapeCasts_S1x2048_S1x2048) broadcasts_S1x2048_S512x2048)) bitsLt_bf16_f32

/-- A column spread over the block's columns. -/
theorem spread_col (x : S512x1.Idx → EReal) (j : S512x2048.Idx) :
    broadcastTo S512x2048 x broadcasts_S512x1_S512x2048 j = x (ix2 (j 0) 0) :=
  broadcastTo_apply x broadcasts_S512x1_S512x2048 j (ix2 (j 0) 0) fun a => by
    match a with
    | ⟨0, _⟩ => rfl
    | ⟨1, _⟩ => rfl

/-- A row spread over the block's rows. -/
theorem spread_row (x : S1x2048.Idx → EReal) (j : S512x2048.Idx) :
    broadcastTo S512x2048 x broadcasts_S1x2048_S512x2048 j = x (ix2 0 (j 1)) :=
  broadcastTo_apply x broadcasts_S1x2048_S512x2048 j (ix2 0 (j 1)) fun a => by
    match a with
    | ⟨0, _⟩ => rfl
    | ⟨1, _⟩ => rfl

/-- The column of means at a row. -/
theorem meanCol_apply (a : FVec Ideal S512x2048 .f32) (r : Fin 512) :
    meanCol a (ix2 r 0) = mean (fun q => a (ix2 r q)) := by
  have h : shapeCast S512x1 (multiReduction .add [1] S512 a 0x00000000#32 reduces_S512x2048_S512 (.inl rfl) rfl)
      shapeCasts_S512_S512x1 (ix2 r 0) = ∑ q : Fin 2048, a (ix2 r q) := by
    rw [shapeCast_apply _ shapeCasts_S512_S512x1 (ix2 r 0) (ValueIdx.ix1 r) (by
      rw [Shape.rowMajor_val_two]
      show (Shape.rowMajor _ _).val = r.val * 1 + 0
      rw [Shape.rowMajor_val_one]; show r.val = _; omega)]
    refine (Ideal.multiReduction_add_single a _ reduces_S512x2048_S512 (.inl rfl) rfl (ValueIdx.ix1 r)).trans ?_
    exact Finset.sum_congr rfl fun k _ => congrArg a (funext fun d => Fin.ext (by
      match d with
      | ⟨0, _⟩ => rfl
      | ⟨1, _⟩ => rfl))
  exact congrArg (fun z => Ideal.div z (Ideal.ofBits .f32 0x45000000#32)) h

/-- The centred block at an index. -/
theorem cenOf_apply (a : FVec Ideal S512x2048 .f32) (r : Fin 512) (q : Fin 2048) :
    cenOf a (ix2 r q) = centred (fun q => a (ix2 r q)) q := by
  show a (ix2 r q) - broadcastTo S512x2048 (meanCol a) broadcasts_S512x1_S512x2048 (ix2 r q) = _
  rw [spread_col]
  exact congrArg (a (ix2 r q) - ·) (meanCol_apply a r)

/-- The scale of a row. -/
theorem scaleCol_apply (a : FVec Ideal S512x2048 .f32) (r : Fin 512) :
    scaleCol a (ix2 r 0) = Ideal.rsqrt (mean (fun k => centred (fun q => a (ix2 r q)) k * centred (fun q => a (ix2 r q)) k)
      + Ideal.ofBits .f32 0x3727C5AC#32) := by
  show Ideal.rsqrt (meanCol (mulf (cenOf a) (cenOf a)) (ix2 r 0) + Ideal.ofBits .f32 0x3727C5AC#32) = _
  rw [meanCol_apply]
  refine congrArg (fun f => Ideal.rsqrt (mean f + Ideal.ofBits .f32 0x3727C5AC#32)) (funext fun k => ?_)
  show cenOf a (ix2 r k) * cenOf a (ix2 r k) = _
  rw [cenOf_apply]

/-- The normalised block at an index. -/
theorem normOf_apply (a : FVec Ideal S512x2048 .f32) (g b : Vec Ideal S1x2048 .f32) (r : Fin 512) (q : Fin 2048) :
    normOf a g b (ix2 r q) = normed (fun q => a (ix2 r q)) (fun q => g (ix2 0 q)) (fun q => b (ix2 0 q)) q := by
  unfold normOf
  rw [shapeCast_self, shapeCast_self]
  show cenOf a (ix2 r q) * broadcastTo S512x2048 (scaleCol a) broadcasts_S512x1_S512x2048 (ix2 r q)
      * broadcastTo S512x2048 g broadcasts_S1x2048_S512x2048 (ix2 r q)
    + broadcastTo S512x2048 b broadcasts_S1x2048_S512x2048 (ix2 r q) = _
  rw [spread_col, spread_row, spread_row, cenOf_apply]
  unfold normed
  rw [← scaleCol_apply a r]

/-- The body's normalised half at an index: the row's normalisation of its activations. -/
theorem norm_apply (v : Vec Ideal S512x2048 .bf16) (g b : Vec Ideal S1x2048 .f32) (r : Fin 512) (q : Fin 2048) :
    k0_pay2 (F := Ideal) v g b (ix2 r q)
      = normed (fun q => gelu (v (ix2 r q))) (fun q => g (ix2 0 q)) (fun q => b (ix2 0 q)) q :=
  normOf_apply (fun j => gelu (v j)) g b r q

/-! ## One square -/

/-- The value stored for the head of weights `w` and bias `b` at a square whose corner is `off`. -/
def square (off : Fin 2 → Nat) (hs : S512x2048.Slices off S128x128) (V : FVec Ideal S512x2048 .bf16)
    (w : Vec Ideal S1x128x128 .bf16) (b : Vec Ideal S128x128 .f32) (u : Vec Ideal S128x128 .bf16) : FVec Ideal S128x128 .bf16 :=
  k0_pay1 (F := Ideal) (addf (matmul (φ₁ := .bf16) (φ₂ := .bf16) dot_S128x128_S128x128_S128x128_1_0_0_1_n_n none
      (shapeCast S128x128 (α := Ideal .bf16) w shapeCasts_S1x128x128_S128x128) (extractStridedSlice S128x128 (α := Ideal .bf16) off V hs)
      (constant S128x128 .f32 0x00000000#32)) (shapeCast S128x128 (α := Ideal .f32) b shapeCasts_S128x128_S128x128))
    (k0_pay130 u) (k0_pay131 u) (k0_pay132 (F := Ideal))

/-- The square at an index. -/
theorem square_apply (ro co : Nat) (hs : S512x2048.Slices ![ro, co] S128x128) (V : FVec Ideal S512x2048 .bf16)
    (w : Vec Ideal S1x128x128 .bf16) (b : Vec Ideal S128x128 .f32) (u : Vec Ideal S128x128 .bf16) (j : S128x128.Idx)
    (row : Fin 128 → Fin 512) (hrow : ∀ k, (row k).val = ro + k.val) (col : Fin 2048) (hcol : col.val = co + (j 1).val) :
    square ![ro, co] hs V w b u j
      = gelu (u j) * ((∑ k : Fin 128, w (ix3 0 (j 0) k) * V (ix2 (row k) col)) + b j) := by
  have h : matmul (φ₁ := .bf16) (φ₂ := .bf16) dot_S128x128_S128x128_S128x128_1_0_0_1_n_n none
      (shapeCast S128x128 (α := Ideal .bf16) w shapeCasts_S1x128x128_S128x128) (extractStridedSlice S128x128 ![ro, co] V hs)
      (constant S128x128 .f32 0x00000000#32) j = ∑ k : Fin 128, w (ix3 0 (j 0) k) * V (ix2 (row k) col) := by
    refine (matmul_plain_zero (φ₁ := .bf16) (φ₂ := .bf16) (shapeCast S128x128 (α := Ideal .bf16) w shapeCasts_S1x128x128_S128x128)
      (extractStridedSlice S128x128 ![ro, co] V hs) j).trans (Finset.sum_congr rfl fun k _ => ?_)
    have hw := shapeCast_apply w shapeCasts_S1x128x128_S128x128 (ix2 (j 0) k) (ix3 0 (j 0) k) (by
      rw [Shape.rowMajor_val_three, Shape.rowMajor_val_two]
      show (0 * 128 + (j 0).val) * 128 + k.val = (j 0).val * 128 + k.val
      omega)
    have hV := extractStridedSlice_apply ![ro, co] V hs (ix2 k (j 1)) (ix2 (row k) col) (fun a => by
      match a with
      | ⟨0, _⟩ => exact hrow k
      | ⟨1, _⟩ => exact hcol)
    exact congrArg₂ (fun a b : EReal => a * b) hw hV
  unfold square
  rw [shapeCast_self]
  refine Eq.trans (b := gelu (u j) * (matmul (φ₁ := .bf16) (φ₂ := .bf16) dot_S128x128_S128x128_S128x128_1_0_0_1_n_n none
      (shapeCast S128x128 (α := Ideal .bf16) w shapeCasts_S1x128x128_S128x128) (extractStridedSlice S128x128 ![ro, co] V hs)
      (constant S128x128 .f32 0x00000000#32) j + b j)) rfl ?_
  rw [h]

/-! ## The whole block -/

/-- The head of a column. -/
def headOf (q : Fin 2048) : Fin 16 := ⟨q.val / 128, by omega⟩

/-- The place of a row in its chunk. -/
def placeOf (r : Fin 512) : Fin 128 := ⟨r.val % 128, by omega⟩

/-- The row at place `k` of the chunk of row `r`. -/
def rowAt (r : Fin 512) (k : Fin 128) : Fin 512 := ⟨r.val / 128 * 128 + k.val, by omega⟩

/-- The whole block: at a row and a column, the activation there times the mixed normalised values of its chunk. -/
def block (x0 : S512x2048.Idx → EReal) (V : S512x2048.Idx → EReal) (x4 : S16x128x128.Idx → EReal) (x5 : S128x2048.Idx → EReal)
    (y : S512x2048.Idx) : EReal :=
  gelu (x0 y) * ((∑ k : Fin 128, x4 (ix3 (headOf (y 1)) (placeOf (y 0)) k) * V (ix2 (rowAt (y 0) k) (y 1)))
    + x5 (ix2 (placeOf (y 0)) (y 1)))

/-- A unit-stride rectangle's place `x` is the index of the array at its offset plus `x`. -/
theorem unit_idx {s : Shape} (off size : Fin s.rank → Nat) (inb : ∀ a, off a + size a ≤ s.size a)
    (x : (Rect.unit off size inb).shape.Idx) (a : Fin s.rank) : ((Rect.unit off size inb).idx x a : Nat) = off a + x a := by
  show off a + 1 * (x a : Nat) = _
  omega

/-- One piece of the block: the square with corner `(ro, co)`, of head `h`, holds `block` at its places. -/
theorem square_eq (x0 : Vec Ideal S512x2048 .bf16) (V : FVec Ideal S512x2048 .bf16) (x4 : Vec Ideal S16x128x128 .bf16)
    (x5 : Vec Ideal S128x2048 .f32) (ro co h : Nat) (hr : ro % 128 = 0) (hc : co = 128 * h)
    (hs : S512x2048.Slices ![ro, co] S128x128)
    (i4 : ∀ a, (![h, 0, 0] : Fin 3 → Nat) a + S1x128x128.size a ≤ S16x128x128.size a)
    (i5 : ∀ a, (![0, co] : Fin 2 → Nat) a + S128x128.size a ≤ S128x2048.size a)
    (i0 : ∀ a, (![ro, co] : Fin 2 → Nat) a + S128x128.size a ≤ S512x2048.size a) (j : S128x128.Idx) :
    square ![ro, co] hs V (View.ld x4 (Rect.unit (s := S16x128x128) ![h, 0, 0] S1x128x128.size i4))
        (View.ld x5 (Rect.unit (s := S128x2048) ![0, co] S128x128.size i5))
        (View.ld x0 (Rect.unit (s := S512x2048) ![ro, co] S128x128.size i0)) j
      = block x0 V x4 x5 ((Rect.unit (s := S512x2048) ![ro, co] S128x128.size i0).emb j) := by
  have b0 : ro + 128 ≤ 512 := i0 0
  have b1 : co + 128 ≤ 2048 := i0 1
  have j0 : (j 0).val < 128 := (j 0).isLt
  have j1 : (j 1).val < 128 := (j 1).isLt
  have e0 : ((Rect.unit (s := S512x2048) ![ro, co] S128x128.size i0).emb j 0).val = ro + (j 0).val := by
    show ro + 1 * (j 0).val = _; omega
  have e1 : ((Rect.unit (s := S512x2048) ![ro, co] S128x128.size i0).emb j 1).val = co + (j 1).val := by
    show co + 1 * (j 1).val = _; omega
  generalize (Rect.unit (s := S512x2048) ![ro, co] S128x128.size i0).emb j = y at e0 e1 ⊢
  rw [square_apply ro co hs V _ _ _ j (rowAt (y 0)) (fun k => by
    show (y 0).val / 128 * 128 + k.val = ro + k.val
    rw [e0]; omega) (y 1) e1]
  unfold block
  refine congrArg₂ (fun a b : EReal => a * b) (congrArg gelu ?_) (congrArg₂ (fun a b : EReal => a + b)
    (Finset.sum_congr rfl fun k _ => congrArg (fun a : EReal => a * V (ix2 (rowAt (y 0) k) (y 1))) ?_) ?_)
  · refine congrArg x0 (funext fun a => Fin.ext (Eq.trans (unit_idx _ _ _ _ a) (Eq.symm ?_)))
    match a with
    | ⟨0, _⟩ => exact e0
    | ⟨1, _⟩ => exact e1
  · refine congrArg x4 (funext fun a => Fin.ext (Eq.trans (unit_idx _ _ _ _ a) (Eq.symm ?_)))
    match a with
    | ⟨0, _⟩ => show (y 1).val / 128 = h + 0; rw [e1]; omega
    | ⟨1, _⟩ => show (y 0).val % 128 = 0 + (j 0).val; rw [e0]; omega
    | ⟨2, _⟩ => show k.val = 0 + k.val; omega
  · refine congrArg x5 (funext fun a => Fin.ext (Eq.trans (unit_idx _ _ _ _ a) (Eq.symm ?_)))
    match a with
    | ⟨0, _⟩ => show (y 0).val % 128 = 0 + (j 0).val; rw [e0]; omega
    | ⟨1, _⟩ => exact e1

/-- The body's stored block at an index. -/
theorem out_apply (x0 x1 : Vec Ideal S512x2048 .bf16) (x2 x3 : Vec Ideal S1x2048 .f32) (x4 : Vec Ideal S16x128x128 .bf16)
    (x5 : Vec Ideal S128x2048 .f32) (y : S512x2048.Idx) :
    out0_6 (F := Ideal) x0 x1 x2 x3 x4 x5 y = block x0 (k0_pay133 (F := Ideal) x0 x1 x2 x3 x4 x5) x4 x5 y := by
  have sq := square_eq x0 (k0_pay133 (F := Ideal) x0 x1 x2 x3 x4 x5) x4 x5
  unfold out0_6
  generalize k0_pay133 (F := Ideal) x0 x1 x2 x3 x4 x5 = V at sq ⊢
  refine View.canon_apply_of_pieces (block x0 V x4 x5) _ ?_ y (cover0_6 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine List.forall_mem_cons.2 ⟨fun j => sq 384 1920 15 rfl rfl slices_S512x2048_o384_1920_S128x128 inb_S16x128x128_S1x128x128_15_0_0 inb_S128x2048_S128x128_0_1920 inb_S512x2048_S128x128_384_1920 j, ?_⟩
  refine List.forall_mem_cons.2 ⟨fun j => sq 384 1792 14 rfl rfl slices_S512x2048_o384_1792_S128x128 inb_S16x128x128_S1x128x128_14_0_0 inb_S128x2048_S128x128_0_1792 inb_S512x2048_S128x128_384_1792 j, ?_⟩
  refine List.forall_mem_cons.2 ⟨fun j => sq 384 1664 13 rfl rfl slices_S512x2048_o384_1664_S128x128 inb_S16x128x128_S1x128x128_13_0_0 inb_S128x2048_S128x128_0_1664 inb_S512x2048_S128x128_384_1664 j, ?_⟩
  refine List.forall_mem_cons.2 ⟨fun j => sq 384 1536 12 rfl rfl slices_S512x2048_o384_1536_S128x128 inb_S16x128x128_S1x128x128_12_0_0 inb_S128x2048_S128x128_0_1536 inb_S512x2048_S128x128_384_1536 j, ?_⟩
  refine List.forall_mem_cons.2 ⟨fun j => sq 384 1408 11 rfl rfl slices_S512x2048_o384_1408_S128x128 inb_S16x128x128_S1x128x128_11_0_0 inb_S128x2048_S128x128_0_1408 inb_S512x2048_S128x128_384_1408 j, ?_⟩
  refine List.forall_mem_cons.2 ⟨fun j => sq 384 1280 10 rfl rfl slices_S512x2048_o384_1280_S128x128 inb_S16x128x128_S1x128x128_10_0_0 inb_S128x2048_S128x128_0_1280 inb_S512x2048_S128x128_384_1280 j, ?_⟩
  refine List.forall_mem_cons.2 ⟨fun j => sq 384 1152 9 rfl rfl slices_S512x2048_o384_1152_S128x128 inb_S16x128x128_S1x128x128_9_0_0 inb_S128x2048_S128x128_0_1152 inb_S512x2048_S128x128_384_1152 j, ?_⟩
  refine List.forall_mem_cons.2 ⟨fun j => sq 384 1024 8 rfl rfl slices_S512x2048_o384_1024_S128x128 inb_S16x128x128_S1x128x128_8_0_0 inb_S128x2048_S128x128_0_1024 inb_S512x2048_S128x128_384_1024 j, ?_⟩
  refine List.forall_mem_cons.2 ⟨fun j => sq 384 896 7 rfl rfl slices_S512x2048_o384_896_S128x128 inb_S16x128x128_S1x128x128_7_0_0 inb_S128x2048_S128x128_0_896 inb_S512x2048_S128x128_384_896 j, ?_⟩
  refine List.forall_mem_cons.2 ⟨fun j => sq 384 768 6 rfl rfl slices_S512x2048_o384_768_S128x128 inb_S16x128x128_S1x128x128_6_0_0 inb_S128x2048_S128x128_0_768 inb_S512x2048_S128x128_384_768 j, ?_⟩
  refine List.forall_mem_cons.2 ⟨fun j => sq 384 640 5 rfl rfl slices_S512x2048_o384_640_S128x128 inb_S16x128x128_S1x128x128_5_0_0 inb_S128x2048_S128x128_0_640 inb_S512x2048_S128x128_384_640 j, ?_⟩
  refine List.forall_mem_cons.2 ⟨fun j => sq 384 512 4 rfl rfl slices_S512x2048_o384_512_S128x128 inb_S16x128x128_S1x128x128_4_0_0 inb_S128x2048_S128x128_0_512 inb_S512x2048_S128x128_384_512 j, ?_⟩
  refine List.forall_mem_cons.2 ⟨fun j => sq 384 384 3 rfl rfl slices_S512x2048_o384_384_S128x128 inb_S16x128x128_S1x128x128_3_0_0 inb_S128x2048_S128x128_0_384 inb_S512x2048_S128x128_384_384 j, ?_⟩
  refine List.forall_mem_cons.2 ⟨fun j => sq 384 256 2 rfl rfl slices_S512x2048_o384_256_S128x128 inb_S16x128x128_S1x128x128_2_0_0 inb_S128x2048_S128x128_0_256 inb_S512x2048_S128x128_384_256 j, ?_⟩
  refine List.forall_mem_cons.2 ⟨fun j => sq 384 128 1 rfl rfl slices_S512x2048_o384_128_S128x128 inb_S16x128x128_S1x128x128_1_0_0 inb_S128x2048_S128x128_0_128 inb_S512x2048_S128x128_384_128 j, ?_⟩
  refine List.forall_mem_cons.2 ⟨fun j => sq 384 0 0 rfl rfl slices_S512x2048_o384_0_S128x128 inb_S16x128x128_S1x128x128_0_0_0 inb_S128x2048_S128x128_0_0 inb_S512x2048_S128x128_384_0 j, ?_⟩
  refine List.forall_mem_cons.2 ⟨fun j => sq 256 1920 15 rfl rfl slices_S512x2048_o256_1920_S128x128 inb_S16x128x128_S1x128x128_15_0_0 inb_S128x2048_S128x128_0_1920 inb_S512x2048_S128x128_256_1920 j, ?_⟩
  refine List.forall_mem_cons.2 ⟨fun j => sq 256 1792 14 rfl rfl slices_S512x2048_o256_1792_S128x128 inb_S16x128x128_S1x128x128_14_0_0 inb_S128x2048_S128x128_0_1792 inb_S512x2048_S128x128_256_1792 j, ?_⟩
  refine List.forall_mem_cons.2 ⟨fun j => sq 256 1664 13 rfl rfl slices_S512x2048_o256_1664_S128x128 inb_S16x128x128_S1x128x128_13_0_0 inb_S128x2048_S128x128_0_1664 inb_S512x2048_S128x128_256_1664 j, ?_⟩
  refine List.forall_mem_cons.2 ⟨fun j => sq 256 1536 12 rfl rfl slices_S512x2048_o256_1536_S128x128 inb_S16x128x128_S1x128x128_12_0_0 inb_S128x2048_S128x128_0_1536 inb_S512x2048_S128x128_256_1536 j, ?_⟩
  refine List.forall_mem_cons.2 ⟨fun j => sq 256 1408 11 rfl rfl slices_S512x2048_o256_1408_S128x128 inb_S16x128x128_S1x128x128_11_0_0 inb_S128x2048_S128x128_0_1408 inb_S512x2048_S128x128_256_1408 j, ?_⟩
  refine List.forall_mem_cons.2 ⟨fun j => sq 256 1280 10 rfl rfl slices_S512x2048_o256_1280_S128x128 inb_S16x128x128_S1x128x128_10_0_0 inb_S128x2048_S128x128_0_1280 inb_S512x2048_S128x128_256_1280 j, ?_⟩
  refine List.forall_mem_cons.2 ⟨fun j => sq 256 1152 9 rfl rfl slices_S512x2048_o256_1152_S128x128 inb_S16x128x128_S1x128x128_9_0_0 inb_S128x2048_S128x128_0_1152 inb_S512x2048_S128x128_256_1152 j, ?_⟩
  refine List.forall_mem_cons.2 ⟨fun j => sq 256 1024 8 rfl rfl slices_S512x2048_o256_1024_S128x128 inb_S16x128x128_S1x128x128_8_0_0 inb_S128x2048_S128x128_0_1024 inb_S512x2048_S128x128_256_1024 j, ?_⟩
  refine List.forall_mem_cons.2 ⟨fun j => sq 256 896 7 rfl rfl slices_S512x2048_o256_896_S128x128 inb_S16x128x128_S1x128x128_7_0_0 inb_S128x2048_S128x128_0_896 inb_S512x2048_S128x128_256_896 j, ?_⟩
  refine List.forall_mem_cons.2 ⟨fun j => sq 256 768 6 rfl rfl slices_S512x2048_o256_768_S128x128 inb_S16x128x128_S1x128x128_6_0_0 inb_S128x2048_S128x128_0_768 inb_S512x2048_S128x128_256_768 j, ?_⟩
  refine List.forall_mem_cons.2 ⟨fun j => sq 256 640 5 rfl rfl slices_S512x2048_o256_640_S128x128 inb_S16x128x128_S1x128x128_5_0_0 inb_S128x2048_S128x128_0_640 inb_S512x2048_S128x128_256_640 j, ?_⟩
  refine List.forall_mem_cons.2 ⟨fun j => sq 256 512 4 rfl rfl slices_S512x2048_o256_512_S128x128 inb_S16x128x128_S1x128x128_4_0_0 inb_S128x2048_S128x128_0_512 inb_S512x2048_S128x128_256_512 j, ?_⟩
  refine List.forall_mem_cons.2 ⟨fun j => sq 256 384 3 rfl rfl slices_S512x2048_o256_384_S128x128 inb_S16x128x128_S1x128x128_3_0_0 inb_S128x2048_S128x128_0_384 inb_S512x2048_S128x128_256_384 j, ?_⟩
  refine List.forall_mem_cons.2 ⟨fun j => sq 256 256 2 rfl rfl slices_S512x2048_o256_256_S128x128 inb_S16x128x128_S1x128x128_2_0_0 inb_S128x2048_S128x128_0_256 inb_S512x2048_S128x128_256_256 j, ?_⟩
  refine List.forall_mem_cons.2 ⟨fun j => sq 256 128 1 rfl rfl slices_S512x2048_o256_128_S128x128 inb_S16x128x128_S1x128x128_1_0_0 inb_S128x2048_S128x128_0_128 inb_S512x2048_S128x128_256_128 j, ?_⟩
  refine List.forall_mem_cons.2 ⟨fun j => sq 256 0 0 rfl rfl slices_S512x2048_o256_0_S128x128 inb_S16x128x128_S1x128x128_0_0_0 inb_S128x2048_S128x128_0_0 inb_S512x2048_S128x128_256_0 j, ?_⟩
  refine List.forall_mem_cons.2 ⟨fun j => sq 128 1920 15 rfl rfl slices_S512x2048_o128_1920_S128x128 inb_S16x128x128_S1x128x128_15_0_0 inb_S128x2048_S128x128_0_1920 inb_S512x2048_S128x128_128_1920 j, ?_⟩
  refine List.forall_mem_cons.2 ⟨fun j => sq 128 1792 14 rfl rfl slices_S512x2048_o128_1792_S128x128 inb_S16x128x128_S1x128x128_14_0_0 inb_S128x2048_S128x128_0_1792 inb_S512x2048_S128x128_128_1792 j, ?_⟩
  refine List.forall_mem_cons.2 ⟨fun j => sq 128 1664 13 rfl rfl slices_S512x2048_o128_1664_S128x128 inb_S16x128x128_S1x128x128_13_0_0 inb_S128x2048_S128x128_0_1664 inb_S512x2048_S128x128_128_1664 j, ?_⟩
  refine List.forall_mem_cons.2 ⟨fun j => sq 128 1536 12 rfl rfl slices_S512x2048_o128_1536_S128x128 inb_S16x128x128_S1x128x128_12_0_0 inb_S128x2048_S128x128_0_1536 inb_S512x2048_S128x128_128_1536 j, ?_⟩
  refine List.forall_mem_cons.2 ⟨fun j => sq 128 1408 11 rfl rfl slices_S512x2048_o128_1408_S128x128 inb_S16x128x128_S1x128x128_11_0_0 inb_S128x2048_S128x128_0_1408 inb_S512x2048_S128x128_128_1408 j, ?_⟩
  refine List.forall_mem_cons.2 ⟨fun j => sq 128 1280 10 rfl rfl slices_S512x2048_o128_1280_S128x128 inb_S16x128x128_S1x128x128_10_0_0 inb_S128x2048_S128x128_0_1280 inb_S512x2048_S128x128_128_1280 j, ?_⟩
  refine List.forall_mem_cons.2 ⟨fun j => sq 128 1152 9 rfl rfl slices_S512x2048_o128_1152_S128x128 inb_S16x128x128_S1x128x128_9_0_0 inb_S128x2048_S128x128_0_1152 inb_S512x2048_S128x128_128_1152 j, ?_⟩
  refine List.forall_mem_cons.2 ⟨fun j => sq 128 1024 8 rfl rfl slices_S512x2048_o128_1024_S128x128 inb_S16x128x128_S1x128x128_8_0_0 inb_S128x2048_S128x128_0_1024 inb_S512x2048_S128x128_128_1024 j, ?_⟩
  refine List.forall_mem_cons.2 ⟨fun j => sq 128 896 7 rfl rfl slices_S512x2048_o128_896_S128x128 inb_S16x128x128_S1x128x128_7_0_0 inb_S128x2048_S128x128_0_896 inb_S512x2048_S128x128_128_896 j, ?_⟩
  refine List.forall_mem_cons.2 ⟨fun j => sq 128 768 6 rfl rfl slices_S512x2048_o128_768_S128x128 inb_S16x128x128_S1x128x128_6_0_0 inb_S128x2048_S128x128_0_768 inb_S512x2048_S128x128_128_768 j, ?_⟩
  refine List.forall_mem_cons.2 ⟨fun j => sq 128 640 5 rfl rfl slices_S512x2048_o128_640_S128x128 inb_S16x128x128_S1x128x128_5_0_0 inb_S128x2048_S128x128_0_640 inb_S512x2048_S128x128_128_640 j, ?_⟩
  refine List.forall_mem_cons.2 ⟨fun j => sq 128 512 4 rfl rfl slices_S512x2048_o128_512_S128x128 inb_S16x128x128_S1x128x128_4_0_0 inb_S128x2048_S128x128_0_512 inb_S512x2048_S128x128_128_512 j, ?_⟩
  refine List.forall_mem_cons.2 ⟨fun j => sq 128 384 3 rfl rfl slices_S512x2048_o128_384_S128x128 inb_S16x128x128_S1x128x128_3_0_0 inb_S128x2048_S128x128_0_384 inb_S512x2048_S128x128_128_384 j, ?_⟩
  refine List.forall_mem_cons.2 ⟨fun j => sq 128 256 2 rfl rfl slices_S512x2048_o128_256_S128x128 inb_S16x128x128_S1x128x128_2_0_0 inb_S128x2048_S128x128_0_256 inb_S512x2048_S128x128_128_256 j, ?_⟩
  refine List.forall_mem_cons.2 ⟨fun j => sq 128 128 1 rfl rfl slices_S512x2048_o128_128_S128x128 inb_S16x128x128_S1x128x128_1_0_0 inb_S128x2048_S128x128_0_128 inb_S512x2048_S128x128_128_128 j, ?_⟩
  refine List.forall_mem_cons.2 ⟨fun j => sq 128 0 0 rfl rfl slices_S512x2048_o128_0_S128x128 inb_S16x128x128_S1x128x128_0_0_0 inb_S128x2048_S128x128_0_0 inb_S512x2048_S128x128_128_0 j, ?_⟩
  refine List.forall_mem_cons.2 ⟨fun j => sq 0 1920 15 rfl rfl slices_S512x2048_o0_1920_S128x128 inb_S16x128x128_S1x128x128_15_0_0 inb_S128x2048_S128x128_0_1920 inb_S512x2048_S128x128_0_1920 j, ?_⟩
  refine List.forall_mem_cons.2 ⟨fun j => sq 0 1792 14 rfl rfl slices_S512x2048_o0_1792_S128x128 inb_S16x128x128_S1x128x128_14_0_0 inb_S128x2048_S128x128_0_1792 inb_S512x2048_S128x128_0_1792 j, ?_⟩
  refine List.forall_mem_cons.2 ⟨fun j => sq 0 1664 13 rfl rfl slices_S512x2048_o0_1664_S128x128 inb_S16x128x128_S1x128x128_13_0_0 inb_S128x2048_S128x128_0_1664 inb_S512x2048_S128x128_0_1664 j, ?_⟩
  refine List.forall_mem_cons.2 ⟨fun j => sq 0 1536 12 rfl rfl slices_S512x2048_o0_1536_S128x128 inb_S16x128x128_S1x128x128_12_0_0 inb_S128x2048_S128x128_0_1536 inb_S512x2048_S128x128_0_1536 j, ?_⟩
  refine List.forall_mem_cons.2 ⟨fun j => sq 0 1408 11 rfl rfl slices_S512x2048_o0_1408_S128x128 inb_S16x128x128_S1x128x128_11_0_0 inb_S128x2048_S128x128_0_1408 inb_S512x2048_S128x128_0_1408 j, ?_⟩
  refine List.forall_mem_cons.2 ⟨fun j => sq 0 1280 10 rfl rfl slices_S512x2048_o0_1280_S128x128 inb_S16x128x128_S1x128x128_10_0_0 inb_S128x2048_S128x128_0_1280 inb_S512x2048_S128x128_0_1280 j, ?_⟩
  refine List.forall_mem_cons.2 ⟨fun j => sq 0 1152 9 rfl rfl slices_S512x2048_o0_1152_S128x128 inb_S16x128x128_S1x128x128_9_0_0 inb_S128x2048_S128x128_0_1152 inb_S512x2048_S128x128_0_1152 j, ?_⟩
  refine List.forall_mem_cons.2 ⟨fun j => sq 0 1024 8 rfl rfl slices_S512x2048_o0_1024_S128x128 inb_S16x128x128_S1x128x128_8_0_0 inb_S128x2048_S128x128_0_1024 inb_S512x2048_S128x128_0_1024 j, ?_⟩
  refine List.forall_mem_cons.2 ⟨fun j => sq 0 896 7 rfl rfl slices_S512x2048_o0_896_S128x128 inb_S16x128x128_S1x128x128_7_0_0 inb_S128x2048_S128x128_0_896 inb_S512x2048_S128x128_0_896 j, ?_⟩
  refine List.forall_mem_cons.2 ⟨fun j => sq 0 768 6 rfl rfl slices_S512x2048_o0_768_S128x128 inb_S16x128x128_S1x128x128_6_0_0 inb_S128x2048_S128x128_0_768 inb_S512x2048_S128x128_0_768 j, ?_⟩
  refine List.forall_mem_cons.2 ⟨fun j => sq 0 640 5 rfl rfl slices_S512x2048_o0_640_S128x128 inb_S16x128x128_S1x128x128_5_0_0 inb_S128x2048_S128x128_0_640 inb_S512x2048_S128x128_0_640 j, ?_⟩
  refine List.forall_mem_cons.2 ⟨fun j => sq 0 512 4 rfl rfl slices_S512x2048_o0_512_S128x128 inb_S16x128x128_S1x128x128_4_0_0 inb_S128x2048_S128x128_0_512 inb_S512x2048_S128x128_0_512 j, ?_⟩
  refine List.forall_mem_cons.2 ⟨fun j => sq 0 384 3 rfl rfl slices_S512x2048_o0_384_S128x128 inb_S16x128x128_S1x128x128_3_0_0 inb_S128x2048_S128x128_0_384 inb_S512x2048_S128x128_0_384 j, ?_⟩
  refine List.forall_mem_cons.2 ⟨fun j => sq 0 256 2 rfl rfl slices_S512x2048_o0_256_S128x128 inb_S16x128x128_S1x128x128_2_0_0 inb_S128x2048_S128x128_0_256 inb_S512x2048_S128x128_0_256 j, ?_⟩
  refine List.forall_mem_cons.2 ⟨fun j => sq 0 128 1 rfl rfl slices_S512x2048_o0_128_S128x128 inb_S16x128x128_S1x128x128_1_0_0 inb_S128x2048_S128x128_0_128 inb_S512x2048_S128x128_0_128 j, ?_⟩
  refine List.forall_mem_cons.2 ⟨fun j => sq 0 0 0 rfl rfl slices_S512x2048_o0_0_S128x128 inb_S16x128x128_S1x128x128_0_0_0 inb_S128x2048_S128x128_0_0 inb_S512x2048_S128x128_0_0 j, ?_⟩
  exact fun _ h => absurd h List.not_mem_nil

end Layer.Sgu

end
-- ==== Proof.Sgu.lean ====
/-
  The spatial gating unit: the kernel and the reference compute one array.

  Both halves of the projected tokens pass through the activation. The second half is normalised along its width and then
  mixed, chunk of 128 tokens by chunk and head of 128 columns by head, by a matrix of the head; a bias of the head and of
  the place in the chunk is added, and the first half multiplies the sum.
-/
module

public import proofs.«01_k».proof.Proof.SguBlock
public import proofs.«01_k».proof.Defs
public import proofs.«01_k».proof.Proof.Gen.SguRefIdeal.Read
public import Idealize.ShloMosaic.Lib.Claim

@[expose] public section

noncomputable section

namespace Layer.Sgu

open Cert.SguIdeal Cert.SguIdeal.Gen Idealize.ShloMosaic Idealize.ShloMosaic.TcCoe Idealize.SL.Sem
open Idealize.ShloMosaic.Pipeline (Dat)
open Idealize.ShloMosaic.ValueIdx (ix1 ix2 ix3)

/-! ## The mathematics -/

/-- The column of the first half. -/
def left (q : Fin 2048) : Fin 4096 := ⟨q.val, by omega⟩

/-- The column of the second half. -/
def right (q : Fin 2048) : Fin 4096 := ⟨2048 + q.val, by omega⟩

/-- The place of a token in its chunk. -/
def placeIn (r : Fin 32768) : Fin 128 := ⟨r.val % 128, by omega⟩

/-- The token at place `k` of the chunk of token `r`. -/
def tokenAt (r : Fin 32768) (k : Fin 128) : Fin 32768 := ⟨r.val / 128 * 128 + k.val, by omega⟩

/-- A token's normalised second half at a column. -/
def gate (uv : S32768x4096.Idx → EReal) (g b : S2048.Idx → EReal) (r : Fin 32768) (q : Fin 2048) : EReal :=
  normed (fun q => gelu (uv (ix2 r (right q)))) (fun q => g (ix1 q)) (fun q => b (ix1 q)) q

/-- The gated unit's value at a token and a column. -/
def spec (uv : S32768x4096.Idx → EReal) (g b : S2048.Idx → EReal) (ws : S16x128x128.Idx → EReal) (bs : S16x128.Idx → EReal)
    (i : S32768x2048.Idx) : EReal :=
  gelu (uv (ix2 (i 0) (left (i 1))))
    * ((∑ k : Fin 128, ws (ix3 (headOf (i 1)) (placeIn (i 0)) k) * gate uv g b (tokenAt (i 0) k) (i 1))
      + bs (ix2 (headOf (i 1)) (placeIn (i 0))))

variable (m : (ℓ : Loc nD τ sig) → Buf (Elt Ideal) ℓ) (ρ : Dev nD → PrngReg)

/-! ## What the region finds -/

/-- The gains, as one row. -/
theorem gains_eq (c : Dev nD) (q : Fin 2048) :
    (V m c main_v3 : S1x2048.Idx → EReal) (ix2 0 q) = (m ((c : Thread nD τ).loc main_arg1) : S2048.Idx → EReal) (ix1 q) := by
  have h : V m c main_v3 = shapeCast S1x2048 (m ((c : Thread nD τ).loc main_arg1)) shapeCasts_S2048_S1x2048 := by
    entry_read; rfl
  rw [h]
  exact shapeCast_apply _ shapeCasts_S2048_S1x2048 (ix2 0 q) (ix1 q) (by
    rw [Shape.rowMajor_val_two, Shape.rowMajor_val_one]
    show q.val = 0 * 2048 + q.val
    omega)

/-- The biases of the normalisation, as one row. -/
theorem shifts_eq (c : Dev nD) (q : Fin 2048) :
    (V m c main_v4 : S1x2048.Idx → EReal) (ix2 0 q) = (m ((c : Thread nD τ).loc main_arg2) : S2048.Idx → EReal) (ix1 q) := by
  have h : V m c main_v4 = shapeCast S1x2048 (m ((c : Thread nD τ).loc main_arg2)) shapeCasts_S2048_S1x2048 := by
    entry_read; rfl
  rw [h]
  exact shapeCast_apply _ shapeCasts_S2048_S1x2048 (ix2 0 q) (ix1 q) (by
    rw [Shape.rowMajor_val_two, Shape.rowMajor_val_one]
    show q.val = 0 * 2048 + q.val
    omega)

/-- The mixing matrices. -/
theorem mixers_eq (c : Dev nD) (x : S16x128x128.Idx) :
    (V m c main_v5 : S16x128x128.Idx → EReal) x = (m ((c : Thread nD τ).loc main_arg3) : S16x128x128.Idx → EReal) x := by
  have h : V m c main_v5 = (truncf .bf16 (m ((c : Thread nD τ).loc main_arg3) : FVec Ideal S16x128x128 .f32) bitsLt_bf16_f32
      : FVec Ideal S16x128x128 .bf16) := by
    entry_read; rfl
  rw [h]
  rfl

/-- The biases of the heads, spread over each head's columns. -/
theorem biases_eq (c : Dev nD) (p : Fin 128) (q : Fin 2048) :
    (V m c main_v2 : S128x2048.Idx → EReal) (ix2 p q)
      = (m ((c : Thread nD τ).loc main_arg4) : S16x128.Idx → EReal) (ix2 (headOf q) p) := by
  have h : V m c main_v2 = shapeCast S128x2048 (broadcastInDim S128x16x128 ![0, 1] bcast_S128x16_S128x16x128_0_1
      (transpose S128x16 [1, 0] (m ((c : Thread nD τ).loc main_arg4)) transposes_S16x128_S128x16_1_0))
      shapeCasts_S128x16x128_S128x2048 := by
    entry_read; rfl
  rw [h]
  refine (shapeCast_apply _ shapeCasts_S128x16x128_S128x2048 (ix2 p q) (ix3 p (headOf q) ⟨q.val % 128, by omega⟩) (by
    rw [Shape.rowMajor_val_three, Shape.rowMajor_val_two]
    show (p.val * 16 + q.val / 128) * 128 + q.val % 128 = p.val * 2048 + q.val
    omega)).trans ?_
  refine (broadcastInDim_apply _ bcast_S128x16_S128x16x128_0_1 _ _ (ix2 p (headOf q)) (fun a => by
    match a with
    | ⟨0, _⟩ => rfl
    | ⟨1, _⟩ => rfl)).trans ?_
  exact transpose_apply [1, 0] _ transposes_S16x128_S128x16_1_0 (ix2 p (headOf q)) (ix2 (headOf q) p) (fun a => by
    match a with
    | ⟨0, _⟩ => rfl
    | ⟨1, _⟩ => rfl)

/-! ## The blocks -/

/-- Each window's block at a point. -/
theorem point_facts : ∀ t : Fin cfg0.N, (win0_0.index t 0 = t.val ∧ win0_0.index t 1 = 0)
    ∧ (win0_1.index t 0 = t.val ∧ win0_1.index t 1 = 1) ∧ (win0_2.index t 0 = 0 ∧ win0_2.index t 1 = 0)
    ∧ (win0_3.index t 0 = 0 ∧ win0_3.index t 1 = 0) ∧ (win0_4.index t 0 = 0 ∧ win0_4.index t 1 = 0 ∧ win0_4.index t 2 = 0)
    ∧ (win0_5.index t 0 = 0 ∧ win0_5.index t 1 = 0) ∧ (win0_6.index t 0 = t.val ∧ win0_6.index t 1 = 0) :=
  (by decide +kernel : ∀ t : Fin grid0.N, (win0_0.index t 0 = t.val ∧ win0_0.index t 1 = 0)
    ∧ (win0_1.index t 0 = t.val ∧ win0_1.index t 1 = 1) ∧ (win0_2.index t 0 = 0 ∧ win0_2.index t 1 = 0)
    ∧ (win0_3.index t 0 = 0 ∧ win0_3.index t 1 = 0) ∧ (win0_4.index t 0 = 0 ∧ win0_4.index t 1 = 0 ∧ win0_4.index t 2 = 0)
    ∧ (win0_5.index t 0 = 0 ∧ win0_5.index t 1 = 0) ∧ (win0_6.index t 0 = t.val ∧ win0_6.index t 1 = 0))

/-- The token of row `r` of point `t`. -/
def tok (t : Fin cfg0.N) (r : Fin 512) : Fin 32768 :=
  ⟨t.val * 512 + r.val, by have h : t.val < 64 := t.isLt.trans_eq (show cfg0.N = 64 from N_0); omega⟩

/-- The first half's block. -/
theorem first_apply (c : Dev nD) (t : Fin cfg0.N) (r : Fin 512) (q : Fin 2048) :
    (iblk m c 0 t : S512x2048.Idx → EReal) (ix2 r q)
      = (m ((c : Thread nD τ).loc main_arg0) : S32768x4096.Idx → EReal) (ix2 (tok t r) (left q)) := by
  obtain ⟨e, -⟩ := point_facts t
  rw [← V_main_arg0 m c]
  refine congrArg (V m c main_arg0) (funext fun a => Fin.ext ?_)
  match a with
  | ⟨0, _⟩ => show win0_0.index t 0 * 512 + 1 * r.val = t.val * 512 + r.val; rw [e.1]; omega
  | ⟨1, _⟩ => show win0_0.index t 1 * 2048 + 1 * q.val = q.val; rw [e.2]; omega

/-- The second half's block. -/
theorem second_apply (c : Dev nD) (t : Fin cfg0.N) (r : Fin 512) (q : Fin 2048) :
    (iblk m c 1 t : S512x2048.Idx → EReal) (ix2 r q)
      = (m ((c : Thread nD τ).loc main_arg0) : S32768x4096.Idx → EReal) (ix2 (tok t r) (right q)) := by
  obtain ⟨-, e, -⟩ := point_facts t
  rw [← V_main_arg0 m c]
  refine congrArg (V m c main_arg0) (funext fun a => Fin.ext ?_)
  match a with
  | ⟨0, _⟩ => show win0_1.index t 0 * 512 + 1 * r.val = t.val * 512 + r.val; rw [e.1]; omega
  | ⟨1, _⟩ => show win0_1.index t 1 * 2048 + 1 * q.val = 2048 + q.val; rw [e.2]; omega

/-- The gains' block. -/
theorem gains_apply (c : Dev nD) (t : Fin cfg0.N) (q : Fin 2048) :
    (iblk m c 2 t : S1x2048.Idx → EReal) (ix2 0 q) = (m ((c : Thread nD τ).loc main_arg1) : S2048.Idx → EReal) (ix1 q) := by
  obtain ⟨-, -, e, -⟩ := point_facts t
  rw [← gains_eq m c q]
  refine congrArg (V m c main_v3) (funext fun a => Fin.ext ?_)
  match a with
  | ⟨0, _⟩ => show win0_2.index t 0 * 1 + 1 * 0 = 0; rw [e.1]
  | ⟨1, _⟩ => show win0_2.index t 1 * 2048 + 1 * q.val = q.val; rw [e.2]; omega

/-- The block of the normalisation's biases. -/
theorem shifts_apply (c : Dev nD) (t : Fin cfg0.N) (q : Fin 2048) :
    (iblk m c 3 t : S1x2048.Idx → EReal) (ix2 0 q) = (m ((c : Thread nD τ).loc main_arg2) : S2048.Idx → EReal) (ix1 q) := by
  obtain ⟨-, -, -, e, -⟩ := point_facts t
  rw [← shifts_eq m c q]
  refine congrArg (V m c main_v4) (funext fun a => Fin.ext ?_)
  match a with
  | ⟨0, _⟩ => show win0_3.index t 0 * 1 + 1 * 0 = 0; rw [e.1]
  | ⟨1, _⟩ => show win0_3.index t 1 * 2048 + 1 * q.val = q.val; rw [e.2]; omega

/-- The mixing matrices' block. -/
theorem mixers_apply (c : Dev nD) (t : Fin cfg0.N) (h : Fin 16) (p k : Fin 128) :
    (iblk m c 4 t : S16x128x128.Idx → EReal) (ix3 h p k)
      = (m ((c : Thread nD τ).loc main_arg3) : S16x128x128.Idx → EReal) (ix3 h p k) := by
  obtain ⟨-, -, -, -, e, -⟩ := point_facts t
  rw [← mixers_eq m c (ix3 h p k)]
  refine congrArg (V m c main_v5) (funext fun a => Fin.ext ?_)
  match a with
  | ⟨0, _⟩ => show win0_4.index t 0 * 16 + 1 * h.val = h.val; rw [e.1]; omega
  | ⟨1, _⟩ => show win0_4.index t 1 * 128 + 1 * p.val = p.val; rw [e.2.1]; omega
  | ⟨2, _⟩ => show win0_4.index t 2 * 128 + 1 * k.val = k.val; rw [e.2.2]; omega

/-- The heads' biases' block. -/
theorem biases_apply (c : Dev nD) (t : Fin cfg0.N) (p : Fin 128) (q : Fin 2048) :
    (iblk m c 5 t : S128x2048.Idx → EReal) (ix2 p q)
      = (m ((c : Thread nD τ).loc main_arg4) : S16x128.Idx → EReal) (ix2 (headOf q) p) := by
  obtain ⟨-, -, -, -, -, e, -⟩ := point_facts t
  rw [← biases_eq m c p q]
  refine congrArg (V m c main_v2) (funext fun a => Fin.ext ?_)
  match a with
  | ⟨0, _⟩ => show win0_5.index t 0 * 128 + 1 * p.val = p.val; rw [e.1]; omega
  | ⟨1, _⟩ => show win0_5.index t 1 * 2048 + 1 * q.val = q.val; rw [e.2]; omega

theorem hz : (![0, 0] : Fin 2 → Nat) = fun _ => 0 := funext fun a => by fin_cases a <;> rfl

/-- A point's normalised half is that of its tokens. -/
theorem norm_block (c : Dev nD) (t : Fin cfg0.N) (r : Fin 512) (q : Fin 2048) :
    k0_pay133 (F := Ideal) (iblk m c 0 t) (iblk m c 1 t) (iblk m c 2 t) (iblk m c 3 t) (iblk m c 4 t) (iblk m c 5 t) (ix2 r q)
      = gate (m ((c : Thread nD τ).loc main_arg0)) (m ((c : Thread nD τ).loc main_arg1)) (m ((c : Thread nD τ).loc main_arg2))
        (tok t r) q := by
  unfold k0_pay133
  rw [View.ld_unit_zero (S := S512x2048) hz, View.ld_unit_zero (S := S1x2048) hz, View.ld_unit_zero (S := S1x2048) hz]
  refine (norm_apply (iblk m c 1 t) (iblk m c 2 t) (iblk m c 3 t) r q).trans ?_
  unfold gate
  have e1 : (fun q => gelu ((iblk m c 1 t : S512x2048.Idx → EReal) (ix2 r q)))
      = fun q => gelu ((m ((c : Thread nD τ).loc main_arg0) : S32768x4096.Idx → EReal) (ix2 (tok t r) (right q))) :=
    funext fun q => congrArg gelu (second_apply m c t r q)
  have e2 : (fun q => (iblk m c 2 t : S1x2048.Idx → EReal) (ix2 0 q))
      = fun q => (m ((c : Thread nD τ).loc main_arg1) : S2048.Idx → EReal) (ix1 q) := funext fun q => gains_apply m c t q
  have e3 : (fun q => (iblk m c 3 t : S1x2048.Idx → EReal) (ix2 0 q))
      = fun q => (m ((c : Thread nD τ).loc main_arg2) : S2048.Idx → EReal) (ix1 q) := funext fun q => shifts_apply m c t q
  exact congrFun (congr (congr (congrArg normed e1) e2) e3) q

/-- The result array's contents: `spec` of the five arguments. -/
abbrev G (c : Dev nD) : Buf (Elt Ideal) ((c : Thread nD τ).loc main_v6) :=
  spec (m ((c : Thread nD τ).loc main_arg0)) (m ((c : Thread nD τ).loc main_arg1)) (m ((c : Thread nD τ).loc main_arg2))
    (m ((c : Thread nD τ).loc main_arg3)) (m ((c : Thread nD τ).loc main_arg4))

/-- A point's stored block is `spec` at its tokens. -/
theorem out_eq (c : Dev nD) (t : Fin cfg0.N) (r : Fin 512) (q : Fin 2048) :
    out0_6 (F := Ideal) (iblk m c 0 t) (iblk m c 1 t) (iblk m c 2 t) (iblk m c 3 t) (iblk m c 4 t) (iblk m c 5 t) (ix2 r q)
      = spec (m ((c : Thread nD τ).loc main_arg0)) (m ((c : Thread nD τ).loc main_arg1)) (m ((c : Thread nD τ).loc main_arg2))
        (m ((c : Thread nD τ).loc main_arg3)) (m ((c : Thread nD τ).loc main_arg4)) (ix2 (tok t r) q) := by
  have hp : placeOf r = placeIn (tok t r) := Fin.ext (by
    show r.val % 128 = (t.val * 512 + r.val) % 128
    omega)
  have hk : ∀ k, tok t (rowAt r k) = tokenAt (tok t r) k := fun k => Fin.ext (by
    show t.val * 512 + (r.val / 128 * 128 + k.val) = (t.val * 512 + r.val) / 128 * 128 + k.val
    omega)
  refine (out_apply (iblk m c 0 t) (iblk m c 1 t) (iblk m c 2 t) (iblk m c 3 t) (iblk m c 4 t) (iblk m c 5 t) (ix2 r q)).trans ?_
  refine congrArg₂ (fun a b : EReal => a * b) (congrArg gelu (first_apply m c t r q)) (congrArg₂ (fun a b : EReal => a + b)
    (Finset.sum_congr rfl fun k _ => congrArg₂ (fun a b : EReal => a * b) ?_ ?_) ?_)
  · refine (mixers_apply m c t (headOf q) (placeOf r) k).trans ?_
    rw [hp]
  · refine (norm_block m c t (rowAt r k) q).trans ?_
    rw [hk]
  · refine (biases_apply m c t (placeOf r) q).trans ?_
    rw [hp]

/-- Each point writes back its block of `G`. -/
theorem flushed_eq (c : Dev nD) (t : Fin cfg0.N) :
    (dats m 0 c).flushed 6 t = ((cfg0.win 6).blk t).view.read (Elt Ideal) (G m c) := by
  have hr : ∀ (g : Buf (Elt Ideal) ((c : Thread nD τ).loc main_v6)) (v : Vec Ideal S512x2048 .bf16)
      (_ : ∀ j, v j = g (((cfg0.win 6).blk t).view.emb j)),
      (cfg0.win 6).cut (grid0.coords t) v = ((cfg0.win 6).blk t).view.read (Elt Ideal) g := fun _ _ h => funext h
  rw [Cert.SguIdeal.Value.flushed6]
  refine hr (G m c) _ fun j => ?_
  obtain ⟨-, -, -, -, -, -, e⟩ := point_facts t
  have ej : ((cfg0.win 6).blk t).view.emb j = ix2 (tok t (j 0)) (j 1) := funext fun a => Fin.ext (by
    match a with
    | ⟨0, _⟩ => show win0_6.index t 0 * 512 + 1 * (j 0).val = t.val * 512 + (j 0).val; rw [e.1]; omega
    | ⟨1, _⟩ => show win0_6.index t 1 * 2048 + 1 * (j 1).val = (j 1).val; rw [e.2]; omega)
  rw [ej]
  refine Eq.trans (congrArg _ (ValueIdx.eq_ix2 j)) (out_eq m c t (j 0) (j 1))

/-- A token's place in the result is in the block of the point of its 512 tokens. -/
theorem mem_blk (t : Fin cfg0.N) (i : S32768x2048.Idx)
    (h0 : t.val * 512 ≤ (i 0 : Nat) ∧ (i 0 : Nat) < t.val * 512 + 512) : i ∈ ((cfg0.win 6).blk t).view.set := by
  have h1 : 0 * 2048 ≤ (i 1 : Nat) ∧ (i 1 : Nat) < 0 * 2048 + 2048 := ⟨by omega, lt_of_lt_of_eq (i 1).isLt rfl⟩
  show i ∈ ((View.whole main_v6).slice (win0_6.rect t)).set
  rw [View.set_slice_whole, Rect.mem_set_unit]
  obtain ⟨-, -, -, -, -, -, e⟩ := point_facts t
  intro a
  match a with
  | ⟨0, _⟩ =>
    show win0_6.index t 0 * 512 ≤ (i 0 : Nat) ∧ (i 0 : Nat) < win0_6.index t 0 * 512 + 512
    rw [e.1]; exact h0
  | ⟨1, _⟩ =>
    show win0_6.index t 1 * 2048 ≤ (i 1 : Nat) ∧ (i 1 : Nat) < win0_6.index t 1 * 2048 + 2048
    rw [e.2]; exact h1

/-- The blocks tile the result. -/
theorem cover (i : S32768x2048.Idx) :
    ∃ t : Fin cfg0.N, (cfg0.win 6).flush t = true ∧ i ∈ ((cfg0.win 6).blk t).view.set := by
  have h0 : (i 0 : Nat) < 32768 := (i 0).isLt
  have hN : cfg0.N = 64 := N_0
  exact ⟨⟨(i 0 : Nat) / 512, by omega⟩, flush0_6 _, mem_blk _ i (by dsimp only; omega)⟩

/-- The kernel's run: the result holds `spec` of the arguments, which are unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨(h c).1.trans ((dats m 0 c).arrAt_eq_of_cover 6 (G m c) (fun t _ => flushed_eq m c t) cover), (h c).2⟩)
    (Cert.SguIdeal.Value.run_blocks m ρ)

/-! ## The reference -/

open Cert.SguRefIdeal.Read

section

variable (uv : S32768x4096.Idx → EReal) (g b : S2048.Idx → EReal) (ws : S16x128x128.Idx → EReal) (bs : S16x128.Idx → EReal)

/-- The activation with its cube associated to the left, as the reference has it. -/
theorem gelu_left (z : EReal) :
    z * (Ideal.ofBits .f32 0x3F000000#32 * (Ideal.ofBits .f32 0x3F800000#32
      + Ideal.tanh (Ideal.ofBits .f32 0x3F4C422A#32 * (z + Ideal.ofBits .f32 0x3D372713#32 * (z * z * z))))) = gelu z := by
  rw [mul_comm (z * z) z]; rfl

/-- The reference's first half. -/
theorem ref_first (i : S32768x2048.Idx) :
    val_main_v15 (F := Ideal) uv i = gelu (uv (ix2 (i 0) (left (i 1)))) := by
  have e : val_main_v1 (F := Ideal) uv i = uv (ix2 (i 0) (left (i 1))) :=
    (val_main_v1_apply (F := Ideal) uv i).trans (congrArg uv (funext fun a => by
      match a with
      | ⟨0, _⟩ => rfl
      | ⟨1, _⟩ => rfl))
  rw [← e]
  exact gelu_left (val_main_v1 (F := Ideal) uv i)

/-- The reference's second half. -/
theorem ref_second (r : Fin 32768) (q : Fin 2048) :
    val_main_v28 (F := Ideal) uv (ix2 r q) = gelu (uv (ix2 r (right q))) := by
  have e : val_main_v2 (F := Ideal) uv (ix2 r q) = uv (ix2 r (right q)) :=
    (val_main_v2_apply (F := Ideal) uv (ix2 r q)).trans (congrArg uv (funext fun a => by
      match a with
      | ⟨0, _⟩ => rfl
      | ⟨1, _⟩ => rfl))
  rw [← e]
  exact gelu_left (val_main_v2 (F := Ideal) uv (ix2 r q))

/-- The reference's column of means. -/
theorem ref_mean (r : Fin 32768) :
    val_main_v32 (F := Ideal) uv (ix2 r 0) = mean (fun q => gelu (uv (ix2 r (right q)))) := by
  have e : val_main_v30 (F := Ideal) uv (ix2 r 0) = ∑ q : Fin 2048, gelu (uv (ix2 r (right q))) := by
    rw [val_main_v30_apply, val_main_v29_apply]
    refine Eq.trans (congrArg₂ (fun a b : EReal => a + b) Ideal.ofBits_zero_f32 (Finset.sum_congr rfl fun k _ => ?_)) (zero_add _)
    refine Eq.trans (congrArg _ ?_) (ref_second uv r k)
    exact funext fun a => by
      match a with
      | ⟨0, _⟩ => rfl
      | ⟨1, _⟩ => rfl
  exact congrArg (fun z => Ideal.div z (Ideal.ofBits .f32 0x45000000#32)) e

/-- The reference's centred half (its two copies). -/
theorem ref_centred (r : Fin 32768) (q : Fin 2048) :
    val_main_v34 (F := Ideal) uv (ix2 r q) = centred (fun q => gelu (uv (ix2 r (right q)))) q
    ∧ val_main_v41 (F := Ideal) uv (ix2 r q) = centred (fun q => gelu (uv (ix2 r (right q)))) q := by
  have e : ∀ x : Cert.SguRefIdeal.S32768x1.Idx, x = ix2 r 0 → val_main_v32 (F := Ideal) uv x = mean (fun q => gelu (uv (ix2 r (right q)))) :=
    fun x hx => hx ▸ ref_mean uv r
  refine ⟨congrArg₂ (fun a b : EReal => a - b) (ref_second uv r q) ((val_main_v33_apply (F := Ideal) uv (ix2 r q)).trans (e _ ?_)),
    congrArg₂ (fun a b : EReal => a - b) (ref_second uv r q) ((val_main_v40_apply (F := Ideal) uv (ix2 r q)).trans (e _ ?_))⟩ <;>
  exact funext fun a => by
    match a with
    | ⟨0, _⟩ => rfl
    | ⟨1, _⟩ => rfl

/-- The reference's column of scales. -/
theorem ref_scale (r : Fin 32768) :
    val_main_v44 (F := Ideal) uv (ix2 r 0)
      = Ideal.rsqrt (mean (fun k => centred (fun q => gelu (uv (ix2 r (right q)))) k * centred (fun q => gelu (uv (ix2 r (right q)))) k)
        + Ideal.ofBits .f32 0x3727C5AC#32) := by
  have e : val_main_v37 (F := Ideal) uv (ix2 r 0)
      = ∑ k : Fin 2048, centred (fun q => gelu (uv (ix2 r (right q)))) k * centred (fun q => gelu (uv (ix2 r (right q)))) k := by
    rw [val_main_v37_apply, val_main_v36_apply]
    refine Eq.trans (congrArg₂ (fun a b : EReal => a + b) Ideal.ofBits_zero_f32 (Finset.sum_congr rfl fun k _ => ?_)) (zero_add _)
    have h := (ref_centred uv r k).1
    refine Eq.trans (congrArg _ (?_ : _ = ix2 r k)) (congrArg₂ (fun a b : EReal => a * b) h h)
    exact funext fun a => by
      match a with
      | ⟨0, _⟩ => rfl
      | ⟨1, _⟩ => rfl
  exact congrArg (fun z => Ideal.rsqrt (Ideal.div z (Ideal.ofBits .f32 0x45000000#32) + Ideal.ofBits .f32 0x3727C5AC#32)) e

/-- The reference's normalised half. -/
theorem ref_norm (r : Fin 32768) (q : Fin 2048) :
    val_main_v52 (F := Ideal) uv g b (ix2 r q) = gate uv g b r q := by
  refine congrArg₂ (fun a b : EReal => a + b) (congrArg₂ (fun a b : EReal => a * b)
    (congrArg₂ (fun a b : EReal => a * b) (ref_centred uv r q).2 ?_) ?_) ?_
  · refine (val_main_v45_apply (F := Ideal) uv (ix2 r q)).trans (Eq.trans (congrArg _ ?_) (ref_scale uv r))
    exact funext fun a => by
      match a with
      | ⟨0, _⟩ => rfl
      | ⟨1, _⟩ => rfl
  · refine (val_main_v48_apply (F := Ideal) g (ix2 r q)).trans ((val_main_v47_apply (F := Ideal) g _).trans (congrArg g ?_))
    exact funext fun a => by
      match a with
      | ⟨0, _⟩ => rfl
  · refine (val_main_v51_apply (F := Ideal) b (ix2 r q)).trans ((val_main_v50_apply (F := Ideal) b _).trans (congrArg b ?_))
    exact funext fun a => by
      match a with
      | ⟨0, _⟩ => rfl

/-- The reference's mixed half. -/
theorem ref_mixed (i : S32768x2048.Idx) :
    val_main_v55 (F := Ideal) uv g b ws (idx_main_v60 i)
      = ∑ k : Fin 128, ws (ix3 (headOf (i 1)) (placeIn (i 0)) k) * gate uv g b (tokenAt (i 0) k) (i 1) := by
  have h0 : (i 0).val < 32768 := (i 0).isLt
  have h1 : (i 1).val < 2048 := (i 1).isLt
  rw [val_main_v55_apply, val_main_v54_apply]
  refine Finset.sum_congr rfl fun k _ => Eq.trans (mul_comm _ _) (congrArg₂ (fun a b : EReal => a * b) (congrArg ws ?_) ?_)
  · refine funext fun a => Fin.ext ?_
    match a with
    | ⟨0, _⟩ => show ((i 0).val * 2048 + (i 1).val) / 128 % 16 = (i 1).val / 128; omega
    | ⟨1, _⟩ => show ((i 0).val * 2048 + (i 1).val) / 2048 % 128 = (i 0).val % 128; omega
    | ⟨2, _⟩ => rfl
  · refine (val_main_v53_apply (F := Ideal) uv g b _).trans (Eq.trans (congrArg _ ?_) (ref_norm uv g b (tokenAt (i 0) k) (i 1)))
    refine funext fun a => Fin.ext ?_
    match a with
    | ⟨0, _⟩ =>
      show (((((i 0).val * 2048 + (i 1).val) / 262144 * 128 + k.val) * 16 + ((i 0).val * 2048 + (i 1).val) / 128 % 16) * 128
        + ((i 0).val * 2048 + (i 1).val) % 128) / 2048 = (i 0).val / 128 * 128 + k.val
      omega
    | ⟨1, _⟩ =>
      show (((((i 0).val * 2048 + (i 1).val) / 262144 * 128 + k.val) * 16 + ((i 0).val * 2048 + (i 1).val) / 128 % 16) * 128
        + ((i 0).val * 2048 + (i 1).val) % 128) % 2048 = (i 1).val
      omega

/-- The reference's bias. -/
theorem ref_bias (i : S32768x2048.Idx) :
    val_main_v58 (F := Ideal) bs (idx_main_v60 i) = bs (ix2 (headOf (i 1)) (placeIn (i 0))) := by
  have h0 : (i 0).val < 32768 := (i 0).isLt
  have h1 : (i 1).val < 2048 := (i 1).isLt
  rw [val_main_v58_apply, val_main_v57_apply, val_main_v56_apply]
  refine congrArg bs (funext fun a => Fin.ext ?_)
  match a with
  | ⟨0, _⟩ => show ((i 0).val * 2048 + (i 1).val) / 128 % 16 = (i 1).val / 128; omega
  | ⟨1, _⟩ => show ((i 0).val * 2048 + (i 1).val) / 2048 % 128 = (i 0).val % 128; omega

/-- The reference's result is `spec` of its arguments. -/
theorem ref_eq : val_main_v62 (F := Ideal) uv g b ws bs = spec uv g b ws bs :=
  funext fun i => congrArg₂ (fun a b : EReal => a * b) (ref_first uv i)
    ((val_main_v60_apply (F := Ideal) uv g b ws bs i).trans
      (congrArg₂ (fun a b : EReal => a + b) (ref_mixed uv g b ws i) (ref_bias bs i)))

end

/-- The kernel and the reference compute the same array from equal arguments. -/
theorem algebraic : Cert.algebraic_SguIdeal_SguRefIdeal (hSguIdeal := Cert.SguIdeal.Gen.facts)
    (hSguRefIdeal := Cert.SguRefIdeal.Gen.facts) := by
  intro m g m' g' _ hag
  refine ⟨fun c => G m c, run m g, ?_⟩
  refine (θ_run (Cert.SguRefIdeal.defs (F := Ideal)) _ _).mono (fun r h c => ?_) (Cert.SguRefIdeal.Value.run (F := Ideal) m' g')
  obtain ⟨hv, hargs⟩ := h c
  refine ⟨hv.trans ?_, hargs⟩
  obtain ⟨h0, h1, h2, h3, h4⟩ := hag c
  refine (val_main_v62_eq _ _).trans ?_
  rw [h0, h1, h2, h3, h4]
  exact ref_eq _ _ _ _ _

end Layer.Sgu

end
-- ==== Proof.Up.lean ====
/-
  The feed-forward up projection: `silu(x · wg) * (x · wu)`.

  The kernel works on a grid of 32 × 28 points, each writing the block of 1024 rows and 512 columns it computes from a
  block of rows of `x` and a block of columns of each weight. The blocks tile the result, so the result array is one
  function of the arguments, and that function is the reference's.
-/
module

public import proofs.«01_k».proof.Proof.Gen.UpIdeal.Value
public import proofs.«01_k».proof.Proof.Gen.UpRefIdeal.Run
public import proofs.«01_k».proof.Proof.Gen.UpRefIdeal.Read
public import proofs.«01_k».proof.Proof.Dot
public import proofs.«01_k».proof.Defs

@[expose] public section

noncomputable section

namespace Layer.Up

open Cert.UpIdeal Cert.UpIdeal.Gen Idealize.ShloMosaic Idealize.ShloMosaic.TcCoe Idealize.SL.Sem
open Idealize.ShloMosaic.Pipeline (Dat)
open Idealize.ShloMosaic.ValueIdx (ix2)

/-- `silu(x · wg) * (x · wu)` at an index, over the extended reals. -/
def spec (x : S32768x4096.Idx → EReal) (wg wu : S4096x14336.Idx → EReal) (i : S32768x14336.Idx) : EReal :=
  (∑ k : Fin 4096, x (ix2 (i 0) k) * wg (ix2 k (i 1)))
    * Ideal.logistic (∑ k : Fin 4096, x (ix2 (i 0) k) * wg (ix2 k (i 1)))
    * ∑ k : Fin 4096, x (ix2 (i 0) k) * wu (ix2 k (i 1))

/-- The body's stored value at an index of its block, from the three blocks it loads. -/
theorem pay_apply (v0 : Vec Ideal S1024x4096 .bf16) (v1 v3 : Vec Ideal S4096x512 .bf16) (j : S1024x512.Idx) :
    k0_pay1 (F := Ideal) v0 v1 v3 j
      = (∑ k : Fin 4096, v0 (ix2 (j 0) k) * v1 (ix2 k (j 1)))
        * Ideal.logistic (∑ k : Fin 4096, v0 (ix2 (j 0) k) * v1 (ix2 k (j 1)))
        * ∑ k : Fin 4096, v0 (ix2 (j 0) k) * v3 (ix2 k (j 1)) := by
  rw [← matmul_plain_zero (φ₁ := .bf16) (φ₂ := .bf16) v0 v1 j, ← matmul_plain_zero (φ₁ := .bf16) (φ₂ := .bf16) v0 v3 j]
  rfl

theorem hz : (![0, 0] : Fin 2 → Nat) = fun _ => 0 := funext fun a => by fin_cases a <;> rfl

variable (m : (ℓ : Loc nD τ sig) → Buf (Elt Ideal) ℓ) (ρ : Dev nD → PrngReg)

/-- The result array's contents: `spec` of the three arguments. -/
abbrev G (c : Dev nD) : Buf (Elt Ideal) ((c : Thread nD τ).loc main_v0) :=
  spec (m ((c : Thread nD τ).loc main_arg0)) (m ((c : Thread nD τ).loc main_arg1)) (m ((c : Thread nD τ).loc main_arg2))

/-- Each point writes back its block of `G`: a block of rows of `x` and of columns of the weights give that block. -/
theorem flushed_eq (c : Dev nD) (t : Fin cfg0.N) :
    (dats m 0 c).flushed 3 t = ((cfg0.win 3).blk t).view.read (Elt Ideal) (G m c) := by
  rw [Cert.UpIdeal.Value.flushed3]
  unfold out0_3
  rw [View.canon_unit_zero hz, View.ld_unit_zero hz, View.ld_unit_zero hz, View.ld_unit_zero hz]
  funext j
  refine (pay_apply _ _ _ _).trans ?_
  have e0 : ∀ k : Fin 4096, (iblk m c 0 t : S1024x4096.Idx → EReal) (ix2 (j 0) k)
      = (m ((c : Thread nD τ).loc main_arg0) : S32768x4096.Idx → EReal) (ix2 (((cfg0.win 3).blk t).view.emb j 0) k) :=
    fun k => congrArg (m ((c : Thread nD τ).loc main_arg0)) (funext fun a => Fin.ext (by
      match a with
      | ⟨0, _⟩ => rfl
      | ⟨1, _⟩ => exact emb_of_index_zero win0_0 t (ix2 (j 0) k) 1 rfl rfl))
  have e1 : ∀ k : Fin 4096, (iblk m c 1 t : S4096x512.Idx → EReal) (ix2 k (j 1))
      = (m ((c : Thread nD τ).loc main_arg1) : S4096x14336.Idx → EReal) (ix2 k (((cfg0.win 3).blk t).view.emb j 1)) :=
    fun k => congrArg (m ((c : Thread nD τ).loc main_arg1)) (funext fun a => Fin.ext (by
      match a with
      | ⟨0, _⟩ => exact emb_of_index_zero win0_1 t (ix2 k (j 1)) 0 rfl rfl
      | ⟨1, _⟩ => rfl))
  have e2 : ∀ k : Fin 4096, (iblk m c 2 t : S4096x512.Idx → EReal) (ix2 k (j 1))
      = (m ((c : Thread nD τ).loc main_arg2) : S4096x14336.Idx → EReal) (ix2 k (((cfg0.win 3).blk t).view.emb j 1)) :=
    fun k => congrArg (m ((c : Thread nD τ).loc main_arg2)) (funext fun a => Fin.ext (by
      match a with
      | ⟨0, _⟩ => exact emb_of_index_zero win0_2 t (ix2 k (j 1)) 0 rfl rfl
      | ⟨1, _⟩ => rfl))
  simp only [e0, e1, e2]
  rfl

/-- Point `t` is the pair of its row block and its column block. -/
theorem point_facts : ∀ t : Fin cfg0.N, win0_3.index t 0 = t.val / 28 ∧ win0_3.index t 1 = t.val % 28 :=
  (by decide +kernel : ∀ t : Fin grid0.N, win0_3.index t 0 = t.val / 28 ∧ win0_3.index t 1 = t.val % 28)

/-- An index of the result is in point `t`'s block when its row and its column are in the block's ranges. -/
theorem mem_blk (t : Fin cfg0.N) (i : S32768x14336.Idx)
    (h0 : t.val / 28 * 1024 ≤ (i 0 : Nat) ∧ (i 0 : Nat) < t.val / 28 * 1024 + 1024)
    (h1 : t.val % 28 * 512 ≤ (i 1 : Nat) ∧ (i 1 : Nat) < t.val % 28 * 512 + 512) :
    i ∈ ((cfg0.win 3).blk t).view.set := by
  show i ∈ ((View.whole main_v0).slice (win0_3.rect t)).set
  rw [View.set_slice_whole, Rect.mem_set_unit]
  obtain ⟨e0, e1⟩ := point_facts t
  intro a
  match a with
  | ⟨0, _⟩ =>
    show win0_3.index t 0 * 1024 ≤ (i 0 : Nat) ∧ (i 0 : Nat) < win0_3.index t 0 * 1024 + 1024
    rw [e0]; exact h0
  | ⟨1, _⟩ =>
    show win0_3.index t 1 * 512 ≤ (i 1 : Nat) ∧ (i 1 : Nat) < win0_3.index t 1 * 512 + 512
    rw [e1]; exact h1

/-- The blocks tile the result. -/
theorem cover (i : S32768x14336.Idx) :
    ∃ t : Fin cfg0.N, (cfg0.win 3).flush t = true ∧ i ∈ ((cfg0.win 3).blk t).view.set := by
  have h0 : (i 0 : Nat) < 32768 := (i 0).isLt
  have h1 : (i 1 : Nat) < 14336 := (i 1).isLt
  have hN : cfg0.N = 896 := N_0
  refine ⟨⟨(i 0 : Nat) / 1024 * 28 + (i 1 : Nat) / 512, by omega⟩, flush0_3 _, mem_blk _ i ?_ ?_⟩ <;> dsimp only <;> omega

/-- The kernel's run: the result holds `spec` of the arguments, which are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨(h c).1.trans ((dats m 0 c).arrAt_eq_of_cover 3 (G m c) (fun t _ => flushed_eq m c t) cover), (h c).2⟩)
    (Cert.UpIdeal.Value.run_blocks m ρ)

/-- The reference's result is `spec` of its arguments: it spells the logistic function out as a quotient. -/
theorem ref_eq (x : S32768x4096.Idx → EReal) (wg wu : S4096x14336.Idx → EReal) :
    Cert.UpRefIdeal.Read.val_main_v7 (F := Ideal) x wg wu = spec x wg wu := by
  funext i
  have hg : Cert.UpRefIdeal.Read.val_main_v3 (F := Ideal) x wg i = ∑ k : Fin 4096, x (ix2 (i 0) k) * wg (ix2 k (i 1)) :=
    dotGeneral_plain (φ₁ := .f32) (φ₂ := .f32) _ x wg i
  have hu : Cert.UpRefIdeal.Read.val_main_v5 (F := Ideal) x wu i = ∑ k : Fin 4096, x (ix2 (i 0) k) * wu (ix2 k (i 1)) :=
    dotGeneral_plain (φ₁ := .f32) (φ₂ := .f32) _ x wu i
  show Cert.UpRefIdeal.Read.val_main_v3 (F := Ideal) x wg i
      * Ideal.div (Ideal.ofBits .f32 0x3F800000#32)
          (Ideal.ofBits .f32 0x3F800000#32 + Ideal.exp (-(Cert.UpRefIdeal.Read.val_main_v3 (F := Ideal) x wg i)))
      * Cert.UpRefIdeal.Read.val_main_v5 (F := Ideal) x wu i = _
  rw [hg, hu, ofBits_one_f32]
  rfl

/-- The kernel and the reference compute the same array from equal arguments. -/
theorem algebraic : Cert.algebraic_UpIdeal_UpRefIdeal (hUpIdeal := Cert.UpIdeal.Gen.facts)
    (hUpRefIdeal := Cert.UpRefIdeal.Gen.facts) := by
  intro m g m' g' _ hag
  refine ⟨fun c => G m c, run m g, ?_⟩
  refine (θ_run (Cert.UpRefIdeal.defs (F := Ideal)) _ _).mono (fun r h c => ?_) (Cert.UpRefIdeal.Value.run (F := Ideal) m' g')
  obtain ⟨hv, hargs⟩ := h c
  refine ⟨hv.trans ?_, hargs⟩
  obtain ⟨h0, h1, h2⟩ := hag c
  rw [h0, h1, h2]
  exact (Cert.UpRefIdeal.Read.val_main_v7_eq _ _ _).trans (ref_eq _ _ _)

end Layer.Up

end
-- ==== Proof.Down.lean ====
/-
  The second product of the dense feed-forward block: `h · w`.

  The kernel works on a grid of 32 × 4 blocks of 1024 rows and 1024 columns and, innermost, four stretches of 3584 of the
  inner length: it clears an accumulator at the first stretch, adds each stretch's product to it, and writes the block out
  after the last.
-/
module

public import proofs.«01_k».proof.Proof.Gen.DownIdeal.Value
public import proofs.«01_k».proof.Proof.Gen.DownRefIdeal.Run
public import proofs.«01_k».proof.Proof.Gen.DownRefIdeal.Read
public import proofs.«01_k».proof.Proof.Dot
public import proofs.«01_k».proof.Defs

@[expose] public section

noncomputable section

namespace Layer.Down

open Cert.DownIdeal Cert.DownIdeal.Gen Idealize.ShloMosaic Idealize.ShloMosaic.TcCoe Idealize.SL.Sem
open Idealize.ShloMosaic.Pipeline (Dat)
open Idealize.ShloMosaic.ValueIdx (ix2)

theorem hz : (![0, 0] : Fin 2 → Nat) = fun _ => 0 := funext fun a => by fin_cases a <;> rfl

/-- `h · w` at an index, over the extended reals. -/
def spec (h : S32768x14336.Idx → EReal) (w : S14336x4096.Idx → EReal) (i : S32768x4096.Idx) : EReal :=
  ∑ k : Fin 14336, h (ix2 (i 0) k) * w (ix2 k (i 1))

/-! ## One point's block -/

/-- The accumulator's new contents: what it held plus the product of the two blocks. -/
theorem add_apply (v : Vec Ideal S1024x1024 .f32) (v0 : Vec Ideal S1024x3584 .bf16) (v1 : Vec Ideal S3584x1024 .bf16)
    (j : S1024x1024.Idx) :
    k0_pay2 (F := Ideal) v v0 v1 j = v j + ∑ k : Fin 3584, v0 (ix2 (j 0) k) * v1 (ix2 k (j 1)) := by
  rw [← matmul_plain_zero (φ₁ := .bf16) (φ₂ := .bf16) v0 v1 j]
  unfold k0_pay2
  rw [shapeCast_self]
  rfl

/-- The cleared accumulator is zero. -/
theorem zero_apply (j : S1024x1024.Idx) : k0_pay1 (F := Ideal) j = 0 := by
  unfold k0_pay1
  rw [shapeCast_self]
  exact Ideal.ofBits_zero_f32

section

variable {c : Dev nD} {i : grid0.Coords} {b0 : Memref sig .tc .vmem S1024x3584 .bf16} (h0 : b0.IsWhole)
  {b1 : Memref sig .tc .vmem S3584x1024 .bf16} (h1 : b1.IsWhole) {b2 : Memref sig .tc .vmem S1024x1024 .bf16}
  (h2 : b2.IsWhole) {b3 : Memref sig .tc .vmem S1024x1024 .f32} (h3 : b3.IsWhole)
  (x0 : Vec Ideal S1024x3584 .bf16) (x1 : Vec Ideal S3584x1024 .bf16) (xs : Vec Ideal S1024x1024 .f32)

/-- The first stretch leaves the product of its blocks added to a cleared accumulator. -/
theorem first_eq (hc0 : cond0_0 i) (hc1 : ¬cond0_1 i) :
    sout0_A_0 c i b0 h0 b1 h1 b2 h2 b3 h3 hc0 hc1 x0 x1 = k0_pay2 (k0_pay1 (F := Ideal)) x0 x1 := by
  unfold sout0_A_0
  rw [View.read_writes_eq_canon _ _ _ (scover0_A_0 c i b0 h0 b1 h1 b2 h2 b3 h3 hc0 hc1 x0 x1)]
  unfold kernelRun0_A
  dsimp only
  sl_unfold_words
  rw [View.canon_cons_unit_zero (S := S1024x1024) hz, View.readCov_unit_zero (S := S1024x1024) _ hz]
  simp only [View.readAt_eq_ld, h0.read_unread, h1.read_unread, View.ld_unit_zero (S := S1024x3584) hz,
    View.ld_unit_zero (S := S3584x1024) hz]

/-- A middle stretch adds the product of its blocks. -/
theorem middle_eq (hc0 : ¬cond0_0 i) (hc1 : ¬cond0_1 i) :
    sout0_B_0 c i b0 h0 b1 h1 b2 h2 b3 h3 hc0 hc1 x0 x1 xs = k0_pay2 (F := Ideal) xs x0 x1 := by
  unfold sout0_B_0
  rw [View.read_writes_eq_canon _ _ _ (scover0_B_0 c i b0 h0 b1 h1 b2 h2 b3 h3 hc0 hc1 x0 x1 xs)]
  unfold kernelRun0_B
  dsimp only
  rw [View.canon_unit_zero (S := S1024x1024) hz]
  simp only [View.readAt_eq_ld, h0.read_unread, h1.read_unread, h3.read_unread, View.ld_unit_zero (S := S1024x3584) hz,
    View.ld_unit_zero (S := S3584x1024) hz, View.ld_unit_zero (S := S1024x1024) hz]

/-- The last stretch adds the product of its blocks and writes the sum out. -/
theorem last_eq (hc0 : ¬cond0_0 i) (hc1 : cond0_1 i) :
    out0_C_2 c i b0 h0 b1 h1 b2 h2 b3 h3 hc0 hc1 x0 x1 xs = k0_pay3 (F := Ideal) (k0_pay2 (F := Ideal) xs x0 x1) := by
  unfold out0_C_2
  rw [View.read_writes_eq_canon _ _ _ (cover0_C_2 c i b0 h0 b1 h1 b2 h2 b3 h3 hc0 hc1 x0 x1 xs)]
  unfold kernelRun0_C
  dsimp only
  sl_unfold_words
  rw [View.canon_unit_zero (S := S1024x1024) hz, View.readCov_unit_zero (S := S1024x1024) _ hz]
  simp only [View.readAt_eq_ld, h0.read_unread, h1.read_unread, h3.read_unread, View.ld_unit_zero (S := S1024x3584) hz,
    View.ld_unit_zero (S := S3584x1024) hz, View.ld_unit_zero (S := S1024x1024) hz]

end

/-! ## The four stretches -/

/-- Point `t` is the triple of its row block, its column block and its stretch; each window's block at it. -/
theorem point_facts : ∀ t : Fin cfg0.N, win0_0.index t 0 = t.val / 16 ∧ win0_0.index t 1 = t.val % 4
    ∧ win0_1.index t 0 = t.val % 4 ∧ win0_1.index t 1 = t.val / 4 % 4
    ∧ win0_2.index t 0 = t.val / 16 ∧ win0_2.index t 1 = t.val / 4 % 4 :=
  (by decide +kernel : ∀ t : Fin grid0.N, win0_0.index t 0 = t.val / 16 ∧ win0_0.index t 1 = t.val % 4
    ∧ win0_1.index t 0 = t.val % 4 ∧ win0_1.index t 1 = t.val / 4 % 4
    ∧ win0_2.index t 0 = t.val / 16 ∧ win0_2.index t 1 = t.val / 4 % 4)

/-- Place `k` of stretch `q` of the inner length. -/
def inner (q : Fin 4) (k : Fin 3584) : Fin 14336 := ⟨q.val * 3584 + k.val, by omega⟩

/-- A sum over the inner length is the sum of its four stretches, first to last. -/
theorem sum_inner (f : Fin 14336 → EReal) :
    ∑ k, f k = (∑ k, f (inner 0 k)) + (∑ k, f (inner 1 k)) + (∑ k, f (inner 2 k)) + ∑ k, f (inner 3 k) := by
  rw [← (finProdFinEquiv (m := 4) (n := 3584)).sum_comp f, Fintype.sum_prod_type, Fin.sum_univ_four]
  have e (q : Fin 4) : (∑ k : Fin 3584, f (finProdFinEquiv (q, k))) = ∑ k, f (inner q k) :=
    Finset.sum_congr rfl fun k _ => congrArg f (Fin.ext (by
      show k.val + 3584 * q.val = q.val * 3584 + k.val
      omega))
  rw [e, e, e, e]

/-- The product of two blocks at an index. -/
def blockDot (x : S1024x3584.Idx → EReal) (w : S3584x1024.Idx → EReal) (j : S1024x1024.Idx) : EReal :=
  ∑ k : Fin 3584, x (ix2 (j 0) k) * w (ix2 k (j 1))

/-- Stretch `q` of `h · w` at an index. -/
def stretch (h : S32768x14336.Idx → EReal) (w : S14336x4096.Idx → EReal) (i : S32768x4096.Idx) (q : Fin 4) : EReal :=
  ∑ k : Fin 3584, h (ix2 (i 0) (inner q k)) * w (ix2 (inner q k) (i 1))

variable (m : (ℓ : Loc nD τ sig) → Buf (Elt Ideal) ℓ) (ρ : Dev nD → PrngReg)

/-- The result array's contents: `spec` of the arguments. -/
abbrev G (c : Dev nD) : Buf (Elt Ideal) ((c : Thread nD τ).loc main_v0) :=
  spec (m ((c : Thread nD τ).loc main_arg0)) (m ((c : Thread nD τ).loc main_arg1))

/-- The product of point `t`'s blocks. -/
def part (c : Dev nD) (t : Fin cfg0.N) (j : S1024x1024.Idx) : EReal := blockDot (iblk m c 0 t) (iblk m c 1 t) j

/-- It is one stretch of the sum at the place the block is written to. -/
theorem part_eq (c : Dev nD) (t s : Fin cfg0.N) (q : Fin 4) (hq : s.val = 4 * (t.val / 4) + q.val) (j : S1024x1024.Idx) :
    part m c s j = stretch (m ((c : Thread nD τ).loc main_arg0)) (m ((c : Thread nD τ).loc main_arg1))
      (((cfg0.win 2).blk t).view.emb j) q := by
  obtain ⟨-, -, -, -, t0, t1⟩ := point_facts t
  obtain ⟨s0, s1, s2, s3, -, -⟩ := point_facts s
  have hq4 : q.val < 4 := q.isLt
  unfold part blockDot stretch
  refine Finset.sum_congr rfl fun k _ => congrArg₂ (fun x y : EReal => x * y) ?_ ?_
  · refine congrArg (m ((c : Thread nD τ).loc main_arg0)) (funext fun a => Fin.ext ?_)
    match a with
    | ⟨0, _⟩ =>
      show win0_0.index s 0 * 1024 + 1 * (j 0 : Nat) = win0_2.index t 0 * 1024 + 1 * (j 0 : Nat)
      rw [s0, t0]; omega
    | ⟨1, _⟩ =>
      show win0_0.index s 1 * 3584 + 1 * (k : Nat) = (q : Nat) * 3584 + (k : Nat)
      rw [s1]; omega
  · refine congrArg (m ((c : Thread nD τ).loc main_arg1)) (funext fun a => Fin.ext ?_)
    match a with
    | ⟨0, _⟩ =>
      show win0_1.index s 0 * 3584 + 1 * (k : Nat) = (q : Nat) * 3584 + (k : Nat)
      rw [s2]; omega
    | ⟨1, _⟩ =>
      show win0_1.index s 1 * 1024 + 1 * (j 1 : Nat) = win0_2.index t 1 * 1024 + 1 * (j 1 : Nat)
      rw [s3, t1]; omega

/-- The accumulator after a first stretch. -/
theorem acc_first (c : Dev nD) (n : ℕ) (hn : n < cfg0.N) (h : n % 4 = 0) (j : S1024x1024.Idx) :
    (outsAt0 m c n hn).2 j = part m c ⟨n, hn⟩ j := by
  rw [outsAt0_A m c ⟨n, hn⟩ h (by dsimp only; omega)]
  dsimp only
  rw [first_eq]
  refine (add_apply _ _ _ j).trans ?_
  rw [zero_apply, zero_add]
  rfl

/-- The accumulator after a middle stretch. -/
theorem acc_middle (c : Dev nD) (n : ℕ) (hn : n + 1 < cfg0.N) (h : ¬(n + 1) % 4 = 0) (h' : ¬(n + 1) % 4 = 3)
    (j : S1024x1024.Idx) :
    (outsAt0 m c (n + 1) hn).2 j = (outsAt0 m c n (Nat.lt_of_succ_lt hn)).2 j + part m c ⟨n + 1, hn⟩ j := by
  rw [outsAt0_B m c ⟨n + 1, hn⟩ h h']
  dsimp only
  rw [middle_eq]
  exact add_apply _ _ _ j

/-- The block written after a last stretch. -/
theorem out_last (c : Dev nD) (n : ℕ) (hn : n + 1 < cfg0.N) (h : (n + 1) % 4 = 3) (j : S1024x1024.Idx) :
    (outsAt0 m c (n + 1) hn).1 j = (outsAt0 m c n (Nat.lt_of_succ_lt hn)).2 j + part m c ⟨n + 1, hn⟩ j := by
  rw [outsAt0_C m c ⟨n + 1, hn⟩ (by dsimp only; omega) h]
  dsimp only
  rw [last_eq]
  exact add_apply _ _ _ j

/-- The block written after a last stretch is the sum of the four products of its run. -/
theorem out_run (c : Dev nD) (b : ℕ) (hn : b + 1 + 1 + 1 < cfg0.N) (h : (b + 1 + 1 + 1) % 4 = 3) (j : S1024x1024.Idx) :
    (outsAt0 m c (b + 1 + 1 + 1) hn).1 j
      = part m c ⟨b, by omega⟩ j + part m c ⟨b + 1, by omega⟩ j + part m c ⟨b + 1 + 1, by omega⟩ j + part m c ⟨b + 1 + 1 + 1, hn⟩ j := by
  rw [out_last m c _ hn h, acc_middle m c _ _ (by omega) (by omega), acc_middle m c _ _ (by omega) (by omega),
    acc_first m c _ _ (by omega)]

/-- The four stretches at an index add up to `spec` there. -/
theorem stretches (h : S32768x14336.Idx → EReal) (w : S14336x4096.Idx → EReal) (i : S32768x4096.Idx) :
    stretch h w i 0 + stretch h w i 1 + stretch h w i 2 + stretch h w i 3 = spec h w i :=
  (sum_inner fun k => h (ix2 (i 0) k) * w (ix2 k (i 1))).symm

/-- What a point's block of the result holds at the end of its run. -/
theorem out_eq (c : Dev nD) (t : Fin cfg0.N) (h3 : t.val % 4 = 3) (j : S1024x1024.Idx) :
    (outsAt0 m c t.val t.isLt).1 j = spec (m ((c : Thread nD τ).loc main_arg0)) (m ((c : Thread nD τ).loc main_arg1))
      (((cfg0.win 2).blk t).view.emb j) := by
  obtain ⟨b, hb⟩ : ∃ b, t.val = b + 1 + 1 + 1 := ⟨t.val - 3, by omega⟩
  have hn : b + 1 + 1 + 1 < cfg0.N := hb ▸ t.isLt
  have ht : t = ⟨b + 1 + 1 + 1, hn⟩ := Fin.ext hb
  have e := out_run m c b hn (by omega) j
  rw [part_eq m c t ⟨b, by omega⟩ 0 (by show b = _ + 0; omega), part_eq m c t ⟨b + 1, by omega⟩ 1 (by show b + 1 = _ + 1; omega),
    part_eq m c t ⟨b + 1 + 1, by omega⟩ 2 (by show b + 1 + 1 = _ + 2; omega),
    part_eq m c t ⟨b + 1 + 1 + 1, hn⟩ 3 (by show b + 1 + 1 + 1 = _ + 3; omega), stretches] at e
  refine Eq.trans ?_ e
  simp only [hb]

/-- Each point that writes back writes its block of `G`. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  have e := out_eq m c t h3
  have hr : ∀ (g : Buf (Elt Ideal) ((c : Thread nD τ).loc main_v0)) (v : Vec Ideal S1024x1024 .bf16)
      (_ : ∀ j, v j = g (((cfg0.win 2).blk t).view.emb j)),
      (cfg0.win 2).cut (grid0.coords t) v = ((cfg0.win 2).blk t).view.read (Elt Ideal) g := fun _ _ h => funext h
  show (cfg0.win 2).cut (grid0.coords t) ((dats m 0 c).after 2 t) = _
  rw [after0_2]
  exact hr (G m c) _ e

/-- An index of the result is in point `t`'s block when its row and its column are in the block's ranges. -/
theorem mem_blk (t : Fin cfg0.N) (i : S32768x4096.Idx)
    (h0 : t.val / 16 * 1024 ≤ (i 0 : Nat) ∧ (i 0 : Nat) < t.val / 16 * 1024 + 1024)
    (h1 : t.val / 4 % 4 * 1024 ≤ (i 1 : Nat) ∧ (i 1 : Nat) < t.val / 4 % 4 * 1024 + 1024) :
    i ∈ ((cfg0.win 2).blk t).view.set := by
  show i ∈ ((View.whole main_v0).slice (win0_2.rect t)).set
  rw [View.set_slice_whole, Rect.mem_set_unit]
  obtain ⟨-, -, -, -, e0, e1⟩ := point_facts t
  intro a
  match a with
  | ⟨0, _⟩ =>
    show win0_2.index t 0 * 1024 ≤ (i 0 : Nat) ∧ (i 0 : Nat) < win0_2.index t 0 * 1024 + 1024
    rw [e0]; exact h0
  | ⟨1, _⟩ =>
    show win0_2.index t 1 * 1024 ≤ (i 1 : Nat) ∧ (i 1 : Nat) < win0_2.index t 1 * 1024 + 1024
    rw [e1]; exact h1

/-- The blocks written back tile the result. -/
theorem cover (i : S32768x4096.Idx) :
    ∃ t : Fin cfg0.N, (cfg0.win 2).flush t = true ∧ i ∈ ((cfg0.win 2).blk t).view.set := by
  have h0 : (i 0 : Nat) < 32768 := (i 0).isLt
  have h1 : (i 1 : Nat) < 4096 := (i 1).isLt
  have hN : cfg0.N = 512 := N_0
  refine ⟨⟨((i 0 : Nat) / 1024 * 4 + (i 1 : Nat) / 1024) * 4 + 3, by omega⟩, (flush0_2 _).mpr ?_, mem_blk _ i ?_ ?_⟩ <;>
    dsimp only <;> omega

/-- The kernel's run: the result holds `spec` of the arguments, which are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨(h c).1.trans ((dats m 0 c).arrAt_eq_of_cover 2 (G m c) (fun t hf => flushed_eq m c t hf) cover), (h c).2⟩)
    (Cert.DownIdeal.Value.run_blocks m ρ)

/-- The reference's result is `spec` of its arguments. -/
theorem ref_eq (h : S32768x14336.Idx → EReal) (w : S14336x4096.Idx → EReal) :
    Cert.DownRefIdeal.Read.val_main_v3 (F := Ideal) h w = spec h w := by
  funext i
  have e : Cert.DownRefIdeal.Read.val_main_v2 (F := Ideal) h w i = ∑ k : Fin 14336, h (ix2 (i 0) k) * w (ix2 k (i 1)) :=
    dotGeneral_plain (φ₁ := .f32) (φ₂ := .f32) _ h w i
  exact e

/-- The kernel and the reference compute the same array from equal arguments. -/
theorem algebraic : Cert.algebraic_DownIdeal_DownRefIdeal (hDownIdeal := Cert.DownIdeal.Gen.facts)
    (hDownRefIdeal := Cert.DownRefIdeal.Gen.facts) := by
  intro m g m' g' _ hag
  refine ⟨fun c => G m c, run m g, ?_⟩
  refine (θ_run (Cert.DownRefIdeal.defs (F := Ideal)) _ _).mono (fun r h c => ?_) (Cert.DownRefIdeal.Value.run (F := Ideal) m' g')
  obtain ⟨hv, hargs⟩ := h c
  refine ⟨hv.trans ?_, hargs⟩
  obtain ⟨h0, h1⟩ := hag c
  rw [h0, h1]
  exact (Cert.DownRefIdeal.Read.val_main_v3_eq _ _).trans (ref_eq _ _)

end Layer.Down

end
-- ==== Proof.ProjUV.lean ====
/-
  The input projection of the spatial gating unit's columns: `x · w`.

  The kernel works on a grid of 32 × 4 blocks of 1024 rows and 1024 columns, each the product of a block of rows of `x`
  with a block of columns of `w`, the whole inner length at once.
-/
module

public import proofs.«01_k».proof.Proof.Gen.ProjUVIdeal.Value
public import proofs.«01_k».proof.Proof.Gen.ProjUVRefIdeal.Run
public import proofs.«01_k».proof.Proof.Gen.ProjUVRefIdeal.Read
public import proofs.«01_k».proof.Proof.Dot
public import proofs.«01_k».proof.Defs

@[expose] public section

noncomputable section

namespace Layer.ProjUV

open Cert.ProjUVIdeal Cert.ProjUVIdeal.Gen Idealize.ShloMosaic Idealize.ShloMosaic.TcCoe Idealize.SL.Sem
open Idealize.ShloMosaic.Pipeline (Dat)
open Idealize.ShloMosaic.ValueIdx (ix2)

theorem hz : (![0, 0] : Fin 2 → Nat) = fun _ => 0 := funext fun a => by fin_cases a <;> rfl

/-- `x · w` at an index, over the extended reals. -/
def spec (x : S32768x4096.Idx → EReal) (w : S4096x4096.Idx → EReal) (i : S32768x4096.Idx) : EReal :=
  ∑ k : Fin 4096, x (ix2 (i 0) k) * w (ix2 k (i 1))

/-- The body's stored value at an index of its block, from the two blocks it loads. -/
theorem pay_apply (v0 : Vec Ideal S1024x4096 .bf16) (v1 : Vec Ideal S4096x1024 .bf16) (j : S1024x1024.Idx) :
    k0_pay1 (F := Ideal) v0 v1 j = ∑ k : Fin 4096, v0 (ix2 (j 0) k) * v1 (ix2 k (j 1)) :=
  matmul_plain_zero (φ₁ := .bf16) (φ₂ := .bf16) v0 v1 j

/-- Point `t` is the pair of its row block and its column block. -/
theorem point_facts : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The inner length is one block. -/
theorem inner_facts : ∀ t : Fin cfg0.N, win0_0.index t 1 = 0 ∧ win0_1.index t 0 = 0 :=
  (by decide +kernel : ∀ t : Fin grid0.N, win0_0.index t 1 = 0 ∧ win0_1.index t 0 = 0)

variable (m : (ℓ : Loc nD τ sig) → Buf (Elt Ideal) ℓ) (ρ : Dev nD → PrngReg)

/-- The result array's contents: `spec` of the arguments. -/
abbrev G (c : Dev nD) : Buf (Elt Ideal) ((c : Thread nD τ).loc main_v0) :=
  spec (m ((c : Thread nD τ).loc main_arg0)) (m ((c : Thread nD τ).loc main_arg1))

/-- Each point writes back its block of `G`. -/
theorem flushed_eq (c : Dev nD) (t : Fin cfg0.N) :
    (dats m 0 c).flushed 2 t = ((cfg0.win 2).blk t).view.read (Elt Ideal) (G m c) := by
  rw [Cert.ProjUVIdeal.Value.flushed2]
  unfold out0_2
  rw [View.canon_unit_zero hz, View.ld_unit_zero hz, View.ld_unit_zero hz]
  funext j
  refine (pay_apply _ _ _).trans ?_
  have e0 : ∀ k : Fin 4096, (iblk m c 0 t : S1024x4096.Idx → EReal) (ix2 (j 0) k)
      = (m ((c : Thread nD τ).loc main_arg0) : S32768x4096.Idx → EReal) (ix2 (((cfg0.win 2).blk t).view.emb j 0) k) :=
    fun k => congrArg (m ((c : Thread nD τ).loc main_arg0)) (funext fun a => Fin.ext (by
      match a with
      | ⟨0, _⟩ => rfl
      | ⟨1, _⟩ => exact emb_of_index_zero win0_0 t (ix2 (j 0) k) 1 rfl (inner_facts t).1))
  have e1 : ∀ k : Fin 4096, (iblk m c 1 t : S4096x1024.Idx → EReal) (ix2 k (j 1))
      = (m ((c : Thread nD τ).loc main_arg1) : S4096x4096.Idx → EReal) (ix2 k (((cfg0.win 2).blk t).view.emb j 1)) :=
    fun k => congrArg (m ((c : Thread nD τ).loc main_arg1)) (funext fun a => Fin.ext (by
      match a with
      | ⟨0, _⟩ => exact emb_of_index_zero win0_1 t (ix2 k (j 1)) 0 rfl (inner_facts t).2
      | ⟨1, _⟩ => rfl))
  simp only [e0, e1]
  rfl

/-- An index of the result is in point `t`'s block when its row and its column are in the block's ranges. -/
theorem mem_blk (t : Fin cfg0.N) (i : S32768x4096.Idx)
    (h0 : t.val / 4 * 1024 ≤ (i 0 : Nat) ∧ (i 0 : Nat) < t.val / 4 * 1024 + 1024)
    (h1 : t.val % 4 * 1024 ≤ (i 1 : Nat) ∧ (i 1 : Nat) < t.val % 4 * 1024 + 1024) :
    i ∈ ((cfg0.win 2).blk t).view.set := by
  show i ∈ ((View.whole main_v0).slice (win0_2.rect t)).set
  rw [View.set_slice_whole, Rect.mem_set_unit]
  obtain ⟨e0, e1⟩ := point_facts t
  intro a
  match a with
  | ⟨0, _⟩ =>
    show win0_2.index t 0 * 1024 ≤ (i 0 : Nat) ∧ (i 0 : Nat) < win0_2.index t 0 * 1024 + 1024
    rw [e0]; exact h0
  | ⟨1, _⟩ =>
    show win0_2.index t 1 * 1024 ≤ (i 1 : Nat) ∧ (i 1 : Nat) < win0_2.index t 1 * 1024 + 1024
    rw [e1]; exact h1

/-- The blocks tile the result. -/
theorem cover (i : S32768x4096.Idx) :
    ∃ t : Fin cfg0.N, (cfg0.win 2).flush t = true ∧ i ∈ ((cfg0.win 2).blk t).view.set := by
  have h0 : (i 0 : Nat) < 32768 := (i 0).isLt
  have h1 : (i 1 : Nat) < 4096 := (i 1).isLt
  have hN : cfg0.N = 128 := N_0
  refine ⟨⟨(i 0 : Nat) / 1024 * 4 + (i 1 : Nat) / 1024, by omega⟩, flush0_2 _, mem_blk _ i ?_ ?_⟩ <;> dsimp only <;> omega

/-- The kernel's run: the result holds `spec` of the arguments, which are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨(h c).1.trans ((dats m 0 c).arrAt_eq_of_cover 2 (G m c) (fun t _ => flushed_eq m c t) cover), (h c).2⟩)
    (Cert.ProjUVIdeal.Value.run_blocks m ρ)

/-- The reference's result is `spec` of its arguments. -/
theorem ref_eq (x : S32768x4096.Idx → EReal) (w : S4096x4096.Idx → EReal) :
    Cert.ProjUVRefIdeal.Read.val_main_v3 (F := Ideal) x w = spec x w := by
  funext i
  have h : Cert.ProjUVRefIdeal.Read.val_main_v2 (F := Ideal) x w i = ∑ k : Fin 4096, x (ix2 (i 0) k) * w (ix2 k (i 1)) :=
    dotGeneral_plain (φ₁ := .f32) (φ₂ := .f32) _ x w i
  exact h

/-- The kernel and the reference compute the same array from equal arguments. -/
theorem algebraic : Cert.algebraic_ProjUVIdeal_ProjUVRefIdeal (hProjUVIdeal := Cert.ProjUVIdeal.Gen.facts)
    (hProjUVRefIdeal := Cert.ProjUVRefIdeal.Gen.facts) := by
  intro m g m' g' _ hag
  refine ⟨fun c => G m c, run m g, ?_⟩
  refine (θ_run (Cert.ProjUVRefIdeal.defs (F := Ideal)) _ _).mono (fun r h c => ?_) (Cert.ProjUVRefIdeal.Value.run (F := Ideal) m' g')
  obtain ⟨hv, hargs⟩ := h c
  refine ⟨hv.trans ?_, hargs⟩
  obtain ⟨h0, h1⟩ := hag c
  rw [h0, h1]
  exact (Cert.ProjUVRefIdeal.Read.val_main_v3_eq _ _).trans (ref_eq _ _)

end Layer.ProjUV

end
-- ==== Proof.ProjZR.lean ====
/-
  The input projection of the recurrence's columns: `x · w`.

  The kernel works on a grid of 32 × 7 blocks of 1024 rows and 1024 columns, each the product of a block of rows of `x`
  with a block of columns of `w`, the whole inner length at once.
-/
module

public import proofs.«01_k».proof.Proof.Gen.ProjZRIdeal.Value
public import proofs.«01_k».proof.Proof.Gen.ProjZRRefIdeal.Run
public import proofs.«01_k».proof.Proof.Gen.ProjZRRefIdeal.Read
public import proofs.«01_k».proof.Proof.Dot
public import proofs.«01_k».proof.Defs

@[expose] public section

noncomputable section

namespace Layer.ProjZR

open Cert.ProjZRIdeal Cert.ProjZRIdeal.Gen Idealize.ShloMosaic Idealize.ShloMosaic.TcCoe Idealize.SL.Sem
open Idealize.ShloMosaic.Pipeline (Dat)
open Idealize.ShloMosaic.ValueIdx (ix2)

theorem hz : (![0, 0] : Fin 2 → Nat) = fun _ => 0 := funext fun a => by fin_cases a <;> rfl

/-- `x · w` at an index, over the extended reals. -/
def spec (x : S32768x4096.Idx → EReal) (w : S4096x7168.Idx → EReal) (i : S32768x7168.Idx) : EReal :=
  ∑ k : Fin 4096, x (ix2 (i 0) k) * w (ix2 k (i 1))

/-- The body's stored value at an index of its block, from the two blocks it loads. -/
theorem pay_apply (v0 : Vec Ideal S1024x4096 .bf16) (v1 : Vec Ideal S4096x1024 .bf16) (j : S1024x1024.Idx) :
    k0_pay1 (F := Ideal) v0 v1 j = ∑ k : Fin 4096, v0 (ix2 (j 0) k) * v1 (ix2 k (j 1)) :=
  matmul_plain_zero (φ₁ := .bf16) (φ₂ := .bf16) v0 v1 j

/-- Point `t` is the pair of its row block and its column block. -/
theorem point_facts : ∀ t : Fin cfg0.N, win0_2.index t 0 = t.val / 7 ∧ win0_2.index t 1 = t.val % 7 :=
  (by decide +kernel : ∀ t : Fin grid0.N, win0_2.index t 0 = t.val / 7 ∧ win0_2.index t 1 = t.val % 7)

/-- The inner length is one block. -/
theorem inner_facts : ∀ t : Fin cfg0.N, win0_0.index t 1 = 0 ∧ win0_1.index t 0 = 0 :=
  (by decide +kernel : ∀ t : Fin grid0.N, win0_0.index t 1 = 0 ∧ win0_1.index t 0 = 0)

variable (m : (ℓ : Loc nD τ sig) → Buf (Elt Ideal) ℓ) (ρ : Dev nD → PrngReg)

/-- The result array's contents: `spec` of the arguments. -/
abbrev G (c : Dev nD) : Buf (Elt Ideal) ((c : Thread nD τ).loc main_v0) :=
  spec (m ((c : Thread nD τ).loc main_arg0)) (m ((c : Thread nD τ).loc main_arg1))

/-- Each point writes back its block of `G`. -/
theorem flushed_eq (c : Dev nD) (t : Fin cfg0.N) :
    (dats m 0 c).flushed 2 t = ((cfg0.win 2).blk t).view.read (Elt Ideal) (G m c) := by
  rw [Cert.ProjZRIdeal.Value.flushed2]
  unfold out0_2
  rw [View.canon_unit_zero hz, View.ld_unit_zero hz, View.ld_unit_zero hz]
  funext j
  refine (pay_apply _ _ _).trans ?_
  have e0 : ∀ k : Fin 4096, (iblk m c 0 t : S1024x4096.Idx → EReal) (ix2 (j 0) k)
      = (m ((c : Thread nD τ).loc main_arg0) : S32768x4096.Idx → EReal) (ix2 (((cfg0.win 2).blk t).view.emb j 0) k) :=
    fun k => congrArg (m ((c : Thread nD τ).loc main_arg0)) (funext fun a => Fin.ext (by
      match a with
      | ⟨0, _⟩ => rfl
      | ⟨1, _⟩ => exact emb_of_index_zero win0_0 t (ix2 (j 0) k) 1 rfl (inner_facts t).1))
  have e1 : ∀ k : Fin 4096, (iblk m c 1 t : S4096x1024.Idx → EReal) (ix2 k (j 1))
      = (m ((c : Thread nD τ).loc main_arg1) : S4096x7168.Idx → EReal) (ix2 k (((cfg0.win 2).blk t).view.emb j 1)) :=
    fun k => congrArg (m ((c : Thread nD τ).loc main_arg1)) (funext fun a => Fin.ext (by
      match a with
      | ⟨0, _⟩ => exact emb_of_index_zero win0_1 t (ix2 k (j 1)) 0 rfl (inner_facts t).2
      | ⟨1, _⟩ => rfl))
  simp only [e0, e1]
  rfl

/-- An index of the result is in point `t`'s block when its row and its column are in the block's ranges. -/
theorem mem_blk (t : Fin cfg0.N) (i : S32768x7168.Idx)
    (h0 : t.val / 7 * 1024 ≤ (i 0 : Nat) ∧ (i 0 : Nat) < t.val / 7 * 1024 + 1024)
    (h1 : t.val % 7 * 1024 ≤ (i 1 : Nat) ∧ (i 1 : Nat) < t.val % 7 * 1024 + 1024) :
    i ∈ ((cfg0.win 2).blk t).view.set := by
  show i ∈ ((View.whole main_v0).slice (win0_2.rect t)).set
  rw [View.set_slice_whole, Rect.mem_set_unit]
  obtain ⟨e0, e1⟩ := point_facts t
  intro a
  match a with
  | ⟨0, _⟩ =>
    show win0_2.index t 0 * 1024 ≤ (i 0 : Nat) ∧ (i 0 : Nat) < win0_2.index t 0 * 1024 + 1024
    rw [e0]; exact h0
  | ⟨1, _⟩ =>
    show win0_2.index t 1 * 1024 ≤ (i 1 : Nat) ∧ (i 1 : Nat) < win0_2.index t 1 * 1024 + 1024
    rw [e1]; exact h1

/-- The blocks tile the result. -/
theorem cover (i : S32768x7168.Idx) :
    ∃ t : Fin cfg0.N, (cfg0.win 2).flush t = true ∧ i ∈ ((cfg0.win 2).blk t).view.set := by
  have h0 : (i 0 : Nat) < 32768 := (i 0).isLt
  have h1 : (i 1 : Nat) < 7168 := (i 1).isLt
  have hN : cfg0.N = 224 := N_0
  refine ⟨⟨(i 0 : Nat) / 1024 * 7 + (i 1 : Nat) / 1024, by omega⟩, flush0_2 _, mem_blk _ i ?_ ?_⟩ <;> dsimp only <;> omega

/-- The kernel's run: the result holds `spec` of the arguments, which are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨(h c).1.trans ((dats m 0 c).arrAt_eq_of_cover 2 (G m c) (fun t _ => flushed_eq m c t) cover), (h c).2⟩)
    (Cert.ProjZRIdeal.Value.run_blocks m ρ)

/-- The reference's result is `spec` of its arguments. -/
theorem ref_eq (x : S32768x4096.Idx → EReal) (w : S4096x7168.Idx → EReal) :
    Cert.ProjZRRefIdeal.Read.val_main_v3 (F := Ideal) x w = spec x w := by
  funext i
  have h : Cert.ProjZRRefIdeal.Read.val_main_v2 (F := Ideal) x w i = ∑ k : Fin 4096, x (ix2 (i 0) k) * w (ix2 k (i 1)) :=
    dotGeneral_plain (φ₁ := .f32) (φ₂ := .f32) _ x w i
  exact h

/-- The kernel and the reference compute the same array from equal arguments. -/
theorem algebraic : Cert.algebraic_ProjZRIdeal_ProjZRRefIdeal (hProjZRIdeal := Cert.ProjZRIdeal.Gen.facts)
    (hProjZRRefIdeal := Cert.ProjZRRefIdeal.Gen.facts) := by
  intro m g m' g' _ hag
  refine ⟨fun c => G m c, run m g, ?_⟩
  refine (θ_run (Cert.ProjZRRefIdeal.defs (F := Ideal)) _ _).mono (fun r h c => ?_) (Cert.ProjZRRefIdeal.Value.run (F := Ideal) m' g')
  obtain ⟨hv, hargs⟩ := h c
  refine ⟨hv.trans ?_, hargs⟩
  obtain ⟨h0, h1⟩ := hag c
  rw [h0, h1]
  exact (Cert.ProjZRRefIdeal.Read.val_main_v3_eq _ _).trans (ref_eq _ _)

end Layer.ProjZR

end
-- ==== Proof.Pair.lean ====
/-
  The output projection of the mixer: `concat(a, b) · concat(wa, wb)`, the two halves of the mixed features against the two
  halves of the weight's rows.

  The kernel works on a grid of 32 × 4 blocks of 1024 rows and 1024 columns and adds the product of the first halves to the
  product of the second halves.
-/
module

public import proofs.«01_k».proof.Proof.Gen.PairIdeal.Value
public import proofs.«01_k».proof.Proof.Gen.PairRefIdeal.Run
public import proofs.«01_k».proof.Proof.Gen.PairRefIdeal.Read
public import proofs.«01_k».proof.Proof.Dot
public import proofs.«01_k».proof.Defs

@[expose] public section

noncomputable section

namespace Layer.Pair

open Cert.PairIdeal Cert.PairIdeal.Gen Idealize.ShloMosaic Idealize.ShloMosaic.TcCoe Idealize.SL.Sem
open Idealize.ShloMosaic.Pipeline (Dat)
open Idealize.ShloMosaic.ValueIdx (ix2)

theorem hz : (![0, 0] : Fin 2 → Nat) = fun _ => 0 := funext fun a => by fin_cases a <;> rfl

/-- `a · wa + b · wb` at an index, over the extended reals. -/
def spec (a : S32768x2048.Idx → EReal) (wa : S2048x4096.Idx → EReal) (b : S32768x2048.Idx → EReal)
    (wb : S2048x4096.Idx → EReal) (i : S32768x4096.Idx) : EReal :=
  (∑ k : Fin 2048, a (ix2 (i 0) k) * wa (ix2 k (i 1))) + ∑ k : Fin 2048, b (ix2 (i 0) k) * wb (ix2 k (i 1))

/-- The body's stored value at an index of its block, from the four blocks it loads. -/
theorem pay_apply (v0 : Vec Ideal S1024x2048 .bf16) (v1 : Vec Ideal S2048x1024 .bf16) (v2 : Vec Ideal S1024x2048 .bf16)
    (v3 : Vec Ideal S2048x1024 .bf16) (j : S1024x1024.Idx) :
    k0_pay1 (F := Ideal) v0 v1 v2 v3 j
      = (∑ k : Fin 2048, v0 (ix2 (j 0) k) * v1 (ix2 k (j 1))) + ∑ k : Fin 2048, v2 (ix2 (j 0) k) * v3 (ix2 k (j 1)) := by
  rw [← matmul_plain_zero (φ₁ := .bf16) (φ₂ := .bf16) v0 v1 j, ← matmul_plain_zero (φ₁ := .bf16) (φ₂ := .bf16) v2 v3 j]
  rfl

/-- Point `t` is the pair of its row block and its column block. -/
theorem point_facts : ∀ t : Fin cfg0.N, win0_4.index t 0 = t.val / 4 ∧ win0_4.index t 1 = t.val % 4 :=
  (by decide +kernel : ∀ t : Fin grid0.N, win0_4.index t 0 = t.val / 4 ∧ win0_4.index t 1 = t.val % 4)

variable (m : (ℓ : Loc nD τ sig) → Buf (Elt Ideal) ℓ) (ρ : Dev nD → PrngReg)

/-- The result array's contents: `spec` of the arguments. -/
abbrev G (c : Dev nD) : Buf (Elt Ideal) ((c : Thread nD τ).loc main_v0) :=
  spec (m ((c : Thread nD τ).loc main_arg0)) (m ((c : Thread nD τ).loc main_arg1)) (m ((c : Thread nD τ).loc main_arg2)) (m ((c : Thread nD τ).loc main_arg3))

/-- Each point writes back its block of `G`. -/
theorem flushed_eq (c : Dev nD) (t : Fin cfg0.N) :
    (dats m 0 c).flushed 4 t = ((cfg0.win 4).blk t).view.read (Elt Ideal) (G m c) := by
  rw [Cert.PairIdeal.Value.flushed4]
  unfold out0_4
  rw [View.canon_unit_zero hz, View.ld_unit_zero hz, View.ld_unit_zero hz, View.ld_unit_zero hz, View.ld_unit_zero hz]
  funext j
  refine (pay_apply _ _ _ _ _).trans ?_
  have e0 : ∀ k : Fin 2048, (iblk m c 0 t : S1024x2048.Idx → EReal) (ix2 (j 0) k)
      = (m ((c : Thread nD τ).loc main_arg0) : S32768x2048.Idx → EReal) (ix2 (((cfg0.win 4).blk t).view.emb j 0) k) :=
    fun k => congrArg (m ((c : Thread nD τ).loc main_arg0)) (funext fun a => Fin.ext (by
      match a with
      | ⟨0, _⟩ => rfl
      | ⟨1, _⟩ => exact emb_of_index_zero win0_0 t (ix2 (j 0) k) 1 rfl rfl))
  have e1 : ∀ k : Fin 2048, (iblk m c 1 t : S2048x1024.Idx → EReal) (ix2 k (j 1))
      = (m ((c : Thread nD τ).loc main_arg1) : S2048x4096.Idx → EReal) (ix2 k (((cfg0.win 4).blk t).view.emb j 1)) :=
    fun k => congrArg (m ((c : Thread nD τ).loc main_arg1)) (funext fun a => Fin.ext (by
      match a with
      | ⟨0, _⟩ => exact emb_of_index_zero win0_1 t (ix2 k (j 1)) 0 rfl rfl
      | ⟨1, _⟩ => rfl))
  have e2 : ∀ k : Fin 2048, (iblk m c 2 t : S1024x2048.Idx → EReal) (ix2 (j 0) k)
      = (m ((c : Thread nD τ).loc main_arg2) : S32768x2048.Idx → EReal) (ix2 (((cfg0.win 4).blk t).view.emb j 0) k) :=
    fun k => congrArg (m ((c : Thread nD τ).loc main_arg2)) (funext fun a => Fin.ext (by
      match a with
      | ⟨0, _⟩ => rfl
      | ⟨1, _⟩ => exact emb_of_index_zero win0_2 t (ix2 (j 0) k) 1 rfl rfl))
  have e3 : ∀ k : Fin 2048, (iblk m c 3 t : S2048x1024.Idx → EReal) (ix2 k (j 1))
      = (m ((c : Thread nD τ).loc main_arg3) : S2048x4096.Idx → EReal) (ix2 k (((cfg0.win 4).blk t).view.emb j 1)) :=
    fun k => congrArg (m ((c : Thread nD τ).loc main_arg3)) (funext fun a => Fin.ext (by
      match a with
      | ⟨0, _⟩ => exact emb_of_index_zero win0_3 t (ix2 k (j 1)) 0 rfl rfl
      | ⟨1, _⟩ => rfl))
  simp only [e0, e1, e2, e3]
  rfl

/-- An index of the result is in point `t`'s block when its row and its column are in the block's ranges. -/
theorem mem_blk (t : Fin cfg0.N) (i : S32768x4096.Idx)
    (h0 : t.val / 4 * 1024 ≤ (i 0 : Nat) ∧ (i 0 : Nat) < t.val / 4 * 1024 + 1024)
    (h1 : t.val % 4 * 1024 ≤ (i 1 : Nat) ∧ (i 1 : Nat) < t.val % 4 * 1024 + 1024) :
    i ∈ ((cfg0.win 4).blk t).view.set := by
  show i ∈ ((View.whole main_v0).slice (win0_4.rect t)).set
  rw [View.set_slice_whole, Rect.mem_set_unit]
  obtain ⟨e0, e1⟩ := point_facts t
  intro a
  match a with
  | ⟨0, _⟩ =>
    show win0_4.index t 0 * 1024 ≤ (i 0 : Nat) ∧ (i 0 : Nat) < win0_4.index t 0 * 1024 + 1024
    rw [e0]; exact h0
  | ⟨1, _⟩ =>
    show win0_4.index t 1 * 1024 ≤ (i 1 : Nat) ∧ (i 1 : Nat) < win0_4.index t 1 * 1024 + 1024
    rw [e1]; exact h1

/-- The blocks tile the result. -/
theorem cover (i : S32768x4096.Idx) :
    ∃ t : Fin cfg0.N, (cfg0.win 4).flush t = true ∧ i ∈ ((cfg0.win 4).blk t).view.set := by
  have h0 : (i 0 : Nat) < 32768 := (i 0).isLt
  have h1 : (i 1 : Nat) < 4096 := (i 1).isLt
  have hN : cfg0.N = 128 := N_0
  refine ⟨⟨(i 0 : Nat) / 1024 * 4 + (i 1 : Nat) / 1024, by omega⟩, flush0_4 _, mem_blk _ i ?_ ?_⟩ <;> dsimp only <;> omega

/-- The kernel's run: the result holds `spec` of the arguments, which are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨(h c).1.trans ((dats m 0 c).arrAt_eq_of_cover 4 (G m c) (fun t _ => flushed_eq m c t) cover), (h c).2⟩)
    (Cert.PairIdeal.Value.run_blocks m ρ)

/-- A row of the two blocks of features laid end to end: the first half's. -/
theorem features_left (a b : S32768x2048.Idx → EReal) (r : Fin 32768) (k : Fin 2048) :
    Cert.PairRefIdeal.Read.val_main_v2 (F := Ideal) a b (ix2 r (k.castAdd 2048)) = a (ix2 r k) :=
  concatenate_pair_apply_left (s₁ := S32768x2048) (s₂ := S32768x2048) (t := S32768x4096) 1 a b _ _ rfl (ix2 r k)
    (fun e => by match e with | ⟨0, _⟩ => rfl | ⟨1, _⟩ => rfl)

/-- The same row's second half. -/
theorem features_right (a b : S32768x2048.Idx → EReal) (r : Fin 32768) (k : Fin 2048) :
    Cert.PairRefIdeal.Read.val_main_v2 (F := Ideal) a b (ix2 r (k.natAdd 2048)) = b (ix2 r k) :=
  concatenate_pair_apply_right (s₁ := S32768x2048) (s₂ := S32768x2048) (t := S32768x4096) 1 a b _ _ rfl rfl (ix2 r k)
    (fun e he => by match e with | ⟨0, _⟩ => rfl | ⟨1, _⟩ => exact absurd rfl he) (Nat.add_comm _ _)

/-- A column of the two weights laid end to end: the first half's. -/
theorem weights_left (a b : S2048x4096.Idx → EReal) (r : Fin 4096) (k : Fin 2048) :
    Cert.PairRefIdeal.Read.val_main_v5 (F := Ideal) a b (ix2 (k.castAdd 2048) r) = a (ix2 k r) :=
  concatenate_pair_apply_left (s₁ := S2048x4096) (s₂ := S2048x4096) (t := Cert.PairRefIdeal.S4096x4096) 0 a b _ _ rfl (ix2 k r)
    (fun e => by match e with | ⟨0, _⟩ => rfl | ⟨1, _⟩ => rfl)

/-- The same column's second half. -/
theorem weights_right (a b : S2048x4096.Idx → EReal) (r : Fin 4096) (k : Fin 2048) :
    Cert.PairRefIdeal.Read.val_main_v5 (F := Ideal) a b (ix2 (k.natAdd 2048) r) = b (ix2 k r) :=
  concatenate_pair_apply_right (s₁ := S2048x4096) (s₂ := S2048x4096) (t := Cert.PairRefIdeal.S4096x4096) 0 a b _ _ rfl rfl (ix2 k r)
    (fun e he => by match e with | ⟨0, _⟩ => exact absurd rfl he | ⟨1, _⟩ => rfl) (Nat.add_comm _ _)

/-- The reference's result is `spec` of its arguments: a sum over the joined axis is the sum over its two halves. -/
theorem ref_eq (a : S32768x2048.Idx → EReal) (wa : S2048x4096.Idx → EReal) (b : S32768x2048.Idx → EReal)
    (wb : S2048x4096.Idx → EReal) : Cert.PairRefIdeal.Read.val_main_v7 (F := Ideal) a wa b wb = spec a wa b wb := by
  funext i
  have h : Cert.PairRefIdeal.Read.val_main_v6 (F := Ideal) a wa b wb i
      = ∑ k : Fin 4096, (Cert.PairRefIdeal.Read.val_main_v2 (F := Ideal) a b (ix2 (i 0) k) : EReal)
          * Cert.PairRefIdeal.Read.val_main_v5 (F := Ideal) wa wb (ix2 k (i 1)) :=
    dotGeneral_plain (φ₁ := .f32) (φ₂ := .f32) _ (Cert.PairRefIdeal.Read.val_main_v2 (F := Ideal) a b)
      (Cert.PairRefIdeal.Read.val_main_v5 (F := Ideal) wa wb) i
  refine Eq.trans (b := Cert.PairRefIdeal.Read.val_main_v6 (F := Ideal) a wa b wb i) rfl (h.trans ?_)
  refine (Fin.sum_univ_add (a := 2048) (b := 2048) _).trans ?_
  exact congrArg₂ (· + ·)
    (Finset.sum_congr rfl fun k _ => congrArg₂ (· * ·) (features_left a b (i 0) k) (weights_left wa wb (i 1) k))
    (Finset.sum_congr rfl fun k _ => congrArg₂ (· * ·) (features_right a b (i 0) k) (weights_right wa wb (i 1) k))

/-- The kernel and the reference compute the same array from equal arguments. -/
theorem algebraic : Cert.algebraic_PairIdeal_PairRefIdeal (hPairIdeal := Cert.PairIdeal.Gen.facts)
    (hPairRefIdeal := Cert.PairRefIdeal.Gen.facts) := by
  intro m g m' g' _ hag
  refine ⟨fun c => G m c, run m g, ?_⟩
  refine (θ_run (Cert.PairRefIdeal.defs (F := Ideal)) _ _).mono (fun r h c => ?_) (Cert.PairRefIdeal.Value.run (F := Ideal) m' g')
  obtain ⟨hv, hargs⟩ := h c
  refine ⟨hv.trans ?_, hargs⟩
  obtain ⟨h0, h1, h2, h3⟩ := hag c
  rw [h0, h1, h2, h3]
  exact (Cert.PairRefIdeal.Read.val_main_v7_eq _ _ _ _).trans (ref_eq _ _ _ _)

end Layer.Pair

end
-- ==== Proof.EmbedP.lean ====
/-
  The gated embedding of the prompt's tokens, the first 16384 tokens: `x + sigmoid(xb · wg) * (p · wp)`.

  The kernel works on a grid of 16 × 8 blocks of 1024 rows and 512 columns; the rows it reads start 0 rows down the
  arrays of all the tokens.
-/
module

public import proofs.«01_k».proof.Proof.Gen.EmbedPIdeal.Value
public import proofs.«01_k».proof.Proof.Gen.EmbedPRefIdeal.Run
public import proofs.«01_k».proof.Proof.Gen.EmbedPRefIdeal.Read
public import proofs.«01_k».proof.Proof.Dot
public import proofs.«01_k».proof.Defs

@[expose] public section

noncomputable section

namespace Layer.EmbedP

open Cert.EmbedPIdeal Cert.EmbedPIdeal.Gen Idealize.ShloMosaic Idealize.ShloMosaic.TcCoe Idealize.SL.Sem
open Idealize.ShloMosaic.Pipeline (Dat)
open Idealize.ShloMosaic.ValueIdx (ix2)

theorem hz : (![0, 0] : Fin 2 → Nat) = fun _ => 0 := funext fun a => by fin_cases a <;> rfl

/-- Row `r` of the result is row `r + 0` of the arrays of all the tokens. -/
def row (r : Fin 16384) : Fin 32768 := ⟨r.val + 0, by omega⟩

/-- `x + sigmoid(xb · wg) * (p · wp)` at an index, over the extended reals. -/
def spec (xb : S32768x4096.Idx → EReal) (wg : S4096x4096.Idx → EReal) (p : S32768x256.Idx → EReal)
    (wp : S256x4096.Idx → EReal) (x : S32768x4096.Idx → EReal) (i : S16384x4096.Idx) : EReal :=
  x (ix2 (row (i 0)) (i 1))
    + Ideal.logistic (∑ k : Fin 4096, xb (ix2 (row (i 0)) k) * wg (ix2 k (i 1)))
      * ∑ k : Fin 256, p (ix2 (row (i 0)) k) * wp (ix2 k (i 1))

/-- The body's stored value at an index of its block, from the five blocks it loads. -/
theorem pay_apply (v0 : Vec Ideal S1024x4096 .bf16) (v1 : Vec Ideal S4096x512 .bf16) (v2 : Vec Ideal S1024x256 .bf16)
    (v3 : Vec Ideal S256x512 .bf16) (v4 : Vec Ideal S1024x512 .f32) (j : S1024x512.Idx) :
    k0_pay1 (F := Ideal) v0 v1 v2 v3 v4 j
      = v4 j + Ideal.logistic (∑ k : Fin 4096, v0 (ix2 (j 0) k) * v1 (ix2 k (j 1)))
          * ∑ k : Fin 256, v2 (ix2 (j 0) k) * v3 (ix2 k (j 1)) := by
  rw [← matmul_plain_zero (φ₁ := .bf16) (φ₂ := .bf16) v0 v1 j, ← matmul_plain_zero (φ₁ := .bf16) (φ₂ := .bf16) v2 v3 j]
  rfl

/-- Point `t` is the pair of its row block and its column block. -/
theorem point_facts : ∀ t : Fin cfg0.N, win0_5.index t 0 = t.val / 8 ∧ win0_5.index t 1 = t.val % 8 :=
  (by decide +kernel : ∀ t : Fin grid0.N, win0_5.index t 0 = t.val / 8 ∧ win0_5.index t 1 = t.val % 8)

/-- The rows read start 0 blocks after the rows written. -/
theorem row_facts : ∀ t : Fin cfg0.N, (win0_0.index t 0 = win0_5.index t 0 + 0) ∧ (win0_2.index t 0 = win0_5.index t 0 + 0) ∧ (win0_4.index t 0 = win0_5.index t 0 + 0) :=
  (by decide +kernel : ∀ t : Fin grid0.N, (win0_0.index t 0 = win0_5.index t 0 + 0) ∧ (win0_2.index t 0 = win0_5.index t 0 + 0) ∧ (win0_4.index t 0 = win0_5.index t 0 + 0))

variable (m : (ℓ : Loc nD τ sig) → Buf (Elt Ideal) ℓ) (ρ : Dev nD → PrngReg)

/-- The result array's contents: `spec` of the arguments. -/
abbrev G (c : Dev nD) : Buf (Elt Ideal) ((c : Thread nD τ).loc main_v0) :=
  spec (m ((c : Thread nD τ).loc main_arg0)) (m ((c : Thread nD τ).loc main_arg1)) (m ((c : Thread nD τ).loc main_arg2)) (m ((c : Thread nD τ).loc main_arg3)) (m ((c : Thread nD τ).loc main_arg4))

/-- Each point writes back its block of `G`. -/
theorem flushed_eq (c : Dev nD) (t : Fin cfg0.N) :
    (dats m 0 c).flushed 5 t = ((cfg0.win 5).blk t).view.read (Elt Ideal) (G m c) := by
  rw [Cert.EmbedPIdeal.Value.flushed5]
  unfold out0_5
  rw [View.canon_unit_zero hz, View.ld_unit_zero hz, View.ld_unit_zero hz, View.ld_unit_zero hz, View.ld_unit_zero hz,
    View.ld_unit_zero hz]
  funext j
  refine (pay_apply _ _ _ _ _ _).trans ?_
  have e0 : ∀ k : Fin 4096, (iblk m c 0 t : S1024x4096.Idx → EReal) (ix2 (j 0) k)
      = (m ((c : Thread nD τ).loc main_arg0) : S32768x4096.Idx → EReal) (ix2 (row (((cfg0.win 5).blk t).view.emb j 0)) k) :=
    fun k => congrArg (m ((c : Thread nD τ).loc main_arg0)) (funext fun a => Fin.ext (by
      match a with
      | ⟨0, _⟩ => exact by have h := (row_facts t).1; show win0_0.index t 0 * 1024 + 1 * (j 0 : Nat) = (win0_5.index t 0 * 1024 + 1 * (j 0 : Nat)) + 0; omega
      | ⟨1, _⟩ => exact emb_of_index_zero win0_0 t (ix2 (j 0) k) 1 rfl rfl))
  have e1 : ∀ k : Fin 4096, (iblk m c 1 t : S4096x512.Idx → EReal) (ix2 k (j 1))
      = (m ((c : Thread nD τ).loc main_arg1) : S4096x4096.Idx → EReal) (ix2 k (((cfg0.win 5).blk t).view.emb j 1)) :=
    fun k => congrArg (m ((c : Thread nD τ).loc main_arg1)) (funext fun a => Fin.ext (by
      match a with
      | ⟨0, _⟩ => exact emb_of_index_zero win0_1 t (ix2 k (j 1)) 0 rfl rfl
      | ⟨1, _⟩ => rfl))
  have e2 : ∀ k : Fin 256, (iblk m c 2 t : S1024x256.Idx → EReal) (ix2 (j 0) k)
      = (m ((c : Thread nD τ).loc main_arg2) : S32768x256.Idx → EReal) (ix2 (row (((cfg0.win 5).blk t).view.emb j 0)) k) :=
    fun k => congrArg (m ((c : Thread nD τ).loc main_arg2)) (funext fun a => Fin.ext (by
      match a with
      | ⟨0, _⟩ => exact by have h := (row_facts t).2.1; show win0_2.index t 0 * 1024 + 1 * (j 0 : Nat) = (win0_5.index t 0 * 1024 + 1 * (j 0 : Nat)) + 0; omega
      | ⟨1, _⟩ => exact emb_of_index_zero win0_2 t (ix2 (j 0) k) 1 rfl rfl))
  have e3 : ∀ k : Fin 256, (iblk m c 3 t : S256x512.Idx → EReal) (ix2 k (j 1))
      = (m ((c : Thread nD τ).loc main_arg3) : S256x4096.Idx → EReal) (ix2 k (((cfg0.win 5).blk t).view.emb j 1)) :=
    fun k => congrArg (m ((c : Thread nD τ).loc main_arg3)) (funext fun a => Fin.ext (by
      match a with
      | ⟨0, _⟩ => exact emb_of_index_zero win0_3 t (ix2 k (j 1)) 0 rfl rfl
      | ⟨1, _⟩ => rfl))
  have e4 : (iblk m c 4 t : S1024x512.Idx → EReal) j
      = (m ((c : Thread nD τ).loc main_arg4) : S32768x4096.Idx → EReal)
          (ix2 (row (((cfg0.win 5).blk t).view.emb j 0)) (((cfg0.win 5).blk t).view.emb j 1)) :=
    congrArg (m ((c : Thread nD τ).loc main_arg4)) (funext fun a => Fin.ext (by
      match a with
      | ⟨0, _⟩ => exact by have h := (row_facts t).2.2; show win0_4.index t 0 * 1024 + 1 * (j 0 : Nat) = (win0_5.index t 0 * 1024 + 1 * (j 0 : Nat)) + 0; omega
      | ⟨1, _⟩ => rfl))
  simp only [e0, e1, e2, e3, e4]
  rfl

/-- An index of the result is in point `t`'s block when its row and its column are in the block's ranges. -/
theorem mem_blk (t : Fin cfg0.N) (i : S16384x4096.Idx)
    (h0 : t.val / 8 * 1024 ≤ (i 0 : Nat) ∧ (i 0 : Nat) < t.val / 8 * 1024 + 1024)
    (h1 : t.val % 8 * 512 ≤ (i 1 : Nat) ∧ (i 1 : Nat) < t.val % 8 * 512 + 512) :
    i ∈ ((cfg0.win 5).blk t).view.set := by
  show i ∈ ((View.whole main_v0).slice (win0_5.rect t)).set
  rw [View.set_slice_whole, Rect.mem_set_unit]
  obtain ⟨e0, e1⟩ := point_facts t
  intro a
  match a with
  | ⟨0, _⟩ =>
    show win0_5.index t 0 * 1024 ≤ (i 0 : Nat) ∧ (i 0 : Nat) < win0_5.index t 0 * 1024 + 1024
    rw [e0]; exact h0
  | ⟨1, _⟩ =>
    show win0_5.index t 1 * 512 ≤ (i 1 : Nat) ∧ (i 1 : Nat) < win0_5.index t 1 * 512 + 512
    rw [e1]; exact h1

/-- The blocks tile the result. -/
theorem cover (i : S16384x4096.Idx) :
    ∃ t : Fin cfg0.N, (cfg0.win 5).flush t = true ∧ i ∈ ((cfg0.win 5).blk t).view.set := by
  have h0 : (i 0 : Nat) < 16384 := (i 0).isLt
  have h1 : (i 1 : Nat) < 4096 := (i 1).isLt
  have hN : cfg0.N = 128 := N_0
  refine ⟨⟨(i 0 : Nat) / 1024 * 8 + (i 1 : Nat) / 512, by omega⟩, flush0_5 _, mem_blk _ i ?_ ?_⟩ <;> dsimp only <;> omega

/-- The kernel's run: the result holds `spec` of the arguments, which are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨(h c).1.trans ((dats m 0 c).arrAt_eq_of_cover 5 (G m c) (fun t _ => flushed_eq m c t) cover), (h c).2⟩)
    (Cert.EmbedPIdeal.Value.run_blocks m ρ)

/-- The reference's result is `spec` of its arguments. -/
theorem ref_eq (xb : S32768x4096.Idx → EReal) (wg : S4096x4096.Idx → EReal) (p : S32768x256.Idx → EReal)
    (wp : S256x4096.Idx → EReal) (x : S32768x4096.Idx → EReal) :
    Cert.EmbedPRefIdeal.Read.val_main_v14 (F := Ideal) xb wg p wp x = spec xb wg p wp x := by
  funext i
  rw [Cert.EmbedPRefIdeal.Read.val_main_v14_apply]
  have e : Cert.EmbedPRefIdeal.Read.idx_main_v14 i = ix2 (row (i 0)) (i 1) := funext fun a => Fin.ext (by
    match a with
    | ⟨0, _⟩ => rfl
    | ⟨1, _⟩ => rfl)
  rw [e]
  show _ = x (ix2 (row (i 0)) (i 1))
    + Ideal.logistic (∑ k : Fin 4096, xb (ix2 (row (i 0)) k) * wg (ix2 k (i 1)))
      * ∑ k : Fin 256, p (ix2 (row (i 0)) k) * wp (ix2 k (i 1))
  generalize row (i 0) = r
  have h2 : Cert.EmbedPRefIdeal.Read.val_main_v2 (F := Ideal) xb wg (ix2 r (i 1)) = ∑ k : Fin 4096, xb (ix2 r k) * wg (ix2 k (i 1)) :=
    dotGeneral_plain (φ₁ := .f32) (φ₂ := .f32) _ xb wg (ix2 r (i 1))
  have h11 : Cert.EmbedPRefIdeal.Read.val_main_v11 (F := Ideal) p wp (ix2 r (i 1)) = ∑ k : Fin 256, p (ix2 r k) * wp (ix2 k (i 1)) :=
    dotGeneral_plain (φ₁ := .f32) (φ₂ := .f32) _ p wp (ix2 r (i 1))
  show x (ix2 r (i 1)) + Ideal.div (Ideal.ofBits .f32 0x3F800000#32)
      (Ideal.ofBits .f32 0x3F800000#32 + Ideal.exp (-(Cert.EmbedPRefIdeal.Read.val_main_v2 (F := Ideal) xb wg (ix2 r (i 1)))))
        * Cert.EmbedPRefIdeal.Read.val_main_v11 (F := Ideal) p wp (ix2 r (i 1)) = _
  rw [h2, h11, ofBits_one_f32]
  rfl

/-- The kernel and the reference compute the same array from equal arguments. -/
theorem algebraic : Cert.algebraic_EmbedPIdeal_EmbedPRefIdeal (hEmbedPIdeal := Cert.EmbedPIdeal.Gen.facts)
    (hEmbedPRefIdeal := Cert.EmbedPRefIdeal.Gen.facts) := by
  intro m g m' g' _ hag
  refine ⟨fun c => G m c, run m g, ?_⟩
  refine (θ_run (Cert.EmbedPRefIdeal.defs (F := Ideal)) _ _).mono (fun r h c => ?_) (Cert.EmbedPRefIdeal.Value.run (F := Ideal) m' g')
  obtain ⟨hv, hargs⟩ := h c
  refine ⟨hv.trans ?_, hargs⟩
  obtain ⟨h0, h1, h2, h3, h4⟩ := hag c
  rw [h0, h1, h2, h3, h4]
  exact (Cert.EmbedPRefIdeal.Read.val_main_v14_eq _ _ _ _ _).trans (ref_eq _ _ _ _ _)

end Layer.EmbedP

end
-- ==== Proof.EmbedS.lean ====
/-
  The gated embedding of the sample's tokens, the last 16384 tokens: `x + sigmoid(xb · wg) * (p · wp)`.

  The kernel works on a grid of 16 × 8 blocks of 1024 rows and 512 columns; the rows it reads start 16384 rows down the
  arrays of all the tokens.
-/
module

public import proofs.«01_k».proof.Proof.Gen.EmbedSIdeal.Value
public import proofs.«01_k».proof.Proof.Gen.EmbedSRefIdeal.Run
public import proofs.«01_k».proof.Proof.Gen.EmbedSRefIdeal.Read
public import proofs.«01_k».proof.Proof.Dot
public import proofs.«01_k».proof.Defs

@[expose] public section

noncomputable section

namespace Layer.EmbedS

open Cert.EmbedSIdeal Cert.EmbedSIdeal.Gen Idealize.ShloMosaic Idealize.ShloMosaic.TcCoe Idealize.SL.Sem
open Idealize.ShloMosaic.Pipeline (Dat)
open Idealize.ShloMosaic.ValueIdx (ix2)

theorem hz : (![0, 0] : Fin 2 → Nat) = fun _ => 0 := funext fun a => by fin_cases a <;> rfl

/-- Row `r` of the result is row `r + 16384` of the arrays of all the tokens. -/
def row (r : Fin 16384) : Fin 32768 := ⟨r.val + 16384, by omega⟩

/-- `x + sigmoid(xb · wg) * (p · wp)` at an index, over the extended reals. -/
def spec (xb : S32768x4096.Idx → EReal) (wg : S4096x4096.Idx → EReal) (p : S32768x256.Idx → EReal)
    (wp : S256x4096.Idx → EReal) (x : S32768x4096.Idx → EReal) (i : S16384x4096.Idx) : EReal :=
  x (ix2 (row (i 0)) (i 1))
    + Ideal.logistic (∑ k : Fin 4096, xb (ix2 (row (i 0)) k) * wg (ix2 k (i 1)))
      * ∑ k : Fin 256, p (ix2 (row (i 0)) k) * wp (ix2 k (i 1))

/-- The body's stored value at an index of its block, from the five blocks it loads. -/
theorem pay_apply (v0 : Vec Ideal S1024x4096 .bf16) (v1 : Vec Ideal S4096x512 .bf16) (v2 : Vec Ideal S1024x256 .bf16)
    (v3 : Vec Ideal S256x512 .bf16) (v4 : Vec Ideal S1024x512 .f32) (j : S1024x512.Idx) :
    k0_pay1 (F := Ideal) v0 v1 v2 v3 v4 j
      = v4 j + Ideal.logistic (∑ k : Fin 4096, v0 (ix2 (j 0) k) * v1 (ix2 k (j 1)))
          * ∑ k : Fin 256, v2 (ix2 (j 0) k) * v3 (ix2 k (j 1)) := by
  rw [← matmul_plain_zero (φ₁ := .bf16) (φ₂ := .bf16) v0 v1 j, ← matmul_plain_zero (φ₁ := .bf16) (φ₂ := .bf16) v2 v3 j]
  rfl

/-- Point `t` is the pair of its row block and its column block. -/
theorem point_facts : ∀ t : Fin cfg0.N, win0_5.index t 0 = t.val / 8 ∧ win0_5.index t 1 = t.val % 8 :=
  (by decide +kernel : ∀ t : Fin grid0.N, win0_5.index t 0 = t.val / 8 ∧ win0_5.index t 1 = t.val % 8)

/-- The rows read start 16 blocks after the rows written. -/
theorem row_facts : ∀ t : Fin cfg0.N, (win0_0.index t 0 = win0_5.index t 0 + 16) ∧ (win0_2.index t 0 = win0_5.index t 0 + 16) ∧ (win0_4.index t 0 = win0_5.index t 0 + 16) :=
  (by decide +kernel : ∀ t : Fin grid0.N, (win0_0.index t 0 = win0_5.index t 0 + 16) ∧ (win0_2.index t 0 = win0_5.index t 0 + 16) ∧ (win0_4.index t 0 = win0_5.index t 0 + 16))

variable (m : (ℓ : Loc nD τ sig) → Buf (Elt Ideal) ℓ) (ρ : Dev nD → PrngReg)

/-- The result array's contents: `spec` of the arguments. -/
abbrev G (c : Dev nD) : Buf (Elt Ideal) ((c : Thread nD τ).loc main_v0) :=
  spec (m ((c : Thread nD τ).loc main_arg0)) (m ((c : Thread nD τ).loc main_arg1)) (m ((c : Thread nD τ).loc main_arg2)) (m ((c : Thread nD τ).loc main_arg3)) (m ((c : Thread nD τ).loc main_arg4))

/-- Each point writes back its block of `G`. -/
theorem flushed_eq (c : Dev nD) (t : Fin cfg0.N) :
    (dats m 0 c).flushed 5 t = ((cfg0.win 5).blk t).view.read (Elt Ideal) (G m c) := by
  rw [Cert.EmbedSIdeal.Value.flushed5]
  unfold out0_5
  rw [View.canon_unit_zero hz, View.ld_unit_zero hz, View.ld_unit_zero hz, View.ld_unit_zero hz, View.ld_unit_zero hz,
    View.ld_unit_zero hz]
  funext j
  refine (pay_apply _ _ _ _ _ _).trans ?_
  have e0 : ∀ k : Fin 4096, (iblk m c 0 t : S1024x4096.Idx → EReal) (ix2 (j 0) k)
      = (m ((c : Thread nD τ).loc main_arg0) : S32768x4096.Idx → EReal) (ix2 (row (((cfg0.win 5).blk t).view.emb j 0)) k) :=
    fun k => congrArg (m ((c : Thread nD τ).loc main_arg0)) (funext fun a => Fin.ext (by
      match a with
      | ⟨0, _⟩ => exact by have h := (row_facts t).1; show win0_0.index t 0 * 1024 + 1 * (j 0 : Nat) = (win0_5.index t 0 * 1024 + 1 * (j 0 : Nat)) + 16384; omega
      | ⟨1, _⟩ => exact emb_of_index_zero win0_0 t (ix2 (j 0) k) 1 rfl rfl))
  have e1 : ∀ k : Fin 4096, (iblk m c 1 t : S4096x512.Idx → EReal) (ix2 k (j 1))
      = (m ((c : Thread nD τ).loc main_arg1) : S4096x4096.Idx → EReal) (ix2 k (((cfg0.win 5).blk t).view.emb j 1)) :=
    fun k => congrArg (m ((c : Thread nD τ).loc main_arg1)) (funext fun a => Fin.ext (by
      match a with
      | ⟨0, _⟩ => exact emb_of_index_zero win0_1 t (ix2 k (j 1)) 0 rfl rfl
      | ⟨1, _⟩ => rfl))
  have e2 : ∀ k : Fin 256, (iblk m c 2 t : S1024x256.Idx → EReal) (ix2 (j 0) k)
      = (m ((c : Thread nD τ).loc main_arg2) : S32768x256.Idx → EReal) (ix2 (row (((cfg0.win 5).blk t).view.emb j 0)) k) :=
    fun k => congrArg (m ((c : Thread nD τ).loc main_arg2)) (funext fun a => Fin.ext (by
      match a with
      | ⟨0, _⟩ => exact by have h := (row_facts t).2.1; show win0_2.index t 0 * 1024 + 1 * (j 0 : Nat) = (win0_5.index t 0 * 1024 + 1 * (j 0 : Nat)) + 16384; omega
      | ⟨1, _⟩ => exact emb_of_index_zero win0_2 t (ix2 (j 0) k) 1 rfl rfl))
  have e3 : ∀ k : Fin 256, (iblk m c 3 t : S256x512.Idx → EReal) (ix2 k (j 1))
      = (m ((c : Thread nD τ).loc main_arg3) : S256x4096.Idx → EReal) (ix2 k (((cfg0.win 5).blk t).view.emb j 1)) :=
    fun k => congrArg (m ((c : Thread nD τ).loc main_arg3)) (funext fun a => Fin.ext (by
      match a with
      | ⟨0, _⟩ => exact emb_of_index_zero win0_3 t (ix2 k (j 1)) 0 rfl rfl
      | ⟨1, _⟩ => rfl))
  have e4 : (iblk m c 4 t : S1024x512.Idx → EReal) j
      = (m ((c : Thread nD τ).loc main_arg4) : S32768x4096.Idx → EReal)
          (ix2 (row (((cfg0.win 5).blk t).view.emb j 0)) (((cfg0.win 5).blk t).view.emb j 1)) :=
    congrArg (m ((c : Thread nD τ).loc main_arg4)) (funext fun a => Fin.ext (by
      match a with
      | ⟨0, _⟩ => exact by have h := (row_facts t).2.2; show win0_4.index t 0 * 1024 + 1 * (j 0 : Nat) = (win0_5.index t 0 * 1024 + 1 * (j 0 : Nat)) + 16384; omega
      | ⟨1, _⟩ => rfl))
  simp only [e0, e1, e2, e3, e4]
  rfl

/-- An index of the result is in point `t`'s block when its row and its column are in the block's ranges. -/
theorem mem_blk (t : Fin cfg0.N) (i : S16384x4096.Idx)
    (h0 : t.val / 8 * 1024 ≤ (i 0 : Nat) ∧ (i 0 : Nat) < t.val / 8 * 1024 + 1024)
    (h1 : t.val % 8 * 512 ≤ (i 1 : Nat) ∧ (i 1 : Nat) < t.val % 8 * 512 + 512) :
    i ∈ ((cfg0.win 5).blk t).view.set := by
  show i ∈ ((View.whole main_v0).slice (win0_5.rect t)).set
  rw [View.set_slice_whole, Rect.mem_set_unit]
  obtain ⟨e0, e1⟩ := point_facts t
  intro a
  match a with
  | ⟨0, _⟩ =>
    show win0_5.index t 0 * 1024 ≤ (i 0 : Nat) ∧ (i 0 : Nat) < win0_5.index t 0 * 1024 + 1024
    rw [e0]; exact h0
  | ⟨1, _⟩ =>
    show win0_5.index t 1 * 512 ≤ (i 1 : Nat) ∧ (i 1 : Nat) < win0_5.index t 1 * 512 + 512
    rw [e1]; exact h1

/-- The blocks tile the result. -/
theorem cover (i : S16384x4096.Idx) :
    ∃ t : Fin cfg0.N, (cfg0.win 5).flush t = true ∧ i ∈ ((cfg0.win 5).blk t).view.set := by
  have h0 : (i 0 : Nat) < 16384 := (i 0).isLt
  have h1 : (i 1 : Nat) < 4096 := (i 1).isLt
  have hN : cfg0.N = 128 := N_0
  refine ⟨⟨(i 0 : Nat) / 1024 * 8 + (i 1 : Nat) / 512, by omega⟩, flush0_5 _, mem_blk _ i ?_ ?_⟩ <;> dsimp only <;> omega

/-- The kernel's run: the result holds `spec` of the arguments, which are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨(h c).1.trans ((dats m 0 c).arrAt_eq_of_cover 5 (G m c) (fun t _ => flushed_eq m c t) cover), (h c).2⟩)
    (Cert.EmbedSIdeal.Value.run_blocks m ρ)

/-- The reference's result is `spec` of its arguments. -/
theorem ref_eq (xb : S32768x4096.Idx → EReal) (wg : S4096x4096.Idx → EReal) (p : S32768x256.Idx → EReal)
    (wp : S256x4096.Idx → EReal) (x : S32768x4096.Idx → EReal) :
    Cert.EmbedSRefIdeal.Read.val_main_v14 (F := Ideal) xb wg p wp x = spec xb wg p wp x := by
  funext i
  rw [Cert.EmbedSRefIdeal.Read.val_main_v14_apply]
  have e : Cert.EmbedSRefIdeal.Read.idx_main_v14 i = ix2 (row (i 0)) (i 1) := funext fun a => Fin.ext (by
    match a with
    | ⟨0, _⟩ => exact Nat.add_comm 16384 (i 0 : Nat)
    | ⟨1, _⟩ => rfl)
  rw [e]
  show _ = x (ix2 (row (i 0)) (i 1))
    + Ideal.logistic (∑ k : Fin 4096, xb (ix2 (row (i 0)) k) * wg (ix2 k (i 1)))
      * ∑ k : Fin 256, p (ix2 (row (i 0)) k) * wp (ix2 k (i 1))
  generalize row (i 0) = r
  have h2 : Cert.EmbedSRefIdeal.Read.val_main_v2 (F := Ideal) xb wg (ix2 r (i 1)) = ∑ k : Fin 4096, xb (ix2 r k) * wg (ix2 k (i 1)) :=
    dotGeneral_plain (φ₁ := .f32) (φ₂ := .f32) _ xb wg (ix2 r (i 1))
  have h11 : Cert.EmbedSRefIdeal.Read.val_main_v11 (F := Ideal) p wp (ix2 r (i 1)) = ∑ k : Fin 256, p (ix2 r k) * wp (ix2 k (i 1)) :=
    dotGeneral_plain (φ₁ := .f32) (φ₂ := .f32) _ p wp (ix2 r (i 1))
  show x (ix2 r (i 1)) + Ideal.div (Ideal.ofBits .f32 0x3F800000#32)
      (Ideal.ofBits .f32 0x3F800000#32 + Ideal.exp (-(Cert.EmbedSRefIdeal.Read.val_main_v2 (F := Ideal) xb wg (ix2 r (i 1)))))
        * Cert.EmbedSRefIdeal.Read.val_main_v11 (F := Ideal) p wp (ix2 r (i 1)) = _
  rw [h2, h11, ofBits_one_f32]
  rfl

/-- The kernel and the reference compute the same array from equal arguments. -/
theorem algebraic : Cert.algebraic_EmbedSIdeal_EmbedSRefIdeal (hEmbedSIdeal := Cert.EmbedSIdeal.Gen.facts)
    (hEmbedSRefIdeal := Cert.EmbedSRefIdeal.Gen.facts) := by
  intro m g m' g' _ hag
  refine ⟨fun c => G m c, run m g, ?_⟩
  refine (θ_run (Cert.EmbedSRefIdeal.defs (F := Ideal)) _ _).mono (fun r h c => ?_) (Cert.EmbedSRefIdeal.Value.run (F := Ideal) m' g')
  obtain ⟨hv, hargs⟩ := h c
  refine ⟨hv.trans ?_, hargs⟩
  obtain ⟨h0, h1, h2, h3, h4⟩ := hag c
  rw [h0, h1, h2, h3, h4]
  exact (Cert.EmbedSRefIdeal.Read.val_main_v14_eq _ _ _ _ _).trans (ref_eq _ _ _ _ _)

end Layer.EmbedS

end
-- ==== Proof.MoeDownRun.lean ====
/-
  The run of the routed down projection, whatever experts its tiles name.

  The kernel is a pipeline of 4 × 136 points: a column block and a tile of 512 rows. Two prefetched tables steer it: the
  expert each tile belongs to, which selects the block of weights fetched for the tile, and whether the tile holds rows at
  all. This module runs it on any memory whose first table names experts `0 ≤ e < 8`: the weights' blocks then lie inside
  their array. Every point writes its whole block of the result, a product or zeros, so what a point leaves depends on
  no earlier point.
-/
module

public import proofs.«01_k».proof.Proof.Gen.MoeDown.Flash
public import proofs.«01_k».proof.Defs

@[expose] public section

set_option maxRecDepth 16384
set_option Elab.async false

noncomputable section

namespace Layer.MoeDown

open Cert.MoeDown Cert.MoeDown.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! ## The two branches of the body -/

/-- The first branch is taken at a tile marked 1, -/
theorem cond1_iff (v : BitVec 32) : k0_cond1 v = 1#1 ↔ v = 1#32 := by
  by_cases h : v = 1#32
  · subst h; decide
  · have e : IntOp.cmpi .eq v 1#32 = 0#1 := by
      show BitVec.ofBool (v == 1#32) = 0#1
      rw [beq_false_of_ne h]; rfl
    simp only [k0_cond1, Scalar.cmpi, Scalar.extui, e, h, iff_false]
    decide

/-- and the second at every other. -/
theorem cond2_iff (v : BitVec 32) : k0_cond2 v = 1#1 ↔ ¬ v = 1#32 := by
  by_cases h : v = 1#32
  · subst h; decide
  · have e : IntOp.cmpi .eq v 1#32 = 0#1 := by
      show BitVec.ofBool (v == 1#32) = 0#1
      rw [beq_false_of_ne h]; rfl
    simp only [k0_cond2, Scalar.cmpi, Scalar.extui, Scalar.xori, e, h, not_false_eq_true, iff_true]
    decide

/-- The point always takes one of them. -/
theorem not_idle (v : BitVec 32) : (!(k0_cond1 v == 1#1) && !(k0_cond2 v == 1#1)) = false := by
  by_cases h : v = 1#32
  · rw [(cond1_iff v).mpr h]; rfl
  · rw [(cond2_iff v).mpr h]; simp

/-! ## The pipeline at a memory's tables -/

variable (m : (ℓ : Loc nD τ sig) → Buf (Elt Bits) ℓ) (ρ : Dev nD → PrngReg)

/-- The table of experts. -/
abbrev expert : S136.Idx → Elt Bits .i32 := m (((0 : Dev nD) : Thread nD τ).loc main_arg2)
/-- The table of marks: 1 at a tile that holds rows. -/
abbrev mark : S136.Idx → Elt Bits .i32 := m (((0 : Dev nD) : Thread nD τ).loc main_arg3)

/-- Every tile names one of the eight experts. -/
def Named : Prop := ∀ x : S136.Idx, (show BitVec 32 from expert m x).toNat < 8

set_option backward.proofsInPublic true in
/-- The tables as the region reads them. -/
def tables : pre0.Contents (Elt Bits) := fun | ⟨0, _⟩ => expert m | ⟨1, _⟩ => mark m | ⟨_ + 2, h⟩ => absurd h (by simp)

/-- With every expert named, each point's block of weights lies inside their array. -/
theorem tables_ok (h : Named m) : ok0 (F := Bits) (tables m) := by
  intro i
  have r0 : (i 0).val < 4 := (i 0).isLt
  have e0 : (BitVec.ofNat 32 (i 0).val).toNat = (i 0).val := by
    rw [BitVec.toNat_ofNat]; exact Nat.mod_eq_of_lt (by omega)
  refine ⟨?_, .inr (Affine.block_words_dvd (of_decide_eq_true rfl) (by decide))⟩
  intro a
  match a with
  | ⟨0, _⟩ =>
    have hx := h ((Rect.unit (s := S136) ![(Scalar.indexCast (BitVec.ofNat 32 (i 1).val)).toNat] S1.size (k0_off1_inb i)).emb
      (Shape.Idx.first (numel1_S1.symm ▸ Nat.one_pos)))
    exact (Nat.mul_one _).trans_le (Nat.succ_le_of_lt hx)
  | ⟨1, _⟩ => show (0 + 1) * 2048 ≤ 2048; omega
  | ⟨2, _⟩ =>
    show ((BitVec.ofNat 32 (i 0).val).toNat + 1) * 1024 ≤ 4096
    rw [e0]; omega

variable (hn : Named m)

/-- The tables with the side condition they meet, and the pipeline at them. -/
def adm : (pcfg0 (F := Bits)).Adm := ⟨tables m, tables_ok m hn⟩
abbrev cfg : Pipeline.Cfg sig Λ₀ := cfg0 (F := Bits) (adm m hn)
abbrev pipes : Fin 1 → Pipeline.Cfg sig Λ₀ := Pipeline.pin (pcfgs (F := Bits)) fun _ => adm m hn

/-- A point's coordinates. -/
abbrev at_ (t : Fin (cfg m hn).N) : (cfg m hn).grid.Coords := (cfg m hn).grid.coords t

/-- The staging buffers a point works on. -/
abbrev sg0 (t : Fin (cfg m hn).N) : Memref sig .tc .vmem S512x2048 .bf16 := spec0_0.stage ((cfg m hn).slots t (0 : Fin 3))
abbrev wh0 (t : Fin (cfg m hn).N) : (sg0 m hn t).IsWhole := hstage0_0 (((cfg m hn).slots t (0 : Fin 3)).cast nbuf0_0)
abbrev sg1 (t : Fin (cfg m hn).N) : Memref sig .tc .vmem S1x2048x1024 .bf16 := spec0_1.stage ((cfg m hn).slots t (1 : Fin 3))
abbrev wh1 (t : Fin (cfg m hn).N) : (sg1 m hn t).IsWhole := hstage0_1 (((cfg m hn).slots t (1 : Fin 3)).cast nbuf0_1)
abbrev sg2 (t : Fin (cfg m hn).N) : Memref sig .tc .vmem S512x1024 .f32 := spec0_2.stage ((cfg m hn).slots t (2 : Fin 3))
abbrev wh2 (t : Fin (cfg m hn).N) : (sg2 m hn t).IsWhole := hstage0_2 (((cfg m hn).slots t (2 : Fin 3)).cast nbuf0_2)

/-- A window's block at a point, read off its array at the launch. -/
def blk (c : Dev nD) (w : Fin (cfg m hn).W) (t : Fin (cfg m hn).N) :
    (((cfg m hn).win w).xblock (at_ m hn t)).Idx → Elt Bits ((cfg m hn).win w).elt :=
  (((cfg m hn).win w).blk t).view.read (Elt Bits) (m (((cfg m hn).win w).arr.view.loc (c : Thread nD τ)))

/-- The mark the body reads at a point. -/
abbrev word (i : grid0.Coords) : BitVec 32 :=
  View.readAt (Elt Bits) (tbM0_1).view (Rect.unit (s := S136) (k0_off1 i) S1.size (k0_off1_inb i)).toLoadRect (mark m)
    (Shape.Idx.first (numel1_S1.symm ▸ Nat.one_pos))

theorem not_second {v : BitVec 32} (h : k0_cond1 v = 1#1) : ¬ k0_cond2 v = 1#1 :=
  fun h2 => (cond2_iff v).mp h2 ((cond1_iff v).mp h)
theorem second {v : BitVec 32} (h : ¬ k0_cond1 v = 1#1) : k0_cond2 v = 1#1 :=
  (cond2_iff v).mpr fun h1 => h ((cond1_iff v).mpr h1)

/-- What a point leaves in the result's staging buffer: the branch's contents. -/
def left (c : Dev nD) (t : Fin (cfg m hn).N) : S512x1024.Idx → Elt Bits .f32 :=
  if h : k0_cond1 (word m (at_ m hn t)) = 1#1 then
    out0_A_2 c (at_ m hn t) (sg0 m hn t) (wh0 m hn t) (sg1 m hn t) (wh1 m hn t) (sg2 m hn t) (wh2 m hn t) (expert m) (mark m)
      (blk m hn c (0 : Fin 3) t) (blk m hn c (1 : Fin 3) t) h (not_second h)
  else
    out0_B_2 c (at_ m hn t) (sg0 m hn t) (wh0 m hn t) (sg1 m hn t) (wh1 m hn t) (sg2 m hn t) (wh2 m hn t) (expert m) (mark m)
      (blk m hn c (0 : Fin 3) t) (blk m hn c (1 : Fin 3) t) h (second h)

/-- The result's block changes at every point, so every point writes its block back. -/
theorem flush2 (t : Fin (cfg m hn).N) : ((cfg m hn).win (2 : Fin 3)).flush t = true := by
  by_cases q : P0_0 (0 : Fin 1) t
  · exact (sched0_A (0 : Fin 1) t q).2.1
  · exact (sched0_B (0 : Fin 1) t q).2.1

/-! ## The proof data and the body -/

/-- What the body keeps of the tables: half of each. -/
def Keep (c : Dev nD) : sProp 𝕄 :=
  iprop((tbM0_0.view.loc (c : Thread nD τ) ↦{fullShare.right} expert m) ∗ (tbM0_1.view.loc (c : Thread nD τ) ↦{fullShare.right} mark m))

/-- The pipeline's proof data on core `c`. -/
def dats (_ : Fin 1) (c : Dev nD) : Dat τ (Elt Bits) Unit ℕ (UR sig nD τ) ℕ (cfg m hn) c where
  A w := (s₀ m ρ).mem (((cfg m hn).win w).arr.view.loc (c : Thread nD τ))
  after w t := match w with
    | ⟨0, _⟩ => blk m hn c (0 : Fin 3) t
    | ⟨1, _⟩ => blk m hn c (1 : Fin 3) t
    | ⟨2, _⟩ => left m hn c t
  Φ _ := Keep m c
  q _ := fullShare
  owed _ := 0

theorem after0 (c : Dev nD) (t : Fin (cfg m hn).N) : (dats m ρ hn 0 c).after (0 : Fin 3) t = blk m hn c (0 : Fin 3) t := rfl
theorem after1 (c : Dev nD) (t : Fin (cfg m hn).N) : (dats m ρ hn 0 c).after (1 : Fin 3) t = blk m hn c (1 : Fin 3) t := rfl
theorem after2 (c : Dev nD) (t : Fin (cfg m hn).N) : (dats m ρ hn 0 c).after (2 : Fin 3) t = left m hn c t := rfl

/-- The staging buffer of the rows holds the point's block, -/
theorem before0 (c : Dev nD) (t : Fin (cfg m hn).N) (d) : (dats m ρ hn 0 c).before (0 : Fin 3) t d = blk m hn c (0 : Fin 3) t :=
  ((dats m ρ hn 0 c).before_in_eq_fetched (0 : Fin 3) rfl (fun _ => rfl) (fun _ _ _ => rfl)
    (fun t => by rw [after0]; unfold Dat.blockOf blk; rfl) t d).trans (by unfold Dat.fetched Dat.blockOf blk; rfl)

/-- and so does the weights'. -/
theorem before1 (c : Dev nD) (t : Fin (cfg m hn).N) (d) : (dats m ρ hn 0 c).before (1 : Fin 3) t d = blk m hn c (1 : Fin 3) t :=
  ((dats m ρ hn 0 c).before_in_eq_fetched (1 : Fin 3) rfl (fun _ => rfl) (fun _ _ _ => rfl)
    (fun t => by rw [after1]; unfold Dat.blockOf blk; rfl) t d).trans (by unfold Dat.fetched Dat.blockOf blk; rfl)

/-- The body at a point, on its staging buffers. -/
abbrev bodyAt (t : Fin (cfg m hn).N) : Prog (TpuEff nD τ sig (Elt Bits) Λ₀ .tc) PUnit :=
  cc0_moe_down_sparse (at_ m hn t) (Memref.whole main_arg2) (Memref.isWhole_whole _) (Memref.whole main_arg3)
    (Memref.isWhole_whole _) (sg0 m hn t) (wh0 m hn t) (sg1 m hn t) (wh1 m hn t) (sg2 m hn t) (wh2 m hn t)

set_option maxHeartbeats 4000000 in
/-- The body at a point turns the two blocks and anything in the result's buffer into the two blocks and `left`. -/
theorem body_sound (c : Dev nD) (t : Fin (cfg m hn).N) (d2 : S512x1024.Idx → Elt Bits .f32) (O : sProp 𝕄) :
    iprop(Keep m c ∗ O
        ∗ owns (c : Thread nD τ) (sg0 m hn t) fullShare (blk m hn c (0 : Fin 3) t)
        ∗ owns (c : Thread nD τ) (sg1 m hn t) fullShare (blk m hn c (1 : Fin 3) t)
        ∗ owns (c : Thread nD τ) (sg2 m hn t) fullShare d2)
      ⊢ wp frame (wpE (defs₀ (F := Bits)) Variants.none c none) Set.univ (bodyAt m hn t) fun _ =>
          iprop(Keep m c ∗ O
            ∗ owns (c : Thread nD τ) (sg0 m hn t) fullShare (blk m hn c (0 : Fin 3) t)
            ∗ owns (c : Thread nD τ) (sg1 m hn t) fullShare (blk m hn c (1 : Fin 3) t)
            ∗ owns (c : Thread nD τ) (sg2 m hn t) fullShare (left m hn c t)) := by
  unfold Keep left
  by_cases h : k0_cond1 (word m (at_ m hn t)) = 1#1
  · rw [dif_pos h]
    iintro ⟨⟨HT0, HT1⟩, Ho, H0, H1, H2⟩
    iapply ((kernelRun0_A c (at_ m hn t) (sg0 m hn t) (wh0 m hn t) (sg1 m hn t) (wh1 m hn t) (sg2 m hn t) (wh2 m hn t) (expert m)
      (mark m) (blk m hn c (0 : Fin 3) t) (blk m hn c (1 : Fin 3) t) h (not_second h)).2 _)
    isplitl [H0]; · iapply rep_of_owns; iexact H0
    isplitl [H1]; · iapply rep_of_owns; iexact H1
    isplitl [HT0]; · iexact HT0
    isplitl [HT1]; · iexact HT1
    isplitl [H2]; · iexists _; iexact H2
    iintro ⟨H0, H1, HT0, HT1, ⟨%e2, H2⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact View.read_writes_of_cover _ _ _ _ _ (cover0_A_2 c _ _ _ _ _ _ _ _ _ _ _ _ _)
  · rw [dif_neg h]
    iintro ⟨⟨HT0, HT1⟩, Ho, H0, H1, H2⟩
    iapply ((kernelRun0_B c (at_ m hn t) (sg0 m hn t) (wh0 m hn t) (sg1 m hn t) (wh1 m hn t) (sg2 m hn t) (wh2 m hn t) (expert m)
      (mark m) (blk m hn c (0 : Fin 3) t) (blk m hn c (1 : Fin 3) t) h (second h)).2 _)
    isplitl [H0]; · iapply rep_of_owns; iexact H0
    isplitl [H1]; · iapply rep_of_owns; iexact H1
    isplitl [HT0]; · iexact HT0
    isplitl [HT1]; · iexact HT1
    isplitl [H2]; · iexists _; iexact H2
    iintro ⟨H0, H1, HT0, HT1, ⟨%e2, H2⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact View.read_writes_of_cover _ _ _ _ _ (cover0_B_2 c _ _ _ _ _ _ _ _ _ _ _ _ _)

theorem idle2 (t : Fin (cfg m hn).N) : (cfg m hn).idle (2 : Fin 3) ((cfg m hn).grid.coords t) = false := not_idle _

set_option maxHeartbeats 4000000 in
/-- The obligation of the pipeline at every point. -/
theorem body_obligation (c : Dev nD) :
    BodyObligation (dats m ρ hn 0 c) (defs₀ (F := Bits)) Variants.none () Set.univ := fun t => by
  rw [bigSep_W0, bigSep_W0]
  rewrite [idle2 m hn t]
  simp only [before0, before1, after0, after1, after2]
  rewrite [show (dats m ρ hn 0 c).Φ t.succ = Keep m c from rfl, show (dats m ρ hn 0 c).Φ t.castSucc = Keep m c from rfl,
    show (dats m ρ hn 0 c).owesAt () t.succ = (dats m ρ hn 0 c).owesAt () t.castSucc from rfl]
  iintro ⟨HK, Ho, ⟨%d0, H0⟩, ⟨%d1, H1⟩, ⟨%d2, H2⟩⟩
  iapply (body_sound m hn c t _ ((dats m ρ hn 0 c).owesAt () t.castSucc))
  isplitl [HK]; · iexact HK
  isplitl [Ho]; · iexact Ho
  isplitl [H0]; · iexact H0
  isplitl [H1]; · iexact H1
  iexact H2

/-! ## The launch -/

/-- The launch's resources. -/
def u₀ : UR sig nD τ :=
  initOf (Pipeline.cells (pipes m hn) ((launch0 (F := Bits)).cellOf_inj fun _ => adm m hn))
    (Pipeline.launchToks (pipes m hn) ((launch0 (F := Bits)).cellOf_inj fun _ => adm m hn))

theorem share_full (c : Dev nD) (w : Fin (cfg m hn).W) : (dats m ρ hn 0 c).share w = fullShare := by unfold Dat.share; split <;> rfl

/-- The tables as the launch hands them over, one by one. -/
theorem held_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

/-- The body's halves of the tables at the start, -/
theorem keep_intro (c : Dev nD) :
    iprop(BI.emp ∗ Pipeline.prefHeld pre0 c (fun _ => fullShare.right) (adm m hn).1 ∗ Pipeline.scopedRest spec0 c)
      ⊢ (dats m ρ hn 0 c).Φ 0 := by
  rw [held_eq, scopedRest0_eq, show (dats m ρ hn 0 c).Φ 0 = Keep m c from rfl]
  unfold Keep
  iintro ⟨-, ⟨HT0, HT1⟩, -⟩
  isplitl [HT0]
  · iexact HT0
  iexact HT1

/-- let go at the end. -/
theorem keep_exit (c : Dev nD) : (dats m ρ hn 0 c).Φ (Fin.last (cfg m hn).N) ⊢ iprop(BI.emp ∗ Pipeline.scopedRest spec0 c) := by
  rw [scopedRest0_eq, show (dats m ρ hn 0 c).Φ (Fin.last (cfg m hn).N) = Keep m c from rfl]
  unfold Keep
  iintro ⟨-, -⟩
  isplitr; · iempintro
  iempintro

/-- How the run ends: every array as the points wrote it, the tables as they were. -/
def Ends : PUnit × MemSt nD τ sig (Elt Bits) → Prop := fun r =>
  ∀ c : Dev nD, (∀ w : Fin (cfg m hn).W,
      r.2.mem (((cfg m hn).win w).arr.view.loc (c : Thread nD τ)) = (dats m ρ hn 0 c).arrAt w (cfg m hn).N)
    ∧ ∀ j, r.2.mem ((c : Thread nD τ).loc (pre0.ref j)) = (adm m hn).1 j

theorem tables_eq (c : Dev nD) (j : Fin 2) : m ((c : Thread nD τ).loc (pre0.ref j)) = (adm m hn).1 j := by
  obtain rfl : c = 0 := Subsingleton.elim _ _
  fin_cases j <;> rfl

set_option backward.isDefEq.respectTransparency.types false in
set_option maxHeartbeats 4000000 in
/-- From a memory that names experts, every execution ends so, with every counter at zero. -/
theorem run_ends : θ_run (defs (F := Bits)) (onTc (τ := τ) (main (F := Bits))) (s₀ m ρ)
    (fun r => Ends m ρ hn r ∧ r.2.sem = fun _ => 0) :=
  Pipeline.θ_run_region_noSem_pf_quiescent pcfgs (fun _ => adm m hn) (dats m ρ hn) ()
    ((launch0 (F := Bits)).cellOf_inj fun _ => adm m hn) (0 : Fin 1)
    (launch0 (F := Bits)).win.to₀ (launch0 (F := Bits)).pre Gen.EP defs₀ Variants.none m ρ main
    (hbody := fun c => (body_obligation m ρ hn c).loose) (hne := (launch0 (F := Bits)).block_pos)
    (harr := (launch0 (F := Bits)).arr_whole) (hstage := (launch0 (F := Bits)).stage_whole) (howed := fun _ _ => rfl)
    (u₀ := u₀ m hn) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes m hn) (dats m ρ hn) 0 (launch0 (F := Bits)).win.arr_inj c
      (launch0 (F := Bits)).arr_whole (share_full m ρ hn c) _ _ fun _ => rfl)
    (hpf := tables_eq m hn)
    (X := fun _ => iprop(emp)) (Y := fun _ => iprop(emp)) (Z := fun _ => iprop(emp))
    (hX := fun c => by rw [unscopedRestP0_eq]; iintro -; isplitr <;> iempintro)
    (hin := keep_intro m ρ hn)
    (hout := keep_exit m ρ hn)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hn in
/-- The arguments end unchanged, and every counter at zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 (0 : Fin 3)).trans ((dats m ρ hn 0 c).arrAt_in (0 : Fin 3) rfl _),
    ((h.1 c).1 (1 : Fin 3)).trans ((dats m ρ hn 0 c).arrAt_in (1 : Fin 3) rfl _),
    ((h.1 c).2 0).trans (tables_eq m hn c 0).symm, ((h.1 c).2 1).trans (tables_eq m hn c 1).symm⟩, h.2⟩) (run_ends m ρ hn)

end Layer.MoeDown

end
-- ==== Proof.MoeDownIdealRun.lean ====
/-
  The run of the routed down projection, whatever experts its tiles name.

  The kernel is a pipeline of 4 × 136 points: a column block and a tile of 512 rows. Two prefetched tables steer it: the
  expert each tile belongs to, which selects the block of weights fetched for the tile, and whether the tile holds rows at
  all. This module runs it on any memory whose first table names experts `0 ≤ e < 8`: the weights' blocks then lie inside
  their array. Every point writes its whole block of the result, a product or zeros, so what a point leaves depends on
  no earlier point.
-/
module

public import proofs.«01_k».proof.Proof.Gen.MoeDownIdeal.Flash
public import proofs.«01_k».proof.Defs

@[expose] public section

set_option maxRecDepth 16384
set_option Elab.async false

noncomputable section

namespace Layer.MoeDownIdeal

open Cert.MoeDownIdeal Cert.MoeDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The two branches of the body -/

/-- The first branch is taken at a tile marked 1, -/
theorem cond1_iff (v : BitVec 32) : k0_cond1 v = 1#1 ↔ v = 1#32 := by
  by_cases h : v = 1#32
  · subst h; decide
  · have e : IntOp.cmpi .eq v 1#32 = 0#1 := by
      show BitVec.ofBool (v == 1#32) = 0#1
      rw [beq_false_of_ne h]; rfl
    simp only [k0_cond1, Scalar.cmpi, Scalar.extui, e, h, iff_false]
    decide

/-- and the second at every other. -/
theorem cond2_iff (v : BitVec 32) : k0_cond2 v = 1#1 ↔ ¬ v = 1#32 := by
  by_cases h : v = 1#32
  · subst h; decide
  · have e : IntOp.cmpi .eq v 1#32 = 0#1 := by
      show BitVec.ofBool (v == 1#32) = 0#1
      rw [beq_false_of_ne h]; rfl
    simp only [k0_cond2, Scalar.cmpi, Scalar.extui, Scalar.xori, e, h, not_false_eq_true, iff_true]
    decide

/-- The point always takes one of them. -/
theorem not_idle (v : BitVec 32) : (!(k0_cond1 v == 1#1) && !(k0_cond2 v == 1#1)) = false := by
  by_cases h : v = 1#32
  · rw [(cond1_iff v).mpr h]; rfl
  · rw [(cond2_iff v).mpr h]; simp

/-! ## The pipeline at a memory's tables -/

variable (m : (ℓ : Loc nD τ sig) → Buf (Elt Ideal) ℓ) (ρ : Dev nD → PrngReg)

/-- The table of experts. -/
abbrev expert : S136.Idx → Elt Ideal .i32 := m (((0 : Dev nD) : Thread nD τ).loc main_arg2)
/-- The table of marks: 1 at a tile that holds rows. -/
abbrev mark : S136.Idx → Elt Ideal .i32 := m (((0 : Dev nD) : Thread nD τ).loc main_arg3)

/-- Every tile names one of the eight experts. -/
def Named : Prop := ∀ x : S136.Idx, (show BitVec 32 from expert m x).toNat < 8

set_option backward.proofsInPublic true in
/-- The tables as the region reads them. -/
def tables : pre0.Contents (Elt Ideal) := fun | ⟨0, _⟩ => expert m | ⟨1, _⟩ => mark m | ⟨_ + 2, h⟩ => absurd h (by simp)

/-- With every expert named, each point's block of weights lies inside their array. -/
theorem tables_ok (h : Named m) : ok0 (F := Ideal) (tables m) := by
  intro i
  have r0 : (i 0).val < 4 := (i 0).isLt
  have e0 : (BitVec.ofNat 32 (i 0).val).toNat = (i 0).val := by
    rw [BitVec.toNat_ofNat]; exact Nat.mod_eq_of_lt (by omega)
  refine ⟨?_, .inr (Affine.block_words_dvd (of_decide_eq_true rfl) (by decide))⟩
  intro a
  match a with
  | ⟨0, _⟩ =>
    have hx := h ((Rect.unit (s := S136) ![(Scalar.indexCast (BitVec.ofNat 32 (i 1).val)).toNat] S1.size (k0_off1_inb i)).emb
      (Shape.Idx.first (numel1_S1.symm ▸ Nat.one_pos)))
    exact (Nat.mul_one _).trans_le (Nat.succ_le_of_lt hx)
  | ⟨1, _⟩ => show (0 + 1) * 2048 ≤ 2048; omega
  | ⟨2, _⟩ =>
    show ((BitVec.ofNat 32 (i 0).val).toNat + 1) * 1024 ≤ 4096
    rw [e0]; omega

variable (hn : Named m)

/-- The tables with the side condition they meet, and the pipeline at them. -/
def adm : (pcfg0 (F := Ideal)).Adm := ⟨tables m, tables_ok m hn⟩
abbrev cfg : Pipeline.Cfg sig Λ₀ := cfg0 (F := Ideal) (adm m hn)
abbrev pipes : Fin 1 → Pipeline.Cfg sig Λ₀ := Pipeline.pin (pcfgs (F := Ideal)) fun _ => adm m hn

/-- A point's coordinates. -/
abbrev at_ (t : Fin (cfg m hn).N) : (cfg m hn).grid.Coords := (cfg m hn).grid.coords t

/-- The staging buffers a point works on. -/
abbrev sg0 (t : Fin (cfg m hn).N) : Memref sig .tc .vmem S512x2048 .bf16 := spec0_0.stage ((cfg m hn).slots t (0 : Fin 3))
abbrev wh0 (t : Fin (cfg m hn).N) : (sg0 m hn t).IsWhole := hstage0_0 (((cfg m hn).slots t (0 : Fin 3)).cast nbuf0_0)
abbrev sg1 (t : Fin (cfg m hn).N) : Memref sig .tc .vmem S1x2048x1024 .bf16 := spec0_1.stage ((cfg m hn).slots t (1 : Fin 3))
abbrev wh1 (t : Fin (cfg m hn).N) : (sg1 m hn t).IsWhole := hstage0_1 (((cfg m hn).slots t (1 : Fin 3)).cast nbuf0_1)
abbrev sg2 (t : Fin (cfg m hn).N) : Memref sig .tc .vmem S512x1024 .f32 := spec0_2.stage ((cfg m hn).slots t (2 : Fin 3))
abbrev wh2 (t : Fin (cfg m hn).N) : (sg2 m hn t).IsWhole := hstage0_2 (((cfg m hn).slots t (2 : Fin 3)).cast nbuf0_2)

/-- A window's block at a point, read off its array at the launch. -/
def blk (c : Dev nD) (w : Fin (cfg m hn).W) (t : Fin (cfg m hn).N) :
    (((cfg m hn).win w).xblock (at_ m hn t)).Idx → Elt Ideal ((cfg m hn).win w).elt :=
  (((cfg m hn).win w).blk t).view.read (Elt Ideal) (m (((cfg m hn).win w).arr.view.loc (c : Thread nD τ)))

/-- The mark the body reads at a point. -/
abbrev word (i : grid0.Coords) : BitVec 32 :=
  View.readAt (Elt Ideal) (tbM0_1).view (Rect.unit (s := S136) (k0_off1 i) S1.size (k0_off1_inb i)).toLoadRect (mark m)
    (Shape.Idx.first (numel1_S1.symm ▸ Nat.one_pos))

theorem not_second {v : BitVec 32} (h : k0_cond1 v = 1#1) : ¬ k0_cond2 v = 1#1 :=
  fun h2 => (cond2_iff v).mp h2 ((cond1_iff v).mp h)
theorem second {v : BitVec 32} (h : ¬ k0_cond1 v = 1#1) : k0_cond2 v = 1#1 :=
  (cond2_iff v).mpr fun h1 => h ((cond1_iff v).mpr h1)

/-- What a point leaves in the result's staging buffer: the branch's contents. -/
def left (c : Dev nD) (t : Fin (cfg m hn).N) : S512x1024.Idx → Elt Ideal .f32 :=
  if h : k0_cond1 (word m (at_ m hn t)) = 1#1 then
    out0_A_2 c (at_ m hn t) (sg0 m hn t) (wh0 m hn t) (sg1 m hn t) (wh1 m hn t) (sg2 m hn t) (wh2 m hn t) (expert m) (mark m)
      (blk m hn c (0 : Fin 3) t) (blk m hn c (1 : Fin 3) t) h (not_second h)
  else
    out0_B_2 c (at_ m hn t) (sg0 m hn t) (wh0 m hn t) (sg1 m hn t) (wh1 m hn t) (sg2 m hn t) (wh2 m hn t) (expert m) (mark m)
      (blk m hn c (0 : Fin 3) t) (blk m hn c (1 : Fin 3) t) h (second h)

/-- The result's block changes at every point, so every point writes its block back. -/
theorem flush2 (t : Fin (cfg m hn).N) : ((cfg m hn).win (2 : Fin 3)).flush t = true := by
  by_cases q : P0_0 (0 : Fin 1) t
  · exact (sched0_A (0 : Fin 1) t q).2.1
  · exact (sched0_B (0 : Fin 1) t q).2.1

/-! ## The proof data and the body -/

/-- What the body keeps of the tables: half of each. -/
def Keep (c : Dev nD) : sProp 𝕄 :=
  iprop((tbM0_0.view.loc (c : Thread nD τ) ↦{fullShare.right} expert m) ∗ (tbM0_1.view.loc (c : Thread nD τ) ↦{fullShare.right} mark m))

/-- The pipeline's proof data on core `c`. -/
def dats (_ : Fin 1) (c : Dev nD) : Dat τ (Elt Ideal) Unit ℕ (UR sig nD τ) ℕ (cfg m hn) c where
  A w := (s₀ m ρ).mem (((cfg m hn).win w).arr.view.loc (c : Thread nD τ))
  after w t := match w with
    | ⟨0, _⟩ => blk m hn c (0 : Fin 3) t
    | ⟨1, _⟩ => blk m hn c (1 : Fin 3) t
    | ⟨2, _⟩ => left m hn c t
  Φ _ := Keep m c
  q _ := fullShare
  owed _ := 0

theorem after0 (c : Dev nD) (t : Fin (cfg m hn).N) : (dats m ρ hn 0 c).after (0 : Fin 3) t = blk m hn c (0 : Fin 3) t := rfl
theorem after1 (c : Dev nD) (t : Fin (cfg m hn).N) : (dats m ρ hn 0 c).after (1 : Fin 3) t = blk m hn c (1 : Fin 3) t := rfl
theorem after2 (c : Dev nD) (t : Fin (cfg m hn).N) : (dats m ρ hn 0 c).after (2 : Fin 3) t = left m hn c t := rfl

/-- The staging buffer of the rows holds the point's block, -/
theorem before0 (c : Dev nD) (t : Fin (cfg m hn).N) (d) : (dats m ρ hn 0 c).before (0 : Fin 3) t d = blk m hn c (0 : Fin 3) t :=
  ((dats m ρ hn 0 c).before_in_eq_fetched (0 : Fin 3) rfl (fun _ => rfl) (fun _ _ _ => rfl)
    (fun t => by rw [after0]; unfold Dat.blockOf blk; rfl) t d).trans (by unfold Dat.fetched Dat.blockOf blk; rfl)

/-- and so does the weights'. -/
theorem before1 (c : Dev nD) (t : Fin (cfg m hn).N) (d) : (dats m ρ hn 0 c).before (1 : Fin 3) t d = blk m hn c (1 : Fin 3) t :=
  ((dats m ρ hn 0 c).before_in_eq_fetched (1 : Fin 3) rfl (fun _ => rfl) (fun _ _ _ => rfl)
    (fun t => by rw [after1]; unfold Dat.blockOf blk; rfl) t d).trans (by unfold Dat.fetched Dat.blockOf blk; rfl)

/-- The body at a point, on its staging buffers. -/
abbrev bodyAt (t : Fin (cfg m hn).N) : Prog (TpuEff nD τ sig (Elt Ideal) Λ₀ .tc) PUnit :=
  cc0_moe_down_sparse (at_ m hn t) (Memref.whole main_arg2) (Memref.isWhole_whole _) (Memref.whole main_arg3)
    (Memref.isWhole_whole _) (sg0 m hn t) (wh0 m hn t) (sg1 m hn t) (wh1 m hn t) (sg2 m hn t) (wh2 m hn t)

set_option maxHeartbeats 4000000 in
/-- The body at a point turns the two blocks and anything in the result's buffer into the two blocks and `left`. -/
theorem body_sound (c : Dev nD) (t : Fin (cfg m hn).N) (d2 : S512x1024.Idx → Elt Ideal .f32) (O : sProp 𝕄) :
    iprop(Keep m c ∗ O
        ∗ owns (c : Thread nD τ) (sg0 m hn t) fullShare (blk m hn c (0 : Fin 3) t)
        ∗ owns (c : Thread nD τ) (sg1 m hn t) fullShare (blk m hn c (1 : Fin 3) t)
        ∗ owns (c : Thread nD τ) (sg2 m hn t) fullShare d2)
      ⊢ wp frame (wpE (defs₀ (F := Ideal)) Variants.none c none) Set.univ (bodyAt m hn t) fun _ =>
          iprop(Keep m c ∗ O
            ∗ owns (c : Thread nD τ) (sg0 m hn t) fullShare (blk m hn c (0 : Fin 3) t)
            ∗ owns (c : Thread nD τ) (sg1 m hn t) fullShare (blk m hn c (1 : Fin 3) t)
            ∗ owns (c : Thread nD τ) (sg2 m hn t) fullShare (left m hn c t)) := by
  unfold Keep left
  by_cases h : k0_cond1 (word m (at_ m hn t)) = 1#1
  · rw [dif_pos h]
    iintro ⟨⟨HT0, HT1⟩, Ho, H0, H1, H2⟩
    iapply ((kernelRun0_A c (at_ m hn t) (sg0 m hn t) (wh0 m hn t) (sg1 m hn t) (wh1 m hn t) (sg2 m hn t) (wh2 m hn t) (expert m)
      (mark m) (blk m hn c (0 : Fin 3) t) (blk m hn c (1 : Fin 3) t) h (not_second h)).2 _)
    isplitl [H0]; · iapply rep_of_owns; iexact H0
    isplitl [H1]; · iapply rep_of_owns; iexact H1
    isplitl [HT0]; · iexact HT0
    isplitl [HT1]; · iexact HT1
    isplitl [H2]; · iexists _; iexact H2
    iintro ⟨H0, H1, HT0, HT1, ⟨%e2, H2⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact View.read_writes_of_cover _ _ _ _ _ (cover0_A_2 c _ _ _ _ _ _ _ _ _ _ _ _ _)
  · rw [dif_neg h]
    iintro ⟨⟨HT0, HT1⟩, Ho, H0, H1, H2⟩
    iapply ((kernelRun0_B c (at_ m hn t) (sg0 m hn t) (wh0 m hn t) (sg1 m hn t) (wh1 m hn t) (sg2 m hn t) (wh2 m hn t) (expert m)
      (mark m) (blk m hn c (0 : Fin 3) t) (blk m hn c (1 : Fin 3) t) h (second h)).2 _)
    isplitl [H0]; · iapply rep_of_owns; iexact H0
    isplitl [H1]; · iapply rep_of_owns; iexact H1
    isplitl [HT0]; · iexact HT0
    isplitl [HT1]; · iexact HT1
    isplitl [H2]; · iexists _; iexact H2
    iintro ⟨H0, H1, HT0, HT1, ⟨%e2, H2⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact View.read_writes_of_cover _ _ _ _ _ (cover0_B_2 c _ _ _ _ _ _ _ _ _ _ _ _ _)

theorem idle2 (t : Fin (cfg m hn).N) : (cfg m hn).idle (2 : Fin 3) ((cfg m hn).grid.coords t) = false := not_idle _

set_option maxHeartbeats 4000000 in
/-- The obligation of the pipeline at every point. -/
theorem body_obligation (c : Dev nD) :
    BodyObligation (dats m ρ hn 0 c) (defs₀ (F := Ideal)) Variants.none () Set.univ := fun t => by
  rw [bigSep_W0, bigSep_W0]
  rewrite [idle2 m hn t]
  simp only [before0, before1, after0, after1, after2]
  rewrite [show (dats m ρ hn 0 c).Φ t.succ = Keep m c from rfl, show (dats m ρ hn 0 c).Φ t.castSucc = Keep m c from rfl,
    show (dats m ρ hn 0 c).owesAt () t.succ = (dats m ρ hn 0 c).owesAt () t.castSucc from rfl]
  iintro ⟨HK, Ho, ⟨%d0, H0⟩, ⟨%d1, H1⟩, ⟨%d2, H2⟩⟩
  iapply (body_sound m hn c t _ ((dats m ρ hn 0 c).owesAt () t.castSucc))
  isplitl [HK]; · iexact HK
  isplitl [Ho]; · iexact Ho
  isplitl [H0]; · iexact H0
  isplitl [H1]; · iexact H1
  iexact H2

/-! ## The launch -/

/-- The launch's resources. -/
def u₀ : UR sig nD τ :=
  initOf (Pipeline.cells (pipes m hn) ((launch0 (F := Ideal)).cellOf_inj fun _ => adm m hn))
    (Pipeline.launchToks (pipes m hn) ((launch0 (F := Ideal)).cellOf_inj fun _ => adm m hn))

theorem share_full (c : Dev nD) (w : Fin (cfg m hn).W) : (dats m ρ hn 0 c).share w = fullShare := by unfold Dat.share; split <;> rfl

/-- The tables as the launch hands them over, one by one. -/
theorem held_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

/-- The body's halves of the tables at the start, -/
theorem keep_intro (c : Dev nD) :
    iprop(BI.emp ∗ Pipeline.prefHeld pre0 c (fun _ => fullShare.right) (adm m hn).1 ∗ Pipeline.scopedRest spec0 c)
      ⊢ (dats m ρ hn 0 c).Φ 0 := by
  rw [held_eq, scopedRest0_eq, show (dats m ρ hn 0 c).Φ 0 = Keep m c from rfl]
  unfold Keep
  iintro ⟨-, ⟨HT0, HT1⟩, -⟩
  isplitl [HT0]
  · iexact HT0
  iexact HT1

/-- let go at the end. -/
theorem keep_exit (c : Dev nD) : (dats m ρ hn 0 c).Φ (Fin.last (cfg m hn).N) ⊢ iprop(BI.emp ∗ Pipeline.scopedRest spec0 c) := by
  rw [scopedRest0_eq, show (dats m ρ hn 0 c).Φ (Fin.last (cfg m hn).N) = Keep m c from rfl]
  unfold Keep
  iintro ⟨-, -⟩
  isplitr; · iempintro
  iempintro

/-- How the run ends: every array as the points wrote it, the tables as they were. -/
def Ends : PUnit × MemSt nD τ sig (Elt Ideal) → Prop := fun r =>
  ∀ c : Dev nD, (∀ w : Fin (cfg m hn).W,
      r.2.mem (((cfg m hn).win w).arr.view.loc (c : Thread nD τ)) = (dats m ρ hn 0 c).arrAt w (cfg m hn).N)
    ∧ ∀ j, r.2.mem ((c : Thread nD τ).loc (pre0.ref j)) = (adm m hn).1 j

theorem tables_eq (c : Dev nD) (j : Fin 2) : m ((c : Thread nD τ).loc (pre0.ref j)) = (adm m hn).1 j := by
  obtain rfl : c = 0 := Subsingleton.elim _ _
  fin_cases j <;> rfl

set_option backward.isDefEq.respectTransparency.types false in
set_option maxHeartbeats 4000000 in
/-- From a memory that names experts, every execution ends so, with every counter at zero. -/
theorem run_ends : θ_run (defs (F := Ideal)) (onTc (τ := τ) (main (F := Ideal))) (s₀ m ρ)
    (fun r => Ends m ρ hn r ∧ r.2.sem = fun _ => 0) :=
  Pipeline.θ_run_region_noSem_pf_quiescent pcfgs (fun _ => adm m hn) (dats m ρ hn) ()
    ((launch0 (F := Ideal)).cellOf_inj fun _ => adm m hn) (0 : Fin 1)
    (launch0 (F := Ideal)).win.to₀ (launch0 (F := Ideal)).pre Gen.EP defs₀ Variants.none m ρ main
    (hbody := fun c => (body_obligation m ρ hn c).loose) (hne := (launch0 (F := Ideal)).block_pos)
    (harr := (launch0 (F := Ideal)).arr_whole) (hstage := (launch0 (F := Ideal)).stage_whole) (howed := fun _ _ => rfl)
    (u₀ := u₀ m hn) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes m hn) (dats m ρ hn) 0 (launch0 (F := Ideal)).win.arr_inj c
      (launch0 (F := Ideal)).arr_whole (share_full m ρ hn c) _ _ fun _ => rfl)
    (hpf := tables_eq m hn)
    (X := fun _ => iprop(emp)) (Y := fun _ => iprop(emp)) (Z := fun _ => iprop(emp))
    (hX := fun c => by rw [unscopedRestP0_eq]; iintro -; isplitr <;> iempintro)
    (hin := keep_intro m ρ hn)
    (hout := keep_exit m ρ hn)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hn in
/-- The arguments end unchanged, and every counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 (0 : Fin 3)).trans ((dats m ρ hn 0 c).arrAt_in (0 : Fin 3) rfl _),
    ((h.1 c).1 (1 : Fin 3)).trans ((dats m ρ hn 0 c).arrAt_in (1 : Fin 3) rfl _),
    ((h.1 c).2 0).trans (tables_eq m hn c 0).symm, ((h.1 c).2 1).trans (tables_eq m hn c 1).symm⟩, h.2⟩) (run_ends m ρ hn)

end Layer.MoeDownIdeal

end
-- ==== Proof.MoeDownRef.lean ====
/-
  The reference of the routed down projection, as its run leaves it and read at an index.

  It takes every row through every expert, `y(e, r, d) = Σ_f w(e, f, d) · h(r, f)`, keeps the product of the expert that
  owns the row's tile where the tile holds rows, puts zero elsewhere, and adds up over the experts.
-/
module

public import proofs.«01_k».proof.Proof.Gen.MoeDownRefIdeal
public import proofs.«01_k».proof.Proof.Dot
public import Idealize.ShloMosaic.Lib.StableHlo.Run
public import Idealize.ShloMosaic.Lib.Pointwise.Reduce

@[expose] public section

noncomputable section

namespace Layer.MoeDownRef

open Cert.MoeDownRefIdeal Cert.MoeDownRefIdeal.Gen Idealize.ShloMosaic.TcCoe Idealize.SL.Sem
open Idealize.ShloMosaic hiding ix1 ix2 ix3
open Idealize.ShloMosaic.StableHlo
open Idealize.ShloMosaic.ValueIdx (ix1 ix2 ix3)

/-! ## The run -/

section

variable {F : FTy → Type} [FloatOps F]

/-- The operations of the program, in order. -/
abbrev steps : List (HloOp τ sig (Elt F)) :=
  [ unary main_arg0 main_v0 ((extf .f32 · bitsLt_bf16_f32) : (⟨S69632x2048, .bf16⟩ : BufTy).Contents (Elt F) → (⟨S69632x2048, .f32⟩ : BufTy).Contents (Elt F)),
    unary main_arg1 main_v1 ((extf .f32 · bitsLt_bf16_f32) : (⟨S8x2048x4096, .bf16⟩ : BufTy).Contents (Elt F) → (⟨S8x2048x4096, .f32⟩ : BufTy).Contents (Elt F)),
    binary main_v1 main_v0 main_v2 ((fun l r => Host.dotGeneral dot_S8x2048x4096_S69632x2048_S8x4096x69632_1_1_02_0_n_n none l r) : (⟨S8x2048x4096, .f32⟩ : BufTy).Contents (Elt F) → (⟨S69632x2048, .f32⟩ : BufTy).Contents (Elt F) → (⟨S8x4096x69632, .f32⟩ : BufTy).Contents (Elt F)),
    unary main_v2 main_v3 ((transpose S8x69632x4096 [0, 2, 1] · transposes_S8x4096x69632_S8x69632x4096_0_2_1) : (⟨S8x4096x69632, .f32⟩ : BufTy).Contents (Elt F) → (⟨S8x69632x4096, .f32⟩ : BufTy).Contents (Elt F)),
    unary main_arg2 main_v4 (broadcastInDim S136x1 ![0] bcast_S136_S136x1_0 : (⟨S136, .i32⟩ : BufTy).Contents (Elt F) → (⟨S136x1, .i32⟩ : BufTy).Contents (Elt F)),
    unary main_v4 main_v5 (broadcastInDim S136x512 ![0, 1] bcast_S136x1_S136x512_0_1 : (⟨S136x1, .i32⟩ : BufTy).Contents (Elt F) → (⟨S136x512, .i32⟩ : BufTy).Contents (Elt F)),
    reshape main_v5 main_v6 (rfl : (.i32 : EltTy) = .i32) shapeCasts_S136x512_S1x69632x1,
    unary main_arg3 main_v7 (broadcastInDim S136x1 ![0] bcast_S136_S136x1_0 : (⟨S136, .i32⟩ : BufTy).Contents (Elt F) → (⟨S136x1, .i32⟩ : BufTy).Contents (Elt F)),
    unary main_v7 main_v8 (broadcastInDim S136x512 ![0, 1] bcast_S136x1_S136x512_0_1 : (⟨S136x1, .i32⟩ : BufTy).Contents (Elt F) → (⟨S136x512, .i32⟩ : BufTy).Contents (Elt F)),
    reshape main_v8 main_v9 (rfl : (.i32 : EltTy) = .i32) shapeCasts_S136x512_S1x69632x1,
    nullary main_c (constantI S_ 32 1#32),
    unary main_c main_v10 (broadcastInDim S1x69632x1 ![] bcast_S_S1x69632x1 : (⟨S_, .i32⟩ : BufTy).Contents (Elt F) → (⟨S1x69632x1, .i32⟩ : BufTy).Contents (Elt F)),
    binary main_v9 main_v10 main_v11 (cmpi .eq : (⟨S1x69632x1, .i32⟩ : BufTy).Contents (Elt F) → (⟨S1x69632x1, .i32⟩ : BufTy).Contents (Elt F) → (⟨S1x69632x1, .i1⟩ : BufTy).Contents (Elt F)),
    nullary main_v12 (iotaInDim S8 32 0),
    unary main_v12 main_v13 (broadcastInDim S8x1x1 ![0] bcast_S8_S8x1x1_0 : (⟨S8, .i32⟩ : BufTy).Contents (Elt F) → (⟨S8x1x1, .i32⟩ : BufTy).Contents (Elt F)),
    unary main_v6 main_v14 (broadcastInDim S8x69632x1 ![0, 1, 2] bcast_S1x69632x1_S8x69632x1_0_1_2 : (⟨S1x69632x1, .i32⟩ : BufTy).Contents (Elt F) → (⟨S8x69632x1, .i32⟩ : BufTy).Contents (Elt F)),
    unary main_v13 main_v15 (broadcastInDim S8x69632x1 ![0, 1, 2] bcast_S8x1x1_S8x69632x1_0_1_2 : (⟨S8x1x1, .i32⟩ : BufTy).Contents (Elt F) → (⟨S8x69632x1, .i32⟩ : BufTy).Contents (Elt F)),
    binary main_v14 main_v15 main_v16 (cmpi .eq : (⟨S8x69632x1, .i32⟩ : BufTy).Contents (Elt F) → (⟨S8x69632x1, .i32⟩ : BufTy).Contents (Elt F) → (⟨S8x69632x1, .i1⟩ : BufTy).Contents (Elt F)),
    unary main_v11 main_v17 (broadcastInDim S8x69632x1 ![0, 1, 2] bcast_S1x69632x1_S8x69632x1_0_1_2 : (⟨S1x69632x1, .i1⟩ : BufTy).Contents (Elt F) → (⟨S8x69632x1, .i1⟩ : BufTy).Contents (Elt F)),
    binary main_v16 main_v17 main_v18 (andi : (⟨S8x69632x1, .i1⟩ : BufTy).Contents (Elt F) → (⟨S8x69632x1, .i1⟩ : BufTy).Contents (Elt F) → (⟨S8x69632x1, .i1⟩ : BufTy).Contents (Elt F)),
    unary main_v18 main_v19 (broadcastInDim S8x69632x4096 ![0, 1, 2] bcast_S8x69632x1_S8x69632x4096_0_1_2 : (⟨S8x69632x1, .i1⟩ : BufTy).Contents (Elt F) → (⟨S8x69632x4096, .i1⟩ : BufTy).Contents (Elt F)),
    nullary main_cst (constant S_ .f32 0x00000000#32),
    unary main_cst main_v20 (broadcastInDim S8x69632x4096 ![] bcast_S_S8x69632x4096 : (⟨S_, .f32⟩ : BufTy).Contents (Elt F) → (⟨S8x69632x4096, .f32⟩ : BufTy).Contents (Elt F)),
    ternary main_v19 main_v3 main_v20 main_v21 (select : (⟨S8x69632x4096, .i1⟩ : BufTy).Contents (Elt F) → (⟨S8x69632x4096, .f32⟩ : BufTy).Contents (Elt F) → (⟨S8x69632x4096, .f32⟩ : BufTy).Contents (Elt F) → (⟨S8x69632x4096, .f32⟩ : BufTy).Contents (Elt F)),
    nullary main_cst_0 (constant S_ .f32 0x00000000#32),
    binary main_v21 main_cst_0 main_v22 ((fun x v => Host.reduceAdd x v reducesTo_S8x69632x4096_S69632x4096_d0 h_S_) : (⟨S8x69632x4096, .f32⟩ : BufTy).Contents (Elt F) → (⟨S_, .f32⟩ : BufTy).Contents (Elt F) → (⟨S69632x4096, .f32⟩ : BufTy).Contents (Elt F)) ]

theorem main_steps (c : Dev nD) : main (F := F) c = seq steps := rfl
theorem no_refs : (Finset.univ.filter fun b : Ref sig .tc => b.isScoped) = ∅ := by decide
theorem no_sems : (Finset.univ.filter fun s : SemLoc sig => s.isScoped .tc) = ∅ := by decide
theorem steps_bufs : (steps : List (HloOp τ sig (Elt F))).Forall fun op => op.bufs ⊆ tcRefs τ sig :=
  ⟨unary_bufs_sub .., unary_bufs_sub .., binary_bufs_sub .., unary_bufs_sub .., unary_bufs_sub .., unary_bufs_sub .., reshape_bufs_sub .., unary_bufs_sub .., unary_bufs_sub .., reshape_bufs_sub .., nullary_bufs_sub .., unary_bufs_sub .., binary_bufs_sub .., nullary_bufs_sub .., unary_bufs_sub .., unary_bufs_sub .., unary_bufs_sub .., binary_bufs_sub .., unary_bufs_sub .., binary_bufs_sub .., unary_bufs_sub .., nullary_bufs_sub .., unary_bufs_sub .., ternary_bufs_sub .., nullary_bufs_sub .., binary_bufs_sub ..⟩

/-- Every row through every expert. -/
def all (h : (⟨S69632x2048, .bf16⟩ : BufTy).Contents (Elt F)) (w : (⟨S8x2048x4096, .bf16⟩ : BufTy).Contents (Elt F)) :
    (⟨S8x69632x4096, .f32⟩ : BufTy).Contents (Elt F) :=
  transpose S8x69632x4096 [0, 2, 1] (Host.dotGeneral (φ₁ := .f32) (φ₂ := .f32) dot_S8x2048x4096_S69632x2048_S8x4096x69632_1_1_02_0_n_n none
    (extf .f32 w bitsLt_bf16_f32) (extf .f32 h bitsLt_bf16_f32)) transposes_S8x4096x69632_S8x69632x4096_0_2_1

/-- A table of the tiles, as a table of the rows. -/
def rows (x : (⟨S136, .i32⟩ : BufTy).Contents (Elt F)) : (⟨S1x69632x1, .i32⟩ : BufTy).Contents (Elt F) :=
  shapeCast S1x69632x1 (broadcastInDim S136x512 ![0, 1] bcast_S136x1_S136x512_0_1 (broadcastInDim S136x1 ![0] bcast_S136_S136x1_0 x))
    shapeCasts_S136x512_S1x69632x1

/-- Whether an expert owns a row, and the row's tile holds rows. -/
def mine (te tv : (⟨S136, .i32⟩ : BufTy).Contents (Elt F)) : (⟨S8x69632x1, .i1⟩ : BufTy).Contents (Elt F) :=
  andi (cmpi .eq (broadcastInDim S8x69632x1 ![0, 1, 2] bcast_S1x69632x1_S8x69632x1_0_1_2 (rows (F := F) te))
      (broadcastInDim S8x69632x1 ![0, 1, 2] bcast_S8x1x1_S8x69632x1_0_1_2 (broadcastInDim S8x1x1 ![0] bcast_S8_S8x1x1_0 (iotaInDim S8 32 0))))
    (broadcastInDim S8x69632x1 ![0, 1, 2] bcast_S1x69632x1_S8x69632x1_0_1_2
      (cmpi .eq (rows (F := F) tv) (broadcastInDim S1x69632x1 ![] bcast_S_S1x69632x1 (constantI S_ 32 1#32))))

/-- The program's result from its arguments. -/
def result (h : (⟨S69632x2048, .bf16⟩ : BufTy).Contents (Elt F)) (w : (⟨S8x2048x4096, .bf16⟩ : BufTy).Contents (Elt F))
    (te tv : (⟨S136, .i32⟩ : BufTy).Contents (Elt F)) : (⟨S69632x4096, .f32⟩ : BufTy).Contents (Elt F) :=
  Host.reduceAdd (φ := .f32) (select (broadcastInDim S8x69632x4096 ![0, 1, 2] bcast_S8x69632x1_S8x69632x4096_0_1_2 (mine (F := F) te tv)) (all h w)
      (broadcastInDim S8x69632x4096 ![] bcast_S_S8x69632x4096 (constant S_ .f32 0x00000000#32)))
    (constant S_ .f32 0x00000000#32) reducesTo_S8x69632x4096_S69632x4096_d0 h_S_

/-- Every execution ends with the result in place and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v22).trans (by unfold result mine rows all; after_results <;> rfl),
      (h c main_arg0).trans (by after_results),
      (h c main_arg1).trans (by after_results),
      (h c main_arg2).trans (by after_results),
      (h c main_arg3).trans (by after_results)⟩)
    (run_seq no_refs no_sems defs main (fun _ => steps) main_steps (fun _ => steps_bufs) m ρ)

end

/-! ## The result at an index -/

/-- The tile of a row. -/
def tileOf (r : Fin 69632) : Fin 136 := ⟨r.val / 512, by omega⟩

/-! ### Spreading arrays -/

section

variable {α : Type}

theorem spread_tiles (x : S136x1.Idx → α) (t : Fin 136) (k : Fin 512) :
    broadcastInDim S136x512 ![0, 1] bcast_S136x1_S136x512_0_1 x (ix2 t k) = x (ix2 t 0) :=
  broadcastInDim_apply (s := S136x1) (t := S136x512) ![0, 1] bcast_S136x1_S136x512_0_1 x (ix2 t k) (ix2 t 0) (fun a => by
    match a with
    | ⟨0, _⟩ => rfl
    | ⟨1, _⟩ => rfl)

theorem column_tiles (x : S136.Idx → α) (t : Fin 136) :
    broadcastInDim S136x1 ![0] bcast_S136_S136x1_0 x (ix2 t 0) = x (ix1 t) :=
  broadcastInDim_apply (s := S136) (t := S136x1) ![0] bcast_S136_S136x1_0 x (ix2 t 0) (ix1 t) (fun a => by
    match a with
    | ⟨0, _⟩ => rfl)

theorem spread_rows (x : S1x69632x1.Idx → α) (e : Fin 8) (r : Fin 69632) :
    broadcastInDim S8x69632x1 ![0, 1, 2] bcast_S1x69632x1_S8x69632x1_0_1_2 x (ix3 e r 0) = x (ix3 0 r 0) :=
  broadcastInDim_apply (s := S1x69632x1) (t := S8x69632x1) ![0, 1, 2] bcast_S1x69632x1_S8x69632x1_0_1_2 x (ix3 e r 0) (ix3 0 r 0) (fun a => by
    match a with
    | ⟨0, _⟩ => rfl
    | ⟨1, _⟩ => rfl
    | ⟨2, _⟩ => rfl)

theorem spread_experts (x : S8x1x1.Idx → α) (e : Fin 8) (r : Fin 69632) :
    broadcastInDim S8x69632x1 ![0, 1, 2] bcast_S8x1x1_S8x69632x1_0_1_2 x (ix3 e r 0) = x (ix3 e 0 0) :=
  broadcastInDim_apply (s := S8x1x1) (t := S8x69632x1) ![0, 1, 2] bcast_S8x1x1_S8x69632x1_0_1_2 x (ix3 e r 0) (ix3 e 0 0) (fun a => by
    match a with
    | ⟨0, _⟩ => rfl
    | ⟨1, _⟩ => rfl
    | ⟨2, _⟩ => rfl)

theorem column_experts (x : S8.Idx → α) (e : Fin 8) :
    broadcastInDim S8x1x1 ![0] bcast_S8_S8x1x1_0 x (ix3 e 0 0) = x (ix1 e) :=
  broadcastInDim_apply (s := S8) (t := S8x1x1) ![0] bcast_S8_S8x1x1_0 x (ix3 e 0 0) (ix1 e) (fun a => by
    match a with
    | ⟨0, _⟩ => rfl)

theorem spread_columns (x : S8x69632x1.Idx → α) (e : Fin 8) (r : Fin 69632) (d : Fin 4096) :
    broadcastInDim S8x69632x4096 ![0, 1, 2] bcast_S8x69632x1_S8x69632x4096_0_1_2 x (ix3 e r d) = x (ix3 e r 0) :=
  broadcastInDim_apply (s := S8x69632x1) (t := S8x69632x4096) ![0, 1, 2] bcast_S8x69632x1_S8x69632x4096_0_1_2 x (ix3 e r d) (ix3 e r 0) (fun a => by
    match a with
    | ⟨0, _⟩ => rfl
    | ⟨1, _⟩ => rfl
    | ⟨2, _⟩ => rfl)

end

/-- A table of the rows holds at a row what the table of the tiles holds at the row's tile. -/
theorem rows_apply (x : S136.Idx → BitVec 32) (r : Fin 69632) :
    rows (F := Ideal) x (ix3 0 r 0) = x (ix1 (tileOf r)) := by
  unfold rows
  rw [shapeCast_apply _ shapeCasts_S136x512_S1x69632x1 (ix3 0 r 0) (ix2 (tileOf r) ⟨r.val % 512, by omega⟩) (by
    rw [Shape.rowMajor_val_three, Shape.rowMajor_val_two]
    show r.val / 512 * 512 + r.val % 512 = (0 * 69632 + r.val) * 1 + 0
    omega)]
  exact (spread_tiles _ _ _).trans (column_tiles x _)

/-- The mark of an expert and a row. -/
theorem mine_apply (te tv : S136.Idx → BitVec 32) (e : Fin 8) (r : Fin 69632) :
    mine (F := Ideal) te tv (ix3 e r 0) = 1#1
      ↔ te (ix1 (tileOf r)) = BitVec.ofNat 32 e.val ∧ tv (ix1 (tileOf r)) = 1#32 := by
  have h1 : broadcastInDim S8x69632x1 ![0, 1, 2] bcast_S1x69632x1_S8x69632x1_0_1_2 (rows (F := Ideal) te) (ix3 e r 0)
      = te (ix1 (tileOf r)) := (spread_rows (rows (F := Ideal) te) e r).trans (rows_apply te r)
  have h2 : broadcastInDim S8x69632x1 ![0, 1, 2] bcast_S8x1x1_S8x69632x1_0_1_2
      (broadcastInDim S8x1x1 ![0] bcast_S8_S8x1x1_0 (iotaInDim S8 32 0)) (ix3 e r 0) = BitVec.ofNat 32 e.val :=
    (spread_experts _ e r).trans (column_experts _ e)
  have h3 : broadcastInDim S8x69632x1 ![0, 1, 2] bcast_S1x69632x1_S8x69632x1_0_1_2
      (cmpi .eq (rows (F := Ideal) tv) (broadcastInDim S1x69632x1 ![] bcast_S_S1x69632x1 (constantI S_ 32 1#32))) (ix3 e r 0)
        = BitVec.ofBool (tv (ix1 (tileOf r)) == 1#32) := by
    refine (spread_rows _ e r).trans ?_
    show BitVec.ofBool (rows (F := Ideal) tv (ix3 0 r 0) == 1#32) = _
    rw [rows_apply]
  have h : mine (F := Ideal) te tv (ix3 e r 0)
      = BitVec.ofBool (te (ix1 (tileOf r)) == BitVec.ofNat 32 e.val) &&& BitVec.ofBool (tv (ix1 (tileOf r)) == 1#32) := by
    refine Eq.trans (b := BitVec.ofBool (broadcastInDim S8x69632x1 ![0, 1, 2] bcast_S1x69632x1_S8x69632x1_0_1_2 (rows (F := Ideal) te) (ix3 e r 0)
      == broadcastInDim S8x69632x1 ![0, 1, 2] bcast_S8x1x1_S8x69632x1_0_1_2
        (broadcastInDim S8x1x1 ![0] bcast_S8_S8x1x1_0 (iotaInDim S8 32 0)) (ix3 e r 0))
      &&& broadcastInDim S8x69632x1 ![0, 1, 2] bcast_S1x69632x1_S8x69632x1_0_1_2
      (cmpi .eq (rows (F := Ideal) tv) (broadcastInDim S1x69632x1 ![] bcast_S_S1x69632x1 (constantI S_ 32 1#32))) (ix3 e r 0)) rfl ?_
    rw [h1, h2, h3]
  rw [h]
  by_cases p : te (ix1 (tileOf r)) = BitVec.ofNat 32 e.val <;> by_cases q : tv (ix1 (tileOf r)) = 1#32
  · rw [beq_iff_eq.mpr p, beq_iff_eq.mpr q]; exact ⟨fun _ => ⟨p, q⟩, fun _ => rfl⟩
  · rw [beq_iff_eq.mpr p, beq_false_of_ne q]; exact ⟨fun z => absurd z (by decide), fun z => absurd z.2 q⟩
  · rw [beq_false_of_ne p, beq_iff_eq.mpr q]; exact ⟨fun z => absurd z (by decide), fun z => absurd z.1 p⟩
  · rw [beq_false_of_ne p, beq_false_of_ne q]; exact ⟨fun z => absurd z (by decide), fun z => absurd z.1 p⟩

/-- One expert's product at a row and a column. -/
theorem all_apply (h : S69632x2048.Idx → EReal) (w : S8x2048x4096.Idx → EReal) (e : Fin 8) (r : Fin 69632) (d : Fin 4096) :
    all (F := Ideal) h w (ix3 e r d) = ∑ f : Fin 2048, h (ix2 r f) * w (ix3 e f d) := by
  unfold all
  rw [transpose_apply _ _ transposes_S8x4096x69632_S8x69632x4096_0_2_1 (ix3 e r d) (ix3 e d r) (fun b => by
    match b with
    | ⟨0, _⟩ => rfl
    | ⟨1, _⟩ => rfl
    | ⟨2, _⟩ => rfl)]
  refine (Ideal.dotGeneral_apply (φ₁ := .f32) (φ₂ := .f32) dot_S8x2048x4096_S69632x2048_S8x4096x69632_1_1_02_0_n_n none _
    (extf .f32 (φ := .bf16) w bitsLt_bf16_f32) (extf .f32 (φ := .bf16) h bitsLt_bf16_f32) (ix3 e d r)).trans ?_
  rw [← Equiv.sum_comp (ValueIdx.contrEquiv1 dot_S8x2048x4096_S69632x2048_S8x4096x69632_1_1_02_0_n_n 2048 rfl rfl).symm]
  refine Finset.sum_congr rfl fun f _ => ?_
  have hk := ValueIdx.contrEquiv1_symm_val dot_S8x2048x4096_S69632x2048_S8x4096x69632_1_1_02_0_n_n 2048 rfl rfl f
  refine (mul_comm _ _).trans ?_
  refine congrArg₂ (fun a b : EReal => a * b) (congrArg h (funext fun a => Fin.ext ?_)) (congrArg w (funext fun a => Fin.ext ?_))
  · match a with
    | ⟨0, _⟩ => rfl
    | ⟨1, _⟩ => exact hk
  · match a with
    | ⟨0, _⟩ => rfl
    | ⟨1, _⟩ => exact hk
    | ⟨2, _⟩ => rfl

/-- The routed down projection at an index: the row through the expert its tile names, if the tile holds rows. -/
def spec (h : S69632x2048.Idx → EReal) (w : S8x2048x4096.Idx → EReal) (te tv : S136.Idx → BitVec 32) (i : S69632x4096.Idx) : EReal :=
  if tv (ix1 (tileOf (i 0))) = 1#32 then
    ∑ f : Fin 2048, h (ix2 (i 0) f) * w (ix3 ⟨(te (ix1 (tileOf (i 0)))).toNat % 8, Nat.mod_lt _ (by decide)⟩ f (i 1))
  else 0

/-- The reference computes it, on tables that name experts. -/
theorem result_eq (h : S69632x2048.Idx → EReal) (w : S8x2048x4096.Idx → EReal) (te tv : S136.Idx → BitVec 32)
    (hn : ∀ x, (te x).toNat < 8) : result (F := Ideal) h w te tv = spec h w te tv := by
  funext i
  have term (e : Fin 8) (r : Fin 69632) (d : Fin 4096) : select (broadcastInDim S8x69632x4096 ![0, 1, 2] bcast_S8x69632x1_S8x69632x4096_0_1_2 (mine (F := Ideal) te tv)) (all (F := Ideal) h w)
      (broadcastInDim S8x69632x4096 ![] bcast_S_S8x69632x4096 (constant (F := Ideal) S_ .f32 0x00000000#32)) (ix3 e r d)
        = if te (ix1 (tileOf r)) = BitVec.ofNat 32 e.val ∧ tv (ix1 (tileOf r)) = 1#32 then
            ∑ f : Fin 2048, h (ix2 r f) * w (ix3 e f d) else 0 := by
    have hb : broadcastInDim S8x69632x4096 ![0, 1, 2] bcast_S8x69632x1_S8x69632x4096_0_1_2 (mine (F := Ideal) te tv) (ix3 e r d)
        = mine (F := Ideal) te tv (ix3 e r 0) :=
      spread_columns _ e r d
    show (if broadcastInDim S8x69632x4096 ![0, 1, 2] bcast_S8x69632x1_S8x69632x4096_0_1_2 (mine (F := Ideal) te tv) (ix3 e r d) = 1#1
      then all (F := Ideal) h w (ix3 e r d) else Ideal.ofBits .f32 0x00000000#32) = _
    rw [hb, all_apply, Ideal.ofBits_zero_f32]
    exact if_congr (mine_apply te tv e r) rfl rfl
  have key : result (F := Ideal) h w te tv i = ∑ e : Fin 8, if te (ix1 (tileOf (i 0))) = BitVec.ofNat 32 e.val ∧ tv (ix1 (tileOf (i 0))) = 1#32 then
            ∑ f : Fin 2048, h (ix2 (i 0) f) * w (ix3 e f (i 1)) else 0 := by
    refine (Ideal.hostReduceAdd_r3_a0 reducesTo_S8x69632x4096_S69632x4096_d0 _ (Ideal.ofBits .f32 0x00000000#32) i).trans ?_
    rw [Ideal.ofBits_zero_f32, zero_add]
    exact Finset.sum_congr rfl fun e _ => term e (i 0) (i 1)
  rw [key]
  unfold spec
  have ht := hn (ix1 (tileOf (i 0)))
  by_cases q : tv (ix1 (tileOf (i 0))) = 1#32
  · rw [if_pos q]
    have he (e : Fin 8) : te (ix1 (tileOf (i 0))) = BitVec.ofNat 32 e.val ↔ e = ⟨(te (ix1 (tileOf (i 0)))).toNat % 8, Nat.mod_lt _ (by decide)⟩ := by
      rw [← BitVec.toNat_inj, BitVec.toNat_ofNat, Fin.ext_iff]
      show _ ↔ e.val = (te (ix1 (tileOf (i 0)))).toNat % 8
      have := e.isLt
      omega
    rw [Finset.sum_eq_single (⟨(te (ix1 (tileOf (i 0)))).toNat % 8, Nat.mod_lt _ (by decide)⟩ : Fin 8)]
    · rw [if_pos ⟨(he _).mpr rfl, q⟩]
    · intro e _ hne
      exact if_neg fun z => hne ((he e).mp z.1)
    · exact fun z => absurd (Finset.mem_univ _) z
  · rw [if_neg q]
    exact Finset.sum_eq_zero fun e _ => if_neg fun z => q z.2

end Layer.MoeDownRef

end
-- ==== Proof.MoeDown.lean ====
/-
  The routed down projection: every row through the expert its tile names, zero where the tile holds no rows.

  A point of the grid is a column block of 1024 and a tile of 512 rows. Its block of the result is the product of the
  tile's rows with the columns of its expert's weights, or zeros. The reference takes each row through every expert and
  keeps one product.
-/
module

public import proofs.«01_k».proof.Proof.MoeDownIdealRun
public import proofs.«01_k».proof.Proof.MoeDownRef
public import proofs.«01_k».proof.Proof.Gen.Pre_experts_named

@[expose] public section

set_option maxRecDepth 16384

noncomputable section

namespace Layer.MoeDownValue

open Cert.MoeDownIdeal Cert.MoeDownIdeal.Gen Idealize.ShloMosaic.TcCoe Idealize.SL.Sem
open Idealize.ShloMosaic hiding ix1 ix2 ix3
open Idealize.ShloMosaic.Pipeline (Dat)
open Idealize.ShloMosaic.ValueIdx (ix1 ix2 ix3)
open Layer.MoeDownIdeal
open Layer.MoeDownRef (spec tileOf)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The precondition -/

/-- The precondition names experts. -/
theorem named_of_pre {F : FTy → Type} [FloatOps F] {te : S136.Idx → BitVec 32} {h : FVec F S69632x2048 .bf16}
    {w : FVec F S8x2048x4096 .bf16} {tv : S136.Idx → BitVec 32}
    (hp : Cert.Pre_experts_named.fn (F := F) h w te tv = fun _ => 1#1) (x : S136.Idx) : (te x).toNat < 8 := by
  have e : BitVec.ofBool ((0#32).sle (te x)) &&& BitVec.ofBool ((te x).slt 8#32) = 1#1 := congrFun hp x
  generalize te x = v at e ⊢
  have h1 : (0#32).sle v = true := by
    by_contra h; rw [Bool.not_eq_true] at h; rw [h] at e; revert e; cases v.slt 8#32 <;> decide
  have h2 : v.slt 8#32 = true := by
    by_contra h; rw [Bool.not_eq_true] at h; rw [h] at e; revert e; cases (0#32).sle v <;> decide
  rw [BitVec.sle, decide_eq_true_eq] at h1
  rw [BitVec.slt, decide_eq_true_eq] at h2
  have a0 : (0#32).toInt = 0 := by decide
  have a8 : (8#32).toInt = 8 := by decide
  rw [a0] at h1
  rw [a8] at h2
  have hv := BitVec.toInt_eq_toNat_cond v
  have hl := v.isLt
  split at hv <;> omega

/-! ## One point's block -/

section

variable {c : Dev nD} {i : grid0.Coords} {b0 : Memref sig .tc .vmem S512x2048 .bf16} (h0 : b0.IsWhole)
  {b1 : Memref sig .tc .vmem S1x2048x1024 .bf16} (h1 : b1.IsWhole) {b2 : Memref sig .tc .vmem S512x1024 .f32} (h2 : b2.IsWhole)
  (T0 T1 : S136.Idx → Elt Ideal .i32) (x0 : S512x2048.Idx → Elt Ideal .bf16) (x1 : S1x2048x1024.Idx → Elt Ideal .bf16)

/-- A tile that holds rows gets the product. -/
theorem product_eq (p q) : out0_A_2 c i b0 h0 b1 h1 b2 h2 T0 T1 x0 x1 p q = k0_pay1 (F := Ideal) x0 x1 := by
  unfold out0_A_2
  rw [View.read_writes_eq_canon _ _ _ (cover0_A_2 c i b0 h0 b1 h1 b2 h2 T0 T1 x0 x1 p q)]
  unfold kernelRun0_A
  dsimp only
  sl_unfold_words
  rw [View.canon_unit_zero (S := S512x1024) hz2]
  simp only [View.readAt_eq_ld, View.read_rep, View.ld_unit_zero (S := S512x2048) hz2, View.ld_unit_zero (S := S1x2048x1024) hz3]

/-- Any other gets zeros. -/
theorem zeros_eq (p q) : out0_B_2 c i b0 h0 b1 h1 b2 h2 T0 T1 x0 x1 p q = k0_pay2 (F := Ideal) := by
  unfold out0_B_2
  rw [View.read_writes_eq_canon _ _ _ (cover0_B_2 c i b0 h0 b1 h1 b2 h2 T0 T1 x0 x1 p q)]
  unfold kernelRun0_B
  dsimp only
  sl_unfold_words
  rw [View.canon_unit_zero (S := S512x1024) hz2]

end

/-- The product at an index. -/
theorem product_apply (v : Vec Ideal S512x2048 .bf16) (w : Vec Ideal S1x2048x1024 .bf16) (j : S512x1024.Idx) :
    k0_pay1 (F := Ideal) v w j = ∑ k : Fin 2048, v (ix2 (j 0) k) * w (ix3 0 k (j 1)) := by
  refine (matmul_plain_zero (φ₁ := .bf16) (φ₂ := .bf16) v (shapeCast S2048x1024 w shapeCasts_S1x2048x1024_S2048x1024) j).trans ?_
  refine Finset.sum_congr rfl fun k _ => congrArg (fun z : EReal => v (ix2 (j 0) k) * z) ?_
  exact shapeCast_apply w shapeCasts_S1x2048x1024_S2048x1024 (ix2 k (j 1)) (ix3 0 k (j 1)) (by
    rw [Shape.rowMajor_val_three, Shape.rowMajor_val_two]
    show (0 * 2048 + k.val) * 1024 + (j 1).val = k.val * 1024 + (j 1).val
    omega)

/-- Zero at an index. -/
theorem zeros_apply (j : S512x1024.Idx) : k0_pay2 (F := Ideal) j = 0 := Ideal.ofBits_zero_f32

/-! ## The points -/

/-- Point `t` is the pair of its column block and its tile. -/
theorem point_facts : ∀ t : Fin grid0.N, (grid0.coords t 0).val = t.val / 136 ∧ (grid0.coords t 1).val = t.val % 136 := by
  decide +kernel

/-- A point's number in the tables. -/
theorem ofNat_small {n : Nat} (h : n < 136) : (BitVec.ofNat 32 n).toNat = n := by
  rw [BitVec.toNat_ofNat]; exact Nat.mod_eq_of_lt (by omega)

/-- The place of the tables a point reads. -/
theorem place_eq (i : grid0.Coords) (x : (Rect.unit (s := S136) (k0_off1 i) S1.size (k0_off1_inb i)).shape.Idx) :
    (Rect.unit (s := S136) (k0_off1 i) S1.size (k0_off1_inb i)).emb x = (ix1 ⟨(i 1).val, (i 1).isLt⟩ : S136.Idx) := by
  have hi : (i 1).val < 136 := (i 1).isLt
  have hx : (x 0).val < 1 := (x 0).isLt
  refine funext fun a => Fin.ext ?_
  match a with
  | ⟨0, _⟩ =>
    show (BitVec.ofNat 32 (i 1).val).toNat + 1 * (x 0).val = (i 1).val
    rw [ofNat_small hi]; omega

variable (m : (ℓ : Loc nD τ sig) → Buf (Elt Ideal) ℓ) (ρ : Dev nD → PrngReg) (hn : Named m)

/-- The mark a point reads is its tile's. -/
theorem word_eq (i : grid0.Coords) : word m i = mark m (ix1 ⟨(i 1).val, (i 1).isLt⟩) :=
  congrArg (mark m) (place_eq i _)

/-- The result array's contents: `spec` of the arguments. -/
abbrev G (c : Dev nD) : Buf (Elt Ideal) ((c : Thread nD τ).loc main_v0) :=
  spec (m ((c : Thread nD τ).loc main_arg0)) (m ((c : Thread nD τ).loc main_arg1)) (m ((c : Thread nD τ).loc main_arg2)) (m ((c : Thread nD τ).loc main_arg3))

/-- Where the blocks of a point lie. -/
theorem index0 (t : Fin (cfg m hn).N) : ((cfg m hn).win (0 : Fin 3)).index t 0 = t.val % 136 ∧ ((cfg m hn).win (0 : Fin 3)).index t 1 = 0 := by
  obtain ⟨-, e1⟩ := point_facts t
  refine ⟨?_, rfl⟩
  show (BitVec.ofNat 32 (grid0.coords t 1).val).toNat = _
  rw [ofNat_small (grid0.coords t 1).isLt, e1]

theorem index1 (t : Fin (cfg m hn).N) : ((cfg m hn).win (1 : Fin 3)).index t 0 = BitVec.toNat (expert m (ix1 ⟨t.val % 136, Nat.mod_lt _ (by decide)⟩))
    ∧ ((cfg m hn).win (1 : Fin 3)).index t 1 = 0 ∧ ((cfg m hn).win (1 : Fin 3)).index t 2 = t.val / 136 := by
  obtain ⟨e0, e1⟩ := point_facts t
  have h4 : (grid0.coords t 0).val < 4 := (grid0.coords t 0).isLt
  refine ⟨?_, rfl, ?_⟩
  · show BitVec.toNat (expert m ((Rect.unit (s := S136) (k0_off1 (grid0.coords t)) S1.size (k0_off1_inb (grid0.coords t))).emb _)) = _
    exact (congrArg (fun y : S136.Idx => BitVec.toNat (expert m y)) (place_eq (grid0.coords t) _)).trans
      (congrArg (fun x : Fin 136 => BitVec.toNat (expert m (ix1 x))) (Fin.ext e1))
  · show (BitVec.ofNat 32 (grid0.coords t 0).val).toNat = _
    rw [ofNat_small (by omega), e0]

theorem index2 (t : Fin (cfg m hn).N) : ((cfg m hn).win (2 : Fin 3)).index t 0 = t.val % 136 ∧ ((cfg m hn).win (2 : Fin 3)).index t 1 = t.val / 136 := by
  obtain ⟨e0, e1⟩ := point_facts t
  have h4 : (grid0.coords t 0).val < 4 := (grid0.coords t 0).isLt
  refine ⟨?_, ?_⟩
  · show (BitVec.ofNat 32 (grid0.coords t 1).val).toNat = _
    rw [ofNat_small (grid0.coords t 1).isLt, e1]
  · show (BitVec.ofNat 32 (grid0.coords t 0).val).toNat = _
    rw [ofNat_small (by omega), e0]

/-- A place of the result's block, in the result. -/
theorem emb2 (t : Fin (cfg m hn).N) (j : S512x1024.Idx) :
    ((((cfg m hn).win (2 : Fin 3)).blk t).view.emb j 0).val = t.val % 136 * 512 + (j 0).val
    ∧ ((((cfg m hn).win (2 : Fin 3)).blk t).view.emb j 1).val = t.val / 136 * 1024 + (j 1).val := by
  obtain ⟨e0, e1⟩ := index2 m hn t
  refine ⟨?_, ?_⟩
  · show ((cfg m hn).win (2 : Fin 3)).index t 0 * 512 + 1 * (j 0).val = _
    rw [e0, Nat.one_mul]
  · show ((cfg m hn).win (2 : Fin 3)).index t 1 * 1024 + 1 * (j 1).val = _
    rw [e1, Nat.one_mul]

/-- `spec` at an index of a tile. -/
theorem spec_at (h : S69632x2048.Idx → EReal) (w : S8x2048x4096.Idx → EReal) (te tv : S136.Idx → BitVec 32) (i : S69632x4096.Idx)
    (t : Fin 136) (ht : tileOf (i 0) = t) : spec h w te tv i = if tv (ix1 t) = 1#32 then
      ∑ f : Fin 2048, h (ix2 (i 0) f) * w (ix3 ⟨(te (ix1 t)).toNat % 8, Nat.mod_lt _ (by decide)⟩ f (i 1)) else 0 := by
  subst ht; rfl

/-- What a point leaves, at an index of its block. -/
theorem left_apply (c : Dev nD) (t : Fin (cfg m hn).N) (j : S512x1024.Idx) :
    left m hn c t j = G m c (((cfg m hn).win (2 : Fin 3)).blk t |>.view.emb j) := by
  obtain rfl : c = 0 := Subsingleton.elim _ _
  obtain ⟨b0, b1⟩ := emb2 m hn t j
  obtain ⟨p0, p1⟩ := index0 m hn t
  obtain ⟨q0, q1, q2⟩ := index1 m hn t
  obtain ⟨-, e1⟩ := point_facts t
  have hj0 : (j 0).val < 512 := (j 0).isLt
  have ht : tileOf ((((cfg m hn).win (2 : Fin 3)).blk t).view.emb j 0) = ⟨t.val % 136, Nat.mod_lt _ (by decide)⟩ := Fin.ext (by
    show ((((cfg m hn).win (2 : Fin 3)).blk t).view.emb j 0).val / 512 = t.val % 136
    rw [b0]; omega)
  have hm : word m (at_ m hn t) = mark m (ix1 ⟨t.val % 136, Nat.mod_lt _ (by decide)⟩) := by
    rw [word_eq]
    exact congrArg (fun x : Fin 136 => mark m (ix1 x)) (Fin.ext e1)
  refine Eq.trans ?_ (spec_at _ _ _ _ _ _ ht).symm
  unfold left
  by_cases h : k0_cond1 (word m (at_ m hn t)) = 1#1
  · have hmark : mark m (ix1 ⟨t.val % 136, Nat.mod_lt _ (by decide)⟩) = 1#32 := hm.symm.trans ((cond1_iff _).mp h)
    rw [dif_pos h, if_pos hmark, product_eq]
    refine (product_apply _ _ j).trans (Finset.sum_congr rfl fun k _ => congrArg₂ (fun x y : EReal => x * y) ?_ ?_)
    · refine congrArg (m (((0 : Dev nD) : Thread nD τ).loc main_arg0)) (funext fun a => Fin.ext ?_)
      match a with
      | ⟨0, _⟩ =>
        show ((cfg m hn).win (0 : Fin 3)).index t 0 * 512 + 1 * (j 0).val = _
        rw [p0, Nat.one_mul]; exact b0.symm
      | ⟨1, _⟩ =>
        show ((cfg m hn).win (0 : Fin 3)).index t 1 * 2048 + 1 * k.val = k.val
        rw [p1]; omega
    · refine congrArg (m (((0 : Dev nD) : Thread nD τ).loc main_arg1)) (funext fun a => Fin.ext ?_)
      match a with
      | ⟨0, _⟩ =>
        show ((cfg m hn).win (1 : Fin 3)).index t 0 * 1 + 1 * 0 = BitVec.toNat (expert m (ix1 ⟨t.val % 136, Nat.mod_lt _ (by decide)⟩)) % 8
        have hlt : BitVec.toNat (expert m (ix1 ⟨t.val % 136, Nat.mod_lt _ (by decide)⟩)) < 8 := hn _
        rw [q0, Nat.mul_one, Nat.add_zero]
        exact (Nat.mod_eq_of_lt hlt).symm
      | ⟨1, _⟩ =>
        show ((cfg m hn).win (1 : Fin 3)).index t 1 * 2048 + 1 * k.val = k.val
        rw [q1]; omega
      | ⟨2, _⟩ =>
        show ((cfg m hn).win (1 : Fin 3)).index t 2 * 1024 + 1 * (j 1).val = _
        rw [q2, Nat.one_mul]; exact b1.symm
  · have hmark : ¬ mark m (ix1 ⟨t.val % 136, Nat.mod_lt _ (by decide)⟩) = 1#32 := fun z => h ((cond1_iff _).mpr (hm.trans z))
    rw [dif_neg h, if_neg hmark, zeros_eq]
    exact zeros_apply j

/-- Each point writes back its block of `G`. -/
theorem flushed_eq (c : Dev nD) (t : Fin (cfg m hn).N) :
    (dats m ρ hn 0 c).flushed (2 : Fin 3) t = (((cfg m hn).win (2 : Fin 3)).blk t).view.read (Elt Ideal) (G m c) := by
  have hr : ∀ (g : Buf (Elt Ideal) ((c : Thread nD τ).loc main_v0)) (v : Vec Ideal S512x1024 .f32)
      (_ : ∀ j, v j = g ((((cfg m hn).win (2 : Fin 3)).blk t).view.emb j)),
      ((cfg m hn).win (2 : Fin 3)).cut (at_ m hn t) v = (((cfg m hn).win (2 : Fin 3)).blk t).view.read (Elt Ideal) g := fun _ _ h => funext h
  show ((cfg m hn).win (2 : Fin 3)).cut (at_ m hn t) ((dats m ρ hn 0 c).after (2 : Fin 3) t) = _
  rw [after2]
  exact hr (G m c) _ (left_apply m hn c t)

/-- An index of the result is in point `t`'s block when its row and its column are in the block's ranges. -/
theorem mem_blk (t : Fin (cfg m hn).N) (i : S69632x4096.Idx)
    (h0 : t.val % 136 * 512 ≤ (i 0 : Nat) ∧ (i 0 : Nat) < t.val % 136 * 512 + 512)
    (h1 : t.val / 136 * 1024 ≤ (i 1 : Nat) ∧ (i 1 : Nat) < t.val / 136 * 1024 + 1024) :
    i ∈ (((cfg m hn).win (2 : Fin 3)).blk t).view.set := by
  show i ∈ ((View.whole main_v0).slice (((cfg m hn).win (2 : Fin 3)).rect t)).set
  rw [View.set_slice_whole, Rect.mem_set_unit]
  obtain ⟨e0, e1⟩ := index2 m hn t
  intro a
  match a with
  | ⟨0, _⟩ =>
    show ((cfg m hn).win (2 : Fin 3)).index t 0 * 512 ≤ (i 0 : Nat) ∧ (i 0 : Nat) < ((cfg m hn).win (2 : Fin 3)).index t 0 * 512 + 512
    rw [e0]; exact h0
  | ⟨1, _⟩ =>
    show ((cfg m hn).win (2 : Fin 3)).index t 1 * 1024 ≤ (i 1 : Nat) ∧ (i 1 : Nat) < ((cfg m hn).win (2 : Fin 3)).index t 1 * 1024 + 1024
    rw [e1]; exact h1

/-- The blocks tile the result. -/
theorem cover (i : S69632x4096.Idx) :
    ∃ t : Fin (cfg m hn).N, ((cfg m hn).win (2 : Fin 3)).flush t = true ∧ i ∈ (((cfg m hn).win (2 : Fin 3)).blk t).view.set := by
  have h0 : (i 0 : Nat) < 69632 := (i 0).isLt
  have h1 : (i 1 : Nat) < 4096 := (i 1).isLt
  have hN : (cfg m hn).N = 544 := N_0
  refine ⟨⟨(i 1 : Nat) / 1024 * 136 + (i 0 : Nat) / 512, by omega⟩, flush2 m hn _, mem_blk m hn _ i ?_ ?_⟩ <;> dsimp only <;> omega

include hn in
/-- The kernel's run: the result holds `spec` of the arguments, which are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 (2 : Fin 3)).trans
      ((dats m ρ hn 0 c).arrAt_eq_of_cover (2 : Fin 3) (G m c) (fun t _ => flushed_eq m ρ hn c t) (cover m hn)),
    ((h.1 c).1 (0 : Fin 3)).trans ((dats m ρ hn 0 c).arrAt_in (0 : Fin 3) rfl _),
    ((h.1 c).1 (1 : Fin 3)).trans ((dats m ρ hn 0 c).arrAt_in (1 : Fin 3) rfl _),
    ((h.1 c).2 0).trans (tables_eq m hn c 0).symm, ((h.1 c).2 1).trans (tables_eq m hn c 1).symm⟩) (run_ends m ρ hn)

/-- The precondition of the claims names experts. -/
theorem named (hp : Cert.Pre_MoeDownIdeal (hPre_experts_named := Cert.Pre_experts_named.Gen.facts) m) : Named m :=
  fun x => named_of_pre (hp 0) x

/-- The kernel and the reference compute the same array from equal arguments. -/
theorem algebraic : Cert.algebraic_MoeDownIdeal_MoeDownRefIdeal (hMoeDownIdeal := Cert.MoeDownIdeal.Gen.facts)
    (hMoeDownRefIdeal := Cert.MoeDownRefIdeal.Gen.facts) (hPre_experts_named := Cert.Pre_experts_named.Gen.facts) := by
  intro m g m' g' hp hag
  have hn := named m hp
  refine ⟨fun c => G m c, run m g hn, ?_⟩
  refine (θ_run (Cert.MoeDownRefIdeal.defs (F := Ideal)) _ _).mono (fun r h c => ?_) (Layer.MoeDownRef.run (F := Ideal) m' g')
  obtain ⟨hv, hargs⟩ := h c
  refine ⟨hv.trans ?_, hargs⟩
  obtain ⟨h0, h1, h2, h3⟩ := hag c
  rw [h0, h1, h2, h3]
  obtain rfl : c = 0 := Subsingleton.elim _ _
  exact Layer.MoeDownRef.result_eq _ _ _ _ hn

end Layer.MoeDownValue

end
-- ==== Proof.EmbedAll.lean ====
/-
  The gated embedding of all the tokens: `x + sigmoid(xb · wg) * (p · wp)`, and its copy in the shorter format.

  The kernel works on a grid of 32 × 8 blocks of 1024 rows and 512 columns; each point writes its block of both arrays.
-/
module

public import proofs.«01_k».proof.Proof.Gen.EmbedAllIdeal.Value
public import proofs.«01_k».proof.Proof.Gen.EmbedAllRefIdeal.Run
public import proofs.«01_k».proof.Proof.Gen.EmbedAllRefIdeal.Read
public import proofs.«01_k».proof.Proof.Dot
public import proofs.«01_k».proof.Defs

@[expose] public section

noncomputable section

namespace Layer.EmbedAll

open Cert.EmbedAllIdeal Cert.EmbedAllIdeal.Gen Idealize.ShloMosaic Idealize.ShloMosaic.TcCoe Idealize.SL.Sem
open Idealize.ShloMosaic.Pipeline (Dat)
open Idealize.ShloMosaic.ValueIdx (ix2)

theorem hz : (![0, 0] : Fin 2 → Nat) = fun _ => 0 := funext fun a => by fin_cases a <;> rfl

/-- `x + sigmoid(xb · wg) * (p · wp)` at an index, over the extended reals. -/
def spec (xb : S32768x4096.Idx → EReal) (wg : S4096x4096.Idx → EReal) (p : S32768x256.Idx → EReal)
    (wp : S256x4096.Idx → EReal) (x : S32768x4096.Idx → EReal) (i : S32768x4096.Idx) : EReal :=
  x (ix2 (i 0) (i 1))
    + Ideal.logistic (∑ k : Fin 4096, xb (ix2 (i 0) k) * wg (ix2 k (i 1)))
      * ∑ k : Fin 256, p (ix2 (i 0) k) * wp (ix2 k (i 1))

/-- The body's stored value at an index of its block, from the five blocks it loads. -/
theorem pay_apply (v0 : Vec Ideal S1024x4096 .bf16) (v1 : Vec Ideal S4096x512 .bf16) (v2 : Vec Ideal S1024x256 .bf16)
    (v3 : Vec Ideal S256x512 .bf16) (v4 : Vec Ideal S1024x512 .f32) (j : S1024x512.Idx) :
    k0_pay1 (F := Ideal) v0 v1 v2 v3 v4 j
      = v4 j + Ideal.logistic (∑ k : Fin 4096, v0 (ix2 (j 0) k) * v1 (ix2 k (j 1)))
          * ∑ k : Fin 256, v2 (ix2 (j 0) k) * v3 (ix2 k (j 1)) := by
  rw [← matmul_plain_zero (φ₁ := .bf16) (φ₂ := .bf16) v0 v1 j, ← matmul_plain_zero (φ₁ := .bf16) (φ₂ := .bf16) v2 v3 j]
  rfl

/-- The shorter copy's stored value is the same over the extended reals. -/
theorem pay2_apply (v0 : Vec Ideal S1024x4096 .bf16) (v1 : Vec Ideal S4096x512 .bf16) (v2 : Vec Ideal S1024x256 .bf16)
    (v3 : Vec Ideal S256x512 .bf16) (v4 : Vec Ideal S1024x512 .f32) (j : S1024x512.Idx) :
    k0_pay2 (F := Ideal) v0 v1 v2 v3 v4 j
      = v4 j + Ideal.logistic (∑ k : Fin 4096, v0 (ix2 (j 0) k) * v1 (ix2 k (j 1)))
          * ∑ k : Fin 256, v2 (ix2 (j 0) k) * v3 (ix2 k (j 1)) :=
  pay_apply v0 v1 v2 v3 v4 j

/-- Point `t` is the pair of its row block and its column block. -/
theorem point_facts5 : ∀ t : Fin cfg0.N, win0_5.index t 0 = t.val / 8 ∧ win0_5.index t 1 = t.val % 8 :=
  (by decide +kernel : ∀ t : Fin grid0.N, win0_5.index t 0 = t.val / 8 ∧ win0_5.index t 1 = t.val % 8)

/-- Point `t` is the pair of its row block and its column block. -/
theorem point_facts6 : ∀ t : Fin cfg0.N, win0_6.index t 0 = t.val / 8 ∧ win0_6.index t 1 = t.val % 8 :=
  (by decide +kernel : ∀ t : Fin grid0.N, win0_6.index t 0 = t.val / 8 ∧ win0_6.index t 1 = t.val % 8)

/-- The rows read are the rows written. -/
theorem row_facts5 : ∀ t : Fin cfg0.N,
    (win0_0.index t 0 = win0_5.index t 0) ∧ (win0_2.index t 0 = win0_5.index t 0) ∧ (win0_4.index t 0 = win0_5.index t 0) :=
  (by decide +kernel : ∀ t : Fin grid0.N,
    (win0_0.index t 0 = win0_5.index t 0) ∧ (win0_2.index t 0 = win0_5.index t 0) ∧ (win0_4.index t 0 = win0_5.index t 0))

/-- The rows read are the rows written. -/
theorem row_facts6 : ∀ t : Fin cfg0.N,
    (win0_0.index t 0 = win0_6.index t 0) ∧ (win0_2.index t 0 = win0_6.index t 0) ∧ (win0_4.index t 0 = win0_6.index t 0) :=
  (by decide +kernel : ∀ t : Fin grid0.N,
    (win0_0.index t 0 = win0_6.index t 0) ∧ (win0_2.index t 0 = win0_6.index t 0) ∧ (win0_4.index t 0 = win0_6.index t 0))

variable (m : (ℓ : Loc nD τ sig) → Buf (Elt Ideal) ℓ) (ρ : Dev nD → PrngReg)

/-- Both result arrays' contents: `spec` of the arguments. -/
abbrev G (c : Dev nD) : S32768x4096.Idx → EReal :=
  spec (m ((c : Thread nD τ).loc main_arg0)) (m ((c : Thread nD τ).loc main_arg1)) (m ((c : Thread nD τ).loc main_arg2)) (m ((c : Thread nD τ).loc main_arg3)) (m ((c : Thread nD τ).loc main_arg4))

/-- Each point writes back its block of `G`, to the first array. -/
theorem flushed_eq5 (c : Dev nD) (t : Fin cfg0.N) :
    (dats m 0 c).flushed 5 t = ((cfg0.win 5).blk t).view.read (Elt Ideal) (G m c) := by
  rw [Cert.EmbedAllIdeal.Value.flushed5]
  unfold out0_5
  rw [View.canon_unit_zero hz, View.ld_unit_zero hz, View.ld_unit_zero hz, View.ld_unit_zero hz, View.ld_unit_zero hz,
    View.ld_unit_zero hz]
  funext j
  refine (pay_apply _ _ _ _ _ _).trans ?_
  have e0 : ∀ k : Fin 4096, (iblk m c 0 t : S1024x4096.Idx → EReal) (ix2 (j 0) k)
      = (m ((c : Thread nD τ).loc main_arg0) : S32768x4096.Idx → EReal) (ix2 (((cfg0.win 5).blk t).view.emb j 0) k) :=
    fun k => congrArg (m ((c : Thread nD τ).loc main_arg0)) (funext fun a => Fin.ext (by
      match a with
      | ⟨0, _⟩ => exact by have h := (row_facts5 t).1; show win0_0.index t 0 * 1024 + 1 * (j 0 : Nat) = (win0_5.index t 0 * 1024 + 1 * (j 0 : Nat)); omega
      | ⟨1, _⟩ => exact emb_of_index_zero win0_0 t (ix2 (j 0) k) 1 rfl rfl))
  have e1 : ∀ k : Fin 4096, (iblk m c 1 t : S4096x512.Idx → EReal) (ix2 k (j 1))
      = (m ((c : Thread nD τ).loc main_arg1) : S4096x4096.Idx → EReal) (ix2 k (((cfg0.win 5).blk t).view.emb j 1)) :=
    fun k => congrArg (m ((c : Thread nD τ).loc main_arg1)) (funext fun a => Fin.ext (by
      match a with
      | ⟨0, _⟩ => exact emb_of_index_zero win0_1 t (ix2 k (j 1)) 0 rfl rfl
      | ⟨1, _⟩ => rfl))
  have e2 : ∀ k : Fin 256, (iblk m c 2 t : S1024x256.Idx → EReal) (ix2 (j 0) k)
      = (m ((c : Thread nD τ).loc main_arg2) : S32768x256.Idx → EReal) (ix2 (((cfg0.win 5).blk t).view.emb j 0) k) :=
    fun k => congrArg (m ((c : Thread nD τ).loc main_arg2)) (funext fun a => Fin.ext (by
      match a with
      | ⟨0, _⟩ => exact by have h := (row_facts5 t).2.1; show win0_2.index t 0 * 1024 + 1 * (j 0 : Nat) = (win0_5.index t 0 * 1024 + 1 * (j 0 : Nat)); omega
      | ⟨1, _⟩ => exact emb_of_index_zero win0_2 t (ix2 (j 0) k) 1 rfl rfl))
  have e3 : ∀ k : Fin 256, (iblk m c 3 t : S256x512.Idx → EReal) (ix2 k (j 1))
      = (m ((c : Thread nD τ).loc main_arg3) : S256x4096.Idx → EReal) (ix2 k (((cfg0.win 5).blk t).view.emb j 1)) :=
    fun k => congrArg (m ((c : Thread nD τ).loc main_arg3)) (funext fun a => Fin.ext (by
      match a with
      | ⟨0, _⟩ => exact emb_of_index_zero win0_3 t (ix2 k (j 1)) 0 rfl rfl
      | ⟨1, _⟩ => rfl))
  have e4 : (iblk m c 4 t : S1024x512.Idx → EReal) j
      = (m ((c : Thread nD τ).loc main_arg4) : S32768x4096.Idx → EReal)
          (ix2 (((cfg0.win 5).blk t).view.emb j 0) (((cfg0.win 5).blk t).view.emb j 1)) :=
    congrArg (m ((c : Thread nD τ).loc main_arg4)) (funext fun a => Fin.ext (by
      match a with
      | ⟨0, _⟩ => exact by have h := (row_facts5 t).2.2; show win0_4.index t 0 * 1024 + 1 * (j 0 : Nat) = (win0_5.index t 0 * 1024 + 1 * (j 0 : Nat)); omega
      | ⟨1, _⟩ => rfl))
  simp only [e0, e1, e2, e3, e4]
  rfl

/-- An index of the result is in point `t`'s block when its row and its column are in the block's ranges. -/
theorem mem_blk5 (t : Fin cfg0.N) (i : S32768x4096.Idx)
    (h0 : t.val / 8 * 1024 ≤ (i 0 : Nat) ∧ (i 0 : Nat) < t.val / 8 * 1024 + 1024)
    (h1 : t.val % 8 * 512 ≤ (i 1 : Nat) ∧ (i 1 : Nat) < t.val % 8 * 512 + 512) :
    i ∈ ((cfg0.win 5).blk t).view.set := by
  show i ∈ ((View.whole main_v0_0).slice (win0_5.rect t)).set
  rw [View.set_slice_whole, Rect.mem_set_unit]
  obtain ⟨e0, e1⟩ := point_facts5 t
  intro a
  match a with
  | ⟨0, _⟩ =>
    show win0_5.index t 0 * 1024 ≤ (i 0 : Nat) ∧ (i 0 : Nat) < win0_5.index t 0 * 1024 + 1024
    rw [e0]; exact h0
  | ⟨1, _⟩ =>
    show win0_5.index t 1 * 512 ≤ (i 1 : Nat) ∧ (i 1 : Nat) < win0_5.index t 1 * 512 + 512
    rw [e1]; exact h1

/-- The blocks tile the result. -/
theorem cover5 (i : S32768x4096.Idx) :
    ∃ t : Fin cfg0.N, (cfg0.win 5).flush t = true ∧ i ∈ ((cfg0.win 5).blk t).view.set := by
  have h0 : (i 0 : Nat) < 32768 := (i 0).isLt
  have h1 : (i 1 : Nat) < 4096 := (i 1).isLt
  have hN : cfg0.N = 256 := N_0
  refine ⟨⟨(i 0 : Nat) / 1024 * 8 + (i 1 : Nat) / 512, by omega⟩, flush0_5 _, mem_blk5 _ i ?_ ?_⟩ <;> dsimp only <;> omega

/-- Each point writes back its block of `G`, to the second array. -/
theorem flushed_eq6 (c : Dev nD) (t : Fin cfg0.N) :
    (dats m 0 c).flushed 6 t = ((cfg0.win 6).blk t).view.read (Elt Ideal) (G m c) := by
  rw [Cert.EmbedAllIdeal.Value.flushed6]
  unfold out0_6
  rw [View.canon_unit_zero hz, View.ld_unit_zero hz, View.ld_unit_zero hz, View.ld_unit_zero hz, View.ld_unit_zero hz,
    View.ld_unit_zero hz]
  funext j
  refine (pay2_apply _ _ _ _ _ _).trans ?_
  have e0 : ∀ k : Fin 4096, (iblk m c 0 t : S1024x4096.Idx → EReal) (ix2 (j 0) k)
      = (m ((c : Thread nD τ).loc main_arg0) : S32768x4096.Idx → EReal) (ix2 (((cfg0.win 6).blk t).view.emb j 0) k) :=
    fun k => congrArg (m ((c : Thread nD τ).loc main_arg0)) (funext fun a => Fin.ext (by
      match a with
      | ⟨0, _⟩ => exact by have h := (row_facts6 t).1; show win0_0.index t 0 * 1024 + 1 * (j 0 : Nat) = (win0_6.index t 0 * 1024 + 1 * (j 0 : Nat)); omega
      | ⟨1, _⟩ => exact emb_of_index_zero win0_0 t (ix2 (j 0) k) 1 rfl rfl))
  have e1 : ∀ k : Fin 4096, (iblk m c 1 t : S4096x512.Idx → EReal) (ix2 k (j 1))
      = (m ((c : Thread nD τ).loc main_arg1) : S4096x4096.Idx → EReal) (ix2 k (((cfg0.win 6).blk t).view.emb j 1)) :=
    fun k => congrArg (m ((c : Thread nD τ).loc main_arg1)) (funext fun a => Fin.ext (by
      match a with
      | ⟨0, _⟩ => exact emb_of_index_zero win0_1 t (ix2 k (j 1)) 0 rfl rfl
      | ⟨1, _⟩ => rfl))
  have e2 : ∀ k : Fin 256, (iblk m c 2 t : S1024x256.Idx → EReal) (ix2 (j 0) k)
      = (m ((c : Thread nD τ).loc main_arg2) : S32768x256.Idx → EReal) (ix2 (((cfg0.win 6).blk t).view.emb j 0) k) :=
    fun k => congrArg (m ((c : Thread nD τ).loc main_arg2)) (funext fun a => Fin.ext (by
      match a with
      | ⟨0, _⟩ => exact by have h := (row_facts6 t).2.1; show win0_2.index t 0 * 1024 + 1 * (j 0 : Nat) = (win0_6.index t 0 * 1024 + 1 * (j 0 : Nat)); omega
      | ⟨1, _⟩ => exact emb_of_index_zero win0_2 t (ix2 (j 0) k) 1 rfl rfl))
  have e3 : ∀ k : Fin 256, (iblk m c 3 t : S256x512.Idx → EReal) (ix2 k (j 1))
      = (m ((c : Thread nD τ).loc main_arg3) : S256x4096.Idx → EReal) (ix2 k (((cfg0.win 6).blk t).view.emb j 1)) :=
    fun k => congrArg (m ((c : Thread nD τ).loc main_arg3)) (funext fun a => Fin.ext (by
      match a with
      | ⟨0, _⟩ => exact emb_of_index_zero win0_3 t (ix2 k (j 1)) 0 rfl rfl
      | ⟨1, _⟩ => rfl))
  have e4 : (iblk m c 4 t : S1024x512.Idx → EReal) j
      = (m ((c : Thread nD τ).loc main_arg4) : S32768x4096.Idx → EReal)
          (ix2 (((cfg0.win 6).blk t).view.emb j 0) (((cfg0.win 6).blk t).view.emb j 1)) :=
    congrArg (m ((c : Thread nD τ).loc main_arg4)) (funext fun a => Fin.ext (by
      match a with
      | ⟨0, _⟩ => exact by have h := (row_facts6 t).2.2; show win0_4.index t 0 * 1024 + 1 * (j 0 : Nat) = (win0_6.index t 0 * 1024 + 1 * (j 0 : Nat)); omega
      | ⟨1, _⟩ => rfl))
  simp only [e0, e1, e2, e3, e4]
  rfl

/-- An index of the result is in point `t`'s block when its row and its column are in the block's ranges. -/
theorem mem_blk6 (t : Fin cfg0.N) (i : S32768x4096.Idx)
    (h0 : t.val / 8 * 1024 ≤ (i 0 : Nat) ∧ (i 0 : Nat) < t.val / 8 * 1024 + 1024)
    (h1 : t.val % 8 * 512 ≤ (i 1 : Nat) ∧ (i 1 : Nat) < t.val % 8 * 512 + 512) :
    i ∈ ((cfg0.win 6).blk t).view.set := by
  show i ∈ ((View.whole main_v0_1).slice (win0_6.rect t)).set
  rw [View.set_slice_whole, Rect.mem_set_unit]
  obtain ⟨e0, e1⟩ := point_facts6 t
  intro a
  match a with
  | ⟨0, _⟩ =>
    show win0_6.index t 0 * 1024 ≤ (i 0 : Nat) ∧ (i 0 : Nat) < win0_6.index t 0 * 1024 + 1024
    rw [e0]; exact h0
  | ⟨1, _⟩ =>
    show win0_6.index t 1 * 512 ≤ (i 1 : Nat) ∧ (i 1 : Nat) < win0_6.index t 1 * 512 + 512
    rw [e1]; exact h1

/-- The blocks tile the result. -/
theorem cover6 (i : S32768x4096.Idx) :
    ∃ t : Fin cfg0.N, (cfg0.win 6).flush t = true ∧ i ∈ ((cfg0.win 6).blk t).view.set := by
  have h0 : (i 0 : Nat) < 32768 := (i 0).isLt
  have h1 : (i 1 : Nat) < 4096 := (i 1).isLt
  have hN : cfg0.N = 256 := N_0
  refine ⟨⟨(i 0 : Nat) / 1024 * 8 + (i 1 : Nat) / 512, by omega⟩, flush0_6 _, mem_blk6 _ i ?_ ?_⟩ <;> dsimp only <;> omega

/-- The kernel's run: both results hold `spec` of the arguments, which are unchanged. -/
theorem run : θ_run defs (onTc (τ := τ) (main (F := Ideal))) ⟨m, fun _ => 0, ρ⟩ fun r => ∀ c : Dev nD,
      r.2.mem ((c : Thread nD τ).loc main_v0_0) = G m c
      ∧ r.2.mem ((c : Thread nD τ).loc main_v0_1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨(h c).1.trans ((dats m 0 c).arrAt_eq_of_cover 5 (G m c) (fun t _ => flushed_eq5 m c t) cover5),
        (h c).2.1.trans ((dats m 0 c).arrAt_eq_of_cover 6 (G m c) (fun t _ => flushed_eq6 m c t) cover6), (h c).2.2⟩)
    (Cert.EmbedAllIdeal.Value.run_blocks m ρ)

/-- The reference's result is `spec` of its arguments. -/
theorem ref_eq (xb : S32768x4096.Idx → EReal) (wg : S4096x4096.Idx → EReal) (p : S32768x256.Idx → EReal)
    (wp : S256x4096.Idx → EReal) (x : S32768x4096.Idx → EReal) :
    Cert.EmbedAllRefIdeal.Read.val_main_v13 (F := Ideal) xb wg p wp x = spec xb wg p wp x := by
  funext i
  have h2 : Cert.EmbedAllRefIdeal.Read.val_main_v2 (F := Ideal) xb wg i = ∑ k : Fin 4096, xb (ix2 (i 0) k) * wg (ix2 k (i 1)) :=
    dotGeneral_plain (φ₁ := .f32) (φ₂ := .f32) _ xb wg i
  have h11 : Cert.EmbedAllRefIdeal.Read.val_main_v11 (F := Ideal) p wp i = ∑ k : Fin 256, p (ix2 (i 0) k) * wp (ix2 k (i 1)) :=
    dotGeneral_plain (φ₁ := .f32) (φ₂ := .f32) _ p wp i
  show x i + Ideal.div (Ideal.ofBits .f32 0x3F800000#32)
      (Ideal.ofBits .f32 0x3F800000#32 + Ideal.exp (-(Cert.EmbedAllRefIdeal.Read.val_main_v2 (F := Ideal) xb wg i)))
        * Cert.EmbedAllRefIdeal.Read.val_main_v11 (F := Ideal) p wp i = _
  rw [h2, h11, ofBits_one_f32]
  have e : ix2 (i 0) (i 1) = i := funext fun a => by
    match a with
    | ⟨0, _⟩ => rfl
    | ⟨1, _⟩ => rfl
  show _ = x (ix2 (i 0) (i 1)) + _
  exact congrArg (fun z => z + _) (congrArg x e.symm)

/-- The kernel and the reference compute the same two arrays from equal arguments. -/
theorem algebraic : Cert.algebraic_EmbedAllIdeal_EmbedAllRefIdeal (hEmbedAllIdeal := Cert.EmbedAllIdeal.Gen.facts)
    (hEmbedAllRefIdeal := Cert.EmbedAllRefIdeal.Gen.facts) := by
  intro m g m' g' _ hag
  refine ⟨fun c => G m c, fun c => G m c, run m g, ?_⟩
  refine (θ_run (Cert.EmbedAllRefIdeal.defs (F := Ideal)) _ _).mono (fun r h c => ?_) (Cert.EmbedAllRefIdeal.Value.run (F := Ideal) m' g')
  obtain ⟨hv, hw, hargs⟩ := h c
  refine ⟨hv.trans ?_, hw.trans ?_, hargs⟩ <;> obtain ⟨h0, h1, h2, h3, h4⟩ := hag c <;> rw [h0, h1, h2, h3, h4]
  · exact (Cert.EmbedAllRefIdeal.Read.val_main_v13_eq _ _ _ _ _).trans (ref_eq _ _ _ _ _)
  · exact (Cert.EmbedAllRefIdeal.Read.val_main_v14_eq _ _ _ _ _).trans (ref_eq _ _ _ _ _)

end Layer.EmbedAll

end
-- ==== Proof.ResidLn.lean ====
/-
  The residual normalisation: `alpha * x + ff`, normalised along each row, and its copy in the shorter format.

  A point holds 256 tokens whole, so a row's mean and variance are sums over the block's columns.
-/
module

public import proofs.«01_k».proof.Proof.Gen.ResidLnIdeal.Value
public import proofs.«01_k».proof.Proof.Gen.ResidLnRefIdeal.Run
public import proofs.«01_k».proof.Proof.Gen.ResidLnRefIdeal.Read
public import proofs.«01_k».proof.Proof.Dot
public import proofs.«01_k».proof.Defs
public import Idealize.ShloMosaic.Lib.Claim

@[expose] public section

noncomputable section

namespace Layer.ResidLn

open Cert.ResidLnIdeal Cert.ResidLnIdeal.Gen Idealize.ShloMosaic Idealize.ShloMosaic.TcCoe Idealize.SL.Sem
open Idealize.ShloMosaic.Pipeline (Dat)
open Idealize.ShloMosaic.ValueIdx (ix1 ix2)

/-! ## The mathematics -/

/-- The mean of a row. -/
def mean (a : Fin 4096 → EReal) : EReal := Ideal.div (∑ k, a k) (Ideal.ofBits .f32 0x45800000#32)

/-- A row with its mean subtracted. -/
def centred (a : Fin 4096 → EReal) (q : Fin 4096) : EReal := a q - mean a

/-- A row's normalisation at a column: centred, scaled by the root of its variance, with a gain and a bias. -/
def normed (a g b : Fin 4096 → EReal) (q : Fin 4096) : EReal :=
  centred a q * Ideal.rsqrt (mean (fun k => centred a k * centred a k) + Ideal.ofBits .f32 0x3727C5AC#32) * g q + b q

/-- The residual sum of one token at a column. -/
def resid (z f : EReal) : EReal := Ideal.ofBits .f32 0x3FB504F3#32 * z + f

/-- The residual sum's normalisation at a token and a column. -/
def spec (x ff : S32768x4096.Idx → EReal) (g b : S4096.Idx → EReal) (i : S32768x4096.Idx) : EReal :=
  normed (fun q => resid (x (ix2 (i 0) q)) (ff (ix2 (i 0) q))) (fun q => g (ix1 q)) (fun q => b (ix1 q)) (i 1)

/-! ## One block -/

/-- The column of row means of a block. -/
def meanCol (a : FVec Ideal S256x4096 .f32) : FVec Ideal S256x1 .f32 :=
  divf (shapeCast S256x1 (multiReduction .add [1] S256 a 0x00000000#32 reduces_S256x4096_S256 (.inl rfl) rfl) shapeCasts_S256_S256x1)
    (broadcast S256x1 (Scalar.ofBits .f32 0x45800000#32))

/-- The block with each row's mean subtracted. -/
def cenOf (a : FVec Ideal S256x4096 .f32) : FVec Ideal S256x4096 .f32 :=
  subf a (broadcastTo S256x4096 (meanCol a) broadcasts_S256x1_S256x4096)

/-- The column of the rows' scales. -/
def scaleCol (a : FVec Ideal S256x4096 .f32) : FVec Ideal S256x1 .f32 :=
  rsqrt (addf (meanCol (mulf (cenOf a) (cenOf a))) (broadcast S256x1 (Scalar.ofBits .f32 0x3727C5AC#32)))

/-- A column spread over the block's columns. -/
theorem spread_col (x : S256x1.Idx → EReal) (j : S256x4096.Idx) :
    broadcastTo S256x4096 x broadcasts_S256x1_S256x4096 j = x (ix2 (j 0) 0) :=
  broadcastTo_apply x broadcasts_S256x1_S256x4096 j (ix2 (j 0) 0) fun a => by
    match a with
    | ⟨0, _⟩ => rfl
    | ⟨1, _⟩ => rfl

/-- A row spread over the block's rows. -/
theorem spread_row (x : S1x4096.Idx → EReal) (j : S256x4096.Idx) :
    broadcastTo S256x4096 x broadcasts_S1x4096_S256x4096 j = x (ix2 0 (j 1)) :=
  broadcastTo_apply x broadcasts_S1x4096_S256x4096 j (ix2 0 (j 1)) fun a => by
    match a with
    | ⟨0, _⟩ => rfl
    | ⟨1, _⟩ => rfl

/-- The column of means at a row. -/
theorem meanCol_apply (a : FVec Ideal S256x4096 .f32) (r : Fin 256) :
    meanCol a (ix2 r 0) = mean (fun q => a (ix2 r q)) := by
  have h : shapeCast S256x1 (multiReduction .add [1] S256 a 0x00000000#32 reduces_S256x4096_S256 (.inl rfl) rfl)
      shapeCasts_S256_S256x1 (ix2 r 0) = ∑ q : Fin 4096, a (ix2 r q) := by
    rw [shapeCast_apply _ shapeCasts_S256_S256x1 (ix2 r 0) (ValueIdx.ix1 r) (by
      rw [Shape.rowMajor_val_two]
      show (Shape.rowMajor _ _).val = r.val * 1 + 0
      rw [Shape.rowMajor_val_one]; show r.val = _; omega)]
    refine (Ideal.multiReduction_add_single a _ reduces_S256x4096_S256 (.inl rfl) rfl (ValueIdx.ix1 r)).trans ?_
    exact Finset.sum_congr rfl fun k _ => congrArg a (funext fun d => Fin.ext (by
      match d with
      | ⟨0, _⟩ => rfl
      | ⟨1, _⟩ => rfl))
  exact congrArg (fun z => Ideal.div z (Ideal.ofBits .f32 0x45800000#32)) h

/-- The centred block at an index. -/
theorem cenOf_apply (a : FVec Ideal S256x4096 .f32) (r : Fin 256) (q : Fin 4096) :
    cenOf a (ix2 r q) = centred (fun q => a (ix2 r q)) q := by
  show a (ix2 r q) - broadcastTo S256x4096 (meanCol a) broadcasts_S256x1_S256x4096 (ix2 r q) = _
  rw [spread_col]
  exact congrArg (a (ix2 r q) - ·) (meanCol_apply a r)

/-- The scale of a row. -/
theorem scaleCol_apply (a : FVec Ideal S256x4096 .f32) (r : Fin 256) :
    scaleCol a (ix2 r 0) = Ideal.rsqrt (mean (fun k => centred (fun q => a (ix2 r q)) k * centred (fun q => a (ix2 r q)) k)
      + Ideal.ofBits .f32 0x3727C5AC#32) := by
  show Ideal.rsqrt (meanCol (mulf (cenOf a) (cenOf a)) (ix2 r 0) + Ideal.ofBits .f32 0x3727C5AC#32) = _
  rw [meanCol_apply]
  refine congrArg (fun f => Ideal.rsqrt (mean f + Ideal.ofBits .f32 0x3727C5AC#32)) (funext fun k => ?_)
  show cenOf a (ix2 r k) * cenOf a (ix2 r k) = _
  rw [cenOf_apply]

/-- The block of residual sums. -/
def residOf (v0 : Vec Ideal S256x4096 .f32) (v1 : Vec Ideal S256x4096 .bf16) : FVec Ideal S256x4096 .f32 :=
  fun j => resid (v0 j) (v1 j)

/-- The body's stored value at an index of its block, from the four blocks it loads. -/
theorem pay_apply (v0 : Vec Ideal S256x4096 .f32) (v1 : Vec Ideal S256x4096 .bf16) (g b : Vec Ideal S1x4096 .f32)
    (r : Fin 256) (q : Fin 4096) :
    k0_pay1 (F := Ideal) v0 v1 g b (ix2 r q)
      = normed (fun q => resid (v0 (ix2 r q)) (v1 (ix2 r q))) (fun q => g (ix2 0 q)) (fun q => b (ix2 0 q)) q := by
  unfold k0_pay1
  dsimp only
  rw [shapeCast_self, shapeCast_self]
  show cenOf (residOf v0 v1) (ix2 r q)
      * broadcastTo S256x4096 (scaleCol (residOf v0 v1)) broadcasts_S256x1_S256x4096 (ix2 r q)
      * broadcastTo S256x4096 g broadcasts_S1x4096_S256x4096 (ix2 r q)
    + broadcastTo S256x4096 b broadcasts_S1x4096_S256x4096 (ix2 r q) = _
  rw [spread_col, spread_row, spread_row, cenOf_apply]
  unfold normed
  exact congrArg (fun z => _ * z * _ + _) (scaleCol_apply (residOf v0 v1) r)

/-- The shorter copy's stored value is the same over the extended reals. -/
theorem pay2_apply (v0 : Vec Ideal S256x4096 .f32) (v1 : Vec Ideal S256x4096 .bf16) (g b : Vec Ideal S1x4096 .f32)
    (r : Fin 256) (q : Fin 4096) :
    k0_pay2 (F := Ideal) v0 v1 g b (ix2 r q)
      = normed (fun q => resid (v0 (ix2 r q)) (v1 (ix2 r q))) (fun q => g (ix2 0 q)) (fun q => b (ix2 0 q)) q :=
  pay_apply v0 v1 g b r q

variable (m : (ℓ : Loc nD τ sig) → Buf (Elt Ideal) ℓ) (ρ : Dev nD → PrngReg)

/-! ## What the region finds -/

/-- The gains, as one row. -/
theorem gains_eq (c : Dev nD) (q : Fin 4096) :
    (V m c main_v0 : S1x4096.Idx → EReal) (ix2 0 q) = (m ((c : Thread nD τ).loc main_arg2) : S4096.Idx → EReal) (ix1 q) := by
  have h : V m c main_v0 = shapeCast S1x4096 (m ((c : Thread nD τ).loc main_arg2)) shapeCasts_S4096_S1x4096 := by
    entry_read; rfl
  rw [h]
  exact shapeCast_apply _ shapeCasts_S4096_S1x4096 (ix2 0 q) (ix1 q) (by
    rw [Shape.rowMajor_val_two, Shape.rowMajor_val_one]
    show q.val = 0 * 4096 + q.val
    omega)

/-- The biases, as one row. -/
theorem shifts_eq (c : Dev nD) (q : Fin 4096) :
    (V m c main_v1 : S1x4096.Idx → EReal) (ix2 0 q) = (m ((c : Thread nD τ).loc main_arg3) : S4096.Idx → EReal) (ix1 q) := by
  have h : V m c main_v1 = shapeCast S1x4096 (m ((c : Thread nD τ).loc main_arg3)) shapeCasts_S4096_S1x4096 := by
    entry_read; rfl
  rw [h]
  exact shapeCast_apply _ shapeCasts_S4096_S1x4096 (ix2 0 q) (ix1 q) (by
    rw [Shape.rowMajor_val_two, Shape.rowMajor_val_one]
    show q.val = 0 * 4096 + q.val
    omega)

/-! ## The blocks -/

/-- Each window's block at a point. -/
theorem point_facts : ∀ t : Fin cfg0.N, (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = 0 ∧ win0_3.index t 1 = 0) ∧ (win0_4.index t 0 = t.val ∧ win0_4.index t 1 = 0)
    ∧ (win0_5.index t 0 = t.val ∧ win0_5.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = 0 ∧ win0_3.index t 1 = 0) ∧ (win0_4.index t 0 = t.val ∧ win0_4.index t 1 = 0)
    ∧ (win0_5.index t 0 = t.val ∧ win0_5.index t 1 = 0))

/-- The token of row `r` of point `t`. -/
def tok (t : Fin cfg0.N) (r : Fin 256) : Fin 32768 :=
  ⟨t.val * 256 + r.val, by have h : t.val < 128 := t.isLt.trans_eq (show cfg0.N = 128 from N_0); omega⟩

/-- The tokens' block. -/
theorem first_apply (c : Dev nD) (t : Fin cfg0.N) (r : Fin 256) (q : Fin 4096) :
    (iblk m c 0 t : S256x4096.Idx → EReal) (ix2 r q)
      = (m ((c : Thread nD τ).loc main_arg0) : S32768x4096.Idx → EReal) (ix2 (tok t r) q) := by
  obtain ⟨e, -⟩ := point_facts t
  rw [← V_main_arg0 m c]
  refine congrArg (V m c main_arg0) (funext fun a => Fin.ext ?_)
  match a with
  | ⟨0, _⟩ => show win0_0.index t 0 * 256 + 1 * r.val = t.val * 256 + r.val; rw [e.1]; omega
  | ⟨1, _⟩ => show win0_0.index t 1 * 4096 + 1 * q.val = q.val; rw [e.2]; omega

/-- The block of what is added to the tokens. -/
theorem second_apply (c : Dev nD) (t : Fin cfg0.N) (r : Fin 256) (q : Fin 4096) :
    (iblk m c 1 t : S256x4096.Idx → EReal) (ix2 r q)
      = (m ((c : Thread nD τ).loc main_arg1) : S32768x4096.Idx → EReal) (ix2 (tok t r) q) := by
  obtain ⟨-, e, -⟩ := point_facts t
  rw [← V_main_arg1 m c]
  refine congrArg (V m c main_arg1) (funext fun a => Fin.ext ?_)
  match a with
  | ⟨0, _⟩ => show win0_1.index t 0 * 256 + 1 * r.val = t.val * 256 + r.val; rw [e.1]; omega
  | ⟨1, _⟩ => show win0_1.index t 1 * 4096 + 1 * q.val = q.val; rw [e.2]; omega

/-- The gains' block. -/
theorem gains_apply (c : Dev nD) (t : Fin cfg0.N) (q : Fin 4096) :
    (iblk m c 2 t : S1x4096.Idx → EReal) (ix2 0 q) = (m ((c : Thread nD τ).loc main_arg2) : S4096.Idx → EReal) (ix1 q) := by
  obtain ⟨-, -, e, -⟩ := point_facts t
  rw [← gains_eq m c q]
  refine congrArg (V m c main_v0) (funext fun a => Fin.ext ?_)
  match a with
  | ⟨0, _⟩ => show win0_2.index t 0 * 1 + 1 * 0 = 0; rw [e.1]
  | ⟨1, _⟩ => show win0_2.index t 1 * 4096 + 1 * q.val = q.val; rw [e.2]; omega

/-- The biases' block. -/
theorem shifts_apply (c : Dev nD) (t : Fin cfg0.N) (q : Fin 4096) :
    (iblk m c 3 t : S1x4096.Idx → EReal) (ix2 0 q) = (m ((c : Thread nD τ).loc main_arg3) : S4096.Idx → EReal) (ix1 q) := by
  obtain ⟨-, -, -, e, -⟩ := point_facts t
  rw [← shifts_eq m c q]
  refine congrArg (V m c main_v1) (funext fun a => Fin.ext ?_)
  match a with
  | ⟨0, _⟩ => show win0_3.index t 0 * 1 + 1 * 0 = 0; rw [e.1]
  | ⟨1, _⟩ => show win0_3.index t 1 * 4096 + 1 * q.val = q.val; rw [e.2]; omega

theorem hz : (![0, 0] : Fin 2 → Nat) = fun _ => 0 := funext fun a => by fin_cases a <;> rfl

/-- Both result arrays' contents: `spec` of the four arguments. -/
abbrev G (c : Dev nD) : S32768x4096.Idx → EReal :=
  spec (m ((c : Thread nD τ).loc main_arg0)) (m ((c : Thread nD τ).loc main_arg1)) (m ((c : Thread nD τ).loc main_arg2))
    (m ((c : Thread nD τ).loc main_arg3))

/-- A row's normalisation, from a point's blocks and from the arguments. -/
theorem row_eq (c : Dev nD) (t : Fin cfg0.N) (r : Fin 256) (q : Fin 4096) :
    normed (fun q => resid ((iblk m c 0 t : S256x4096.Idx → EReal) (ix2 r q)) ((iblk m c 1 t : S256x4096.Idx → EReal) (ix2 r q)))
        (fun q => (iblk m c 2 t : S1x4096.Idx → EReal) (ix2 0 q)) (fun q => (iblk m c 3 t : S1x4096.Idx → EReal) (ix2 0 q)) q
      = G m c (ix2 (tok t r) q) := by
  have e1 : (fun q => resid ((iblk m c 0 t : S256x4096.Idx → EReal) (ix2 r q)) ((iblk m c 1 t : S256x4096.Idx → EReal) (ix2 r q)))
      = fun q => resid ((m ((c : Thread nD τ).loc main_arg0) : S32768x4096.Idx → EReal) (ix2 (tok t r) q))
          ((m ((c : Thread nD τ).loc main_arg1) : S32768x4096.Idx → EReal) (ix2 (tok t r) q)) :=
    funext fun q => congrArg₂ resid (first_apply m c t r q) (second_apply m c t r q)
  have e2 : (fun q => (iblk m c 2 t : S1x4096.Idx → EReal) (ix2 0 q))
      = fun q => (m ((c : Thread nD τ).loc main_arg2) : S4096.Idx → EReal) (ix1 q) := funext fun q => gains_apply m c t q
  have e3 : (fun q => (iblk m c 3 t : S1x4096.Idx → EReal) (ix2 0 q))
      = fun q => (m ((c : Thread nD τ).loc main_arg3) : S4096.Idx → EReal) (ix1 q) := funext fun q => shifts_apply m c t q
  exact congrFun (congr (congr (congrArg normed e1) e2) e3) q

/-- Point `t`'s block of the first array is its tokens' rows. -/
theorem emb_eq4 (t : Fin cfg0.N) (j : S256x4096.Idx) : ((cfg0.win 4).blk t).view.emb j = ix2 (tok t (j 0)) (j 1) := by
  obtain ⟨-, -, -, -, e, -⟩ := point_facts t
  refine funext fun a => Fin.ext ?_
  match a with
  | ⟨0, _⟩ => show win0_4.index t 0 * 256 + 1 * (j 0).val = t.val * 256 + (j 0).val; rw [e.1]; omega
  | ⟨1, _⟩ => show win0_4.index t 1 * 4096 + 1 * (j 1).val = (j 1).val; rw [e.2]; omega

/-- Each point writes back its block of `G`, to the first array. -/
theorem flushed_eq4 (c : Dev nD) (t : Fin cfg0.N) :
    (dats m 0 c).flushed 4 t = ((cfg0.win 4).blk t).view.read (Elt Ideal) (G m c) := by
  have hr : ∀ (g : Buf (Elt Ideal) ((c : Thread nD τ).loc main_v2_0)) (v : Vec Ideal S256x4096 .f32)
      (_ : ∀ j, v j = g (((cfg0.win 4).blk t).view.emb j)),
      (cfg0.win 4).cut (grid0.coords t) v = ((cfg0.win 4).blk t).view.read (Elt Ideal) g := fun _ _ h => funext h
  rw [Cert.ResidLnIdeal.Value.flushed4]
  refine hr (G m c) _ fun j => ?_
  rw [emb_eq4 t j]
  unfold out0_4
  rw [View.canon_unit_zero hz, View.ld_unit_zero (S := S256x4096) hz, View.ld_unit_zero (S := S256x4096) hz,
    View.ld_unit_zero (S := S1x4096) hz, View.ld_unit_zero (S := S1x4096) hz]
  exact (congrArg _ (ValueIdx.eq_ix2 j)).trans
    ((pay_apply (iblk m c 0 t) (iblk m c 1 t) (iblk m c 2 t) (iblk m c 3 t) (j 0) (j 1)).trans (row_eq m c t (j 0) (j 1)))

/-- A token's place in the first array is in the block of the point of its 256 tokens. -/
theorem mem_blk4 (t : Fin cfg0.N) (i : S32768x4096.Idx)
    (h0 : t.val * 256 ≤ (i 0 : Nat) ∧ (i 0 : Nat) < t.val * 256 + 256) : i ∈ ((cfg0.win 4).blk t).view.set := by
  have h1 : 0 * 4096 ≤ (i 1 : Nat) ∧ (i 1 : Nat) < 0 * 4096 + 4096 := ⟨by omega, lt_of_lt_of_eq (i 1).isLt rfl⟩
  show i ∈ ((View.whole main_v2_0).slice (win0_4.rect t)).set
  rw [View.set_slice_whole, Rect.mem_set_unit]
  obtain ⟨-, -, -, -, e, -⟩ := point_facts t
  intro a
  match a with
  | ⟨0, _⟩ =>
    show win0_4.index t 0 * 256 ≤ (i 0 : Nat) ∧ (i 0 : Nat) < win0_4.index t 0 * 256 + 256
    rw [e.1]; exact h0
  | ⟨1, _⟩ =>
    show win0_4.index t 1 * 4096 ≤ (i 1 : Nat) ∧ (i 1 : Nat) < win0_4.index t 1 * 4096 + 4096
    rw [e.2]; exact h1

/-- The blocks tile the first array. -/
theorem cover4 (i : S32768x4096.Idx) :
    ∃ t : Fin cfg0.N, (cfg0.win 4).flush t = true ∧ i ∈ ((cfg0.win 4).blk t).view.set := by
  have h0 : (i 0 : Nat) < 32768 := (i 0).isLt
  have hN : cfg0.N = 128 := N_0
  exact ⟨⟨(i 0 : Nat) / 256, by omega⟩, flush0_4 _, mem_blk4 _ i (by dsimp only; omega)⟩

/-- Point `t`'s block of the second array is its tokens' rows. -/
theorem emb_eq5 (t : Fin cfg0.N) (j : S256x4096.Idx) : ((cfg0.win 5).blk t).view.emb j = ix2 (tok t (j 0)) (j 1) := by
  obtain ⟨-, -, -, -, -, e⟩ := point_facts t
  refine funext fun a => Fin.ext ?_
  match a with
  | ⟨0, _⟩ => show win0_5.index t 0 * 256 + 1 * (j 0).val = t.val * 256 + (j 0).val; rw [e.1]; omega
  | ⟨1, _⟩ => show win0_5.index t 1 * 4096 + 1 * (j 1).val = (j 1).val; rw [e.2]; omega

/-- Each point writes back its block of `G`, to the second array. -/
theorem flushed_eq5 (c : Dev nD) (t : Fin cfg0.N) :
    (dats m 0 c).flushed 5 t = ((cfg0.win 5).blk t).view.read (Elt Ideal) (G m c) := by
  have hr : ∀ (g : Buf (Elt Ideal) ((c : Thread nD τ).loc main_v2_1)) (v : Vec Ideal S256x4096 .bf16)
      (_ : ∀ j, v j = g (((cfg0.win 5).blk t).view.emb j)),
      (cfg0.win 5).cut (grid0.coords t) v = ((cfg0.win 5).blk t).view.read (Elt Ideal) g := fun _ _ h => funext h
  rw [Cert.ResidLnIdeal.Value.flushed5]
  refine hr (G m c) _ fun j => ?_
  rw [emb_eq5 t j]
  unfold out0_5
  rw [View.canon_unit_zero hz, View.ld_unit_zero (S := S256x4096) hz, View.ld_unit_zero (S := S256x4096) hz,
    View.ld_unit_zero (S := S1x4096) hz, View.ld_unit_zero (S := S1x4096) hz]
  exact (congrArg _ (ValueIdx.eq_ix2 j)).trans
    ((pay2_apply (iblk m c 0 t) (iblk m c 1 t) (iblk m c 2 t) (iblk m c 3 t) (j 0) (j 1)).trans (row_eq m c t (j 0) (j 1)))

/-- A token's place in the second array is in the block of the point of its 256 tokens. -/
theorem mem_blk5 (t : Fin cfg0.N) (i : S32768x4096.Idx)
    (h0 : t.val * 256 ≤ (i 0 : Nat) ∧ (i 0 : Nat) < t.val * 256 + 256) : i ∈ ((cfg0.win 5).blk t).view.set := by
  have h1 : 0 * 4096 ≤ (i 1 : Nat) ∧ (i 1 : Nat) < 0 * 4096 + 4096 := ⟨by omega, lt_of_lt_of_eq (i 1).isLt rfl⟩
  show i ∈ ((View.whole main_v2_1).slice (win0_5.rect t)).set
  rw [View.set_slice_whole, Rect.mem_set_unit]
  obtain ⟨-, -, -, -, -, e⟩ := point_facts t
  intro a
  match a with
  | ⟨0, _⟩ =>
    show win0_5.index t 0 * 256 ≤ (i 0 : Nat) ∧ (i 0 : Nat) < win0_5.index t 0 * 256 + 256
    rw [e.1]; exact h0
  | ⟨1, _⟩ =>
    show win0_5.index t 1 * 4096 ≤ (i 1 : Nat) ∧ (i 1 : Nat) < win0_5.index t 1 * 4096 + 4096
    rw [e.2]; exact h1

/-- The blocks tile the second array. -/
theorem cover5 (i : S32768x4096.Idx) :
    ∃ t : Fin cfg0.N, (cfg0.win 5).flush t = true ∧ i ∈ ((cfg0.win 5).blk t).view.set := by
  have h0 : (i 0 : Nat) < 32768 := (i 0).isLt
  have hN : cfg0.N = 128 := N_0
  exact ⟨⟨(i 0 : Nat) / 256, by omega⟩, flush0_5 _, mem_blk5 _ i (by dsimp only; omega)⟩

/-- The kernel's run: both results hold `spec` of the arguments, which are unchanged. -/
theorem run : θ_run defs (onTc (τ := τ) (main (F := Ideal))) ⟨m, fun _ => 0, ρ⟩ fun r => ∀ c : Dev nD,
      r.2.mem ((c : Thread nD τ).loc main_v2_0) = G m c
      ∧ r.2.mem ((c : Thread nD τ).loc main_v2_1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨(h c).1.trans ((dats m 0 c).arrAt_eq_of_cover 4 (G m c) (fun t _ => flushed_eq4 m c t) cover4),
        (h c).2.1.trans ((dats m 0 c).arrAt_eq_of_cover 5 (G m c) (fun t _ => flushed_eq5 m c t) cover5), (h c).2.2⟩)
    (Cert.ResidLnIdeal.Value.run_blocks m ρ)

/-! ## The reference -/

open Cert.ResidLnRefIdeal.Read

section

variable (x ff : S32768x4096.Idx → EReal) (g b : S4096.Idx → EReal)

/-- The reference's residual sums. -/
theorem ref_resid (r : Fin 32768) (q : Fin 4096) :
    val_main_v3 (F := Ideal) x ff (ix2 r q) = resid (x (ix2 r q)) (ff (ix2 r q)) := rfl

/-- The reference's column of means. -/
theorem ref_mean (r : Fin 32768) :
    val_main_v7 (F := Ideal) x ff (ix2 r 0) = mean (fun q => resid (x (ix2 r q)) (ff (ix2 r q))) := by
  have e : val_main_v5 (F := Ideal) x ff (ix2 r 0) = ∑ q : Fin 4096, resid (x (ix2 r q)) (ff (ix2 r q)) := by
    rw [val_main_v5_apply, val_main_v4_apply]
    refine Eq.trans (congrArg₂ (fun a b : EReal => a + b) Ideal.ofBits_zero_f32 (Finset.sum_congr rfl fun k _ => ?_)) (zero_add _)
    refine Eq.trans (congrArg _ ?_) (ref_resid x ff r k)
    exact funext fun a => by
      match a with
      | ⟨0, _⟩ => rfl
      | ⟨1, _⟩ => rfl
  exact congrArg (fun z => Ideal.div z (Ideal.ofBits .f32 0x45800000#32)) e

/-- The reference's centred sum (its two copies). -/
theorem ref_centred (r : Fin 32768) (q : Fin 4096) :
    val_main_v9 (F := Ideal) x ff (ix2 r q) = centred (fun q => resid (x (ix2 r q)) (ff (ix2 r q))) q
    ∧ val_main_v16 (F := Ideal) x ff (ix2 r q) = centred (fun q => resid (x (ix2 r q)) (ff (ix2 r q))) q := by
  have e : ∀ y : Cert.ResidLnRefIdeal.S32768x1.Idx, y = ix2 r 0 → val_main_v7 (F := Ideal) x ff y = mean (fun q => resid (x (ix2 r q)) (ff (ix2 r q))) :=
    fun y hy => hy ▸ ref_mean x ff r
  refine ⟨congrArg₂ (fun a b : EReal => a - b) (ref_resid x ff r q) ((val_main_v8_apply (F := Ideal) x ff (ix2 r q)).trans (e _ ?_)),
    congrArg₂ (fun a b : EReal => a - b) (ref_resid x ff r q) ((val_main_v15_apply (F := Ideal) x ff (ix2 r q)).trans (e _ ?_))⟩ <;>
  exact funext fun a => by
    match a with
    | ⟨0, _⟩ => rfl
    | ⟨1, _⟩ => rfl

/-- The reference's column of scales. -/
theorem ref_scale (r : Fin 32768) :
    val_main_v19 (F := Ideal) x ff (ix2 r 0)
      = Ideal.rsqrt (mean (fun k => centred (fun q => resid (x (ix2 r q)) (ff (ix2 r q))) k * centred (fun q => resid (x (ix2 r q)) (ff (ix2 r q))) k)
        + Ideal.ofBits .f32 0x3727C5AC#32) := by
  have e : val_main_v12 (F := Ideal) x ff (ix2 r 0)
      = ∑ k : Fin 4096, centred (fun q => resid (x (ix2 r q)) (ff (ix2 r q))) k * centred (fun q => resid (x (ix2 r q)) (ff (ix2 r q))) k := by
    rw [val_main_v12_apply, val_main_v11_apply]
    refine Eq.trans (congrArg₂ (fun a b : EReal => a + b) Ideal.ofBits_zero_f32 (Finset.sum_congr rfl fun k _ => ?_)) (zero_add _)
    have h := (ref_centred x ff r k).1
    refine Eq.trans (congrArg _ (?_ : _ = ix2 r k)) (congrArg₂ (fun a b : EReal => a * b) h h)
    exact funext fun a => by
      match a with
      | ⟨0, _⟩ => rfl
      | ⟨1, _⟩ => rfl
  exact congrArg (fun z => Ideal.rsqrt (Ideal.div z (Ideal.ofBits .f32 0x45800000#32) + Ideal.ofBits .f32 0x3727C5AC#32)) e

/-- The reference's result. -/
theorem ref_norm (r : Fin 32768) (q : Fin 4096) :
    val_main_v27 (F := Ideal) x ff g b (ix2 r q) = spec x ff g b (ix2 r q) := by
  refine congrArg₂ (fun a b : EReal => a + b) (congrArg₂ (fun a b : EReal => a * b)
    (congrArg₂ (fun a b : EReal => a * b) (ref_centred x ff r q).2 ?_) ?_) ?_
  · refine (val_main_v20_apply (F := Ideal) x ff (ix2 r q)).trans (Eq.trans (congrArg _ ?_) (ref_scale x ff r))
    exact funext fun a => by
      match a with
      | ⟨0, _⟩ => rfl
      | ⟨1, _⟩ => rfl
  · refine (val_main_v23_apply (F := Ideal) g (ix2 r q)).trans ((val_main_v22_apply (F := Ideal) g _).trans (congrArg g ?_))
    exact funext fun a => by
      match a with
      | ⟨0, _⟩ => rfl
  · refine (val_main_v26_apply (F := Ideal) b (ix2 r q)).trans ((val_main_v25_apply (F := Ideal) b _).trans (congrArg b ?_))
    exact funext fun a => by
      match a with
      | ⟨0, _⟩ => rfl

end

/-- The reference's result is `spec` of its arguments. -/
theorem ref_eq (x ff : S32768x4096.Idx → EReal) (g b : S4096.Idx → EReal) :
    val_main_v27 (F := Ideal) x ff g b = spec x ff g b := by
  funext i
  exact (congrArg _ (ValueIdx.eq_ix2 (n0 := 32768) (n1 := 4096) i)).trans
    ((ref_norm x ff g b (i 0) (i 1)).trans (congrArg _ (ValueIdx.eq_ix2 (n0 := 32768) (n1 := 4096) i).symm))

/-- The kernel and the reference compute the same two arrays from equal arguments. -/
theorem algebraic : Cert.algebraic_ResidLnIdeal_ResidLnRefIdeal (hResidLnIdeal := Cert.ResidLnIdeal.Gen.facts)
    (hResidLnRefIdeal := Cert.ResidLnRefIdeal.Gen.facts) := by
  intro m g m' g' _ hag
  refine ⟨fun c => G m c, fun c => G m c, run m g, ?_⟩
  refine (θ_run (Cert.ResidLnRefIdeal.defs (F := Ideal)) _ _).mono (fun r h c => ?_) (Cert.ResidLnRefIdeal.Value.run (F := Ideal) m' g')
  obtain ⟨hv, hw, hargs⟩ := h c
  refine ⟨hv.trans ?_, hw.trans ?_, hargs⟩ <;> obtain ⟨h0, h1, h2, h3⟩ := hag c <;> rw [h0, h1, h2, h3]
  · exact (val_main_v27_eq _ _ _ _).trans (ref_eq _ _ _ _)
  · exact (val_main_v28_eq _ _ _ _).trans (ref_eq _ _ _ _)

end Layer.ResidLn

end
-- ==== Proof.ResidMix.lean ====
/-
  The residual normalisation whose tokens come in two arrays, one after the other: `alpha * x + mix`, normalised along
  each row, and its copy in the shorter format.

  A point holds 256 tokens whole, so a row's mean and variance are sums over the block's columns.
-/
module

public import proofs.«01_k».proof.Proof.Gen.ResidMixIdeal.Value
public import proofs.«01_k».proof.Proof.Gen.ResidMixRefIdeal.Run
public import proofs.«01_k».proof.Proof.Gen.ResidMixRefIdeal.Read
public import proofs.«01_k».proof.Proof.Dot
public import proofs.«01_k».proof.Defs
public import Idealize.ShloMosaic.Lib.Claim

@[expose] public section

noncomputable section

namespace Layer.ResidMix

open Cert.ResidMixIdeal Cert.ResidMixIdeal.Gen Idealize.ShloMosaic Idealize.ShloMosaic.TcCoe Idealize.SL.Sem
open Idealize.ShloMosaic.Pipeline (Dat)
open Idealize.ShloMosaic.ValueIdx (ix1 ix2)

/-! ## The mathematics -/

/-- The mean of a row. -/
def mean (a : Fin 4096 → EReal) : EReal := Ideal.div (∑ k, a k) (Ideal.ofBits .f32 0x45800000#32)

/-- A row with its mean subtracted. -/
def centred (a : Fin 4096 → EReal) (q : Fin 4096) : EReal := a q - mean a

/-- A row's normalisation at a column: centred, scaled by the root of its variance, with a gain and a bias. -/
def normed (a g b : Fin 4096 → EReal) (q : Fin 4096) : EReal :=
  centred a q * Ideal.rsqrt (mean (fun k => centred a k * centred a k) + Ideal.ofBits .f32 0x3727C5AC#32) * g q + b q

/-- The residual sum of one token at a column. -/
def resid (z f : EReal) : EReal := Ideal.ofBits .f32 0x3FB504F3#32 * z + f

/-- The tokens of two arrays, one after the other. -/
def joined (xa xb : S16384x4096.Idx → EReal) (r : Fin 32768) (q : Fin 4096) : EReal :=
  if h : r.val < 16384 then xa (ix2 ⟨r.val, h⟩ q) else xb (ix2 ⟨r.val - 16384, by omega⟩ q)

/-- The residual sum's normalisation at a token and a column. -/
def spec (xa xb : S16384x4096.Idx → EReal) (mix : S32768x4096.Idx → EReal) (g b : S4096.Idx → EReal) (i : S32768x4096.Idx) : EReal :=
  normed (fun q => resid (joined xa xb (i 0) q) (mix (ix2 (i 0) q))) (fun q => g (ix1 q)) (fun q => b (ix1 q)) (i 1)

/-! ## One block -/

/-- The column of row means of a block. -/
def meanCol (a : FVec Ideal S256x4096 .f32) : FVec Ideal S256x1 .f32 :=
  divf (shapeCast S256x1 (multiReduction .add [1] S256 a 0x00000000#32 reduces_S256x4096_S256 (.inl rfl) rfl) shapeCasts_S256_S256x1)
    (broadcast S256x1 (Scalar.ofBits .f32 0x45800000#32))

/-- The block with each row's mean subtracted. -/
def cenOf (a : FVec Ideal S256x4096 .f32) : FVec Ideal S256x4096 .f32 :=
  subf a (broadcastTo S256x4096 (meanCol a) broadcasts_S256x1_S256x4096)

/-- The column of the rows' scales. -/
def scaleCol (a : FVec Ideal S256x4096 .f32) : FVec Ideal S256x1 .f32 :=
  rsqrt (addf (meanCol (mulf (cenOf a) (cenOf a))) (broadcast S256x1 (Scalar.ofBits .f32 0x3727C5AC#32)))

/-- A column spread over the block's columns. -/
theorem spread_col (x : S256x1.Idx → EReal) (j : S256x4096.Idx) :
    broadcastTo S256x4096 x broadcasts_S256x1_S256x4096 j = x (ix2 (j 0) 0) :=
  broadcastTo_apply x broadcasts_S256x1_S256x4096 j (ix2 (j 0) 0) fun a => by
    match a with
    | ⟨0, _⟩ => rfl
    | ⟨1, _⟩ => rfl

/-- A row spread over the block's rows. -/
theorem spread_row (x : S1x4096.Idx → EReal) (j : S256x4096.Idx) :
    broadcastTo S256x4096 x broadcasts_S1x4096_S256x4096 j = x (ix2 0 (j 1)) :=
  broadcastTo_apply x broadcasts_S1x4096_S256x4096 j (ix2 0 (j 1)) fun a => by
    match a with
    | ⟨0, _⟩ => rfl
    | ⟨1, _⟩ => rfl

/-- The column of means at a row. -/
theorem meanCol_apply (a : FVec Ideal S256x4096 .f32) (r : Fin 256) :
    meanCol a (ix2 r 0) = mean (fun q => a (ix2 r q)) := by
  have h : shapeCast S256x1 (multiReduction .add [1] S256 a 0x00000000#32 reduces_S256x4096_S256 (.inl rfl) rfl)
      shapeCasts_S256_S256x1 (ix2 r 0) = ∑ q : Fin 4096, a (ix2 r q) := by
    rw [shapeCast_apply _ shapeCasts_S256_S256x1 (ix2 r 0) (ValueIdx.ix1 r) (by
      rw [Shape.rowMajor_val_two]
      show (Shape.rowMajor _ _).val = r.val * 1 + 0
      rw [Shape.rowMajor_val_one]; show r.val = _; omega)]
    refine (Ideal.multiReduction_add_single a _ reduces_S256x4096_S256 (.inl rfl) rfl (ValueIdx.ix1 r)).trans ?_
    exact Finset.sum_congr rfl fun k _ => congrArg a (funext fun d => Fin.ext (by
      match d with
      | ⟨0, _⟩ => rfl
      | ⟨1, _⟩ => rfl))
  exact congrArg (fun z => Ideal.div z (Ideal.ofBits .f32 0x45800000#32)) h

/-- The centred block at an index. -/
theorem cenOf_apply (a : FVec Ideal S256x4096 .f32) (r : Fin 256) (q : Fin 4096) :
    cenOf a (ix2 r q) = centred (fun q => a (ix2 r q)) q := by
  show a (ix2 r q) - broadcastTo S256x4096 (meanCol a) broadcasts_S256x1_S256x4096 (ix2 r q) = _
  rw [spread_col]
  exact congrArg (a (ix2 r q) - ·) (meanCol_apply a r)

/-- The scale of a row. -/
theorem scaleCol_apply (a : FVec Ideal S256x4096 .f32) (r : Fin 256) :
    scaleCol a (ix2 r 0) = Ideal.rsqrt (mean (fun k => centred (fun q => a (ix2 r q)) k * centred (fun q => a (ix2 r q)) k)
      + Ideal.ofBits .f32 0x3727C5AC#32) := by
  show Ideal.rsqrt (meanCol (mulf (cenOf a) (cenOf a)) (ix2 r 0) + Ideal.ofBits .f32 0x3727C5AC#32) = _
  rw [meanCol_apply]
  refine congrArg (fun f => Ideal.rsqrt (mean f + Ideal.ofBits .f32 0x3727C5AC#32)) (funext fun k => ?_)
  show cenOf a (ix2 r k) * cenOf a (ix2 r k) = _
  rw [cenOf_apply]

/-- The block of residual sums. -/
def residOf (v0 : Vec Ideal S256x4096 .f32) (v1 : Vec Ideal S256x4096 .bf16) : FVec Ideal S256x4096 .f32 :=
  fun j => resid (v0 j) (v1 j)

/-- The block that a point works on: of the first array at the first 64 points, of the second at the others. -/
def chosen (i : grid0.Coords) (xa xb : Vec Ideal S256x4096 .f32) : Vec Ideal S256x4096 .f32 :=
  Scalar.select (Scalar.cmpi .slt (BitVec.ofNat 32 (i 0).val) 64#32) xa xb

/-- The body's stored value at an index of its block, from the five blocks it loads. -/
theorem pay_apply (i : grid0.Coords) (xa xb : Vec Ideal S256x4096 .f32) (v1 : Vec Ideal S256x4096 .bf16) (g b : Vec Ideal S1x4096 .f32)
    (r : Fin 256) (q : Fin 4096) :
    k0_pay1 (F := Ideal) i xa xb v1 g b (ix2 r q)
      = normed (fun q => resid (chosen i xa xb (ix2 r q)) (v1 (ix2 r q))) (fun q => g (ix2 0 q)) (fun q => b (ix2 0 q)) q := by
  unfold k0_pay1
  dsimp only
  rw [shapeCast_self, shapeCast_self]
  show cenOf (residOf (chosen i xa xb) v1) (ix2 r q)
      * broadcastTo S256x4096 (scaleCol (residOf (chosen i xa xb) v1)) broadcasts_S256x1_S256x4096 (ix2 r q)
      * broadcastTo S256x4096 g broadcasts_S1x4096_S256x4096 (ix2 r q)
    + broadcastTo S256x4096 b broadcasts_S1x4096_S256x4096 (ix2 r q) = _
  rw [spread_col, spread_row, spread_row, cenOf_apply]
  unfold normed
  exact congrArg (fun z => _ * z * _ + _) (scaleCol_apply (residOf (chosen i xa xb) v1) r)

/-- The shorter copy's stored value is the same over the extended reals. -/
theorem pay2_apply (i : grid0.Coords) (xa xb : Vec Ideal S256x4096 .f32) (v1 : Vec Ideal S256x4096 .bf16) (g b : Vec Ideal S1x4096 .f32)
    (r : Fin 256) (q : Fin 4096) :
    k0_pay2 (F := Ideal) i xa xb v1 g b (ix2 r q)
      = normed (fun q => resid (chosen i xa xb (ix2 r q)) (v1 (ix2 r q))) (fun q => g (ix2 0 q)) (fun q => b (ix2 0 q)) q :=
  pay_apply i xa xb v1 g b r q

variable (m : (ℓ : Loc nD τ sig) → Buf (Elt Ideal) ℓ) (ρ : Dev nD → PrngReg)

/-! ## What the region finds -/

/-- The gains, as one row. -/
theorem gains_eq (c : Dev nD) (q : Fin 4096) :
    (V m c main_v0 : S1x4096.Idx → EReal) (ix2 0 q) = (m ((c : Thread nD τ).loc main_arg3) : S4096.Idx → EReal) (ix1 q) := by
  have h : V m c main_v0 = shapeCast S1x4096 (m ((c : Thread nD τ).loc main_arg3)) shapeCasts_S4096_S1x4096 := by
    entry_read; rfl
  rw [h]
  exact shapeCast_apply _ shapeCasts_S4096_S1x4096 (ix2 0 q) (ix1 q) (by
    rw [Shape.rowMajor_val_two, Shape.rowMajor_val_one]
    show q.val = 0 * 4096 + q.val
    omega)

/-- The biases, as one row. -/
theorem shifts_eq (c : Dev nD) (q : Fin 4096) :
    (V m c main_v1 : S1x4096.Idx → EReal) (ix2 0 q) = (m ((c : Thread nD τ).loc main_arg4) : S4096.Idx → EReal) (ix1 q) := by
  have h : V m c main_v1 = shapeCast S1x4096 (m ((c : Thread nD τ).loc main_arg4)) shapeCasts_S4096_S1x4096 := by
    entry_read; rfl
  rw [h]
  exact shapeCast_apply _ shapeCasts_S4096_S1x4096 (ix2 0 q) (ix1 q) (by
    rw [Shape.rowMajor_val_two, Shape.rowMajor_val_one]
    show q.val = 0 * 4096 + q.val
    omega)

/-! ## The blocks -/

/-- Each window's block at a point, for the windows of one array. -/
theorem point_facts : ∀ t : Fin cfg0.N, (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0) :=
  (by decide +kernel : ∀ t : Fin grid0.N, (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0))

/-- The first two windows' blocks at the points that use them. -/
theorem half_facts : ∀ t : Fin cfg0.N, (t.val < 64 → win0_0.index t 0 = t.val ∧ win0_0.index t 1 = 0
      ∧ Scalar.cmpi .slt (BitVec.ofNat 32 ((grid0.coords t) 0).val) 64#32 = 1#1)
    ∧ (¬ t.val < 64 → win0_1.index t 0 + 64 = t.val ∧ win0_1.index t 1 = 0
      ∧ Scalar.cmpi .slt (BitVec.ofNat 32 ((grid0.coords t) 0).val) 64#32 = 0#1) :=
  (by decide +kernel : ∀ t : Fin grid0.N, (t.val < 64 → win0_0.index t 0 = t.val ∧ win0_0.index t 1 = 0
      ∧ Scalar.cmpi .slt (BitVec.ofNat 32 ((grid0.coords t) 0).val) 64#32 = 1#1)
    ∧ (¬ t.val < 64 → win0_1.index t 0 + 64 = t.val ∧ win0_1.index t 1 = 0
      ∧ Scalar.cmpi .slt (BitVec.ofNat 32 ((grid0.coords t) 0).val) 64#32 = 0#1))

/-- The token of row `r` of point `t`. -/
def tok (t : Fin cfg0.N) (r : Fin 256) : Fin 32768 :=
  ⟨t.val * 256 + r.val, by have h : t.val < 128 := t.isLt.trans_eq (show cfg0.N = 128 from N_0); omega⟩

/-- The tokens' block. -/
theorem first_apply (c : Dev nD) (t : Fin cfg0.N) (r : Fin 256) (q : Fin 4096) :
    chosen (grid0.coords t) (iblk m c 0 t) (iblk m c 1 t) (ix2 r q)
      = joined (m ((c : Thread nD τ).loc main_arg0)) (m ((c : Thread nD τ).loc main_arg1)) (tok t r) q := by
  have hN : t.val < 128 := t.isLt.trans_eq (show cfg0.N = 128 from N_0)
  unfold chosen joined
  by_cases ht : t.val < 64
  · obtain ⟨e0, e1, ec⟩ := (half_facts t).1 ht
    have hr : (tok t r).val < 16384 := by show t.val * 256 + r.val < 16384; omega
    rw [ec, dif_pos hr, ← V_main_arg0 m c]
    refine congrArg (V m c main_arg0) (funext fun a => Fin.ext ?_)
    match a with
    | ⟨0, _⟩ => show win0_0.index t 0 * 256 + 1 * r.val = t.val * 256 + r.val; rw [e0]; omega
    | ⟨1, _⟩ => show win0_0.index t 1 * 4096 + 1 * q.val = q.val; rw [e1]; omega
  · obtain ⟨e0, e1, ec⟩ := (half_facts t).2 ht
    have hr : ¬ (tok t r).val < 16384 := by show ¬ t.val * 256 + r.val < 16384; omega
    rw [ec, dif_neg hr, ← V_main_arg1 m c]
    refine congrArg (V m c main_arg1) (funext fun a => Fin.ext ?_)
    match a with
    | ⟨0, _⟩ =>
      show win0_1.index t 0 * 256 + 1 * r.val = t.val * 256 + r.val - 16384
      generalize win0_1.index t 0 = w at e0 ⊢
      omega
    | ⟨1, _⟩ => show win0_1.index t 1 * 4096 + 1 * q.val = q.val; rw [e1]; clear e0; omega

/-- The block of what is added to the tokens. -/
theorem second_apply (c : Dev nD) (t : Fin cfg0.N) (r : Fin 256) (q : Fin 4096) :
    (iblk m c 2 t : S256x4096.Idx → EReal) (ix2 r q)
      = (m ((c : Thread nD τ).loc main_arg2) : S32768x4096.Idx → EReal) (ix2 (tok t r) q) := by
  obtain ⟨e, -⟩ := point_facts t
  rw [← V_main_arg2 m c]
  refine congrArg (V m c main_arg2) (funext fun a => Fin.ext ?_)
  match a with
  | ⟨0, _⟩ => show win0_2.index t 0 * 256 + 1 * r.val = t.val * 256 + r.val; rw [e.1]; omega
  | ⟨1, _⟩ => show win0_2.index t 1 * 4096 + 1 * q.val = q.val; rw [e.2]; omega

/-- The gains' block. -/
theorem gains_apply (c : Dev nD) (t : Fin cfg0.N) (q : Fin 4096) :
    (iblk m c 3 t : S1x4096.Idx → EReal) (ix2 0 q) = (m ((c : Thread nD τ).loc main_arg3) : S4096.Idx → EReal) (ix1 q) := by
  obtain ⟨-, e, -⟩ := point_facts t
  rw [← gains_eq m c q]
  refine congrArg (V m c main_v0) (funext fun a => Fin.ext ?_)
  match a with
  | ⟨0, _⟩ => show win0_3.index t 0 * 1 + 1 * 0 = 0; rw [e.1]
  | ⟨1, _⟩ => show win0_3.index t 1 * 4096 + 1 * q.val = q.val; rw [e.2]; omega

/-- The biases' block. -/
theorem shifts_apply (c : Dev nD) (t : Fin cfg0.N) (q : Fin 4096) :
    (iblk m c 4 t : S1x4096.Idx → EReal) (ix2 0 q) = (m ((c : Thread nD τ).loc main_arg4) : S4096.Idx → EReal) (ix1 q) := by
  obtain ⟨-, -, e, -⟩ := point_facts t
  rw [← shifts_eq m c q]
  refine congrArg (V m c main_v1) (funext fun a => Fin.ext ?_)
  match a with
  | ⟨0, _⟩ => show win0_4.index t 0 * 1 + 1 * 0 = 0; rw [e.1]
  | ⟨1, _⟩ => show win0_4.index t 1 * 4096 + 1 * q.val = q.val; rw [e.2]; omega

theorem hz : (![0, 0] : Fin 2 → Nat) = fun _ => 0 := funext fun a => by fin_cases a <;> rfl

/-- Both result arrays' contents: `spec` of the five arguments. -/
abbrev G (c : Dev nD) : S32768x4096.Idx → EReal :=
  spec (m ((c : Thread nD τ).loc main_arg0)) (m ((c : Thread nD τ).loc main_arg1)) (m ((c : Thread nD τ).loc main_arg2))
    (m ((c : Thread nD τ).loc main_arg3)) (m ((c : Thread nD τ).loc main_arg4))

/-- A row's normalisation, from a point's blocks and from the arguments. -/
theorem row_eq (c : Dev nD) (t : Fin cfg0.N) (r : Fin 256) (q : Fin 4096) :
    normed (fun q => resid (chosen (grid0.coords t) (iblk m c 0 t) (iblk m c 1 t) (ix2 r q)) ((iblk m c 2 t : S256x4096.Idx → EReal) (ix2 r q)))
        (fun q => (iblk m c 3 t : S1x4096.Idx → EReal) (ix2 0 q)) (fun q => (iblk m c 4 t : S1x4096.Idx → EReal) (ix2 0 q)) q
      = G m c (ix2 (tok t r) q) := by
  have e1 : (fun q => resid (chosen (grid0.coords t) (iblk m c 0 t) (iblk m c 1 t) (ix2 r q)) ((iblk m c 2 t : S256x4096.Idx → EReal) (ix2 r q)))
      = fun q => resid (joined (m ((c : Thread nD τ).loc main_arg0)) (m ((c : Thread nD τ).loc main_arg1)) (tok t r) q)
          ((m ((c : Thread nD τ).loc main_arg2) : S32768x4096.Idx → EReal) (ix2 (tok t r) q)) :=
    funext fun q => congrArg₂ resid (first_apply m c t r q) (second_apply m c t r q)
  have e2 : (fun q => (iblk m c 3 t : S1x4096.Idx → EReal) (ix2 0 q))
      = fun q => (m ((c : Thread nD τ).loc main_arg3) : S4096.Idx → EReal) (ix1 q) := funext fun q => gains_apply m c t q
  have e3 : (fun q => (iblk m c 4 t : S1x4096.Idx → EReal) (ix2 0 q))
      = fun q => (m ((c : Thread nD τ).loc main_arg4) : S4096.Idx → EReal) (ix1 q) := funext fun q => shifts_apply m c t q
  exact congrFun (congr (congr (congrArg normed e1) e2) e3) q

/-- Point `t`'s block of the first array is its tokens' rows. -/
theorem emb_eq5 (t : Fin cfg0.N) (j : S256x4096.Idx) : ((cfg0.win 5).blk t).view.emb j = ix2 (tok t (j 0)) (j 1) := by
  obtain ⟨-, -, -, e, -⟩ := point_facts t
  refine funext fun a => Fin.ext ?_
  match a with
  | ⟨0, _⟩ => show win0_5.index t 0 * 256 + 1 * (j 0).val = t.val * 256 + (j 0).val; rw [e.1]; omega
  | ⟨1, _⟩ => show win0_5.index t 1 * 4096 + 1 * (j 1).val = (j 1).val; rw [e.2]; omega

/-- Each point writes back its block of `G`, to the first array. -/
theorem flushed_eq5 (c : Dev nD) (t : Fin cfg0.N) :
    (dats m 0 c).flushed 5 t = ((cfg0.win 5).blk t).view.read (Elt Ideal) (G m c) := by
  have hr : ∀ (g : Buf (Elt Ideal) ((c : Thread nD τ).loc main_v2_0)) (v : Vec Ideal S256x4096 .f32)
      (_ : ∀ j, v j = g (((cfg0.win 5).blk t).view.emb j)),
      (cfg0.win 5).cut (grid0.coords t) v = ((cfg0.win 5).blk t).view.read (Elt Ideal) g := fun _ _ h => funext h
  rw [Cert.ResidMixIdeal.Value.flushed5]
  refine hr (G m c) _ fun j => ?_
  rw [emb_eq5 t j]
  unfold out0_5
  rw [View.canon_unit_zero hz, View.ld_unit_zero (S := S256x4096) hz, View.ld_unit_zero (S := S256x4096) hz,
    View.ld_unit_zero (S := S256x4096) hz,
    View.ld_unit_zero (S := S1x4096) hz, View.ld_unit_zero (S := S1x4096) hz]
  exact (congrArg _ (ValueIdx.eq_ix2 j)).trans
    ((pay_apply (grid0.coords t) (iblk m c 0 t) (iblk m c 1 t) (iblk m c 2 t) (iblk m c 3 t) (iblk m c 4 t) (j 0) (j 1)).trans (row_eq m c t (j 0) (j 1)))

/-- A token's place in the first array is in the block of the point of its 256 tokens. -/
theorem mem_blk5 (t : Fin cfg0.N) (i : S32768x4096.Idx)
    (h0 : t.val * 256 ≤ (i 0 : Nat) ∧ (i 0 : Nat) < t.val * 256 + 256) : i ∈ ((cfg0.win 5).blk t).view.set := by
  have h1 : 0 * 4096 ≤ (i 1 : Nat) ∧ (i 1 : Nat) < 0 * 4096 + 4096 := ⟨by omega, lt_of_lt_of_eq (i 1).isLt rfl⟩
  show i ∈ ((View.whole main_v2_0).slice (win0_5.rect t)).set
  rw [View.set_slice_whole, Rect.mem_set_unit]
  obtain ⟨-, -, -, e, -⟩ := point_facts t
  intro a
  match a with
  | ⟨0, _⟩ =>
    show win0_5.index t 0 * 256 ≤ (i 0 : Nat) ∧ (i 0 : Nat) < win0_5.index t 0 * 256 + 256
    rw [e.1]; exact h0
  | ⟨1, _⟩ =>
    show win0_5.index t 1 * 4096 ≤ (i 1 : Nat) ∧ (i 1 : Nat) < win0_5.index t 1 * 4096 + 4096
    rw [e.2]; exact h1

/-- The blocks tile the first array. -/
theorem cover5 (i : S32768x4096.Idx) :
    ∃ t : Fin cfg0.N, (cfg0.win 5).flush t = true ∧ i ∈ ((cfg0.win 5).blk t).view.set := by
  have h0 : (i 0 : Nat) < 32768 := (i 0).isLt
  have hN : cfg0.N = 128 := N_0
  exact ⟨⟨(i 0 : Nat) / 256, by omega⟩, flush0_5 _, mem_blk5 _ i (by dsimp only; omega)⟩

/-- Point `t`'s block of the second array is its tokens' rows. -/
theorem emb_eq6 (t : Fin cfg0.N) (j : S256x4096.Idx) : ((cfg0.win 6).blk t).view.emb j = ix2 (tok t (j 0)) (j 1) := by
  obtain ⟨-, -, -, -, e⟩ := point_facts t
  refine funext fun a => Fin.ext ?_
  match a with
  | ⟨0, _⟩ => show win0_6.index t 0 * 256 + 1 * (j 0).val = t.val * 256 + (j 0).val; rw [e.1]; omega
  | ⟨1, _⟩ => show win0_6.index t 1 * 4096 + 1 * (j 1).val = (j 1).val; rw [e.2]; omega

/-- Each point writes back its block of `G`, to the second array. -/
theorem flushed_eq6 (c : Dev nD) (t : Fin cfg0.N) :
    (dats m 0 c).flushed 6 t = ((cfg0.win 6).blk t).view.read (Elt Ideal) (G m c) := by
  have hr : ∀ (g : Buf (Elt Ideal) ((c : Thread nD τ).loc main_v2_1)) (v : Vec Ideal S256x4096 .bf16)
      (_ : ∀ j, v j = g (((cfg0.win 6).blk t).view.emb j)),
      (cfg0.win 6).cut (grid0.coords t) v = ((cfg0.win 6).blk t).view.read (Elt Ideal) g := fun _ _ h => funext h
  rw [Cert.ResidMixIdeal.Value.flushed6]
  refine hr (G m c) _ fun j => ?_
  rw [emb_eq6 t j]
  unfold out0_6
  rw [View.canon_unit_zero hz, View.ld_unit_zero (S := S256x4096) hz, View.ld_unit_zero (S := S256x4096) hz,
    View.ld_unit_zero (S := S256x4096) hz,
    View.ld_unit_zero (S := S1x4096) hz, View.ld_unit_zero (S := S1x4096) hz]
  exact (congrArg _ (ValueIdx.eq_ix2 j)).trans
    ((pay2_apply (grid0.coords t) (iblk m c 0 t) (iblk m c 1 t) (iblk m c 2 t) (iblk m c 3 t) (iblk m c 4 t) (j 0) (j 1)).trans (row_eq m c t (j 0) (j 1)))

/-- A token's place in the second array is in the block of the point of its 256 tokens. -/
theorem mem_blk6 (t : Fin cfg0.N) (i : S32768x4096.Idx)
    (h0 : t.val * 256 ≤ (i 0 : Nat) ∧ (i 0 : Nat) < t.val * 256 + 256) : i ∈ ((cfg0.win 6).blk t).view.set := by
  have h1 : 0 * 4096 ≤ (i 1 : Nat) ∧ (i 1 : Nat) < 0 * 4096 + 4096 := ⟨by omega, lt_of_lt_of_eq (i 1).isLt rfl⟩
  show i ∈ ((View.whole main_v2_1).slice (win0_6.rect t)).set
  rw [View.set_slice_whole, Rect.mem_set_unit]
  obtain ⟨-, -, -, -, e⟩ := point_facts t
  intro a
  match a with
  | ⟨0, _⟩ =>
    show win0_6.index t 0 * 256 ≤ (i 0 : Nat) ∧ (i 0 : Nat) < win0_6.index t 0 * 256 + 256
    rw [e.1]; exact h0
  | ⟨1, _⟩ =>
    show win0_6.index t 1 * 4096 ≤ (i 1 : Nat) ∧ (i 1 : Nat) < win0_6.index t 1 * 4096 + 4096
    rw [e.2]; exact h1

/-- The blocks tile the second array. -/
theorem cover6 (i : S32768x4096.Idx) :
    ∃ t : Fin cfg0.N, (cfg0.win 6).flush t = true ∧ i ∈ ((cfg0.win 6).blk t).view.set := by
  have h0 : (i 0 : Nat) < 32768 := (i 0).isLt
  have hN : cfg0.N = 128 := N_0
  exact ⟨⟨(i 0 : Nat) / 256, by omega⟩, flush0_6 _, mem_blk6 _ i (by dsimp only; omega)⟩

/-- The kernel's run: both results hold `spec` of the arguments, which are unchanged. -/
theorem run : θ_run defs (onTc (τ := τ) (main (F := Ideal))) ⟨m, fun _ => 0, ρ⟩ fun r => ∀ c : Dev nD,
      r.2.mem ((c : Thread nD τ).loc main_v2_0) = G m c
      ∧ r.2.mem ((c : Thread nD τ).loc main_v2_1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨(h c).1.trans ((dats m 0 c).arrAt_eq_of_cover 5 (G m c) (fun t _ => flushed_eq5 m c t) cover5),
        (h c).2.1.trans ((dats m 0 c).arrAt_eq_of_cover 6 (G m c) (fun t _ => flushed_eq6 m c t) cover6), (h c).2.2⟩)
    (Cert.ResidMixIdeal.Value.run_blocks m ρ)

/-! ## The reference -/

open Cert.ResidMixRefIdeal.Read

section

variable (xa xb : S16384x4096.Idx → EReal) (mix : S32768x4096.Idx → EReal) (g b : S4096.Idx → EReal)

/-- The reference's joined tokens. -/
theorem ref_joined (r : Fin 32768) (q : Fin 4096) : val_main_v0 (F := Ideal) xa xb (ix2 r q) = joined xa xb r q := by
  unfold val_main_v0 joined
  by_cases h : r.val < 16384
  · rw [dif_pos h]
    exact concatenate_pair_apply_left 0 xa xb _ (ix2 r q) rfl (ix2 ⟨r.val, h⟩ q) fun a => by
      match a with
      | ⟨0, _⟩ => rfl
      | ⟨1, _⟩ => rfl
  · rw [dif_neg h]
    refine concatenate_pair_apply_right 0 xa xb _ (ix2 r q) rfl rfl (ix2 ⟨r.val - 16384, by omega⟩ q) (fun a ha => ?_) ?_
    · match a, ha with
      | ⟨0, _⟩, ha => exact absurd rfl ha
      | ⟨1, _⟩, _ => rfl
    · show r.val - 16384 + 16384 = r.val
      omega

/-- The reference's residual sums. -/
theorem ref_resid (r : Fin 32768) (q : Fin 4096) :
    val_main_v4 (F := Ideal) xa xb mix (ix2 r q) = resid (joined xa xb r q) (mix (ix2 r q)) :=
  congrArg (fun z => resid z (mix (ix2 r q))) (ref_joined xa xb r q)

/-- The reference's column of means. -/
theorem ref_mean (r : Fin 32768) :
    val_main_v8 (F := Ideal) xa xb mix (ix2 r 0) = mean (fun q => resid (joined xa xb r q) (mix (ix2 r q))) := by
  have e : val_main_v6 (F := Ideal) xa xb mix (ix2 r 0) = ∑ q : Fin 4096, resid (joined xa xb r q) (mix (ix2 r q)) := by
    rw [val_main_v6_apply, val_main_v5_apply]
    refine Eq.trans (congrArg₂ (fun a b : EReal => a + b) Ideal.ofBits_zero_f32 (Finset.sum_congr rfl fun k _ => ?_)) (zero_add _)
    refine Eq.trans (congrArg _ ?_) (ref_resid xa xb mix r k)
    exact funext fun a => by
      match a with
      | ⟨0, _⟩ => rfl
      | ⟨1, _⟩ => rfl
  exact congrArg (fun z => Ideal.div z (Ideal.ofBits .f32 0x45800000#32)) e

/-- The reference's centred sum (its two copies). -/
theorem ref_centred (r : Fin 32768) (q : Fin 4096) :
    val_main_v10 (F := Ideal) xa xb mix (ix2 r q) = centred (fun q => resid (joined xa xb r q) (mix (ix2 r q))) q
    ∧ val_main_v17 (F := Ideal) xa xb mix (ix2 r q) = centred (fun q => resid (joined xa xb r q) (mix (ix2 r q))) q := by
  have e : ∀ y : Cert.ResidMixRefIdeal.S32768x1.Idx, y = ix2 r 0 → val_main_v8 (F := Ideal) xa xb mix y = mean (fun q => resid (joined xa xb r q) (mix (ix2 r q))) :=
    fun y hy => hy ▸ ref_mean xa xb mix r
  refine ⟨congrArg₂ (fun a b : EReal => a - b) (ref_resid xa xb mix r q) ((val_main_v9_apply (F := Ideal) xa xb mix (ix2 r q)).trans (e _ ?_)),
    congrArg₂ (fun a b : EReal => a - b) (ref_resid xa xb mix r q) ((val_main_v16_apply (F := Ideal) xa xb mix (ix2 r q)).trans (e _ ?_))⟩ <;>
  exact funext fun a => by
    match a with
    | ⟨0, _⟩ => rfl
    | ⟨1, _⟩ => rfl

/-- The reference's column of scales. -/
theorem ref_scale (r : Fin 32768) :
    val_main_v20 (F := Ideal) xa xb mix (ix2 r 0)
      = Ideal.rsqrt (mean (fun k => centred (fun q => resid (joined xa xb r q) (mix (ix2 r q))) k * centred (fun q => resid (joined xa xb r q) (mix (ix2 r q))) k)
        + Ideal.ofBits .f32 0x3727C5AC#32) := by
  have e : val_main_v13 (F := Ideal) xa xb mix (ix2 r 0)
      = ∑ k : Fin 4096, centred (fun q => resid (joined xa xb r q) (mix (ix2 r q))) k * centred (fun q => resid (joined xa xb r q) (mix (ix2 r q))) k := by
    rw [val_main_v13_apply, val_main_v12_apply]
    refine Eq.trans (congrArg₂ (fun a b : EReal => a + b) Ideal.ofBits_zero_f32 (Finset.sum_congr rfl fun k _ => ?_)) (zero_add _)
    have h := (ref_centred xa xb mix r k).1
    refine Eq.trans (congrArg _ (?_ : _ = ix2 r k)) (congrArg₂ (fun a b : EReal => a * b) h h)
    exact funext fun a => by
      match a with
      | ⟨0, _⟩ => rfl
      | ⟨1, _⟩ => rfl
  exact congrArg (fun z => Ideal.rsqrt (Ideal.div z (Ideal.ofBits .f32 0x45800000#32) + Ideal.ofBits .f32 0x3727C5AC#32)) e

/-- The reference's result. -/
theorem ref_norm (r : Fin 32768) (q : Fin 4096) :
    val_main_v28 (F := Ideal) xa xb mix g b (ix2 r q) = spec xa xb mix g b (ix2 r q) := by
  refine congrArg₂ (fun a b : EReal => a + b) (congrArg₂ (fun a b : EReal => a * b)
    (congrArg₂ (fun a b : EReal => a * b) (ref_centred xa xb mix r q).2 ?_) ?_) ?_
  · refine (val_main_v21_apply (F := Ideal) xa xb mix (ix2 r q)).trans (Eq.trans (congrArg _ ?_) (ref_scale xa xb mix r))
    exact funext fun a => by
      match a with
      | ⟨0, _⟩ => rfl
      | ⟨1, _⟩ => rfl
  · refine (val_main_v24_apply (F := Ideal) g (ix2 r q)).trans ((val_main_v23_apply (F := Ideal) g _).trans (congrArg g ?_))
    exact funext fun a => by
      match a with
      | ⟨0, _⟩ => rfl
  · refine (val_main_v27_apply (F := Ideal) b (ix2 r q)).trans ((val_main_v26_apply (F := Ideal) b _).trans (congrArg b ?_))
    exact funext fun a => by
      match a with
      | ⟨0, _⟩ => rfl

end

/-- The reference's result is `spec` of its arguments. -/
theorem ref_eq (xa xb : S16384x4096.Idx → EReal) (mix : S32768x4096.Idx → EReal) (g b : S4096.Idx → EReal) :
    val_main_v28 (F := Ideal) xa xb mix g b = spec xa xb mix g b := by
  funext i
  exact (congrArg _ (ValueIdx.eq_ix2 (n0 := 32768) (n1 := 4096) i)).trans
    ((ref_norm xa xb mix g b (i 0) (i 1)).trans (congrArg _ (ValueIdx.eq_ix2 (n0 := 32768) (n1 := 4096) i).symm))

/-- The kernel and the reference compute the same two arrays from equal arguments. -/
theorem algebraic : Cert.algebraic_ResidMixIdeal_ResidMixRefIdeal (hResidMixIdeal := Cert.ResidMixIdeal.Gen.facts)
    (hResidMixRefIdeal := Cert.ResidMixRefIdeal.Gen.facts) := by
  intro m g m' g' _ hag
  refine ⟨fun c => G m c, fun c => G m c, run m g, ?_⟩
  refine (θ_run (Cert.ResidMixRefIdeal.defs (F := Ideal)) _ _).mono (fun r h c => ?_) (Cert.ResidMixRefIdeal.Value.run (F := Ideal) m' g')
  obtain ⟨hv, hw, hargs⟩ := h c
  refine ⟨hv.trans ?_, hw.trans ?_, hargs⟩ <;> obtain ⟨h0, h1, h2, h3, h4⟩ := hag c <;> rw [h0, h1, h2, h3, h4]
  · exact (val_main_v28_eq _ _ _ _ _).trans (ref_eq _ _ _ _ _)
  · exact (val_main_v29_eq _ _ _ _ _).trans (ref_eq _ _ _ _ _)

end Layer.ResidMix

end
-- ==== Proof.Choice.lean ====
/-
  The choice of the two largest of eight numbers, and the same choice made on 128 lanes.

  A row's largest value is a fold of `max` from minus infinity; its place is the smallest number of a place holding that
  value. Lanes from the eighth on hold minus infinity: they change neither.
-/
module

public import Idealize.ShloMosaic.Lib.Pipeline.Value
public import Idealize.ShloMosaic.Lib.ValueIdx
public import Idealize.ShloMosaic.PureOps.Ideal.Laws

@[expose] public section

noncomputable section

namespace Layer.Choice

open Idealize.ShloMosaic

/-- Minus infinity, as the programs write it. -/
def low : EReal := Ideal.ofBits .f32 0xFF800000#32

theorem low_le (x : EReal) : low ≤ x := by
  have h : low = ⊥ := by simp [low, Ideal.ofBits, Ideal.ieee]
  rw [h]; exact bot_le

/-- The largest value of a row. -/
def best {n : Nat} (l : Fin n → EReal) : EReal := Finset.univ.fold max low l

theorem le_best {n : Nat} (l : Fin n → EReal) (k : Fin n) : l k ≤ best l :=
  (Finset.le_fold_max _).2 (Or.inr ⟨k, Finset.mem_univ k, le_rfl⟩)

theorem best_le {n : Nat} (l : Fin n → EReal) (x : EReal) (h : ∀ k, l k ≤ x) : best l ≤ x :=
  (Finset.fold_max_le _).2 ⟨low_le x, fun k _ => h k⟩

/-- The number of a place that holds the largest value, and another number at every other place. -/
def place {n : Nat} (other : BitVec 32) (l : Fin n → EReal) (k : Fin n) : BitVec 32 :=
  Scalar.select (Ideal.cmp .oeq (l k) (best l)) (BitVec.ofNat 32 k.val) other

/-- The smallest number of a place that holds the largest value. -/
def first {n : Nat} (other : BitVec 32) (l : Fin n → EReal) : BitVec 32 :=
  Finset.univ.fold IntOp.minsi 2147483647#32 (place other l)

theorem minsi_toInt (x y : BitVec 32) : (IntOp.minsi x y).toInt = min x.toInt y.toInt := by
  unfold IntOp.minsi
  by_cases h : x.slt y = true
  · rw [if_pos h]; rw [BitVec.slt, decide_eq_true_eq] at h; omega
  · rw [if_neg h]; rw [BitVec.slt, decide_eq_true_eq] at h; omega

/-- A fold of the smaller of two numbers is below every number folded. -/
theorem fold_le {n : Nat} (f : Fin n → BitVec 32) (s : Finset (Fin n)) (k : Fin n) (hk : k ∈ s) :
    (s.fold IntOp.minsi 2147483647#32 f).toInt ≤ (f k).toInt := by
  induction s using Finset.induction_on with
  | empty => exact absurd hk (Finset.notMem_empty k)
  | insert a s ha ih =>
    rw [Finset.fold_insert ha, minsi_toInt]
    rcases Finset.mem_insert.1 hk with h | h
    · subst h; exact min_le_left _ _
    · exact (min_le_right _ _).trans (ih h)

/-- And above any number below them all. -/
theorem le_fold {n : Nat} (f : Fin n → BitVec 32) (s : Finset (Fin n)) (v : Int) (hv : v ≤ 2147483647)
    (h : ∀ k ∈ s, v ≤ (f k).toInt) : v ≤ (s.fold IntOp.minsi 2147483647#32 f).toInt := by
  induction s using Finset.induction_on with
  | empty => rw [Finset.fold_empty]; exact hv
  | insert a s ha ih =>
    rw [Finset.fold_insert ha, minsi_toInt]
    exact le_min (h a (Finset.mem_insert_self a s)) (ih fun k hk => h k (Finset.mem_insert_of_mem hk))

theorem ofNat_toInt (k : Nat) (hk : k < 2147483648) : (BitVec.ofNat 32 k).toInt = k := by
  rw [BitVec.toInt_eq_toNat_of_lt (by rw [BitVec.toNat_ofNat]; omega), BitVec.toNat_ofNat]
  omega

/-- The smallest such number is that of the smallest such place. -/
theorem first_eq {n : Nat} (other : Nat) (l : Fin n → EReal) (k0 : Fin n) (h0 : l k0 = best l)
    (hmin : ∀ k, l k = best l → k0.val ≤ k.val) (hn : n ≤ other) (ho : other < 2147483648) :
    first (BitVec.ofNat 32 other) l = BitVec.ofNat 32 k0.val := by
  have hk0 := k0.isLt
  have e0 : place (BitVec.ofNat 32 other) l k0 = BitVec.ofNat 32 k0.val := by
    unfold place
    rw [h0]
    simp [Ideal.cmp, Scalar.select]
  refine BitVec.eq_of_toInt_eq (le_antisymm ?_ ?_)
  · exact (fold_le _ _ k0 (Finset.mem_univ k0)).trans_eq (congrArg BitVec.toInt e0)
  · rw [ofNat_toInt _ (by omega)]
    refine le_fold _ _ _ (by omega) fun k _ => ?_
    have hk := k.isLt
    by_cases h : l k = best l
    · have e : place (BitVec.ofNat 32 other) l k = BitVec.ofNat 32 k.val := by
        unfold place
        rw [h]
        simp [Ideal.cmp, Scalar.select]
      rw [e, ofNat_toInt _ (by omega)]
      exact Int.ofNat_le.2 (hmin k h)
    · have e : place (BitVec.ofNat 32 other) l k = BitVec.ofNat 32 other := by
        unfold place
        simp [Ideal.cmp, Scalar.select, h]
      rw [e, ofNat_toInt _ ho]
      omega

/-- Eight numbers on 128 lanes, minus infinity on the others. -/
def padded (l : Fin 8 → EReal) (k : Fin 128) : EReal := if h : k.val < 8 then l ⟨k.val, h⟩ else low

theorem best_padded (l : Fin 8 → EReal) : best (padded l) = best l := by
  refine le_antisymm (best_le _ _ fun k => ?_) (best_le _ _ fun k => ?_)
  · unfold padded
    split
    · exact le_best l _
    · exact low_le _
  · have h : padded l ⟨k.val, by omega⟩ = l k := by unfold padded; rw [dif_pos k.isLt]
    exact h ▸ le_best (padded l) _

/-- Eight numbers have a smallest place holding the largest. -/
theorem exists_first (l : Fin 8 → EReal) : ∃ k0, l k0 = best l ∧ ∀ k, l k = best l → k0.val ≤ k.val := by
  obtain ⟨m, -, hm⟩ := Finset.exists_max_image Finset.univ l ⟨0, Finset.mem_univ _⟩
  have hb : l m = best l := le_antisymm (le_best l m) (best_le l _ fun k => hm k (Finset.mem_univ k))
  obtain ⟨k0, h0, hmin⟩ := Finset.exists_min_image (Finset.univ.filter fun k => l k = best l) (fun k : Fin 8 => k.val)
    ⟨m, Finset.mem_filter.2 ⟨Finset.mem_univ m, hb⟩⟩
  exact ⟨k0, (Finset.mem_filter.1 h0).2, fun k hk => hmin k (Finset.mem_filter.2 ⟨Finset.mem_univ k, hk⟩)⟩

theorem first_padded (l : Fin 8 → EReal) : first 128#32 (padded l) = first 8#32 l := by
  obtain ⟨k0, h0, hmin⟩ := exists_first l
  have hk0 := k0.isLt
  refine (first_eq 128 (padded l) ⟨k0.val, by omega⟩ ?_ (fun k hk => ?_) le_rfl (by omega)).trans
    (first_eq 8 l k0 h0 hmin le_rfl (by omega)).symm
  · rw [best_padded, ← h0]; unfold padded; rw [dif_pos hk0]
  · show k0.val ≤ k.val
    by_cases h : k.val < 8
    · rw [best_padded] at hk; unfold padded at hk; rw [dif_pos h] at hk; exact hmin _ hk
    · omega

/-- A row with one place's value replaced by minus infinity. -/
def rest {n : Nat} (i : BitVec 32) (l : Fin n → EReal) (k : Fin n) : EReal :=
  Scalar.select (IntOp.cmpi .eq (BitVec.ofNat 32 k.val) i) low (l k)

theorem rest_padded (i : BitVec 32) (l : Fin 8 → EReal) : rest i (padded l) = padded (rest i l) := by
  funext k
  unfold rest padded
  by_cases h : k.val < 8
  · rw [dif_pos h, dif_pos h]
  · rw [dif_neg h, dif_neg h]; unfold Scalar.select; split <;> rfl

/-- What the first choice leaves. -/
def others (l : Fin 8 → EReal) : Fin 8 → EReal := rest (first 8#32 l) l

/-- How much less the second choice counts than the first. -/
def odds (l : Fin 8 → EReal) : EReal := Ideal.exp (best (others l) - best l)

/-- The number one, as the programs write it. -/
def unit : EReal := Ideal.ofBits .f32 0x3F800000#32

/-- A row of 128 lanes with two values at its head. -/
def lanes {α : Type} (a b z : α) (q : Fin 128) : α := if q.val = 0 then a else if q.val = 1 then b else z

theorem select_lanes {α : Type} (a b z : α) (q : Fin 128) :
    Scalar.select (IntOp.cmpi .eq (BitVec.ofNat 32 q.val) 0#32) a
      (Scalar.select (IntOp.cmpi .eq (BitVec.ofNat 32 q.val) 1#32) b z) = lanes a b z q := by
  have h : ∀ (n : Nat), n < 2 → (IntOp.cmpi .eq (BitVec.ofNat 32 q.val) (BitVec.ofNat 32 n) = 1 ↔ q.val = n) := by
    intro n hn
    have hq := q.isLt
    rw [show IntOp.cmpi .eq (BitVec.ofNat 32 q.val) (BitVec.ofNat 32 n)
      = BitVec.ofBool (BitVec.ofNat 32 q.val == BitVec.ofNat 32 n) from rfl]
    by_cases e : q.val = n
    · simp [e]
    · have hne : BitVec.ofNat 32 q.val ≠ BitVec.ofNat 32 n := fun he => e (by
        have := congrArg BitVec.toNat he
        rw [BitVec.toNat_ofNat, BitVec.toNat_ofNat] at this
        omega)
      rw [beq_eq_false_iff_ne.2 hne]
      simp [e]
  unfold Scalar.select lanes
  refine (if_congr (h 0 (by omega)) rfl (if_congr (h 1 (by omega)) rfl rfl))

/-- The lanes below the eighth, and minus infinity on the others. -/
theorem select_padded (v : Fin 128 → EReal) (q : Fin 128) :
    Scalar.select (IntOp.cmpi .slt (BitVec.ofNat 32 q.val) 8#32) (v q) low
      = padded (fun k => v ⟨k.val, by omega⟩) q := by
  have hq := q.isLt
  have h : (IntOp.cmpi .slt (BitVec.ofNat 32 q.val) 8#32 = 1) ↔ q.val < 8 := by
    rw [show IntOp.cmpi .slt (BitVec.ofNat 32 q.val) 8#32
      = BitVec.ofBool (decide ((BitVec.ofNat 32 q.val).toInt < (BitVec.ofNat 32 8).toInt)) from rfl,
      ofNat_toInt _ (by omega), ofNat_toInt _ (by omega)]
    by_cases e : q.val < 8
    · simp [e]
    · simp [e]
  unfold Scalar.select padded
  by_cases e : q.val < 8
  · rw [if_pos (h.2 e), dif_pos e]
  · rw [if_neg (fun hh => e (h.1 hh)), dif_neg e]

end Layer.Choice

end
-- ==== Proof.LnRouterBlock.lean ====
/-
  The residual normalisation after the second layer's mixers, with each token's choice of two experts: one point's blocks,
  and what the kernel leaves in its four arrays.

  A point holds 256 tokens whole, and the eight experts' weights on the first of 128 lanes. The tokens' logits are the
  normalised rows times those weights; the two largest of a row are chosen, and their places and shares stored at the head
  of 128 lanes.
-/
module

public import proofs.«01_k».proof.Proof.Gen.LnRouterIdeal.Value
public import proofs.«01_k».proof.Proof.ResidLn
public import proofs.«01_k».proof.Proof.Choice
public import Idealize.ShloMosaic.Lib.Claim
public import Idealize.ShloMosaic.Lib.KernelVsHost

@[expose] public section

noncomputable section

namespace Layer.LnRouter

open Cert.LnRouterIdeal Cert.LnRouterIdeal.Gen Idealize.ShloMosaic Idealize.ShloMosaic.TcCoe Idealize.SL.Sem
open Idealize.ShloMosaic.Pipeline (Dat)
open Idealize.ShloMosaic.ValueIdx (ix1 ix2)
open Layer.Choice
open Layer.ResidLn (normed resid)

/-! ## The mathematics -/

/-- A token's logits: its normalised row times the experts' weights. -/
def logits (x mix : S32768x4096.Idx → EReal) (g b : S4096.Idx → EReal) (w : S4096x8.Idx → EReal) (t : Fin 32768)
    (e : Fin 8) : EReal :=
  ∑ k : Fin 4096, Layer.ResidLn.spec x mix g b (ix2 t k) * w (ix2 k e)

/-- The two experts chosen by a row of logits, at the head of 128 lanes. -/
def expertsOf (l : Fin 8 → EReal) (q : Fin 128) : BitVec 32 := lanes (first 8#32 l) (first 8#32 (others l)) 0#32 q

/-- Their shares, at the head of 128 lanes. -/
def sharesOf (l : Fin 8 → EReal) (q : Fin 128) : EReal :=
  lanes (Ideal.div unit (unit + odds l)) (Ideal.div (odds l) (unit + odds l)) (Ideal.ofBits .f32 0x00000000#32) q

/-! ## One block -/

/-- A vector made a column. -/
theorem col_apply {α : Type} (x : S256.Idx → α) (r : Fin 256) :
    shapeCast S256x1 x shapeCasts_S256_S256x1 (ix2 r 0) = x (ix1 r) :=
  shapeCast_apply _ shapeCasts_S256_S256x1 (ix2 r 0) (ix1 r) (by
    rw [Shape.rowMajor_val_two]
    show (Shape.rowMajor _ _).val = r.val * 1 + 0
    rw [Shape.rowMajor_val_one]; show r.val = _; omega)

/-- A column spread over the lanes. -/
theorem spread_lanes {α : Type} (x : S256x1.Idx → α) (r : Fin 256) (q : Fin 128) :
    broadcastTo S256x128 x broadcasts_S256x1_S256x128 (ix2 r q) = x (ix2 r 0) :=
  broadcastTo_apply x broadcasts_S256x1_S256x128 (ix2 r q) (ix2 r 0) fun a => by
    match a with
    | ⟨0, _⟩ => rfl
    | ⟨1, _⟩ => rfl

/-- The lanes' numbers. -/
theorem lane_apply (r : Fin 256) (q : Fin 128) :
    iota .tc S256x128 32 [1] iota_S256x128_d1_w32 (ix2 r q) = BitVec.ofNat 32 q.val :=
  iota_single_apply .tc S256x128 32 1 iota_S256x128_d1_w32 (ix2 r q)

/-- The column of the rows' largest values. -/
theorem max_apply (f : FVec Ideal S256x128 .f32) (l : Fin 128 → EReal) (r : Fin 256) (h : ∀ q, f (ix2 r q) = l q) :
    shapeCast S256x1 (multiReduction .maximumf [1] S256 f 0xFF800000#32 reduces_S256x128_S256 (.inl rfl) rfl)
      shapeCasts_S256_S256x1 (ix2 r 0) = best l := by
  rw [col_apply]
  refine (Ideal.multiReduction_maximumf_single f _ reduces_S256x128_S256 (.inl rfl) rfl (ix1 r)).trans ?_
  refine congrArg (Finset.univ.fold max low) (funext fun k => ?_)
  refine Eq.trans (congrArg f (funext fun d => Fin.ext ?_)) (h k)
  match d with
  | ⟨0, _⟩ => rfl
  | ⟨1, _⟩ => rfl

/-- The column of the rows' smallest numbers. -/
theorem min_apply (f : IVec S256x128 32) (p : Fin 128 → BitVec 32) (r : Fin 256) (h : ∀ q, f (ix2 r q) = p q) :
    shapeCast S256x1 (multiReductionI .minsi [1] S256 f 2147483647#32 reduces_S256x128_S256 rfl)
      shapeCasts_S256_S256x1 (ix2 r 0) = Finset.univ.fold IntOp.minsi 2147483647#32 p := by
  rw [col_apply]
  refine (multiReductionI_eq_fold .minsi f _ reduces_S256x128_S256 rfl (ix1 r)).trans ?_
  refine (reduces_S256x128_S256.fold_filter_drop_single IKind.minsi.op _ f (ix1 r)).trans ?_
  refine congrArg (Finset.univ.fold IntOp.minsi 2147483647#32) (funext fun k => ?_)
  refine Eq.trans (congrArg f (funext fun d => Fin.ext ?_)) (h k)
  match d with
  | ⟨0, _⟩ => rfl
  | ⟨1, _⟩ => rfl

/-- A row's logits, of the block's lanes. -/
def rowOf (v : FVec Ideal S256x128 .f32) (r : Fin 256) (e : Fin 8) : EReal := v (ix2 r ⟨e.val, by omega⟩)

section

variable (v : FVec Ideal S256x128 .f32) (r : Fin 256)

theorem pay5_apply (q : Fin 128) : k0_pay5 (F := Ideal) v (ix2 r q) = padded (rowOf v r) q := by
  refine Eq.trans ?_ (select_padded (fun k => v (ix2 r k)) q)
  rw [← lane_apply r q]; rfl

theorem pay6_apply : k0_pay6 (F := Ideal) v (ix2 r 0) = best (rowOf v r) :=
  (max_apply (k0_pay5 (F := Ideal) v) (padded (rowOf v r)) r (pay5_apply v r)).trans (best_padded _)

theorem pay7_apply : k0_pay7 (F := Ideal) v (ix2 r 0) = first 8#32 (rowOf v r) := by
  refine Eq.trans (min_apply _ (place 128#32 (padded (rowOf v r))) r fun q => ?_) (first_padded _)
  show Scalar.select (Ideal.cmp .oeq (k0_pay5 (F := Ideal) v (ix2 r q))
      (broadcastTo S256x128 (k0_pay6 (F := Ideal) v) broadcasts_S256x1_S256x128 (ix2 r q)))
    (iota .tc S256x128 32 [1] iota_S256x128_d1_w32 (ix2 r q)) 128#32 = _
  rw [spread_lanes, lane_apply, pay5_apply, pay6_apply, ← best_padded (rowOf v r)]
  rfl

theorem pay8_apply (q : Fin 128) : k0_pay8 (F := Ideal) v (ix2 r q) = padded (others (rowOf v r)) q := by
  refine Eq.trans ?_ (congrFun (rest_padded (first 8#32 (rowOf v r)) (rowOf v r)) q)
  show Scalar.select (IntOp.cmpi .eq (iota .tc S256x128 32 [1] iota_S256x128_d1_w32 (ix2 r q))
      (broadcastTo S256x128 (k0_pay7 (F := Ideal) v) broadcasts_S256x1_S256x128 (ix2 r q))) low
    (k0_pay5 (F := Ideal) v (ix2 r q)) = _
  rw [spread_lanes, lane_apply, pay5_apply, pay7_apply]
  rfl

theorem pay9_apply : k0_pay9 (F := Ideal) v (ix2 r 0) = best (others (rowOf v r)) :=
  (max_apply (k0_pay8 (F := Ideal) v) (padded (others (rowOf v r))) r (pay8_apply v r)).trans (best_padded _)

/-- The share of the second choice before the two are made to sum to one, the second's largest value and the first's apart. -/
theorem odds_apply (a b : FVec Ideal S256x1 .f32) (x y : EReal) (ha : a (ix2 r 0) = x) (hb : b (ix2 r 0) = y) :
    exp (subf a b) (ix2 r 0) = Ideal.exp (x - y) := by
  subst ha hb; rfl

theorem pay10_apply : k0_pay10 (F := Ideal) v (ix2 r 0) = odds (rowOf v r) :=
  odds_apply r _ _ _ _ (pay9_apply v r) (pay6_apply v r)

theorem first_share (a : FVec Ideal S256x1 .f32) (x : EReal) (ha : a (ix2 r 0) = x) :
    divf (broadcast S256x1 (Scalar.ofBits (F := Ideal) .f32 0x3F800000#32))
      (addf (broadcast S256x1 (Scalar.ofBits .f32 0x3F800000#32)) a) (ix2 r 0) = Ideal.div unit (unit + x) := by
  subst ha; rfl

theorem pay11_apply : k0_pay11 (F := Ideal) v (ix2 r 0) = Ideal.div unit (unit + odds (rowOf v r)) :=
  first_share r _ _ (pay10_apply v r)

theorem second_share (a : FVec Ideal S256x1 .f32) (x : EReal) (ha : a (ix2 r 0) = x) :
    divf a (addf (broadcast S256x1 (Scalar.ofBits (F := Ideal) .f32 0x3F800000#32)) a) (ix2 r 0)
      = Ideal.div x (unit + x) := by
  subst ha; rfl

theorem pay12_apply :
    k0_pay12 (F := Ideal) v (ix2 r 0) = Ideal.div (odds (rowOf v r)) (unit + odds (rowOf v r)) :=
  second_share r _ _ (pay10_apply v r)

/-- The numbers of the places that hold a row's largest value. -/
theorem place_apply (a : FVec Ideal S256x128 .f32) (b : FVec Ideal S256x1 .f32) (q : Fin 128) (x y : EReal)
    (ha : a (ix2 r q) = x) (hb : b (ix2 r 0) = y) :
    select (cmpf .oeq a (broadcastTo S256x128 b broadcasts_S256x1_S256x128))
      (iota .tc S256x128 32 [1] iota_S256x128_d1_w32) (broadcast S256x128 128#32) (ix2 r q)
      = Scalar.select (Ideal.cmp .oeq x y) (BitVec.ofNat 32 q.val) 128#32 := by
  subst ha hb
  rw [← spread_lanes b r q, ← lane_apply r q]; rfl

/-- The number of the second choice. -/
theorem second_choice :
    shapeCast S256x1 (multiReductionI .minsi [1] S256
      (select (cmpf .oeq (k0_pay8 (F := Ideal) v) (broadcastTo S256x128 (k0_pay9 (F := Ideal) v) broadcasts_S256x1_S256x128))
        (iota .tc S256x128 32 [1] iota_S256x128_d1_w32) (broadcast S256x128 128#32))
      2147483647#32 reduces_S256x128_S256 rfl) shapeCasts_S256_S256x1 (ix2 r 0) = first 8#32 (others (rowOf v r)) := by
  refine Eq.trans (min_apply _ (place 128#32 (padded (others (rowOf v r)))) r fun q => ?_) (first_padded _)
  exact place_apply r _ _ q _ _ (pay8_apply v r q) ((pay9_apply v r).trans (best_padded _).symm)

theorem pay13_apply (q : Fin 128) : k0_pay13 (F := Ideal) v (ix2 r q) = expertsOf (rowOf v r) q := by
  unfold k0_pay13 expertsOf
  dsimp only
  rw [shapeCast_self, shapeCast_self, ← select_lanes, ← second_choice, ← pay7_apply]
  refine Eq.trans ?_ (congrArg₂ (fun a b => Scalar.select (IntOp.cmpi .eq (BitVec.ofNat 32 q.val) 0#32) a
    (Scalar.select (IntOp.cmpi .eq (BitVec.ofNat 32 q.val) 1#32) b 0#32)) (spread_lanes _ r q) (spread_lanes _ r q))
  rw [← lane_apply r q]; rfl

theorem pay1_apply (q : Fin 128) :
    k0_pay1 (F := Ideal) (iota .tc S256x128 32 [1] iota_S256x128_d1_w32) (k0_pay11 (F := Ideal) v) (k0_pay12 (F := Ideal) v)
      (ix2 r q) = sharesOf (rowOf v r) q := by
  unfold k0_pay1 sharesOf
  dsimp only
  rw [shapeCast_self, shapeCast_self, ← select_lanes, ← pay11_apply, ← pay12_apply]
  refine Eq.trans ?_ (congrArg₂ (fun a b => Scalar.select (IntOp.cmpi .eq (BitVec.ofNat 32 q.val) 0#32) a
    (Scalar.select (IntOp.cmpi .eq (BitVec.ofNat 32 q.val) 1#32) b (Ideal.ofBits .f32 0x00000000#32)))
    (spread_lanes _ r q) (spread_lanes _ r q))
  rw [← lane_apply r q]; rfl

end

/-- The stored normalised rows, from the four blocks they are made of. -/
theorem pay2_apply (v0 : Vec Ideal S256x4096 .f32) (v1 : Vec Ideal S256x4096 .bf16) (g b : Vec Ideal S1x4096 .f32)
    (r : Fin 256) (q : Fin 4096) :
    k0_pay2 (F := Ideal) v0 v1 g b (ix2 r q)
      = normed (fun q => resid (v0 (ix2 r q)) (v1 (ix2 r q))) (fun q => g (ix2 0 q)) (fun q => b (ix2 0 q)) q :=
  Layer.ResidLn.pay_apply v0 v1 g b r q

/-- The shorter copy's stored value is the same over the extended reals. -/
theorem pay3_apply (v0 : Vec Ideal S256x4096 .f32) (v1 : Vec Ideal S256x4096 .bf16) (g b : Vec Ideal S1x4096 .f32)
    (r : Fin 256) (q : Fin 4096) :
    k0_pay3 (F := Ideal) v0 v1 g b (ix2 r q)
      = normed (fun q => resid (v0 (ix2 r q)) (v1 (ix2 r q))) (fun q => g (ix2 0 q)) (fun q => b (ix2 0 q)) q :=
  pay2_apply v0 v1 g b r q

/-- The block of logits at a row and a lane. -/
theorem pay4_apply (v0 : Vec Ideal S256x4096 .f32) (v1 : Vec Ideal S256x4096 .bf16) (g b : Vec Ideal S1x4096 .f32)
    (w : Vec Ideal S4096x128 .f32) (r : Fin 256) (q : Fin 128) :
    k0_pay4 (F := Ideal) v0 v1 g b w (ix2 r q)
      = ∑ k : Fin 4096, normed (fun q => resid (v0 (ix2 r q)) (v1 (ix2 r q))) (fun q => g (ix2 0 q)) (fun q => b (ix2 0 q)) k
          * w (ix2 k q) := by
  refine Eq.trans ?_ (Finset.sum_congr rfl fun k _ => congrArg (· * w (ix2 k q)) (pay2_apply v0 v1 g b r k))
  refine Eq.trans ?_ (matmul_plain_zero (φ₁ := .f32) (φ₂ := .f32) (k0_pay2 (F := Ideal) v0 v1 g b) w (ix2 r q))
  unfold k0_pay4
  rw [shapeCast_self]
  rfl

variable (m : (ℓ : Loc nD τ sig) → Buf (Elt Ideal) ℓ) (ρ : Dev nD → PrngReg)

/-! ## What the region finds -/

/-- The gains, as one row. -/
theorem gains_eq (c : Dev nD) (q : Fin 4096) :
    (V m c main_v1 : S1x4096.Idx → EReal) (ix2 0 q) = (m ((c : Thread nD τ).loc main_arg2) : S4096.Idx → EReal) (ix1 q) := by
  have h : V m c main_v1 = shapeCast S1x4096 (m ((c : Thread nD τ).loc main_arg2)) shapeCasts_S4096_S1x4096 := by
    entry_read; rfl
  rw [h]
  exact shapeCast_apply _ shapeCasts_S4096_S1x4096 (ix2 0 q) (ix1 q) (by
    rw [Shape.rowMajor_val_two, Shape.rowMajor_val_one]
    show q.val = 0 * 4096 + q.val
    omega)

/-- The biases, as one row. -/
theorem shifts_eq (c : Dev nD) (q : Fin 4096) :
    (V m c main_v2 : S1x4096.Idx → EReal) (ix2 0 q) = (m ((c : Thread nD τ).loc main_arg3) : S4096.Idx → EReal) (ix1 q) := by
  have h : V m c main_v2 = shapeCast S1x4096 (m ((c : Thread nD τ).loc main_arg3)) shapeCasts_S4096_S1x4096 := by
    entry_read; rfl
  rw [h]
  exact shapeCast_apply _ shapeCasts_S4096_S1x4096 (ix2 0 q) (ix1 q) (by
    rw [Shape.rowMajor_val_two, Shape.rowMajor_val_one]
    show q.val = 0 * 4096 + q.val
    omega)

/-- The experts' weights on the first lanes. -/
theorem weights_eq (c : Dev nD) (k : Fin 4096) (e : Fin 8) :
    (V m c main_v0 : S4096x128.Idx → EReal) (ix2 k ⟨e.val, by omega⟩)
      = (m ((c : Thread nD τ).loc main_arg4) : S4096x8.Idx → EReal) (ix2 k e) := by
  have h : V m c main_v0 = pad S4096x128 ![0, 0] ![0, 120] ![0, 0] (m ((c : Thread nD τ).loc main_arg4))
      (sitofp (F := Ideal) .f32 (constantI S_ 32 0#32)) pads_S4096x8_S4096x128_000_01200 h_S_ := by
    entry_read; rfl
  rw [h]
  exact pad_apply_of_inside ![0, 0] ![0, 120] ![0, 0] _ _ pads_S4096x8_S4096x128_000_01200 h_S_ (ix2 k ⟨e.val, by omega⟩) (ix2 k e) fun a => by
    match a with
    | ⟨0, _⟩ => show k.val = 0 + k.val * (0 + 1); omega
    | ⟨1, _⟩ => show e.val = 0 + e.val * (0 + 1); omega

/-! ## The blocks -/

/-- Each window's block at a point. -/
theorem point_facts : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = t.val ∧ win0_8.index t 1 = 0))

/-- The token of row `r` of point `t`. -/
def tok (t : Fin cfg0.N) (r : Fin 256) : Fin 32768 :=
  ⟨t.val * 256 + r.val, by have h : t.val < 128 := t.isLt.trans_eq (show cfg0.N = 128 from N_0); omega⟩

/-- The tokens' block. -/
theorem first_apply (c : Dev nD) (t : Fin cfg0.N) (r : Fin 256) (q : Fin 4096) :
    (iblk m c 0 t : S256x4096.Idx → EReal) (ix2 r q)
      = (m ((c : Thread nD τ).loc main_arg0) : S32768x4096.Idx → EReal) (ix2 (tok t r) q) := by
  obtain ⟨e, -⟩ := point_facts t
  rw [← V_main_arg0 m c]
  refine congrArg (V m c main_arg0) (funext fun a => Fin.ext ?_)
  match a with
  | ⟨0, _⟩ => show win0_0.index t 0 * 256 + 1 * r.val = t.val * 256 + r.val; rw [e.1]; omega
  | ⟨1, _⟩ => show win0_0.index t 1 * 4096 + 1 * q.val = q.val; rw [e.2]; omega

/-- The block of what is added to the tokens. -/
theorem second_apply (c : Dev nD) (t : Fin cfg0.N) (r : Fin 256) (q : Fin 4096) :
    (iblk m c 1 t : S256x4096.Idx → EReal) (ix2 r q)
      = (m ((c : Thread nD τ).loc main_arg1) : S32768x4096.Idx → EReal) (ix2 (tok t r) q) := by
  obtain ⟨-, e, -⟩ := point_facts t
  rw [← V_main_arg1 m c]
  refine congrArg (V m c main_arg1) (funext fun a => Fin.ext ?_)
  match a with
  | ⟨0, _⟩ => show win0_1.index t 0 * 256 + 1 * r.val = t.val * 256 + r.val; rw [e.1]; omega
  | ⟨1, _⟩ => show win0_1.index t 1 * 4096 + 1 * q.val = q.val; rw [e.2]; omega

/-- The gains' block. -/
theorem gains_apply (c : Dev nD) (t : Fin cfg0.N) (q : Fin 4096) :
    (iblk m c 2 t : S1x4096.Idx → EReal) (ix2 0 q) = (m ((c : Thread nD τ).loc main_arg2) : S4096.Idx → EReal) (ix1 q) := by
  obtain ⟨-, -, e, -⟩ := point_facts t
  rw [← gains_eq m c q]
  refine congrArg (V m c main_v1) (funext fun a => Fin.ext ?_)
  match a with
  | ⟨0, _⟩ => show win0_2.index t 0 * 1 + 1 * 0 = 0; rw [e.1]
  | ⟨1, _⟩ => show win0_2.index t 1 * 4096 + 1 * q.val = q.val; rw [e.2]; omega

/-- The biases' block. -/
theorem shifts_apply (c : Dev nD) (t : Fin cfg0.N) (q : Fin 4096) :
    (iblk m c 3 t : S1x4096.Idx → EReal) (ix2 0 q) = (m ((c : Thread nD τ).loc main_arg3) : S4096.Idx → EReal) (ix1 q) := by
  obtain ⟨-, -, -, e, -⟩ := point_facts t
  rw [← shifts_eq m c q]
  refine congrArg (V m c main_v2) (funext fun a => Fin.ext ?_)
  match a with
  | ⟨0, _⟩ => show win0_3.index t 0 * 1 + 1 * 0 = 0; rw [e.1]
  | ⟨1, _⟩ => show win0_3.index t 1 * 4096 + 1 * q.val = q.val; rw [e.2]; omega

/-- The experts' weights' block. -/
theorem weights_apply (c : Dev nD) (t : Fin cfg0.N) (k : Fin 4096) (e : Fin 8) :
    (iblk m c 4 t : S4096x128.Idx → EReal) (ix2 k ⟨e.val, by omega⟩)
      = (m ((c : Thread nD τ).loc main_arg4) : S4096x8.Idx → EReal) (ix2 k e) := by
  obtain ⟨-, -, -, -, h, -⟩ := point_facts t
  rw [← weights_eq m c k e]
  refine congrArg (V m c main_v0) (funext fun a => Fin.ext ?_)
  match a with
  | ⟨0, _⟩ => show win0_4.index t 0 * 4096 + 1 * k.val = k.val; rw [h.1]; omega
  | ⟨1, _⟩ => show win0_4.index t 1 * 128 + 1 * e.val = e.val; rw [h.2]; omega

theorem hz : (![0, 0] : Fin 2 → Nat) = fun _ => 0 := funext fun a => by fin_cases a <;> rfl

/-- The first two arrays' contents: the normalisation of the four arguments. -/
abbrev G (c : Dev nD) : S32768x4096.Idx → EReal :=
  Layer.ResidLn.spec (m ((c : Thread nD τ).loc main_arg0)) (m ((c : Thread nD τ).loc main_arg1)) (m ((c : Thread nD τ).loc main_arg2))
    (m ((c : Thread nD τ).loc main_arg3))

/-- A row's normalisation, from a point's blocks and from the arguments. -/
theorem row_eq (c : Dev nD) (t : Fin cfg0.N) (r : Fin 256) (q : Fin 4096) :
    normed (fun q => resid ((iblk m c 0 t : S256x4096.Idx → EReal) (ix2 r q)) ((iblk m c 1 t : S256x4096.Idx → EReal) (ix2 r q)))
        (fun q => (iblk m c 2 t : S1x4096.Idx → EReal) (ix2 0 q)) (fun q => (iblk m c 3 t : S1x4096.Idx → EReal) (ix2 0 q)) q
      = G m c (ix2 (tok t r) q) := by
  have e1 : (fun q => resid ((iblk m c 0 t : S256x4096.Idx → EReal) (ix2 r q)) ((iblk m c 1 t : S256x4096.Idx → EReal) (ix2 r q)))
      = fun q => resid ((m ((c : Thread nD τ).loc main_arg0) : S32768x4096.Idx → EReal) (ix2 (tok t r) q))
          ((m ((c : Thread nD τ).loc main_arg1) : S32768x4096.Idx → EReal) (ix2 (tok t r) q)) :=
    funext fun q => congrArg₂ resid (first_apply m c t r q) (second_apply m c t r q)
  have e2 : (fun q => (iblk m c 2 t : S1x4096.Idx → EReal) (ix2 0 q))
      = fun q => (m ((c : Thread nD τ).loc main_arg2) : S4096.Idx → EReal) (ix1 q) := funext fun q => gains_apply m c t q
  have e3 : (fun q => (iblk m c 3 t : S1x4096.Idx → EReal) (ix2 0 q))
      = fun q => (m ((c : Thread nD τ).loc main_arg3) : S4096.Idx → EReal) (ix1 q) := funext fun q => shifts_apply m c t q
  exact congrFun (congr (congr (congrArg normed e1) e2) e3) q

/-- A token's logits, of the arguments. -/
abbrev L (c : Dev nD) : Fin 32768 → Fin 8 → EReal :=
  logits (m ((c : Thread nD τ).loc main_arg0)) (m ((c : Thread nD τ).loc main_arg1)) (m ((c : Thread nD τ).loc main_arg2))
    (m ((c : Thread nD τ).loc main_arg3)) (m ((c : Thread nD τ).loc main_arg4))

/-- The third array's contents: each token's two experts. -/
def Gi (c : Dev nD) : S32768x128.Idx → BitVec 32 := fun i => expertsOf (L m c (i 0)) (i 1)

/-- The fourth array's contents: their shares. -/
def Gw (c : Dev nD) : S32768x128.Idx → EReal := fun i => sharesOf (L m c (i 0)) (i 1)

/-- A row of a point's logits, from its blocks and from the arguments. -/
theorem logits_eq (c : Dev nD) (t : Fin cfg0.N) (r : Fin 256) :
    rowOf (k0_pay4 (F := Ideal) (iblk m c 0 t) (iblk m c 1 t) (iblk m c 2 t) (iblk m c 3 t) (iblk m c 4 t)) r
      = L m c (tok t r) := by
  funext e
  refine (pay4_apply (iblk m c 0 t) (iblk m c 1 t) (iblk m c 2 t) (iblk m c 3 t) (iblk m c 4 t) r ⟨e.val, by omega⟩).trans ?_
  exact Finset.sum_congr rfl fun k _ => congrArg₂ (· * ·) (row_eq m c t r k) (weights_apply m c t k e)

/-- Point `t`'s block of the first array is its tokens' rows. -/
theorem emb_eq5 (t : Fin cfg0.N) (j : S256x4096.Idx) : ((cfg0.win 5).blk t).view.emb j = ix2 (tok t (j 0)) (j 1) := by
  obtain ⟨-, -, -, -, -, e, -⟩ := point_facts t
  refine funext fun a => Fin.ext ?_
  match a with
  | ⟨0, _⟩ => show win0_5.index t 0 * 256 + 1 * (j 0).val = t.val * 256 + (j 0).val; rw [e.1]; omega
  | ⟨1, _⟩ => show win0_5.index t 1 * 4096 + 1 * (j 1).val = (j 1).val; rw [e.2]; omega

/-- Each point writes back its block of `G`, to the first array. -/
theorem flushed_eq5 (c : Dev nD) (t : Fin cfg0.N) :
    (dats m 0 c).flushed 5 t = ((cfg0.win 5).blk t).view.read (Elt Ideal) (G m c) := by
  have hr : ∀ (g : Buf (Elt Ideal) ((c : Thread nD τ).loc main_v3_0)) (v : Vec Ideal S256x4096 .f32)
      (_ : ∀ j, v j = g (((cfg0.win 5).blk t).view.emb j)),
      (cfg0.win 5).cut (grid0.coords t) v = ((cfg0.win 5).blk t).view.read (Elt Ideal) g := fun _ _ h => funext h
  rw [Cert.LnRouterIdeal.Value.flushed5]
  refine hr (G m c) _ fun j => ?_
  rw [emb_eq5 t j]
  unfold out0_5
  rw [View.canon_unit_zero hz, View.ld_unit_zero (S := S256x4096) hz, View.ld_unit_zero (S := S256x4096) hz,
    View.ld_unit_zero (S := S1x4096) hz, View.ld_unit_zero (S := S1x4096) hz]
  exact (congrArg _ (ValueIdx.eq_ix2 j)).trans
    ((pay2_apply (iblk m c 0 t) (iblk m c 1 t) (iblk m c 2 t) (iblk m c 3 t) (j 0) (j 1)).trans (row_eq m c t (j 0) (j 1)))

/-- A token's place in the first array is in the block of the point of its 256 tokens. -/
theorem mem_blk5 (t : Fin cfg0.N) (i : S32768x4096.Idx)
    (h0 : t.val * 256 ≤ (i 0 : Nat) ∧ (i 0 : Nat) < t.val * 256 + 256) : i ∈ ((cfg0.win 5).blk t).view.set := by
  have h1 : 0 * 4096 ≤ (i 1 : Nat) ∧ (i 1 : Nat) < 0 * 4096 + 4096 := ⟨by omega, lt_of_lt_of_eq (i 1).isLt rfl⟩
  show i ∈ ((View.whole main_v3_0).slice (win0_5.rect t)).set
  rw [View.set_slice_whole, Rect.mem_set_unit]
  obtain ⟨-, -, -, -, -, e, -⟩ := point_facts t
  intro a
  match a with
  | ⟨0, _⟩ =>
    show win0_5.index t 0 * 256 ≤ (i 0 : Nat) ∧ (i 0 : Nat) < win0_5.index t 0 * 256 + 256
    rw [e.1]; exact h0
  | ⟨1, _⟩ =>
    show win0_5.index t 1 * 4096 ≤ (i 1 : Nat) ∧ (i 1 : Nat) < win0_5.index t 1 * 4096 + 4096
    rw [e.2]; exact h1

/-- The blocks tile the first array. -/
theorem cover5 (i : S32768x4096.Idx) :
    ∃ t : Fin cfg0.N, (cfg0.win 5).flush t = true ∧ i ∈ ((cfg0.win 5).blk t).view.set := by
  have h0 : (i 0 : Nat) < 32768 := (i 0).isLt
  have hN : cfg0.N = 128 := N_0
  exact ⟨⟨(i 0 : Nat) / 256, by omega⟩, flush0_5 _, mem_blk5 _ i (by dsimp only; omega)⟩

/-- Point `t`'s block of the second array is its tokens' rows. -/
theorem emb_eq6 (t : Fin cfg0.N) (j : S256x4096.Idx) : ((cfg0.win 6).blk t).view.emb j = ix2 (tok t (j 0)) (j 1) := by
  obtain ⟨-, -, -, -, -, -, e, -⟩ := point_facts t
  refine funext fun a => Fin.ext ?_
  match a with
  | ⟨0, _⟩ => show win0_6.index t 0 * 256 + 1 * (j 0).val = t.val * 256 + (j 0).val; rw [e.1]; omega
  | ⟨1, _⟩ => show win0_6.index t 1 * 4096 + 1 * (j 1).val = (j 1).val; rw [e.2]; omega

/-- Each point writes back its block of `G`, to the second array. -/
theorem flushed_eq6 (c : Dev nD) (t : Fin cfg0.N) :
    (dats m 0 c).flushed 6 t = ((cfg0.win 6).blk t).view.read (Elt Ideal) (G m c) := by
  have hr : ∀ (g : Buf (Elt Ideal) ((c : Thread nD τ).loc main_v3_1)) (v : Vec Ideal S256x4096 .bf16)
      (_ : ∀ j, v j = g (((cfg0.win 6).blk t).view.emb j)),
      (cfg0.win 6).cut (grid0.coords t) v = ((cfg0.win 6).blk t).view.read (Elt Ideal) g := fun _ _ h => funext h
  rw [Cert.LnRouterIdeal.Value.flushed6]
  refine hr (G m c) _ fun j => ?_
  rw [emb_eq6 t j]
  unfold out0_6
  rw [View.canon_unit_zero hz, View.ld_unit_zero (S := S256x4096) hz, View.ld_unit_zero (S := S256x4096) hz,
    View.ld_unit_zero (S := S1x4096) hz, View.ld_unit_zero (S := S1x4096) hz]
  exact (congrArg _ (ValueIdx.eq_ix2 j)).trans
    ((pay3_apply (iblk m c 0 t) (iblk m c 1 t) (iblk m c 2 t) (iblk m c 3 t) (j 0) (j 1)).trans (row_eq m c t (j 0) (j 1)))

/-- A token's place in the second array is in the block of the point of its 256 tokens. -/
theorem mem_blk6 (t : Fin cfg0.N) (i : S32768x4096.Idx)
    (h0 : t.val * 256 ≤ (i 0 : Nat) ∧ (i 0 : Nat) < t.val * 256 + 256) : i ∈ ((cfg0.win 6).blk t).view.set := by
  have h1 : 0 * 4096 ≤ (i 1 : Nat) ∧ (i 1 : Nat) < 0 * 4096 + 4096 := ⟨by omega, lt_of_lt_of_eq (i 1).isLt rfl⟩
  show i ∈ ((View.whole main_v3_1).slice (win0_6.rect t)).set
  rw [View.set_slice_whole, Rect.mem_set_unit]
  obtain ⟨-, -, -, -, -, -, e, -⟩ := point_facts t
  intro a
  match a with
  | ⟨0, _⟩ =>
    show win0_6.index t 0 * 256 ≤ (i 0 : Nat) ∧ (i 0 : Nat) < win0_6.index t 0 * 256 + 256
    rw [e.1]; exact h0
  | ⟨1, _⟩ =>
    show win0_6.index t 1 * 4096 ≤ (i 1 : Nat) ∧ (i 1 : Nat) < win0_6.index t 1 * 4096 + 4096
    rw [e.2]; exact h1

/-- The blocks tile the second array. -/
theorem cover6 (i : S32768x4096.Idx) :
    ∃ t : Fin cfg0.N, (cfg0.win 6).flush t = true ∧ i ∈ ((cfg0.win 6).blk t).view.set := by
  have h0 : (i 0 : Nat) < 32768 := (i 0).isLt
  have hN : cfg0.N = 128 := N_0
  exact ⟨⟨(i 0 : Nat) / 256, by omega⟩, flush0_6 _, mem_blk6 _ i (by dsimp only; omega)⟩

/-- Point `t`'s block of the third array is its tokens' rows. -/
theorem emb_eq7 (t : Fin cfg0.N) (j : S256x128.Idx) : ((cfg0.win 7).blk t).view.emb j = ix2 (tok t (j 0)) (j 1) := by
  obtain ⟨-, -, -, -, -, -, -, e, -⟩ := point_facts t
  refine funext fun a => Fin.ext ?_
  match a with
  | ⟨0, _⟩ => show win0_7.index t 0 * 256 + 1 * (j 0).val = t.val * 256 + (j 0).val; rw [e.1]; omega
  | ⟨1, _⟩ => show win0_7.index t 1 * 128 + 1 * (j 1).val = (j 1).val; rw [e.2]; omega

/-- Each point writes back its block of `Gi`. -/
theorem flushed_eq7 (c : Dev nD) (t : Fin cfg0.N) :
    (dats m 0 c).flushed 7 t = ((cfg0.win 7).blk t).view.read (Elt Ideal) (Gi m c) := by
  have hr : ∀ (g : Buf (Elt Ideal) ((c : Thread nD τ).loc main_v3_2)) (v : Vec Ideal S256x128 .i32)
      (_ : ∀ j, v j = g (((cfg0.win 7).blk t).view.emb j)),
      (cfg0.win 7).cut (grid0.coords t) v = ((cfg0.win 7).blk t).view.read (Elt Ideal) g := fun _ _ h => funext h
  rw [Cert.LnRouterIdeal.Value.flushed7]
  refine hr (Gi m c) _ fun j => ?_
  rw [emb_eq7 t j]
  unfold out0_7 k0_pay14
  rw [View.canon_unit_zero hz, View.ld_unit_zero (S := S256x4096) hz, View.ld_unit_zero (S := S256x4096) hz,
    View.ld_unit_zero (S := S1x4096) hz, View.ld_unit_zero (S := S1x4096) hz, View.ld_unit_zero (S := S4096x128) hz]
  exact (congrArg _ (ValueIdx.eq_ix2 j)).trans
    ((pay13_apply (k0_pay4 (F := Ideal) (iblk m c 0 t) (iblk m c 1 t) (iblk m c 2 t) (iblk m c 3 t) (iblk m c 4 t)) (j 0) (j 1)).trans
      (congrArg (fun l => expertsOf l (j 1)) (logits_eq m c t (j 0))))

/-- A token's place in the third array is in the block of the point of its 256 tokens. -/
theorem mem_blk7 (t : Fin cfg0.N) (i : S32768x128.Idx)
    (h0 : t.val * 256 ≤ (i 0 : Nat) ∧ (i 0 : Nat) < t.val * 256 + 256) : i ∈ ((cfg0.win 7).blk t).view.set := by
  have h1 : 0 * 128 ≤ (i 1 : Nat) ∧ (i 1 : Nat) < 0 * 128 + 128 := ⟨by omega, lt_of_lt_of_eq (i 1).isLt rfl⟩
  show i ∈ ((View.whole main_v3_2).slice (win0_7.rect t)).set
  rw [View.set_slice_whole, Rect.mem_set_unit]
  obtain ⟨-, -, -, -, -, -, -, e, -⟩ := point_facts t
  intro a
  match a with
  | ⟨0, _⟩ =>
    show win0_7.index t 0 * 256 ≤ (i 0 : Nat) ∧ (i 0 : Nat) < win0_7.index t 0 * 256 + 256
    rw [e.1]; exact h0
  | ⟨1, _⟩ =>
    show win0_7.index t 1 * 128 ≤ (i 1 : Nat) ∧ (i 1 : Nat) < win0_7.index t 1 * 128 + 128
    rw [e.2]; exact h1

/-- The blocks tile the third array. -/
theorem cover7 (i : S32768x128.Idx) :
    ∃ t : Fin cfg0.N, (cfg0.win 7).flush t = true ∧ i ∈ ((cfg0.win 7).blk t).view.set := by
  have h0 : (i 0 : Nat) < 32768 := (i 0).isLt
  have hN : cfg0.N = 128 := N_0
  exact ⟨⟨(i 0 : Nat) / 256, by omega⟩, flush0_7 _, mem_blk7 _ i (by dsimp only; omega)⟩

/-- Point `t`'s block of the fourth array is its tokens' rows. -/
theorem emb_eq8 (t : Fin cfg0.N) (j : S256x128.Idx) : ((cfg0.win 8).blk t).view.emb j = ix2 (tok t (j 0)) (j 1) := by
  obtain ⟨-, -, -, -, -, -, -, -, e⟩ := point_facts t
  refine funext fun a => Fin.ext ?_
  match a with
  | ⟨0, _⟩ => show win0_8.index t 0 * 256 + 1 * (j 0).val = t.val * 256 + (j 0).val; rw [e.1]; omega
  | ⟨1, _⟩ => show win0_8.index t 1 * 128 + 1 * (j 1).val = (j 1).val; rw [e.2]; omega

/-- Each point writes back its block of `Gw`. -/
theorem flushed_eq8 (c : Dev nD) (t : Fin cfg0.N) :
    (dats m 0 c).flushed 8 t = ((cfg0.win 8).blk t).view.read (Elt Ideal) (Gw m c) := by
  have hr : ∀ (g : Buf (Elt Ideal) ((c : Thread nD τ).loc main_v3_3)) (v : Vec Ideal S256x128 .f32)
      (_ : ∀ j, v j = g (((cfg0.win 8).blk t).view.emb j)),
      (cfg0.win 8).cut (grid0.coords t) v = ((cfg0.win 8).blk t).view.read (Elt Ideal) g := fun _ _ h => funext h
  rw [Cert.LnRouterIdeal.Value.flushed8]
  refine hr (Gw m c) _ fun j => ?_
  rw [emb_eq8 t j]
  unfold out0_8 k0_pay14
  rw [View.canon_unit_zero hz, View.ld_unit_zero (S := S256x4096) hz, View.ld_unit_zero (S := S256x4096) hz,
    View.ld_unit_zero (S := S1x4096) hz, View.ld_unit_zero (S := S1x4096) hz, View.ld_unit_zero (S := S4096x128) hz]
  exact (congrArg _ (ValueIdx.eq_ix2 j)).trans
    ((pay1_apply (k0_pay4 (F := Ideal) (iblk m c 0 t) (iblk m c 1 t) (iblk m c 2 t) (iblk m c 3 t) (iblk m c 4 t)) (j 0) (j 1)).trans
      (congrArg (fun l => sharesOf l (j 1)) (logits_eq m c t (j 0))))

/-- A token's place in the fourth array is in the block of the point of its 256 tokens. -/
theorem mem_blk8 (t : Fin cfg0.N) (i : S32768x128.Idx)
    (h0 : t.val * 256 ≤ (i 0 : Nat) ∧ (i 0 : Nat) < t.val * 256 + 256) : i ∈ ((cfg0.win 8).blk t).view.set := by
  have h1 : 0 * 128 ≤ (i 1 : Nat) ∧ (i 1 : Nat) < 0 * 128 + 128 := ⟨by omega, lt_of_lt_of_eq (i 1).isLt rfl⟩
  show i ∈ ((View.whole main_v3_3).slice (win0_8.rect t)).set
  rw [View.set_slice_whole, Rect.mem_set_unit]
  obtain ⟨-, -, -, -, -, -, -, -, e⟩ := point_facts t
  intro a
  match a with
  | ⟨0, _⟩ =>
    show win0_8.index t 0 * 256 ≤ (i 0 : Nat) ∧ (i 0 : Nat) < win0_8.index t 0 * 256 + 256
    rw [e.1]; exact h0
  | ⟨1, _⟩ =>
    show win0_8.index t 1 * 128 ≤ (i 1 : Nat) ∧ (i 1 : Nat) < win0_8.index t 1 * 128 + 128
    rw [e.2]; exact h1

/-- The blocks tile the fourth array. -/
theorem cover8 (i : S32768x128.Idx) :
    ∃ t : Fin cfg0.N, (cfg0.win 8).flush t = true ∧ i ∈ ((cfg0.win 8).blk t).view.set := by
  have h0 : (i 0 : Nat) < 32768 := (i 0).isLt
  have hN : cfg0.N = 128 := N_0
  exact ⟨⟨(i 0 : Nat) / 256, by omega⟩, flush0_8 _, mem_blk8 _ i (by dsimp only; omega)⟩

/-- The kernel's run: its four results hold the mathematics of the arguments, which are unchanged. -/
theorem run : θ_run defs (onTc (τ := τ) (main (F := Ideal))) ⟨m, fun _ => 0, ρ⟩ fun r => ∀ c : Dev nD,
      r.2.mem ((c : Thread nD τ).loc main_v3_0) = G m c
      ∧ r.2.mem ((c : Thread nD τ).loc main_v3_1) = G m c
      ∧ r.2.mem ((c : Thread nD τ).loc main_v3_2) = Gi m c
      ∧ r.2.mem ((c : Thread nD τ).loc main_v3_3) = Gw m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨(h c).1.trans ((dats m 0 c).arrAt_eq_of_cover 5 (G m c) (fun t _ => flushed_eq5 m c t) cover5),
        (h c).2.1.trans ((dats m 0 c).arrAt_eq_of_cover 6 (G m c) (fun t _ => flushed_eq6 m c t) cover6),
        (h c).2.2.1.trans ((dats m 0 c).arrAt_eq_of_cover 7 (Gi m c) (fun t _ => flushed_eq7 m c t) cover7),
        (h c).2.2.2.1.trans ((dats m 0 c).arrAt_eq_of_cover 8 (Gw m c) (fun t _ => flushed_eq8 m c t) cover8), (h c).2.2.2.2⟩)
    (Cert.LnRouterIdeal.Value.run_blocks m ρ)

end Layer.LnRouter

end
-- ==== Proof.LnRouterRef.lean ====
/-
  What the reference computes of the normalisation with each token's choice of two experts, read at an index.
-/
module

public import proofs.«01_k».proof.Proof.Gen.LnRouterRefIdeal.Run
public import proofs.«01_k».proof.Proof.Gen.LnRouterRefIdeal.Read
public import proofs.«01_k».proof.Proof.LnRouterBlock

@[expose] public section

noncomputable section

namespace Layer.LnRouter

open Cert.LnRouterRefIdeal Cert.LnRouterRefIdeal.Gen Cert.LnRouterRefIdeal.Read Idealize.ShloMosaic
open Idealize.ShloMosaic.ValueIdx (ix1 ix2)
open Layer.Choice

/-! ## Reductions along a row of eight -/

theorem reduces8 : Shape.Reduces S32768x8 [1] S32768 := by decide

/-- The host's largest value of a row. -/
theorem host_max (f : S32768x8.Idx → EReal) (init : S_.Idx → EReal) (hi : ∀ i, init i = low) (l : Fin 8 → EReal)
    (r : Fin 32768) (h : ∀ e, f (ix2 r e) = l e) :
    Host.reduce (max : EReal → EReal → EReal) f init reducesTo_S32768x8_S32768_d1 h_S_ (ix1 r) = best l := by
  refine (Host.reduce_eq_fold_single _ f init reducesTo_S32768x8_S32768_d1 reduces8 h_S_ (ix1 r)).trans ?_
  rw [hi]
  refine congrArg (Finset.univ.fold max low) (funext fun k => ?_)
  refine Eq.trans (congrArg f (funext fun d => Fin.ext ?_)) (h k)
  match d with
  | ⟨0, _⟩ => rfl
  | ⟨1, _⟩ => rfl

/-- The host's smallest number of a row. -/
theorem host_min (f : S32768x8.Idx → BitVec 32) (init : S_.Idx → BitVec 32) (hi : ∀ i, init i = 2147483647#32)
    (p : Fin 8 → BitVec 32) (r : Fin 32768) (h : ∀ e, f (ix2 r e) = p e) :
    Host.reduce IntOp.minsi f init reducesTo_S32768x8_S32768_d1 h_S_ (ix1 r)
      = Finset.univ.fold IntOp.minsi 2147483647#32 p := by
  refine (Host.reduce_eq_fold_single _ f init reducesTo_S32768x8_S32768_d1 reduces8 h_S_ (ix1 r)).trans ?_
  rw [hi]
  refine congrArg (Finset.univ.fold IntOp.minsi 2147483647#32) (funext fun k => ?_)
  refine Eq.trans (congrArg f (funext fun d => Fin.ext ?_)) (h k)
  match d with
  | ⟨0, _⟩ => rfl
  | ⟨1, _⟩ => rfl

/-- Two columns side by side, padded to 128 lanes. -/
theorem head_apply {α : Type} (a b : S32768x1.Idx → α) (z : S_.Idx → α) (x y w : α) (r : Fin 32768) (q : Fin 128)
    (ha : a (ix2 r 0) = x) (hb : b (ix2 r 0) = y) (hz : ∀ i, z i = w) :
    pad S32768x128 ![0, 0] ![0, 126] ![0, 0]
      (concatenate S32768x2 1 [⟨S32768x1, a⟩, ⟨S32768x1, b⟩] concatenates_S32768x1_S32768x1_S32768x2_d1) z
      pads_S32768x2_S32768x128_000_01260 h_S_ (ix2 r q) = lanes x y w q := by
  unfold lanes
  by_cases h0 : q.val = 0
  · rw [if_pos h0]
    refine (pad_apply_of_inside ![0, 0] ![0, 126] ![0, 0] _ z pads_S32768x2_S32768x128_000_01260 h_S_ (ix2 r q)
      (ix2 r 0) fun d => ?_).trans ?_
    · match d with
      | ⟨0, _⟩ => show r.val = 0 + r.val * (0 + 1); omega
      | ⟨1, _⟩ => show q.val = 0 + 0 * (0 + 1); omega
    · refine (concatenate_pair_apply_left 1 a b concatenates_S32768x1_S32768x1_S32768x2_d1 _ rfl (ix2 r 0) fun d => ?_).trans ha
      match d with
      | ⟨0, _⟩ => rfl
      | ⟨1, _⟩ => rfl
  rw [if_neg h0]
  by_cases h1 : q.val = 1
  · rw [if_pos h1]
    refine (pad_apply_of_inside ![0, 0] ![0, 126] ![0, 0] _ z pads_S32768x2_S32768x128_000_01260 h_S_ (ix2 r q)
      (ix2 r 1) fun d => ?_).trans ?_
    · match d with
      | ⟨0, _⟩ => show r.val = 0 + r.val * (0 + 1); omega
      | ⟨1, _⟩ => show q.val = 0 + 1 * (0 + 1); omega
    · refine (concatenate_pair_apply_right 1 a b concatenates_S32768x1_S32768x1_S32768x2_d1 _ rfl rfl (ix2 r 0)
        (fun d hd => ?_) rfl).trans hb
      match d with
      | ⟨0, _⟩ => rfl
      | ⟨1, _⟩ => exact absurd rfl hd
  · rw [if_neg h1]
    refine (pad_apply_of_not_inside (s := S32768x2) (t := S32768x128) ![0, 0] ![0, 126] ![0, 0] _ z pads_S32768x2_S32768x128_000_01260 h_S_ (ix2 r q) 1
      fun h => ?_).trans (hz _)
    have h2 : (q.val - 0) / (0 + 1) < 2 := h.2.2
    omega

/-! ## The reference -/

section

variable (x mix : S32768x4096.Idx → EReal) (g b : S4096.Idx → EReal) (w : S4096x8.Idx → EReal) (r : Fin 32768)

/-- The reference's normalised rows. -/
theorem ref_y : val_main_v27 (F := Ideal) x mix g b = Layer.ResidLn.spec x mix g b := Layer.ResidLn.ref_eq x mix g b

theorem ref_logits (e : Fin 8) : val_main_v30 (F := Ideal) x mix g b w (ix2 r e) = logits x mix g b w r e := by
  rw [val_main_v30_apply, ref_y]
  refine Finset.sum_congr rfl fun k _ => congrArg₂ (· * ·) (congrArg _ ?_) (congrArg w ?_) <;>
  exact funext fun a => by
    match a with
    | ⟨0, _⟩ => rfl
    | ⟨1, _⟩ => rfl

theorem ref_top : val_main_v31 (F := Ideal) x mix g b w (ix1 r) = best (logits x mix g b w r) :=
  host_max _ _ (fun _ => rfl) _ r (ref_logits x mix g b w r)

/-- An index of one coordinate is that coordinate's. -/
theorem one_idx (i : S32768.Idx) : i = ix1 (i 0) := funext fun a => by
  match a with
  | ⟨0, _⟩ => rfl

theorem ref_top_at (i : S32768.Idx) : val_main_v31 (F := Ideal) x mix g b w i = best (logits x mix g b w (i 0)) :=
  (congrArg _ (one_idx i)).trans (ref_top x mix g b w (i 0))

theorem ref_top_col : val_main_v32 (F := Ideal) x mix g b w (ix2 r 0) = best (logits x mix g b w r) :=
  (val_main_v32_apply (F := Ideal) x mix g b w (ix2 r 0)).trans (ref_top_at x mix g b w _)

theorem ref_first : val_main_v36 (F := Ideal) x mix g b w (ix1 r) = first 8#32 (logits x mix g b w r) := by
  refine host_min _ _ (fun _ => rfl) (place 8#32 (logits x mix g b w r)) r fun e => ?_
  rw [val_main_v35_apply, val_main_call0_v1_apply, val_main_v29_apply, val_main_call0_v2_apply, val_main_call0_v0_apply,
    val_main_c_apply, val_main_v34_apply, ref_logits, val_main_v33_apply, val_main_v32_apply, ref_top_at]
  rfl

theorem ref_first_at (i : S32768.Idx) : val_main_v36 (F := Ideal) x mix g b w i
    = first 8#32 (logits x mix g b w (i 0)) :=
  (congrArg _ (one_idx i)).trans (ref_first x mix g b w (i 0))

theorem ref_first_col : val_main_v37 (F := Ideal) x mix g b w (ix2 r 0)
    = first 8#32 (logits x mix g b w r) :=
  (val_main_v37_apply (F := Ideal) x mix g b w (ix2 r 0)).trans (ref_first_at x mix g b w _)

theorem ref_others (e : Fin 8) :
    val_main_v42 (F := Ideal) x mix g b w (ix2 r e) = others (logits x mix g b w r) e := by
  rw [val_main_v42_apply, val_main_v41_apply, val_main_v39_apply, val_main_v38_apply, val_main_v29_apply,
    val_main_v40_apply, val_main_v37_apply, ref_first_at, val_main_call1_v1_apply, val_main_call1_v0_apply,
    val_main_cst_7_apply, ref_logits]
  rfl

theorem ref_next : val_main_v43 (F := Ideal) x mix g b w (ix1 r) = best (others (logits x mix g b w r)) :=
  host_max _ _ (fun _ => rfl) _ r (ref_others x mix g b w r)

theorem ref_next_at (i : S32768.Idx) : val_main_v43 (F := Ideal) x mix g b w i
    = best (others (logits x mix g b w (i 0))) :=
  (congrArg _ (one_idx i)).trans (ref_next x mix g b w (i 0))

theorem ref_next_col : val_main_v44 (F := Ideal) x mix g b w (ix2 r 0)
    = best (others (logits x mix g b w r)) :=
  (val_main_v44_apply (F := Ideal) x mix g b w (ix2 r 0)).trans (ref_next_at x mix g b w _)

theorem ref_second :
    val_main_v48 (F := Ideal) x mix g b w (ix1 r) = first 8#32 (others (logits x mix g b w r)) := by
  refine host_min _ _ (fun _ => rfl) (place 8#32 (others (logits x mix g b w r))) r fun e => ?_
  rw [val_main_v47_apply, val_main_call2_v1_apply, val_main_v29_apply, val_main_call2_v2_apply, val_main_call2_v0_apply,
    val_main_c_9_apply, val_main_v46_apply, ref_others, val_main_v45_apply, val_main_v44_apply, ref_next_at]
  rfl

theorem ref_second_at (i : S32768.Idx) : val_main_v48 (F := Ideal) x mix g b w i
    = first 8#32 (others (logits x mix g b w (i 0))) :=
  (congrArg _ (one_idx i)).trans (ref_second x mix g b w (i 0))

theorem ref_second_col : val_main_v49 (F := Ideal) x mix g b w (ix2 r 0)
    = first 8#32 (others (logits x mix g b w r)) :=
  (val_main_v49_apply (F := Ideal) x mix g b w (ix2 r 0)).trans (ref_second_at x mix g b w _)

/-- The host's exponential of a difference. -/
theorem host_odds (a c : S32768x1.Idx → EReal) (y z : EReal) (ha : a (ix2 r 0) = y) (hc : c (ix2 r 0) = z) :
    Host.exp (F := Ideal) (φ := .f32) (subf a c) (ix2 r 0) = Ideal.exp (y - z) := by
  subst ha hc; rfl

theorem ref_odds : val_main_v51 (F := Ideal) x mix g b w (ix2 r 0) = odds (logits x mix g b w r) :=
  host_odds r _ _ _ _ (ref_next_col x mix g b w r) (ref_top_col x mix g b w r)

/-- The host's shares. -/
theorem host_share (a n o : S32768x1.Idx → EReal) (y z : EReal) (ha : a (ix2 r 0) = y) (hn : n (ix2 r 0) = z)
    (ho : o (ix2 r 0) = unit) : Host.divf (F := Ideal) (φ := .f32) n (addf o a) (ix2 r 0) = Ideal.div z (unit + y) := by
  subst ha hn; rw [← ho]; rfl

theorem ref_first_share : val_main_v57 (F := Ideal) x mix g b w (ix2 r 0)
    = Ideal.div unit (unit + odds (logits x mix g b w r)) :=
  host_share r _ _ _ _ _ (ref_odds x mix g b w r) (val_main_v56_apply (F := Ideal) _) (val_main_v54_apply (F := Ideal) _)

theorem ref_second_share : val_main_v60 (F := Ideal) x mix g b w (ix2 r 0)
    = Ideal.div (odds (logits x mix g b w r)) (unit + odds (logits x mix g b w r)) :=
  host_share r _ _ _ _ _ (ref_odds x mix g b w r) (ref_odds x mix g b w r) (val_main_v58_apply (F := Ideal) _)

/-- The reference's experts. -/
theorem ref_experts (q : Fin 128) :
    val_main_v53 (F := Ideal) x mix g b w (ix2 r q) = expertsOf (logits x mix g b w r) q :=
  head_apply _ _ _ _ _ _ r q (ref_first_col x mix g b w r) (ref_second_col x mix g b w r) fun _ => rfl

/-- The reference's shares. -/
theorem ref_shares (q : Fin 128) :
    val_main_v62 (F := Ideal) x mix g b w (ix2 r q) = sharesOf (logits x mix g b w r) q := by
  refine head_apply _ _ _ _ _ _ r q (ref_first_share x mix g b w r) (ref_second_share x mix g b w r) fun _ => ?_
  rw [Ideal.ofBits_zero_f32, val_main_call4_v0_apply, val_main_c_15_apply]
  show (((0#32 : BitVec 32).toInt : ℝ) : EReal) = 0
  simp

end

end Layer.LnRouter

end
-- ==== Proof.LnRouter.lean ====
/-
  The residual normalisation with each token's choice of two experts: the kernel and the reference agree.
-/
module

public import proofs.«01_k».proof.Proof.LnRouterRef
public import proofs.«01_k».proof.Defs

@[expose] public section

noncomputable section

namespace Layer.LnRouter

open Cert.LnRouterIdeal Idealize.ShloMosaic Idealize.ShloMosaic.TcCoe Idealize.SL.Sem
open Idealize.ShloMosaic.ValueIdx (ix1 ix2)
open Cert.LnRouterRefIdeal.Read

/-- The reference's experts, of equal arguments. -/
theorem experts_eq (x mix : S32768x4096.Idx → EReal) (g b : S4096.Idx → EReal) (w : S4096x8.Idx → EReal) :
    val_main_v53 (F := Ideal) x mix g b w = fun i : S32768x128.Idx => expertsOf (logits x mix g b w (i 0)) (i 1) :=
  funext fun i => (congrArg _ (ValueIdx.eq_ix2 (n0 := 32768) (n1 := 128) i)).trans (ref_experts x mix g b w (i 0) (i 1))

/-- The reference's shares, of equal arguments. -/
theorem shares_eq (x mix : S32768x4096.Idx → EReal) (g b : S4096.Idx → EReal) (w : S4096x8.Idx → EReal) :
    val_main_v62 (F := Ideal) x mix g b w = fun i : S32768x128.Idx => sharesOf (logits x mix g b w (i 0)) (i 1) :=
  funext fun i => (congrArg _ (ValueIdx.eq_ix2 (n0 := 32768) (n1 := 128) i)).trans (ref_shares x mix g b w (i 0) (i 1))

/-- The kernel and the reference compute the same four arrays from equal arguments. -/
theorem algebraic : Cert.algebraic_LnRouterIdeal_LnRouterRefIdeal (hLnRouterIdeal := Cert.LnRouterIdeal.Gen.facts)
    (hLnRouterRefIdeal := Cert.LnRouterRefIdeal.Gen.facts) := by
  intro m g m' g' _ hag
  refine ⟨fun c => G m c, fun c => G m c, fun c => Gi m c, fun c => Gw m c, run m g, ?_⟩
  refine (θ_run (Cert.LnRouterRefIdeal.defs (F := Ideal)) _ _).mono (fun r h c => ?_) (Cert.LnRouterRefIdeal.Value.run (F := Ideal) m' g')
  obtain ⟨hy, hz, hi, hw, hargs⟩ := h c
  obtain ⟨h0, h1, h2, h3, h4⟩ := hag c
  refine ⟨hy.trans ?_, hz.trans ?_, hi.trans ?_, hw.trans ?_, hargs⟩
  · rw [h0, h1, h2, h3]; exact (val_main_v27_eq _ _ _ _).trans (ref_y _ _ _ _)
  · rw [h0, h1, h2, h3]; exact (val_main_v28_eq _ _ _ _).trans (ref_y _ _ _ _)
  · rw [val_main_v53_eq, h0, h1, h2, h3, h4]; exact experts_eq _ _ _ _ _
  · rw [val_main_v62_eq, h0, h1, h2, h3, h4]; exact shares_eq _ _ _ _ _

end Layer.LnRouter

end
-- ==== Proof.lean ====
/-
  The claim: every program has a frame, no rewrite separates a program from its ideal form, and each ideal program computes
  the array its reference computes.
-/
module

public import proofs.«01_k».proof.Proof.Sgu
public import proofs.«01_k».proof.Proof.Up
public import proofs.«01_k».proof.Proof.Down
public import proofs.«01_k».proof.Proof.ProjUV
public import proofs.«01_k».proof.Proof.ProjZR
public import proofs.«01_k».proof.Proof.Pair
public import proofs.«01_k».proof.Proof.EmbedP
public import proofs.«01_k».proof.Proof.EmbedS
public import proofs.«01_k».proof.Proof.MoeDownRun
public import proofs.«01_k».proof.Proof.MoeDownIdealRun
public import proofs.«01_k».proof.Proof.MoeDownRef
public import proofs.«01_k».proof.Proof.MoeDown
public import proofs.«01_k».proof.Proof.EmbedAll
public import proofs.«01_k».proof.Proof.ResidLn
public import proofs.«01_k».proof.Proof.ResidMix
public import proofs.«01_k».proof.Proof.LnRouter
public import proofs.«01_k».proof.Proof.Gen.SguIdeal.Value
public import proofs.«01_k».proof.Proof.Gen.SguRefIdeal.Run
public import proofs.«01_k».proof.Proof.Gen.SguRefIdeal.Read
public import proofs.«01_k».proof.Proof.Gen.UpIdeal.Value
public import proofs.«01_k».proof.Proof.Gen.UpRefIdeal.Run
public import proofs.«01_k».proof.Proof.Gen.UpRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.ProjUVIdeal.Value
public import proofs.«01_k».proof.Proof.Gen.ProjUVRefIdeal.Run
public import proofs.«01_k».proof.Proof.Gen.ProjUVRefIdeal.Read
public import proofs.«01_k».proof.Proof.Gen.ProjZRIdeal.Value
public import proofs.«01_k».proof.Proof.Gen.ProjZRRefIdeal.Run
public import proofs.«01_k».proof.Proof.Gen.ProjZRRefIdeal.Read
public import proofs.«01_k».proof.Proof.Gen.PairIdeal.Value
public import proofs.«01_k».proof.Proof.Gen.PairRefIdeal.Run
public import proofs.«01_k».proof.Proof.Gen.PairRefIdeal.Read
public import proofs.«01_k».proof.Proof.Gen.EmbedPIdeal.Value
public import proofs.«01_k».proof.Proof.Gen.EmbedPRefIdeal.Run
public import proofs.«01_k».proof.Proof.Gen.EmbedPRefIdeal.Read
public import proofs.«01_k».proof.Proof.Gen.EmbedSIdeal.Value
public import proofs.«01_k».proof.Proof.Gen.EmbedSRefIdeal.Run
public import proofs.«01_k».proof.Proof.Gen.EmbedSRefIdeal.Read
public import proofs.«01_k».proof.Proof.Gen.EmbedAllIdeal.Value
public import proofs.«01_k».proof.Proof.Gen.EmbedAllRefIdeal.Run
public import proofs.«01_k».proof.Proof.Gen.EmbedAllRefIdeal.Read
public import proofs.«01_k».proof.Proof.Gen.ResidLnIdeal.Value
public import proofs.«01_k».proof.Proof.Gen.ResidLnRefIdeal.Run
public import proofs.«01_k».proof.Proof.Gen.ResidLnRefIdeal.Read
public import proofs.«01_k».proof.Proof.Gen.ResidMixIdeal.Value
public import proofs.«01_k».proof.Proof.Gen.ResidMixRefIdeal.Run
public import proofs.«01_k».proof.Proof.Gen.ResidMixRefIdeal.Read
public import proofs.«01_k».proof.Proof.Gen.LnRouterIdeal.Value
public import proofs.«01_k».proof.Proof.Gen.LnRouterRefIdeal.Run
public import proofs.«01_k».proof.Proof.Gen.LnRouterRefIdeal.Read
public import proofs.«01_k».proof.Defs
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.ProjUV
public import proofs.«01_k».proof.Proof.Gen.ProjUV.Skeleton
public import proofs.«01_k».proof.Proof.Gen.ProjUV.Launch
public import proofs.«01_k».proof.Proof.Gen.ProjUV.Points
public import proofs.«01_k».proof.Proof.Gen.ProjUV.Frame
public import proofs.«01_k».proof.Proof.Gen.ProjUVIdeal
public import proofs.«01_k».proof.Proof.Gen.ProjUVIdeal.Skeleton
public import proofs.«01_k».proof.Proof.Gen.ProjUVIdeal.Launch
public import proofs.«01_k».proof.Proof.Gen.ProjUVIdeal.Points
public import proofs.«01_k».proof.Proof.Gen.ProjUVIdeal.Frame
public import proofs.«01_k».proof.Proof.Gen.ProjUVRefIdeal
public import proofs.«01_k».proof.Proof.Gen.ProjZR
public import proofs.«01_k».proof.Proof.Gen.ProjZR.Skeleton
public import proofs.«01_k».proof.Proof.Gen.ProjZR.Launch
public import proofs.«01_k».proof.Proof.Gen.ProjZR.Points
public import proofs.«01_k».proof.Proof.Gen.ProjZR.Frame
public import proofs.«01_k».proof.Proof.Gen.ProjZRIdeal
public import proofs.«01_k».proof.Proof.Gen.ProjZRIdeal.Skeleton
public import proofs.«01_k».proof.Proof.Gen.ProjZRIdeal.Launch
public import proofs.«01_k».proof.Proof.Gen.ProjZRIdeal.Points
public import proofs.«01_k».proof.Proof.Gen.ProjZRIdeal.Frame
public import proofs.«01_k».proof.Proof.Gen.ProjZRRefIdeal
public import proofs.«01_k».proof.Proof.Gen.Pair
public import proofs.«01_k».proof.Proof.Gen.Pair.Skeleton
public import proofs.«01_k».proof.Proof.Gen.Pair.Launch
public import proofs.«01_k».proof.Proof.Gen.Pair.Points
public import proofs.«01_k».proof.Proof.Gen.Pair.Frame
public import proofs.«01_k».proof.Proof.Gen.PairIdeal
public import proofs.«01_k».proof.Proof.Gen.PairIdeal.Skeleton
public import proofs.«01_k».proof.Proof.Gen.PairIdeal.Launch
public import proofs.«01_k».proof.Proof.Gen.PairIdeal.Points
public import proofs.«01_k».proof.Proof.Gen.PairIdeal.Frame
public import proofs.«01_k».proof.Proof.Gen.PairRefIdeal
public import proofs.«01_k».proof.Proof.Gen.EmbedP
public import proofs.«01_k».proof.Proof.Gen.EmbedP.Skeleton
public import proofs.«01_k».proof.Proof.Gen.EmbedP.Launch
public import proofs.«01_k».proof.Proof.Gen.EmbedP.Points
public import proofs.«01_k».proof.Proof.Gen.EmbedP.Frame
public import proofs.«01_k».proof.Proof.Gen.EmbedPIdeal
public import proofs.«01_k».proof.Proof.Gen.EmbedPIdeal.Skeleton
public import proofs.«01_k».proof.Proof.Gen.EmbedPIdeal.Launch
public import proofs.«01_k».proof.Proof.Gen.EmbedPIdeal.Points
public import proofs.«01_k».proof.Proof.Gen.EmbedPIdeal.Frame
public import proofs.«01_k».proof.Proof.Gen.EmbedPRefIdeal
public import proofs.«01_k».proof.Proof.Gen.EmbedS
public import proofs.«01_k».proof.Proof.Gen.EmbedS.Skeleton
public import proofs.«01_k».proof.Proof.Gen.EmbedS.Launch
public import proofs.«01_k».proof.Proof.Gen.EmbedS.Points
public import proofs.«01_k».proof.Proof.Gen.EmbedS.Frame
public import proofs.«01_k».proof.Proof.Gen.EmbedSIdeal
public import proofs.«01_k».proof.Proof.Gen.EmbedSIdeal.Skeleton
public import proofs.«01_k».proof.Proof.Gen.EmbedSIdeal.Launch
public import proofs.«01_k».proof.Proof.Gen.EmbedSIdeal.Points
public import proofs.«01_k».proof.Proof.Gen.EmbedSIdeal.Frame
public import proofs.«01_k».proof.Proof.Gen.EmbedSRefIdeal
public import proofs.«01_k».proof.Proof.Gen.MoeDown
public import proofs.«01_k».proof.Proof.Gen.MoeDown.Skeleton
public import proofs.«01_k».proof.Proof.Gen.MoeDown.Launch
public import proofs.«01_k».proof.Proof.Gen.MoeDown.Flash
public import proofs.«01_k».proof.Proof.Gen.MoeDownIdeal
public import proofs.«01_k».proof.Proof.Gen.MoeDownIdeal.Skeleton
public import proofs.«01_k».proof.Proof.Gen.MoeDownIdeal.Launch
public import proofs.«01_k».proof.Proof.Gen.MoeDownIdeal.Flash
public import proofs.«01_k».proof.Proof.Gen.MoeDownRefIdeal
public import proofs.«01_k».proof.Proof.Gen.EmbedAll
public import proofs.«01_k».proof.Proof.Gen.EmbedAll.Skeleton
public import proofs.«01_k».proof.Proof.Gen.EmbedAll.Launch
public import proofs.«01_k».proof.Proof.Gen.EmbedAll.Points
public import proofs.«01_k».proof.Proof.Gen.EmbedAll.Frame
public import proofs.«01_k».proof.Proof.Gen.EmbedAllIdeal
public import proofs.«01_k».proof.Proof.Gen.EmbedAllIdeal.Skeleton
public import proofs.«01_k».proof.Proof.Gen.EmbedAllIdeal.Launch
public import proofs.«01_k».proof.Proof.Gen.EmbedAllIdeal.Points
public import proofs.«01_k».proof.Proof.Gen.EmbedAllIdeal.Frame
public import proofs.«01_k».proof.Proof.Gen.EmbedAllRefIdeal
public import proofs.«01_k».proof.Proof.Gen.ResidLn
public import proofs.«01_k».proof.Proof.Gen.ResidLn.Skeleton
public import proofs.«01_k».proof.Proof.Gen.ResidLn.Launch
public import proofs.«01_k».proof.Proof.Gen.ResidLn.Points
public import proofs.«01_k».proof.Proof.Gen.ResidLn.Frame
public import proofs.«01_k».proof.Proof.Gen.ResidLnIdeal
public import proofs.«01_k».proof.Proof.Gen.ResidLnIdeal.Skeleton
public import proofs.«01_k».proof.Proof.Gen.ResidLnIdeal.Launch
public import proofs.«01_k».proof.Proof.Gen.ResidLnIdeal.Points
public import proofs.«01_k».proof.Proof.Gen.ResidLnIdeal.Frame
public import proofs.«01_k».proof.Proof.Gen.ResidLnRefIdeal
public import proofs.«01_k».proof.Proof.Gen.ResidMix
public import proofs.«01_k».proof.Proof.Gen.ResidMix.Skeleton
public import proofs.«01_k».proof.Proof.Gen.ResidMix.Launch
public import proofs.«01_k».proof.Proof.Gen.ResidMix.Points
public import proofs.«01_k».proof.Proof.Gen.ResidMix.Frame
public import proofs.«01_k».proof.Proof.Gen.ResidMixIdeal
public import proofs.«01_k».proof.Proof.Gen.ResidMixIdeal.Skeleton
public import proofs.«01_k».proof.Proof.Gen.ResidMixIdeal.Launch
public import proofs.«01_k».proof.Proof.Gen.ResidMixIdeal.Points
public import proofs.«01_k».proof.Proof.Gen.ResidMixIdeal.Frame
public import proofs.«01_k».proof.Proof.Gen.ResidMixRefIdeal
public import proofs.«01_k».proof.Proof.Gen.LnRouter
public import proofs.«01_k».proof.Proof.Gen.LnRouter.Skeleton
public import proofs.«01_k».proof.Proof.Gen.LnRouter.Launch
public import proofs.«01_k».proof.Proof.Gen.LnRouter.Points
public import proofs.«01_k».proof.Proof.Gen.LnRouter.Frame
public import proofs.«01_k».proof.Proof.Gen.LnRouterIdeal
public import proofs.«01_k».proof.Proof.Gen.LnRouterIdeal.Skeleton
public import proofs.«01_k».proof.Proof.Gen.LnRouterIdeal.Launch
public import proofs.«01_k».proof.Proof.Gen.LnRouterIdeal.Points
public import proofs.«01_k».proof.Proof.Gen.LnRouterIdeal.Frame
public import proofs.«01_k».proof.Proof.Gen.LnRouterRefIdeal
public import proofs.«01_k».proof.Proof.Gen.Pre_experts_named
public import Idealize.ShloMosaic.Adequacy
public import Idealize.ShloMosaic.Init
public import Idealize.ShloMosaic.Lib.Quiescent

@[expose] public section

noncomputable section

namespace Cert.Proof

open Idealize.ShloMosaic Idealize.SL.Sem

/-- All the claims together. -/
theorem claim : Cert.Claim :=
  ⟨Cert.Sgu.Gen.facts, Cert.SguIdeal.Gen.facts, Cert.SguRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.ProjUV.Gen.facts, Cert.ProjUVIdeal.Gen.facts, Cert.ProjUVRefIdeal.Gen.facts,
    Cert.ProjZR.Gen.facts, Cert.ProjZRIdeal.Gen.facts, Cert.ProjZRRefIdeal.Gen.facts,
    Cert.Pair.Gen.facts, Cert.PairIdeal.Gen.facts, Cert.PairRefIdeal.Gen.facts,
    Cert.EmbedP.Gen.facts, Cert.EmbedPIdeal.Gen.facts, Cert.EmbedPRefIdeal.Gen.facts,
    Cert.EmbedS.Gen.facts, Cert.EmbedSIdeal.Gen.facts, Cert.EmbedSRefIdeal.Gen.facts,
    Cert.MoeDown.Gen.facts, Cert.MoeDownIdeal.Gen.facts, Cert.MoeDownRefIdeal.Gen.facts,
    Cert.EmbedAll.Gen.facts, Cert.EmbedAllIdeal.Gen.facts, Cert.EmbedAllRefIdeal.Gen.facts,
    Cert.ResidLn.Gen.facts, Cert.ResidLnIdeal.Gen.facts, Cert.ResidLnRefIdeal.Gen.facts,
    Cert.ResidMix.Gen.facts, Cert.ResidMixIdeal.Gen.facts, Cert.ResidMixRefIdeal.Gen.facts,
    Cert.LnRouter.Gen.facts, Cert.LnRouterIdeal.Gen.facts, Cert.LnRouterRefIdeal.Gen.facts,
    Cert.Pre_experts_named.Gen.facts,
    fun m ρ _ => Cert.Sgu.Gen.frame m ρ, fun m ρ _ => Cert.SguIdeal.Gen.frame m ρ, fun m ρ _ => (θ_run (Cert.SguRefIdeal.defs (F := Ideal)) _ _).mono (fun r h => ⟨fun c => (h c).2, sem_eq_zero_of_no_sems rfl r.2⟩)
      (Cert.SguRefIdeal.Value.run (F := Ideal) m ρ),
    fun m ρ _ => Cert.Up.Gen.frame m ρ, fun m ρ _ => Cert.UpIdeal.Gen.frame m ρ, fun m ρ _ => (θ_run (Cert.UpRefIdeal.defs (F := Ideal)) _ _).mono (fun r h => ⟨fun c => (h c).2, sem_eq_zero_of_no_sems rfl r.2⟩)
      (Cert.UpRefIdeal.Value.run (F := Ideal) m ρ),
    fun m ρ _ => Cert.Down.Gen.frame m ρ, fun m ρ _ => Cert.DownIdeal.Gen.frame m ρ, fun m ρ _ => (θ_run (Cert.DownRefIdeal.defs (F := Ideal)) _ _).mono (fun r h => ⟨fun c => (h c).2, sem_eq_zero_of_no_sems rfl r.2⟩)
      (Cert.DownRefIdeal.Value.run (F := Ideal) m ρ),
    fun m ρ _ => Cert.ProjUV.Gen.frame m ρ, fun m ρ _ => Cert.ProjUVIdeal.Gen.frame m ρ, fun m ρ _ => (θ_run (Cert.ProjUVRefIdeal.defs (F := Ideal)) _ _).mono (fun r h => ⟨fun c => (h c).2, sem_eq_zero_of_no_sems rfl r.2⟩)
      (Cert.ProjUVRefIdeal.Value.run (F := Ideal) m ρ),
    fun m ρ _ => Cert.ProjZR.Gen.frame m ρ, fun m ρ _ => Cert.ProjZRIdeal.Gen.frame m ρ, fun m ρ _ => (θ_run (Cert.ProjZRRefIdeal.defs (F := Ideal)) _ _).mono (fun r h => ⟨fun c => (h c).2, sem_eq_zero_of_no_sems rfl r.2⟩)
      (Cert.ProjZRRefIdeal.Value.run (F := Ideal) m ρ),
    fun m ρ _ => Cert.Pair.Gen.frame m ρ, fun m ρ _ => Cert.PairIdeal.Gen.frame m ρ, fun m ρ _ => (θ_run (Cert.PairRefIdeal.defs (F := Ideal)) _ _).mono (fun r h => ⟨fun c => (h c).2, sem_eq_zero_of_no_sems rfl r.2⟩)
      (Cert.PairRefIdeal.Value.run (F := Ideal) m ρ),
    fun m ρ _ => Cert.EmbedP.Gen.frame m ρ, fun m ρ _ => Cert.EmbedPIdeal.Gen.frame m ρ, fun m ρ _ => (θ_run (Cert.EmbedPRefIdeal.defs (F := Ideal)) _ _).mono (fun r h => ⟨fun c => (h c).2, sem_eq_zero_of_no_sems rfl r.2⟩)
      (Cert.EmbedPRefIdeal.Value.run (F := Ideal) m ρ),
    fun m ρ _ => Cert.EmbedS.Gen.frame m ρ, fun m ρ _ => Cert.EmbedSIdeal.Gen.frame m ρ, fun m ρ _ => (θ_run (Cert.EmbedSRefIdeal.defs (F := Ideal)) _ _).mono (fun r h => ⟨fun c => (h c).2, sem_eq_zero_of_no_sems rfl r.2⟩)
      (Cert.EmbedSRefIdeal.Value.run (F := Ideal) m ρ),
    fun m ρ hp => Layer.MoeDown.frame m ρ (fun x => Layer.MoeDownValue.named_of_pre (hp 0) x),
    fun m ρ hp => Layer.MoeDownIdeal.frame m ρ (fun x => Layer.MoeDownValue.named_of_pre (hp 0) x),
    fun m ρ _ => (θ_run (Cert.MoeDownRefIdeal.defs (F := Ideal)) _ _).mono (fun r h => ⟨fun c => (h c).2, sem_eq_zero_of_no_sems rfl r.2⟩)
      (Layer.MoeDownRef.run (F := Ideal) m ρ),
    fun m ρ _ => (θ_run (Cert.MoeDownRefIdeal.defs (F := Ideal)) _ _).mono (fun r h => ⟨fun c => (h c).2, sem_eq_zero_of_no_sems rfl r.2⟩)
      (Layer.MoeDownRef.run (F := Ideal) m ρ),
    fun m ρ _ => Cert.EmbedAll.Gen.frame m ρ, fun m ρ _ => Cert.EmbedAllIdeal.Gen.frame m ρ, fun m ρ _ => (θ_run (Cert.EmbedAllRefIdeal.defs (F := Ideal)) _ _).mono (fun r h => ⟨fun c => (h c).2.2, sem_eq_zero_of_no_sems rfl r.2⟩)
      (Cert.EmbedAllRefIdeal.Value.run (F := Ideal) m ρ),
    fun m ρ _ => Cert.ResidLn.Gen.frame m ρ, fun m ρ _ => Cert.ResidLnIdeal.Gen.frame m ρ, fun m ρ _ => (θ_run (Cert.ResidLnRefIdeal.defs (F := Ideal)) _ _).mono (fun r h => ⟨fun c => (h c).2.2, sem_eq_zero_of_no_sems rfl r.2⟩)
      (Cert.ResidLnRefIdeal.Value.run (F := Ideal) m ρ),
    fun m ρ _ => Cert.ResidMix.Gen.frame m ρ, fun m ρ _ => Cert.ResidMixIdeal.Gen.frame m ρ, fun m ρ _ => (θ_run (Cert.ResidMixRefIdeal.defs (F := Ideal)) _ _).mono (fun r h => ⟨fun c => (h c).2.2, sem_eq_zero_of_no_sems rfl r.2⟩)
      (Cert.ResidMixRefIdeal.Value.run (F := Ideal) m ρ),
    fun m ρ _ => Cert.LnRouter.Gen.frame m ρ, fun m ρ _ => Cert.LnRouterIdeal.Gen.frame m ρ, fun m ρ _ => (θ_run (Cert.LnRouterRefIdeal.defs (F := Ideal)) _ _).mono (fun r h => ⟨fun c => (h c).2.2.2.2, sem_eq_zero_of_no_sems rfl r.2⟩)
      (Cert.LnRouterRefIdeal.Value.run (F := Ideal) m ρ),
    trivial, Layer.Sgu.algebraic,
    trivial, Layer.Up.algebraic,
    trivial, Layer.Down.algebraic,
    trivial, Layer.ProjUV.algebraic,
    trivial, Layer.ProjZR.algebraic,
    trivial, Layer.Pair.algebraic,
    trivial, Layer.EmbedP.algebraic,
    trivial, Layer.EmbedS.algebraic,
    trivial, Layer.MoeDownValue.algebraic,
    trivial, Layer.EmbedAll.algebraic,
    trivial, Layer.ResidLn.algebraic,
    trivial, Layer.ResidMix.algebraic,
    trivial, Layer.LnRouter.algebraic⟩

end Cert.Proof

end
